-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32 : Shape := ⟨1, ![32]⟩
abbrev S32768x512 : Shape := ⟨2, ![32768, 512]⟩
abbrev S26 : Shape := ⟨1, ![26]⟩
abbrev S_ : Shape := ⟨0, ![]⟩
abbrev S1 : Shape := ⟨1, ![1]⟩
abbrev S512x512 : Shape := ⟨2, ![512, 512]⟩

abbrev nBuf : Space → Nat
  | .hbm => 5
  | .vmem => 1
  | .smem => 3
  | _ => 0

abbrev bufTy : (tb : Table) → Fin (tcTables nBuf tb) → BufTy
  | .hbm, ⟨0, _⟩ => ⟨S1024x512, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32768x512, .f32⟩
  | .local _ .vmem, ⟨0, _⟩ => ⟨S1024x512, .f32⟩
  | .local _ .smem, ⟨0, _⟩ => ⟨S32, .i32⟩
  | .local _ .smem, ⟨1, _⟩ => ⟨S32, .i32⟩
  | .local _ .smem, ⟨2, _⟩ => ⟨S32, .i32⟩
  | _, _ => ⟨S1024x512, .f32⟩

abbrev bufScoped : (cs : CoreSpace) → Fin (nBuf (.core cs)) → Bool
  | .vmem, ⟨0, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  (ofTc nBuf bufTy 1 111 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c32_i32_2 : BitVec 32 := 32#32
  let v9 : BitVec 32 := Scalar.addi v4 c32_i32_2
  let c1_i32_3 : BitVec 32 := 1#32
  let v10 : BitVec 32 := Scalar.subi v9 c1_i32_3
  let c32_i32_4 : BitVec 32 := 32#32
  let v11 : BitVec 32 := Scalar.remsi v10 c32_i32_4
  let v12 : Index := Scalar.indexCast v11
  ![v12.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v14 : Index := Scalar.indexCast v2
  ![v14.toNat]
def k0_off5 (v15 : BitVec 32) : Fin 1 → Nat :=
  let v16 : Index := Scalar.indexCast v15
  ![v16.toNat]

def k0_dev1 (v13 : BitVec 32) : Nat :=
  let c0_i32 : BitVec 32 := 0#32
  let c1_i32_6 : BitVec 32 := 1#32
  let v19 : BitVec 32 := Scalar.muli v13 c1_i32_6
  let v20 : BitVec 32 := Scalar.addi c0_i32 v19
  v20.toNat

def k0_dev2 (v8 : BitVec 32) : Nat :=
  let c0_i32_9 : BitVec 32 := 0#32
  let c1_i32_8 : BitVec 32 := 1#32
  let v21 : BitVec 32 := Scalar.muli v8 c1_i32_8
  let v22 : BitVec 32 := Scalar.addi c0_i32_9 v21
  v22.toNat

def k0_dev3 (v15 : BitVec 32) : Nat :=
  let c0_i32_12 : BitVec 32 := 0#32
  let c1_i32_11 : BitVec 32 := 1#32
  let v23 : BitVec 32 := Scalar.muli v15 c1_i32_11
  let v24 : BitVec 32 := Scalar.addi c0_i32_12 v23
  v24.toNat

def k0_chk2 (v15 : BitVec 32) : Prop :=
  (∀ a, (k0_off5 v15) a + S1.size a ≤ S32.size a) ∧
  ((k0_dev3 v15) < nD)
theorem k0_off5_inb : ∀ (v15 : BitVec 32) (k0_hw2 : k0_chk2 v15), ∀ a, (k0_off5 v15) a + S1.size a ≤ S32.size a := fun v15 k0_hw2 => k0_hw2.1
theorem k0_dev3_lt : ∀ (v15 : BitVec 32) (k0_hw2 : k0_chk2 v15), (k0_dev3 v15) < nD := fun v15 k0_hw2 => k0_hw2.2

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32 : BitVec 32 := 1024#32
  let v25 : BitVec 32 := Scalar.muli v2 c1024_i32
  let c0_i32_13 : BitVec 32 := 0#32
  ![v25.toNat, 0]
def k0_off7 (v4 : BitVec 32) : Fin 1 → Nat :=
  let c0_i32_14 : BitVec 32 := 0#32
  let v27 : BitVec 32 := Scalar.subi v4 c0_i32_14
  let c32_i32_15 : BitVec 32 := 32#32
  let v28 : BitVec 32 := Scalar.addi v27 c32_i32_15
  let c32_i32_16 : BitVec 32 := 32#32
  let v29 : BitVec 32 := Scalar.remsi v28 c32_i32_16
  let v30 : Index := Scalar.indexCast v29
  ![v30.toNat]
def k0_off8 (v31 : BitVec 32) : Fin 2 → Nat :=
  let c1024_i32_17 : BitVec 32 := 1024#32
  let v32 : BitVec 32 := Scalar.muli v31 c1024_i32_17
  let c0_i32_18 : BitVec 32 := 0#32
  let v33 : BitVec 32 := Scalar.addi v32 c0_i32_18
  let c0_i32_23 : BitVec 32 := 0#32
  ![v33.toNat, 0]

def k0_dev4 (v8 : BitVec 32) : Nat :=
  let c0_i32_22 : BitVec 32 := 0#32
  let c1_i32_21 : BitVec 32 := 1#32
  let v34 : BitVec 32 := Scalar.muli v8 c1_i32_21
  let v35 : BitVec 32 := Scalar.addi c0_i32_22 v34
  v35.toNat
def k0_off9 (v4 : BitVec 32) : Fin 1 → Nat :=
  let c0_i32_26 : BitVec 32 := 0#32
  let v42 : BitVec 32 := Scalar.addi v4 c0_i32_26
  let c32_i32_27 : BitVec 32 := 32#32
  let v43 : BitVec 32 := Scalar.remsi v42 c32_i32_27
  let v44 : Index := Scalar.indexCast v43
  ![v44.toNat]
def k0_off10 (v45 : BitVec 32) : Fin 2 → Nat :=
  let c1024_i32_28 : BitVec 32 := 1024#32
  let v46 : BitVec 32 := Scalar.muli v45 c1024_i32_28
  let c0_i32_29 : BitVec 32 := 0#32
  let v47 : BitVec 32 := Scalar.addi v46 c0_i32_29
  let c0_i32_34 : BitVec 32 := 0#32
  ![v47.toNat, 0]

def k0_dev5 (v13 : BitVec 32) : Nat :=
  let c0_i32_33 : BitVec 32 := 0#32
  let c1_i32_32 : BitVec 32 := 1#32
  let v48 : BitVec 32 := Scalar.muli v13 c1_i32_32
  let v49 : BitVec 32 := Scalar.addi c0_i32_33 v48
  v49.toNat
def k0_off11 (v4 : BitVec 32) : Fin 1 → Nat :=
  let c0_i32_37 : BitVec 32 := 0#32
  let v56 : BitVec 32 := Scalar.subi v4 c0_i32_37
  let c32_i32_38 : BitVec 32 := 32#32
  let v57 : BitVec 32 := Scalar.addi v56 c32_i32_38
  let c32_i32_39 : BitVec 32 := 32#32
  let v58 : BitVec 32 := Scalar.remsi v57 c32_i32_39
  let v59 : Index := Scalar.indexCast v58
  ![v59.toNat]
def k0_off12 (v60 : BitVec 32) : Fin 2 → Nat :=
  let c1024_i32_40 : BitVec 32 := 1024#32
  let v61 : BitVec 32 := Scalar.muli v60 c1024_i32_40
  let c512_i32 : BitVec 32 := 512#32
  let v62 : BitVec 32 := Scalar.addi v61 c512_i32
  let c0_i32_45 : BitVec 32 := 0#32
  ![v62.toNat, 0]

def k0_dev6 (v8 : BitVec 32) : Nat :=
  let c0_i32_44 : BitVec 32 := 0#32
  let c1_i32_43 : BitVec 32 := 1#32
  let v63 : BitVec 32 := Scalar.muli v8 c1_i32_43
  let v64 : BitVec 32 := Scalar.addi c0_i32_44 v63
  v64.toNat
def k0_off13 (v4 : BitVec 32) : Fin 1 → Nat :=
  let c0_i32_48 : BitVec 32 := 0#32
  let v71 : BitVec 32 := Scalar.addi v4 c0_i32_48
  let c32_i32_49 : BitVec 32 := 32#32
  let v72 : BitVec 32 := Scalar.remsi v71 c32_i32_49
  let v73 : Index := Scalar.indexCast v72
  ![v73.toNat]
def k0_off14 (v74 : BitVec 32) : Fin 2 → Nat :=
  let c1024_i32_50 : BitVec 32 := 1024#32
  let v75 : BitVec 32 := Scalar.muli v74 c1024_i32_50
  let c512_i32_51 : BitVec 32 := 512#32
  let v76 : BitVec 32 := Scalar.addi v75 c512_i32_51
  let c0_i32_56 : BitVec 32 := 0#32
  ![v76.toNat, 0]

def k0_dev7 (v13 : BitVec 32) : Nat :=
  let c0_i32_55 : BitVec 32 := 0#32
  let c1_i32_54 : BitVec 32 := 1#32
  let v77 : BitVec 32 := Scalar.muli v13 c1_i32_54
  let v78 : BitVec 32 := Scalar.addi c0_i32_55 v77
  v78.toNat
def k0_off15 (v4 : BitVec 32) : Fin 1 → Nat :=
  let c1_i32_59 : BitVec 32 := 1#32
  let v85 : BitVec 32 := Scalar.subi v4 c1_i32_59
  let c0_i32_60 : BitVec 32 := 0#32
  let v86 : BitVec 32 := Scalar.subi v85 c0_i32_60
  let c32_i32_61 : BitVec 32 := 32#32
  let v87 : BitVec 32 := Scalar.addi v86 c32_i32_61
  let c32_i32_62 : BitVec 32 := 32#32
  let v88 : BitVec 32 := Scalar.remsi v87 c32_i32_62
  let v89 : Index := Scalar.indexCast v88
  ![v89.toNat]
def k0_off16 (v90 : BitVec 32) : Fin 2 → Nat :=
  let c1024_i32_63 : BitVec 32 := 1024#32
  let v91 : BitVec 32 := Scalar.muli v90 c1024_i32_63
  let c0_i32_64 : BitVec 32 := 0#32
  let v92 : BitVec 32 := Scalar.addi v91 c0_i32_64
  let c0_i32_69 : BitVec 32 := 0#32
  ![v92.toNat, 0]

def k0_chk9 (v90 : BitVec 32) : Prop :=
  (∀ a, (k0_off16 v90) a + S512x512.size a ≤ S32768x512.size a)
theorem k0_off16_inb : ∀ (v90 : BitVec 32) (k0_hw9 : k0_chk9 v90), ∀ a, (k0_off16 v90) a + S512x512.size a ≤ S32768x512.size a := fun v90 k0_hw9 => k0_hw9

def k0_off17 (v4 : BitVec 32) : Fin 1 → Nat :=
  let c1_i32_71 : BitVec 32 := 1#32
  let v99 : BitVec 32 := Scalar.subi v4 c1_i32_71
  let c0_i32_72 : BitVec 32 := 0#32
  let v100 : BitVec 32 := Scalar.subi v99 c0_i32_72
  let c32_i32_73 : BitVec 32 := 32#32
  let v101 : BitVec 32 := Scalar.addi v100 c32_i32_73
  let c32_i32_74 : BitVec 32 := 32#32
  let v102 : BitVec 32 := Scalar.remsi v101 c32_i32_74
  let v2395 : Index := Scalar.indexCast v102
  ![v2395.toNat]
def k0_cond1 (v4 : BitVec 32) (v17 : BitVec 32) : BitVec 1 :=
  let c1_i32_71 : BitVec 32 := 1#32
  let v99 : BitVec 32 := Scalar.subi v4 c1_i32_71
  let c0_i32_72 : BitVec 32 := 0#32
  let v100 : BitVec 32 := Scalar.subi v99 c0_i32_72
  let c32_i32_73 : BitVec 32 := 32#32
  let v101 : BitVec 32 := Scalar.addi v100 c32_i32_73
  let c32_i32_74 : BitVec 32 := 32#32
  let v102 : BitVec 32 := Scalar.remsi v101 c32_i32_74
  let v103 : BitVec 32 := Scalar.subi v102 v17
  let c64_i32 : BitVec 32 := 64#32
  let v104 : BitVec 32 := Scalar.addi v103 c64_i32
  let c14_i32 : BitVec 32 := 14#32
  let v105 : BitVec 32 := Scalar.subi v104 c14_i32
  let c32_i32_75 : BitVec 32 := 32#32
  let v106 : BitVec 32 := Scalar.remsi v105 c32_i32_75
  let c5_i32 : BitVec 32 := 5#32
  let v107 : BitVec 1 := Scalar.cmpi .slt v106 c5_i32
  let v108 : BitVec 32 := Scalar.extui v107
  let c0_i32_76 : BitVec 32 := 0#32
  let v109 : BitVec 1 := Scalar.cmpi .ne v108 c0_i32_76
  v109

def k0_off18 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk11 (v4 : BitVec 32) (v17 : BitVec 32) (v2396 : BitVec 32) : Prop :=
  (∀ (k0_h1 : k0_cond1 v4 v17 = 1#1), ∀ a, (k0_off18 v2396) a + S512x512.size a ≤ S32768x512.size a)
theorem k0_off18_inb : ∀ (v4 : BitVec 32) (v17 : BitVec 32) (v2396 : BitVec 32) (k0_hw11 : k0_chk11 v4 v17 v2396), ∀ (k0_h1 : k0_cond1 v4 v17 = 1#1), ∀ a, (k0_off18 v2396) a + S512x512.size a ≤ S32768x512.size a := fun v4 v17 v2396 k0_hw11 k0_h1 => k0_hw11 k0_h1

def k0_dev8 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off19 (v4 : BitVec 32) : Fin 1 → Nat :=
  let c1_i32_77 : BitVec 32 := 1#32
  let v110 : BitVec 32 := Scalar.subi v4 c1_i32_77
  let c32_i32_78 : BitVec 32 := 32#32
  let v111 : BitVec 32 := Scalar.addi v110 c32_i32_78
  let c32_i32_79 : BitVec 32 := 32#32
  let v112 : BitVec 32 := Scalar.remsi v111 c32_i32_79
  let v113 : Index := Scalar.indexCast v112
  ![v113.toNat]
def k0_off20 (v114 : BitVec 32) : Fin 2 → Nat :=
  let c1024_i32_80 : BitVec 32 := 1024#32
  let v115 : BitVec 32 := Scalar.muli v114 c1024_i32_80
  let c0_i32_81 : BitVec 32 := 0#32
  let v116 : BitVec 32 := Scalar.addi v115 c0_i32_81
  let c0_i32_87 : BitVec 32 := 0#32
  ![v116.toNat, 0]

def k0_dev9 (v8 : BitVec 32) : Nat :=
  let c0_i32_86 : BitVec 32 := 0#32
  let c1_i32_85 : BitVec 32 := 1#32
  let v119 : BitVec 32 := Scalar.muli v8 c1_i32_85
  let v120 : BitVec 32 := Scalar.addi c0_i32_86 v119
  v120.toNat
def k0_off21 (v4 : BitVec 32) : Fin 1 → Nat :=
  let c1_i32_89 : BitVec 32 := 1#32
  let v127 : BitVec 32 := Scalar.addi v4 c1_i32_89
  let c0_i32_90 : BitVec 32 := 0#32
  let v128 : BitVec 32 := Scalar.addi v127 c0_i32_90
  let c32_i32_91 : BitVec 32 := 32#32
  let v129 : BitVec 32 := Scalar.remsi v128 c32_i32_91
  let v130 : Index := Scalar.indexCast v129
  ![v130.toNat]
def k0_off22 (v131 : BitVec 32) : Fin 2 → Nat :=
  let c1024_i32_92 : BitVec 32 := 1024#32
  let v132 : BitVec 32 := Scalar.muli v131 c1024_i32_92
  let c0_i32_93 : BitVec 32 := 0#32
  let v133 : BitVec 32 := Scalar.addi v132 c0_i32_93
  let c0_i32_98 : BitVec 32 := 0#32
  ![v133.toNat, 0]

def k0_chk13 (v131 : BitVec 32) : Prop :=
  (∀ a, (k0_off22 v131) a + S512x512.size a ≤ S32768x512.size a)
theorem k0_off22_inb : ∀ (v131 : BitVec 32) (k0_hw13 : k0_chk13 v131), ∀ a, (k0_off22 v131) a + S512x512.size a ≤ S32768x512.size a := fun v131 k0_hw13 => k0_hw13

def k0_off23 (v4 : BitVec 32) : Fin 1 → Nat :=
  let c1_i32_100 : BitVec 32 := 1#32
  let v140 : BitVec 32 := Scalar.addi v4 c1_i32_100
  let c0_i32_101 : BitVec 32 := 0#32
  let v141 : BitVec 32 := Scalar.addi v140 c0_i32_101
  let c32_i32_102 : BitVec 32 := 32#32
  let v142 : BitVec 32 := Scalar.remsi v141 c32_i32_102
  let v2395 : Index := Scalar.indexCast v142
  ![v2395.toNat]
def k0_cond2 (v4 : BitVec 32) (v17 : BitVec 32) : BitVec 1 :=
  let c1_i32_100 : BitVec 32 := 1#32
  let v140 : BitVec 32 := Scalar.addi v4 c1_i32_100
  let c0_i32_101 : BitVec 32 := 0#32
  let v141 : BitVec 32 := Scalar.addi v140 c0_i32_101
  let c32_i32_102 : BitVec 32 := 32#32
  let v142 : BitVec 32 := Scalar.remsi v141 c32_i32_102
  let v143 : BitVec 32 := Scalar.subi v142 v17
  let c64_i32_103 : BitVec 32 := 64#32
  let v144 : BitVec 32 := Scalar.addi v143 c64_i32_103
  let c14_i32_104 : BitVec 32 := 14#32
  let v145 : BitVec 32 := Scalar.subi v144 c14_i32_104
  let c32_i32_105 : BitVec 32 := 32#32
  let v146 : BitVec 32 := Scalar.remsi v145 c32_i32_105
  let c5_i32_106 : BitVec 32 := 5#32
  let v147 : BitVec 1 := Scalar.cmpi .slt v146 c5_i32_106
  let v148 : BitVec 32 := Scalar.extui v147
  let c0_i32_107 : BitVec 32 := 0#32
  let v149 : BitVec 1 := Scalar.cmpi .ne v148 c0_i32_107
  v149

def k0_off24 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk14 (v4 : BitVec 32) (v17 : BitVec 32) (v2396 : BitVec 32) : Prop :=
  (∀ (k0_h2 : k0_cond2 v4 v17 = 1#1), ∀ a, (k0_off24 v2396) a + S512x512.size a ≤ S32768x512.size a)
theorem k0_off24_inb : ∀ (v4 : BitVec 32) (v17 : BitVec 32) (v2396 : BitVec 32) (k0_hw14 : k0_chk14 v4 v17 v2396), ∀ (k0_h2 : k0_cond2 v4 v17 = 1#1), ∀ a, (k0_off24 v2396) a + S512x512.size a ≤ S32768x512.size a := fun v4 v17 v2396 k0_hw14 k0_h2 => k0_hw14 k0_h2

def k0_dev10 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off25 (v4 : BitVec 32) : Fin 1 → Nat :=
  let c1_i32_108 : BitVec 32 := 1#32
  let v150 : BitVec 32 := Scalar.addi v4 c1_i32_108
  let c32_i32_109 : BitVec 32 := 32#32
  let v151 : BitVec 32 := Scalar.remsi v150 c32_i32_109
  let v152 : Index := Scalar.indexCast v151
  ![v152.toNat]
def k0_off26 (v153 : BitVec 32) : Fin 2 → Nat :=
  let c1024_i32_110 : BitVec 32 := 1024#32
  let v154 : BitVec 32 := Scalar.muli v153 c1024_i32_110
  let c0_i32_111 : BitVec 32 := 0#32
  let v155 : BitVec 32 := Scalar.addi v154 c0_i32_111
  let c0_i32_118 : BitVec 32 := 0#32
  ![v155.toNat, 0]

def k0_dev11 (v13 : BitVec 32) : Nat :=
  let c0_i32_117 : BitVec 32 := 0#32
  let c1_i32_116 : BitVec 32 := 1#32
  let v158 : BitVec 32 := Scalar.muli v13 c1_i32_116
  let v159 : BitVec 32 := Scalar.addi c0_i32_117 v158
  v159.toNat
def k0_off27 (v4 : BitVec 32) : Fin 1 → Nat :=
  let c1_i32_120 : BitVec 32 := 1#32
  let v166 : BitVec 32 := Scalar.subi v4 c1_i32_120
  let c0_i32_121 : BitVec 32 := 0#32
  let v167 : BitVec 32 := Scalar.subi v166 c0_i32_121
  let c32_i32_122 : BitVec 32 := 32#32
  let v168 : BitVec 32 := Scalar.addi v167 c32_i32_122
  let c32_i32_123 : BitVec 32 := 32#32
  let v169 : BitVec 32 := Scalar.remsi v168 c32_i32_123
  let v170 : Index := Scalar.indexCast v169
  ![v170.toNat]
def k0_off28 (v171 : BitVec 32) : Fin 2 → Nat :=
  let c1024_i32_124 : BitVec 32 := 1024#32
  let v172 : BitVec 32 := Scalar.muli v171 c1024_i32_124
  let c512_i32_125 : BitVec 32 := 512#32
  let v173 : BitVec 32 := Scalar.addi v172 c512_i32_125
  let c0_i32_130 : BitVec 32 := 0#32
  ![v173.toNat, 0]

def k0_chk16 (v171 : BitVec 32) : Prop :=
  (∀ a, (k0_off28 v171) a + S512x512.size a ≤ S32768x512.size a)
theorem k0_off28_inb : ∀ (v171 : BitVec 32) (k0_hw16 : k0_chk16 v171), ∀ a, (k0_off28 v171) a + S512x512.size a ≤ S32768x512.size a := fun v171 k0_hw16 => k0_hw16

def k0_off29 (v4 : BitVec 32) : Fin 1 → Nat :=
  let c1_i32_132 : BitVec 32 := 1#32
  let v180 : BitVec 32 := Scalar.subi v4 c1_i32_132
  let c0_i32_133 : BitVec 32 := 0#32
  let v181 : BitVec 32 := Scalar.subi v180 c0_i32_133
  let c32_i32_134 : BitVec 32 := 32#32
  let v182 : BitVec 32 := Scalar.addi v181 c32_i32_134
  let c32_i32_135 : BitVec 32 := 32#32
  let v183 : BitVec 32 := Scalar.remsi v182 c32_i32_135
  let v2395 : Index := Scalar.indexCast v183
  ![v2395.toNat]
def k0_cond3 (v4 : BitVec 32) (v17 : BitVec 32) : BitVec 1 :=
  let c1_i32_132 : BitVec 32 := 1#32
  let v180 : BitVec 32 := Scalar.subi v4 c1_i32_132
  let c0_i32_133 : BitVec 32 := 0#32
  let v181 : BitVec 32 := Scalar.subi v180 c0_i32_133
  let c32_i32_134 : BitVec 32 := 32#32
  let v182 : BitVec 32 := Scalar.addi v181 c32_i32_134
  let c32_i32_135 : BitVec 32 := 32#32
  let v183 : BitVec 32 := Scalar.remsi v182 c32_i32_135
  let v184 : BitVec 32 := Scalar.subi v183 v17
  let c64_i32_136 : BitVec 32 := 64#32
  let v185 : BitVec 32 := Scalar.addi v184 c64_i32_136
  let c14_i32_137 : BitVec 32 := 14#32
  let v186 : BitVec 32 := Scalar.subi v185 c14_i32_137
  let c32_i32_138 : BitVec 32 := 32#32
  let v187 : BitVec 32 := Scalar.remsi v186 c32_i32_138
  let c5_i32_139 : BitVec 32 := 5#32
  let v188 : BitVec 1 := Scalar.cmpi .slt v187 c5_i32_139
  let v189 : BitVec 32 := Scalar.extui v188
  let c0_i32_140 : BitVec 32 := 0#32
  let v190 : BitVec 1 := Scalar.cmpi .ne v189 c0_i32_140
  v190

def k0_off30 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk17 (v4 : BitVec 32) (v17 : BitVec 32) (v2396 : BitVec 32) : Prop :=
  (∀ (k0_h3 : k0_cond3 v4 v17 = 1#1), ∀ a, (k0_off30 v2396) a + S512x512.size a ≤ S32768x512.size a)
theorem k0_off30_inb : ∀ (v4 : BitVec 32) (v17 : BitVec 32) (v2396 : BitVec 32) (k0_hw17 : k0_chk17 v4 v17 v2396), ∀ (k0_h3 : k0_cond3 v4 v17 = 1#1), ∀ a, (k0_off30 v2396) a + S512x512.size a ≤ S32768x512.size a := fun v4 v17 v2396 k0_hw17 k0_h3 => k0_hw17 k0_h3

def k0_dev12 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off31 (v4 : BitVec 32) : Fin 1 → Nat :=
  let c1_i32_141 : BitVec 32 := 1#32
  let v191 : BitVec 32 := Scalar.subi v4 c1_i32_141
  let c32_i32_142 : BitVec 32 := 32#32
  let v192 : BitVec 32 := Scalar.addi v191 c32_i32_142
  let c32_i32_143 : BitVec 32 := 32#32
  let v193 : BitVec 32 := Scalar.remsi v192 c32_i32_143
  let v194 : Index := Scalar.indexCast v193
  ![v194.toNat]
def k0_off32 (v195 : BitVec 32) : Fin 2 → Nat :=
  let c1024_i32_144 : BitVec 32 := 1024#32
  let v196 : BitVec 32 := Scalar.muli v195 c1024_i32_144
  let c512_i32_145 : BitVec 32 := 512#32
  let v197 : BitVec 32 := Scalar.addi v196 c512_i32_145
  let c0_i32_152 : BitVec 32 := 0#32
  ![v197.toNat, 0]

def k0_dev13 (v8 : BitVec 32) : Nat :=
  let c0_i32_151 : BitVec 32 := 0#32
  let c1_i32_150 : BitVec 32 := 1#32
  let v200 : BitVec 32 := Scalar.muli v8 c1_i32_150
  let v201 : BitVec 32 := Scalar.addi c0_i32_151 v200
  v201.toNat
def k0_off33 (v4 : BitVec 32) : Fin 1 → Nat :=
  let c1_i32_154 : BitVec 32 := 1#32
  let v208 : BitVec 32 := Scalar.addi v4 c1_i32_154
  let c0_i32_155 : BitVec 32 := 0#32
  let v209 : BitVec 32 := Scalar.addi v208 c0_i32_155
  let c32_i32_156 : BitVec 32 := 32#32
  let v210 : BitVec 32 := Scalar.remsi v209 c32_i32_156
  let v211 : Index := Scalar.indexCast v210
  ![v211.toNat]
def k0_off34 (v212 : BitVec 32) : Fin 2 → Nat :=
  let c1024_i32_157 : BitVec 32 := 1024#32
  let v213 : BitVec 32 := Scalar.muli v212 c1024_i32_157
  let c512_i32_158 : BitVec 32 := 512#32
  let v214 : BitVec 32 := Scalar.addi v213 c512_i32_158
  let c0_i32_163 : BitVec 32 := 0#32
  ![v214.toNat, 0]

def k0_chk19 (v212 : BitVec 32) : Prop :=
  (∀ a, (k0_off34 v212) a + S512x512.size a ≤ S32768x512.size a)
theorem k0_off34_inb : ∀ (v212 : BitVec 32) (k0_hw19 : k0_chk19 v212), ∀ a, (k0_off34 v212) a + S512x512.size a ≤ S32768x512.size a := fun v212 k0_hw19 => k0_hw19

def k0_off35 (v4 : BitVec 32) : Fin 1 → Nat :=
  let c1_i32_165 : BitVec 32 := 1#32
  let v221 : BitVec 32 := Scalar.addi v4 c1_i32_165
  let c0_i32_166 : BitVec 32 := 0#32
  let v222 : BitVec 32 := Scalar.addi v221 c0_i32_166
  let c32_i32_167 : BitVec 32 := 32#32
  let v223 : BitVec 32 := Scalar.remsi v222 c32_i32_167
  let v2395 : Index := Scalar.indexCast v223
  ![v2395.toNat]
def k0_cond4 (v4 : BitVec 32) (v17 : BitVec 32) : BitVec 1 :=
  let c1_i32_165 : BitVec 32 := 1#32
  let v221 : BitVec 32 := Scalar.addi v4 c1_i32_165
  let c0_i32_166 : BitVec 32 := 0#32
  let v222 : BitVec 32 := Scalar.addi v221 c0_i32_166
  let c32_i32_167 : BitVec 32 := 32#32
  let v223 : BitVec 32 := Scalar.remsi v222 c32_i32_167
  let v224 : BitVec 32 := Scalar.subi v223 v17
  let c64_i32_168 : BitVec 32 := 64#32
  let v225 : BitVec 32 := Scalar.addi v224 c64_i32_168
  let c14_i32_169 : BitVec 32 := 14#32
  let v226 : BitVec 32 := Scalar.subi v225 c14_i32_169
  let c32_i32_170 : BitVec 32 := 32#32
  let v227 : BitVec 32 := Scalar.remsi v226 c32_i32_170
  let c5_i32_171 : BitVec 32 := 5#32
  let v228 : BitVec 1 := Scalar.cmpi .slt v227 c5_i32_171
  let v229 : BitVec 32 := Scalar.extui v228
  let c0_i32_172 : BitVec 32 := 0#32
  let v230 : BitVec 1 := Scalar.cmpi .ne v229 c0_i32_172
  v230

def k0_off36 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk20 (v4 : BitVec 32) (v17 : BitVec 32) (v2396 : BitVec 32) : Prop :=
  (∀ (k0_h4 : k0_cond4 v4 v17 = 1#1), ∀ a, (k0_off36 v2396) a + S512x512.size a ≤ S32768x512.size a)
theorem k0_off36_inb : ∀ (v4 : BitVec 32) (v17 : BitVec 32) (v2396 : BitVec 32) (k0_hw20 : k0_chk20 v4 v17 v2396), ∀ (k0_h4 : k0_cond4 v4 v17 = 1#1), ∀ a, (k0_off36 v2396) a + S512x512.size a ≤ S32768x512.size a := fun v4 v17 v2396 k0_hw20 k0_h4 => k0_hw20 k0_h4

def k0_dev14 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off37 (v4 : BitVec 32) : Fin 1 → Nat :=
  let c1_i32_173 : BitVec 32 := 1#32
  let v231 : BitVec 32 := Scalar.addi v4 c1_i32_173
  let c32_i32_174 : BitVec 32 := 32#32
  let v232 : BitVec 32 := Scalar.remsi v231 c32_i32_174
  let v233 : Index := Scalar.indexCast v232
  ![v233.toNat]
def k0_off38 (v234 : BitVec 32) : Fin 2 → Nat :=
  let c1024_i32_175 : BitVec 32 := 1024#32
  let v235 : BitVec 32 := Scalar.muli v234 c1024_i32_175
  let c512_i32_176 : BitVec 32 := 512#32
  let v236 : BitVec 32 := Scalar.addi v235 c512_i32_176
  let c0_i32_183 : BitVec 32 := 0#32
  ![v236.toNat, 0]

def k0_dev15 (v13 : BitVec 32) : Nat :=
  let c0_i32_182 : BitVec 32 := 0#32
  let c1_i32_181 : BitVec 32 := 1#32
  let v239 : BitVec 32 := Scalar.muli v13 c1_i32_181
  let v240 : BitVec 32 := Scalar.addi c0_i32_182 v239
  v240.toNat
def k0_off39 (v4 : BitVec 32) : Fin 1 → Nat :=
  let c1_i32_185 : BitVec 32 := 1#32
  let v247 : BitVec 32 := Scalar.subi v4 c1_i32_185
  let c1_i32_186 : BitVec 32 := 1#32
  let v248 : BitVec 32 := Scalar.subi v247 c1_i32_186
  let c32_i32_187 : BitVec 32 := 32#32
  let v249 : BitVec 32 := Scalar.addi v248 c32_i32_187
  let c32_i32_188 : BitVec 32 := 32#32
  let v250 : BitVec 32 := Scalar.remsi v249 c32_i32_188
  let v251 : Index := Scalar.indexCast v250
  ![v251.toNat]
def k0_off40 (v252 : BitVec 32) : Fin 2 → Nat :=
  let c1024_i32_189 : BitVec 32 := 1024#32
  let v253 : BitVec 32 := Scalar.muli v252 c1024_i32_189
  let c0_i32_190 : BitVec 32 := 0#32
  let v254 : BitVec 32 := Scalar.addi v253 c0_i32_190
  let c0_i32_195 : BitVec 32 := 0#32
  ![v254.toNat, 0]

def k0_chk22 (v252 : BitVec 32) : Prop :=
  (∀ a, (k0_off40 v252) a + S512x512.size a ≤ S32768x512.size a)
theorem k0_off40_inb : ∀ (v252 : BitVec 32) (k0_hw22 : k0_chk22 v252), ∀ a, (k0_off40 v252) a + S512x512.size a ≤ S32768x512.size a := fun v252 k0_hw22 => k0_hw22

def k0_off41 (v4 : BitVec 32) : Fin 1 → Nat :=
  let c1_i32_197 : BitVec 32 := 1#32
  let v261 : BitVec 32 := Scalar.subi v4 c1_i32_197
  let c1_i32_198 : BitVec 32 := 1#32
  let v262 : BitVec 32 := Scalar.subi v261 c1_i32_198
  let c32_i32_199 : BitVec 32 := 32#32
  let v263 : BitVec 32 := Scalar.addi v262 c32_i32_199
  let c32_i32_200 : BitVec 32 := 32#32
  let v264 : BitVec 32 := Scalar.remsi v263 c32_i32_200
  let v2395 : Index := Scalar.indexCast v264
  ![v2395.toNat]
def k0_cond5 (v4 : BitVec 32) (v17 : BitVec 32) : BitVec 1 :=
  let c1_i32_197 : BitVec 32 := 1#32
  let v261 : BitVec 32 := Scalar.subi v4 c1_i32_197
  let c1_i32_198 : BitVec 32 := 1#32
  let v262 : BitVec 32 := Scalar.subi v261 c1_i32_198
  let c32_i32_199 : BitVec 32 := 32#32
  let v263 : BitVec 32 := Scalar.addi v262 c32_i32_199
  let c32_i32_200 : BitVec 32 := 32#32
  let v264 : BitVec 32 := Scalar.remsi v263 c32_i32_200
  let v265 : BitVec 32 := Scalar.subi v264 v17
  let c64_i32_201 : BitVec 32 := 64#32
  let v266 : BitVec 32 := Scalar.addi v265 c64_i32_201
  let c14_i32_202 : BitVec 32 := 14#32
  let v267 : BitVec 32 := Scalar.subi v266 c14_i32_202
  let c32_i32_203 : BitVec 32 := 32#32
  let v268 : BitVec 32 := Scalar.remsi v267 c32_i32_203
  let c5_i32_204 : BitVec 32 := 5#32
  let v269 : BitVec 1 := Scalar.cmpi .slt v268 c5_i32_204
  let v270 : BitVec 32 := Scalar.extui v269
  let c0_i32_205 : BitVec 32 := 0#32
  let v271 : BitVec 1 := Scalar.cmpi .ne v270 c0_i32_205
  v271

def k0_off42 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk23 (v4 : BitVec 32) (v17 : BitVec 32) (v2396 : BitVec 32) : Prop :=
  (∀ (k0_h5 : k0_cond5 v4 v17 = 1#1), ∀ a, (k0_off42 v2396) a + S512x512.size a ≤ S32768x512.size a)
theorem k0_off42_inb : ∀ (v4 : BitVec 32) (v17 : BitVec 32) (v2396 : BitVec 32) (k0_hw23 : k0_chk23 v4 v17 v2396), ∀ (k0_h5 : k0_cond5 v4 v17 = 1#1), ∀ a, (k0_off42 v2396) a + S512x512.size a ≤ S32768x512.size a := fun v4 v17 v2396 k0_hw23 k0_h5 => k0_hw23 k0_h5

def k0_dev16 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off43 (v4 : BitVec 32) : Fin 1 → Nat :=
  let c2_i32_206 : BitVec 32 := 2#32
  let v272 : BitVec 32 := Scalar.subi v4 c2_i32_206
  let c32_i32_207 : BitVec 32 := 32#32
  let v273 : BitVec 32 := Scalar.addi v272 c32_i32_207
  let c32_i32_208 : BitVec 32 := 32#32
  let v274 : BitVec 32 := Scalar.remsi v273 c32_i32_208
  let v275 : Index := Scalar.indexCast v274
  ![v275.toNat]
def k0_off44 (v276 : BitVec 32) : Fin 2 → Nat :=
  let c1024_i32_209 : BitVec 32 := 1024#32
  let v277 : BitVec 32 := Scalar.muli v276 c1024_i32_209
  let c0_i32_210 : BitVec 32 := 0#32
  let v278 : BitVec 32 := Scalar.addi v277 c0_i32_210
  let c0_i32_216 : BitVec 32 := 0#32
  ![v278.toNat, 0]

def k0_dev17 (v8 : BitVec 32) : Nat :=
  let c0_i32_215 : BitVec 32 := 0#32
  let c1_i32_214 : BitVec 32 := 1#32
  let v281 : BitVec 32 := Scalar.muli v8 c1_i32_214
  let v282 : BitVec 32 := Scalar.addi c0_i32_215 v281
  v282.toNat
def k0_off45 (v4 : BitVec 32) : Fin 1 → Nat :=
  let c1_i32_218 : BitVec 32 := 1#32
  let v289 : BitVec 32 := Scalar.addi v4 c1_i32_218
  let c1_i32_219 : BitVec 32 := 1#32
  let v290 : BitVec 32 := Scalar.addi v289 c1_i32_219
  let c32_i32_220 : BitVec 32 := 32#32
  let v291 : BitVec 32 := Scalar.remsi v290 c32_i32_220
  let v292 : Index := Scalar.indexCast v291
  ![v292.toNat]
def k0_off46 (v293 : BitVec 32) : Fin 2 → Nat :=
  let c1024_i32_221 : BitVec 32 := 1024#32
  let v294 : BitVec 32 := Scalar.muli v293 c1024_i32_221
  let c0_i32_222 : BitVec 32 := 0#32
  let v295 : BitVec 32 := Scalar.addi v294 c0_i32_222
  let c0_i32_227 : BitVec 32 := 0#32
  ![v295.toNat, 0]

def k0_chk25 (v293 : BitVec 32) : Prop :=
  (∀ a, (k0_off46 v293) a + S512x512.size a ≤ S32768x512.size a)
theorem k0_off46_inb : ∀ (v293 : BitVec 32) (k0_hw25 : k0_chk25 v293), ∀ a, (k0_off46 v293) a + S512x512.size a ≤ S32768x512.size a := fun v293 k0_hw25 => k0_hw25

def k0_off47 (v4 : BitVec 32) : Fin 1 → Nat :=
  let c1_i32_229 : BitVec 32 := 1#32
  let v302 : BitVec 32 := Scalar.addi v4 c1_i32_229
  let c1_i32_230 : BitVec 32 := 1#32
  let v303 : BitVec 32 := Scalar.addi v302 c1_i32_230
  let c32_i32_231 : BitVec 32 := 32#32
  let v304 : BitVec 32 := Scalar.remsi v303 c32_i32_231
  let v2395 : Index := Scalar.indexCast v304
  ![v2395.toNat]
def k0_cond6 (v4 : BitVec 32) (v17 : BitVec 32) : BitVec 1 :=
  let c1_i32_229 : BitVec 32 := 1#32
  let v302 : BitVec 32 := Scalar.addi v4 c1_i32_229
  let c1_i32_230 : BitVec 32 := 1#32
  let v303 : BitVec 32 := Scalar.addi v302 c1_i32_230
  let c32_i32_231 : BitVec 32 := 32#32
  let v304 : BitVec 32 := Scalar.remsi v303 c32_i32_231
  let v305 : BitVec 32 := Scalar.subi v304 v17
  let c64_i32_232 : BitVec 32 := 64#32
  let v306 : BitVec 32 := Scalar.addi v305 c64_i32_232
  let c14_i32_233 : BitVec 32 := 14#32
  let v307 : BitVec 32 := Scalar.subi v306 c14_i32_233
  let c32_i32_234 : BitVec 32 := 32#32
  let v308 : BitVec 32 := Scalar.remsi v307 c32_i32_234
  let c5_i32_235 : BitVec 32 := 5#32
  let v309 : BitVec 1 := Scalar.cmpi .slt v308 c5_i32_235
  let v310 : BitVec 32 := Scalar.extui v309
  let c0_i32_236 : BitVec 32 := 0#32
  let v311 : BitVec 1 := Scalar.cmpi .ne v310 c0_i32_236
  v311

def k0_off48 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk26 (v4 : BitVec 32) (v17 : BitVec 32) (v2396 : BitVec 32) : Prop :=
  (∀ (k0_h6 : k0_cond6 v4 v17 = 1#1), ∀ a, (k0_off48 v2396) a + S512x512.size a ≤ S32768x512.size a)
theorem k0_off48_inb : ∀ (v4 : BitVec 32) (v17 : BitVec 32) (v2396 : BitVec 32) (k0_hw26 : k0_chk26 v4 v17 v2396), ∀ (k0_h6 : k0_cond6 v4 v17 = 1#1), ∀ a, (k0_off48 v2396) a + S512x512.size a ≤ S32768x512.size a := fun v4 v17 v2396 k0_hw26 k0_h6 => k0_hw26 k0_h6

def k0_dev18 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off49 (v4 : BitVec 32) : Fin 1 → Nat :=
  let c2_i32_237 : BitVec 32 := 2#32
  let v312 : BitVec 32 := Scalar.addi v4 c2_i32_237
  let c32_i32_238 : BitVec 32 := 32#32
  let v313 : BitVec 32 := Scalar.remsi v312 c32_i32_238
  let v314 : Index := Scalar.indexCast v313
  ![v314.toNat]
def k0_off50 (v315 : BitVec 32) : Fin 2 → Nat :=
  let c1024_i32_239 : BitVec 32 := 1024#32
  let v316 : BitVec 32 := Scalar.muli v315 c1024_i32_239
  let c0_i32_240 : BitVec 32 := 0#32
  let v317 : BitVec 32 := Scalar.addi v316 c0_i32_240
  let c0_i32_247 : BitVec 32 := 0#32
  ![v317.toNat, 0]

def k0_dev19 (v13 : BitVec 32) : Nat :=
  let c0_i32_246 : BitVec 32 := 0#32
  let c1_i32_245 : BitVec 32 := 1#32
  let v320 : BitVec 32 := Scalar.muli v13 c1_i32_245
  let v321 : BitVec 32 := Scalar.addi c0_i32_246 v320
  v321.toNat
def k0_off51 (v4 : BitVec 32) : Fin 1 → Nat :=
  let c1_i32_249 : BitVec 32 := 1#32
  let v328 : BitVec 32 := Scalar.subi v4 c1_i32_249
  let c1_i32_250 : BitVec 32 := 1#32
  let v329 : BitVec 32 := Scalar.subi v328 c1_i32_250
  let c32_i32_251 : BitVec 32 := 32#32
  let v330 : BitVec 32 := Scalar.addi v329 c32_i32_251
  let c32_i32_252 : BitVec 32 := 32#32
  let v331 : BitVec 32 := Scalar.remsi v330 c32_i32_252
  let v332 : Index := Scalar.indexCast v331
  ![v332.toNat]
def k0_off52 (v333 : BitVec 32) : Fin 2 → Nat :=
  let c1024_i32_253 : BitVec 32 := 1024#32
  let v334 : BitVec 32 := Scalar.muli v333 c1024_i32_253
  let c512_i32_254 : BitVec 32 := 512#32
  let v335 : BitVec 32 := Scalar.addi v334 c512_i32_254
  let c0_i32_259 : BitVec 32 := 0#32
  ![v335.toNat, 0]

def k0_chk28 (v333 : BitVec 32) : Prop :=
  (∀ a, (k0_off52 v333) a + S512x512.size a ≤ S32768x512.size a)
theorem k0_off52_inb : ∀ (v333 : BitVec 32) (k0_hw28 : k0_chk28 v333), ∀ a, (k0_off52 v333) a + S512x512.size a ≤ S32768x512.size a := fun v333 k0_hw28 => k0_hw28

def k0_off53 (v4 : BitVec 32) : Fin 1 → Nat :=
  let c1_i32_261 : BitVec 32 := 1#32
  let v342 : BitVec 32 := Scalar.subi v4 c1_i32_261
  let c1_i32_262 : BitVec 32 := 1#32
  let v343 : BitVec 32 := Scalar.subi v342 c1_i32_262
  let c32_i32_263 : BitVec 32 := 32#32
  let v344 : BitVec 32 := Scalar.addi v343 c32_i32_263
  let c32_i32_264 : BitVec 32 := 32#32
  let v345 : BitVec 32 := Scalar.remsi v344 c32_i32_264
  let v2395 : Index := Scalar.indexCast v345
  ![v2395.toNat]
def k0_cond7 (v4 : BitVec 32) (v17 : BitVec 32) : BitVec 1 :=
  let c1_i32_261 : BitVec 32 := 1#32
  let v342 : BitVec 32 := Scalar.subi v4 c1_i32_261
  let c1_i32_262 : BitVec 32 := 1#32
  let v343 : BitVec 32 := Scalar.subi v342 c1_i32_262
  let c32_i32_263 : BitVec 32 := 32#32
  let v344 : BitVec 32 := Scalar.addi v343 c32_i32_263
  let c32_i32_264 : BitVec 32 := 32#32
  let v345 : BitVec 32 := Scalar.remsi v344 c32_i32_264
  let v346 : BitVec 32 := Scalar.subi v345 v17
  let c64_i32_265 : BitVec 32 := 64#32
  let v347 : BitVec 32 := Scalar.addi v346 c64_i32_265
  let c14_i32_266 : BitVec 32 := 14#32
  let v348 : BitVec 32 := Scalar.subi v347 c14_i32_266
  let c32_i32_267 : BitVec 32 := 32#32
  let v349 : BitVec 32 := Scalar.remsi v348 c32_i32_267
  let c5_i32_268 : BitVec 32 := 5#32
  let v350 : BitVec 1 := Scalar.cmpi .slt v349 c5_i32_268
  let v351 : BitVec 32 := Scalar.extui v350
  let c0_i32_269 : BitVec 32 := 0#32
  let v352 : BitVec 1 := Scalar.cmpi .ne v351 c0_i32_269
  v352

def k0_off54 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk29 (v4 : BitVec 32) (v17 : BitVec 32) (v2396 : BitVec 32) : Prop :=
  (∀ (k0_h7 : k0_cond7 v4 v17 = 1#1), ∀ a, (k0_off54 v2396) a + S512x512.size a ≤ S32768x512.size a)
theorem k0_off54_inb : ∀ (v4 : BitVec 32) (v17 : BitVec 32) (v2396 : BitVec 32) (k0_hw29 : k0_chk29 v4 v17 v2396), ∀ (k0_h7 : k0_cond7 v4 v17 = 1#1), ∀ a, (k0_off54 v2396) a + S512x512.size a ≤ S32768x512.size a := fun v4 v17 v2396 k0_hw29 k0_h7 => k0_hw29 k0_h7

def k0_dev20 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off55 (v4 : BitVec 32) : Fin 1 → Nat :=
  let c2_i32_270 : BitVec 32 := 2#32
  let v353 : BitVec 32 := Scalar.subi v4 c2_i32_270
  let c32_i32_271 : BitVec 32 := 32#32
  let v354 : BitVec 32 := Scalar.addi v353 c32_i32_271
  let c32_i32_272 : BitVec 32 := 32#32
  let v355 : BitVec 32 := Scalar.remsi v354 c32_i32_272
  let v356 : Index := Scalar.indexCast v355
  ![v356.toNat]
def k0_off56 (v357 : BitVec 32) : Fin 2 → Nat :=
  let c1024_i32_273 : BitVec 32 := 1024#32
  let v358 : BitVec 32 := Scalar.muli v357 c1024_i32_273
  let c512_i32_274 : BitVec 32 := 512#32
  let v359 : BitVec 32 := Scalar.addi v358 c512_i32_274
  let c0_i32_281 : BitVec 32 := 0#32
  ![v359.toNat, 0]

def k0_dev21 (v8 : BitVec 32) : Nat :=
  let c0_i32_280 : BitVec 32 := 0#32
  let c1_i32_279 : BitVec 32 := 1#32
  let v362 : BitVec 32 := Scalar.muli v8 c1_i32_279
  let v363 : BitVec 32 := Scalar.addi c0_i32_280 v362
  v363.toNat
def k0_off57 (v4 : BitVec 32) : Fin 1 → Nat :=
  let c1_i32_283 : BitVec 32 := 1#32
  let v370 : BitVec 32 := Scalar.addi v4 c1_i32_283
  let c1_i32_284 : BitVec 32 := 1#32
  let v371 : BitVec 32 := Scalar.addi v370 c1_i32_284
  let c32_i32_285 : BitVec 32 := 32#32
  let v372 : BitVec 32 := Scalar.remsi v371 c32_i32_285
  let v373 : Index := Scalar.indexCast v372
  ![v373.toNat]
def k0_off58 (v374 : BitVec 32) : Fin 2 → Nat :=
  let c1024_i32_286 : BitVec 32 := 1024#32
  let v375 : BitVec 32 := Scalar.muli v374 c1024_i32_286
  let c512_i32_287 : BitVec 32 := 512#32
  let v376 : BitVec 32 := Scalar.addi v375 c512_i32_287
  let c0_i32_292 : BitVec 32 := 0#32
  ![v376.toNat, 0]

def k0_chk31 (v374 : BitVec 32) : Prop :=
  (∀ a, (k0_off58 v374) a + S512x512.size a ≤ S32768x512.size a)
theorem k0_off58_inb : ∀ (v374 : BitVec 32) (k0_hw31 : k0_chk31 v374), ∀ a, (k0_off58 v374) a + S512x512.size a ≤ S32768x512.size a := fun v374 k0_hw31 => k0_hw31

def k0_off59 (v4 : BitVec 32) : Fin 1 → Nat :=
  let c1_i32_294 : BitVec 32 := 1#32
  let v383 : BitVec 32 := Scalar.addi v4 c1_i32_294
  let c1_i32_295 : BitVec 32 := 1#32
  let v384 : BitVec 32 := Scalar.addi v383 c1_i32_295
  let c32_i32_296 : BitVec 32 := 32#32
  let v385 : BitVec 32 := Scalar.remsi v384 c32_i32_296
  let v2395 : Index := Scalar.indexCast v385
  ![v2395.toNat]
def k0_cond8 (v4 : BitVec 32) (v17 : BitVec 32) : BitVec 1 :=
  let c1_i32_294 : BitVec 32 := 1#32
  let v383 : BitVec 32 := Scalar.addi v4 c1_i32_294
  let c1_i32_295 : BitVec 32 := 1#32
  let v384 : BitVec 32 := Scalar.addi v383 c1_i32_295
  let c32_i32_296 : BitVec 32 := 32#32
  let v385 : BitVec 32 := Scalar.remsi v384 c32_i32_296
  let v386 : BitVec 32 := Scalar.subi v385 v17
  let c64_i32_297 : BitVec 32 := 64#32
  let v387 : BitVec 32 := Scalar.addi v386 c64_i32_297
  let c14_i32_298 : BitVec 32 := 14#32
  let v388 : BitVec 32 := Scalar.subi v387 c14_i32_298
  let c32_i32_299 : BitVec 32 := 32#32
  let v389 : BitVec 32 := Scalar.remsi v388 c32_i32_299
  let c5_i32_300 : BitVec 32 := 5#32
  let v390 : BitVec 1 := Scalar.cmpi .slt v389 c5_i32_300
  let v391 : BitVec 32 := Scalar.extui v390
  let c0_i32_301 : BitVec 32 := 0#32
  let v392 : BitVec 1 := Scalar.cmpi .ne v391 c0_i32_301
  v392

def k0_off60 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk32 (v4 : BitVec 32) (v17 : BitVec 32) (v2396 : BitVec 32) : Prop :=
  (∀ (k0_h8 : k0_cond8 v4 v17 = 1#1), ∀ a, (k0_off60 v2396) a + S512x512.size a ≤ S32768x512.size a)
theorem k0_off60_inb : ∀ (v4 : BitVec 32) (v17 : BitVec 32) (v2396 : BitVec 32) (k0_hw32 : k0_chk32 v4 v17 v2396), ∀ (k0_h8 : k0_cond8 v4 v17 = 1#1), ∀ a, (k0_off60 v2396) a + S512x512.size a ≤ S32768x512.size a := fun v4 v17 v2396 k0_hw32 k0_h8 => k0_hw32 k0_h8

def k0_dev22 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off61 (v4 : BitVec 32) : Fin 1 → Nat :=
  let c2_i32_302 : BitVec 32 := 2#32
  let v393 : BitVec 32 := Scalar.addi v4 c2_i32_302
  let c32_i32_303 : BitVec 32 := 32#32
  let v394 : BitVec 32 := Scalar.remsi v393 c32_i32_303
  let v395 : Index := Scalar.indexCast v394
  ![v395.toNat]
def k0_off62 (v396 : BitVec 32) : Fin 2 → Nat :=
  let c1024_i32_304 : BitVec 32 := 1024#32
  let v397 : BitVec 32 := Scalar.muli v396 c1024_i32_304
  let c512_i32_305 : BitVec 32 := 512#32
  let v398 : BitVec 32 := Scalar.addi v397 c512_i32_305
  let c0_i32_312 : BitVec 32 := 0#32
  ![v398.toNat, 0]

def k0_dev23 (v13 : BitVec 32) : Nat :=
  let c0_i32_311 : BitVec 32 := 0#32
  let c1_i32_310 : BitVec 32 := 1#32
  let v401 : BitVec 32 := Scalar.muli v13 c1_i32_310
  let v402 : BitVec 32 := Scalar.addi c0_i32_311 v401
  v402.toNat
def k0_off63 (v4 : BitVec 32) : Fin 1 → Nat :=
  let c1_i32_314 : BitVec 32 := 1#32
  let v409 : BitVec 32 := Scalar.subi v4 c1_i32_314
  let c2_i32_315 : BitVec 32 := 2#32
  let v410 : BitVec 32 := Scalar.subi v409 c2_i32_315
  let c32_i32_316 : BitVec 32 := 32#32
  let v411 : BitVec 32 := Scalar.addi v410 c32_i32_316
  let c32_i32_317 : BitVec 32 := 32#32
  let v412 : BitVec 32 := Scalar.remsi v411 c32_i32_317
  let v413 : Index := Scalar.indexCast v412
  ![v413.toNat]
def k0_off64 (v414 : BitVec 32) : Fin 2 → Nat :=
  let c1024_i32_318 : BitVec 32 := 1024#32
  let v415 : BitVec 32 := Scalar.muli v414 c1024_i32_318
  let c0_i32_319 : BitVec 32 := 0#32
  let v416 : BitVec 32 := Scalar.addi v415 c0_i32_319
  let c0_i32_324 : BitVec 32 := 0#32
  ![v416.toNat, 0]

def k0_chk34 (v414 : BitVec 32) : Prop :=
  (∀ a, (k0_off64 v414) a + S512x512.size a ≤ S32768x512.size a)
theorem k0_off64_inb : ∀ (v414 : BitVec 32) (k0_hw34 : k0_chk34 v414), ∀ a, (k0_off64 v414) a + S512x512.size a ≤ S32768x512.size a := fun v414 k0_hw34 => k0_hw34

def k0_off65 (v4 : BitVec 32) : Fin 1 → Nat :=
  let c1_i32_326 : BitVec 32 := 1#32
  let v423 : BitVec 32 := Scalar.subi v4 c1_i32_326
  let c2_i32_327 : BitVec 32 := 2#32
  let v424 : BitVec 32 := Scalar.subi v423 c2_i32_327
  let c32_i32_328 : BitVec 32 := 32#32
  let v425 : BitVec 32 := Scalar.addi v424 c32_i32_328
  let c32_i32_329 : BitVec 32 := 32#32
  let v426 : BitVec 32 := Scalar.remsi v425 c32_i32_329
  let v2395 : Index := Scalar.indexCast v426
  ![v2395.toNat]
def k0_cond9 (v4 : BitVec 32) (v17 : BitVec 32) : BitVec 1 :=
  let c1_i32_326 : BitVec 32 := 1#32
  let v423 : BitVec 32 := Scalar.subi v4 c1_i32_326
  let c2_i32_327 : BitVec 32 := 2#32
  let v424 : BitVec 32 := Scalar.subi v423 c2_i32_327
  let c32_i32_328 : BitVec 32 := 32#32
  let v425 : BitVec 32 := Scalar.addi v424 c32_i32_328
  let c32_i32_329 : BitVec 32 := 32#32
  let v426 : BitVec 32 := Scalar.remsi v425 c32_i32_329
  let v427 : BitVec 32 := Scalar.subi v426 v17
  let c64_i32_330 : BitVec 32 := 64#32
  let v428 : BitVec 32 := Scalar.addi v427 c64_i32_330
  let c14_i32_331 : BitVec 32 := 14#32
  let v429 : BitVec 32 := Scalar.subi v428 c14_i32_331
  let c32_i32_332 : BitVec 32 := 32#32
  let v430 : BitVec 32 := Scalar.remsi v429 c32_i32_332
  let c5_i32_333 : BitVec 32 := 5#32
  let v431 : BitVec 1 := Scalar.cmpi .slt v430 c5_i32_333
  let v432 : BitVec 32 := Scalar.extui v431
  let c0_i32_334 : BitVec 32 := 0#32
  let v433 : BitVec 1 := Scalar.cmpi .ne v432 c0_i32_334
  v433

def k0_off66 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk35 (v4 : BitVec 32) (v17 : BitVec 32) (v2396 : BitVec 32) : Prop :=
  (∀ (k0_h9 : k0_cond9 v4 v17 = 1#1), ∀ a, (k0_off66 v2396) a + S512x512.size a ≤ S32768x512.size a)
theorem k0_off66_inb : ∀ (v4 : BitVec 32) (v17 : BitVec 32) (v2396 : BitVec 32) (k0_hw35 : k0_chk35 v4 v17 v2396), ∀ (k0_h9 : k0_cond9 v4 v17 = 1#1), ∀ a, (k0_off66 v2396) a + S512x512.size a ≤ S32768x512.size a := fun v4 v17 v2396 k0_hw35 k0_h9 => k0_hw35 k0_h9

def k0_dev24 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off67 (v4 : BitVec 32) : Fin 1 → Nat :=
  let c3_i32_335 : BitVec 32 := 3#32
  let v434 : BitVec 32 := Scalar.subi v4 c3_i32_335
  let c32_i32_336 : BitVec 32 := 32#32
  let v435 : BitVec 32 := Scalar.addi v434 c32_i32_336
  let c32_i32_337 : BitVec 32 := 32#32
  let v436 : BitVec 32 := Scalar.remsi v435 c32_i32_337
  let v437 : Index := Scalar.indexCast v436
  ![v437.toNat]
def k0_off68 (v438 : BitVec 32) : Fin 2 → Nat :=
  let c1024_i32_338 : BitVec 32 := 1024#32
  let v439 : BitVec 32 := Scalar.muli v438 c1024_i32_338
  let c0_i32_339 : BitVec 32 := 0#32
  let v440 : BitVec 32 := Scalar.addi v439 c0_i32_339
  let c0_i32_345 : BitVec 32 := 0#32
  ![v440.toNat, 0]

def k0_dev25 (v8 : BitVec 32) : Nat :=
  let c0_i32_344 : BitVec 32 := 0#32
  let c1_i32_343 : BitVec 32 := 1#32
  let v443 : BitVec 32 := Scalar.muli v8 c1_i32_343
  let v444 : BitVec 32 := Scalar.addi c0_i32_344 v443
  v444.toNat
def k0_off69 (v4 : BitVec 32) : Fin 1 → Nat :=
  let c1_i32_347 : BitVec 32 := 1#32
  let v451 : BitVec 32 := Scalar.addi v4 c1_i32_347
  let c2_i32_348 : BitVec 32 := 2#32
  let v452 : BitVec 32 := Scalar.addi v451 c2_i32_348
  let c32_i32_349 : BitVec 32 := 32#32
  let v453 : BitVec 32 := Scalar.remsi v452 c32_i32_349
  let v454 : Index := Scalar.indexCast v453
  ![v454.toNat]
def k0_off70 (v455 : BitVec 32) : Fin 2 → Nat :=
  let c1024_i32_350 : BitVec 32 := 1024#32
  let v456 : BitVec 32 := Scalar.muli v455 c1024_i32_350
  let c0_i32_351 : BitVec 32 := 0#32
  let v457 : BitVec 32 := Scalar.addi v456 c0_i32_351
  let c0_i32_356 : BitVec 32 := 0#32
  ![v457.toNat, 0]

def k0_chk37 (v455 : BitVec 32) : Prop :=
  (∀ a, (k0_off70 v455) a + S512x512.size a ≤ S32768x512.size a)
theorem k0_off70_inb : ∀ (v455 : BitVec 32) (k0_hw37 : k0_chk37 v455), ∀ a, (k0_off70 v455) a + S512x512.size a ≤ S32768x512.size a := fun v455 k0_hw37 => k0_hw37

def k0_off71 (v4 : BitVec 32) : Fin 1 → Nat :=
  let c1_i32_358 : BitVec 32 := 1#32
  let v464 : BitVec 32 := Scalar.addi v4 c1_i32_358
  let c2_i32_359 : BitVec 32 := 2#32
  let v465 : BitVec 32 := Scalar.addi v464 c2_i32_359
  let c32_i32_360 : BitVec 32 := 32#32
  let v466 : BitVec 32 := Scalar.remsi v465 c32_i32_360
  let v2395 : Index := Scalar.indexCast v466
  ![v2395.toNat]
def k0_cond10 (v4 : BitVec 32) (v17 : BitVec 32) : BitVec 1 :=
  let c1_i32_358 : BitVec 32 := 1#32
  let v464 : BitVec 32 := Scalar.addi v4 c1_i32_358
  let c2_i32_359 : BitVec 32 := 2#32
  let v465 : BitVec 32 := Scalar.addi v464 c2_i32_359
  let c32_i32_360 : BitVec 32 := 32#32
  let v466 : BitVec 32 := Scalar.remsi v465 c32_i32_360
  let v467 : BitVec 32 := Scalar.subi v466 v17
  let c64_i32_361 : BitVec 32 := 64#32
  let v468 : BitVec 32 := Scalar.addi v467 c64_i32_361
  let c14_i32_362 : BitVec 32 := 14#32
  let v469 : BitVec 32 := Scalar.subi v468 c14_i32_362
  let c32_i32_363 : BitVec 32 := 32#32
  let v470 : BitVec 32 := Scalar.remsi v469 c32_i32_363
  let c5_i32_364 : BitVec 32 := 5#32
  let v471 : BitVec 1 := Scalar.cmpi .slt v470 c5_i32_364
  let v472 : BitVec 32 := Scalar.extui v471
  let c0_i32_365 : BitVec 32 := 0#32
  let v473 : BitVec 1 := Scalar.cmpi .ne v472 c0_i32_365
  v473

def k0_off72 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk38 (v4 : BitVec 32) (v17 : BitVec 32) (v2396 : BitVec 32) : Prop :=
  (∀ (k0_h10 : k0_cond10 v4 v17 = 1#1), ∀ a, (k0_off72 v2396) a + S512x512.size a ≤ S32768x512.size a)
theorem k0_off72_inb : ∀ (v4 : BitVec 32) (v17 : BitVec 32) (v2396 : BitVec 32) (k0_hw38 : k0_chk38 v4 v17 v2396), ∀ (k0_h10 : k0_cond10 v4 v17 = 1#1), ∀ a, (k0_off72 v2396) a + S512x512.size a ≤ S32768x512.size a := fun v4 v17 v2396 k0_hw38 k0_h10 => k0_hw38 k0_h10

def k0_dev26 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off73 (v4 : BitVec 32) : Fin 1 → Nat :=
  let c3_i32_366 : BitVec 32 := 3#32
  let v474 : BitVec 32 := Scalar.addi v4 c3_i32_366
  let c32_i32_367 : BitVec 32 := 32#32
  let v475 : BitVec 32 := Scalar.remsi v474 c32_i32_367
  let v476 : Index := Scalar.indexCast v475
  ![v476.toNat]
def k0_off74 (v477 : BitVec 32) : Fin 2 → Nat :=
  let c1024_i32_368 : BitVec 32 := 1024#32
  let v478 : BitVec 32 := Scalar.muli v477 c1024_i32_368
  let c0_i32_369 : BitVec 32 := 0#32
  let v479 : BitVec 32 := Scalar.addi v478 c0_i32_369
  let c0_i32_376 : BitVec 32 := 0#32
  ![v479.toNat, 0]

def k0_dev27 (v13 : BitVec 32) : Nat :=
  let c0_i32_375 : BitVec 32 := 0#32
  let c1_i32_374 : BitVec 32 := 1#32
  let v482 : BitVec 32 := Scalar.muli v13 c1_i32_374
  let v483 : BitVec 32 := Scalar.addi c0_i32_375 v482
  v483.toNat
def k0_off75 (v4 : BitVec 32) : Fin 1 → Nat :=
  let c1_i32_378 : BitVec 32 := 1#32
  let v490 : BitVec 32 := Scalar.subi v4 c1_i32_378
  let c2_i32_379 : BitVec 32 := 2#32
  let v491 : BitVec 32 := Scalar.subi v490 c2_i32_379
  let c32_i32_380 : BitVec 32 := 32#32
  let v492 : BitVec 32 := Scalar.addi v491 c32_i32_380
  let c32_i32_381 : BitVec 32 := 32#32
  let v493 : BitVec 32 := Scalar.remsi v492 c32_i32_381
  let v494 : Index := Scalar.indexCast v493
  ![v494.toNat]
def k0_off76 (v495 : BitVec 32) : Fin 2 → Nat :=
  let c1024_i32_382 : BitVec 32 := 1024#32
  let v496 : BitVec 32 := Scalar.muli v495 c1024_i32_382
  let c512_i32_383 : BitVec 32 := 512#32
  let v497 : BitVec 32 := Scalar.addi v496 c512_i32_383
  let c0_i32_388 : BitVec 32 := 0#32
  ![v497.toNat, 0]

def k0_chk40 (v495 : BitVec 32) : Prop :=
  (∀ a, (k0_off76 v495) a + S512x512.size a ≤ S32768x512.size a)
theorem k0_off76_inb : ∀ (v495 : BitVec 32) (k0_hw40 : k0_chk40 v495), ∀ a, (k0_off76 v495) a + S512x512.size a ≤ S32768x512.size a := fun v495 k0_hw40 => k0_hw40

def k0_off77 (v4 : BitVec 32) : Fin 1 → Nat :=
  let c1_i32_390 : BitVec 32 := 1#32
  let v504 : BitVec 32 := Scalar.subi v4 c1_i32_390
  let c2_i32_391 : BitVec 32 := 2#32
  let v505 : BitVec 32 := Scalar.subi v504 c2_i32_391
  let c32_i32_392 : BitVec 32 := 32#32
  let v506 : BitVec 32 := Scalar.addi v505 c32_i32_392
  let c32_i32_393 : BitVec 32 := 32#32
  let v507 : BitVec 32 := Scalar.remsi v506 c32_i32_393
  let v2395 : Index := Scalar.indexCast v507
  ![v2395.toNat]
def k0_cond11 (v4 : BitVec 32) (v17 : BitVec 32) : BitVec 1 :=
  let c1_i32_390 : BitVec 32 := 1#32
  let v504 : BitVec 32 := Scalar.subi v4 c1_i32_390
  let c2_i32_391 : BitVec 32 := 2#32
  let v505 : BitVec 32 := Scalar.subi v504 c2_i32_391
  let c32_i32_392 : BitVec 32 := 32#32
  let v506 : BitVec 32 := Scalar.addi v505 c32_i32_392
  let c32_i32_393 : BitVec 32 := 32#32
  let v507 : BitVec 32 := Scalar.remsi v506 c32_i32_393
  let v508 : BitVec 32 := Scalar.subi v507 v17
  let c64_i32_394 : BitVec 32 := 64#32
  let v509 : BitVec 32 := Scalar.addi v508 c64_i32_394
  let c14_i32_395 : BitVec 32 := 14#32
  let v510 : BitVec 32 := Scalar.subi v509 c14_i32_395
  let c32_i32_396 : BitVec 32 := 32#32
  let v511 : BitVec 32 := Scalar.remsi v510 c32_i32_396
  let c5_i32_397 : BitVec 32 := 5#32
  let v512 : BitVec 1 := Scalar.cmpi .slt v511 c5_i32_397
  let v513 : BitVec 32 := Scalar.extui v512
  let c0_i32_398 : BitVec 32 := 0#32
  let v514 : BitVec 1 := Scalar.cmpi .ne v513 c0_i32_398
  v514

def k0_off78 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk41 (v4 : BitVec 32) (v17 : BitVec 32) (v2396 : BitVec 32) : Prop :=
  (∀ (k0_h11 : k0_cond11 v4 v17 = 1#1), ∀ a, (k0_off78 v2396) a + S512x512.size a ≤ S32768x512.size a)
theorem k0_off78_inb : ∀ (v4 : BitVec 32) (v17 : BitVec 32) (v2396 : BitVec 32) (k0_hw41 : k0_chk41 v4 v17 v2396), ∀ (k0_h11 : k0_cond11 v4 v17 = 1#1), ∀ a, (k0_off78 v2396) a + S512x512.size a ≤ S32768x512.size a := fun v4 v17 v2396 k0_hw41 k0_h11 => k0_hw41 k0_h11

def k0_dev28 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off79 (v4 : BitVec 32) : Fin 1 → Nat :=
  let c3_i32_399 : BitVec 32 := 3#32
  let v515 : BitVec 32 := Scalar.subi v4 c3_i32_399
  let c32_i32_400 : BitVec 32 := 32#32
  let v516 : BitVec 32 := Scalar.addi v515 c32_i32_400
  let c32_i32_401 : BitVec 32 := 32#32
  let v517 : BitVec 32 := Scalar.remsi v516 c32_i32_401
  let v518 : Index := Scalar.indexCast v517
  ![v518.toNat]
def k0_off80 (v519 : BitVec 32) : Fin 2 → Nat :=
  let c1024_i32_402 : BitVec 32 := 1024#32
  let v520 : BitVec 32 := Scalar.muli v519 c1024_i32_402
  let c512_i32_403 : BitVec 32 := 512#32
  let v521 : BitVec 32 := Scalar.addi v520 c512_i32_403
  let c0_i32_409 : BitVec 32 := 0#32
  ![v521.toNat, 0]

def k0_dev29 (v8 : BitVec 32) : Nat :=
  let c0_i32_408 : BitVec 32 := 0#32
  let c1_i32_407 : BitVec 32 := 1#32
  let v524 : BitVec 32 := Scalar.muli v8 c1_i32_407
  let v525 : BitVec 32 := Scalar.addi c0_i32_408 v524
  v525.toNat
def k0_off81 (v4 : BitVec 32) : Fin 1 → Nat :=
  let c1_i32_411 : BitVec 32 := 1#32
  let v532 : BitVec 32 := Scalar.addi v4 c1_i32_411
  let c2_i32_412 : BitVec 32 := 2#32
  let v533 : BitVec 32 := Scalar.addi v532 c2_i32_412
  let c32_i32_413 : BitVec 32 := 32#32
  let v534 : BitVec 32 := Scalar.remsi v533 c32_i32_413
  let v535 : Index := Scalar.indexCast v534
  ![v535.toNat]
def k0_off82 (v536 : BitVec 32) : Fin 2 → Nat :=
  let c1024_i32_414 : BitVec 32 := 1024#32
  let v537 : BitVec 32 := Scalar.muli v536 c1024_i32_414
  let c512_i32_415 : BitVec 32 := 512#32
  let v538 : BitVec 32 := Scalar.addi v537 c512_i32_415
  let c0_i32_420 : BitVec 32 := 0#32
  ![v538.toNat, 0]

def k0_chk43 (v536 : BitVec 32) : Prop :=
  (∀ a, (k0_off82 v536) a + S512x512.size a ≤ S32768x512.size a)
theorem k0_off82_inb : ∀ (v536 : BitVec 32) (k0_hw43 : k0_chk43 v536), ∀ a, (k0_off82 v536) a + S512x512.size a ≤ S32768x512.size a := fun v536 k0_hw43 => k0_hw43

def k0_off83 (v4 : BitVec 32) : Fin 1 → Nat :=
  let c1_i32_422 : BitVec 32 := 1#32
  let v545 : BitVec 32 := Scalar.addi v4 c1_i32_422
  let c2_i32_423 : BitVec 32 := 2#32
  let v546 : BitVec 32 := Scalar.addi v545 c2_i32_423
  let c32_i32_424 : BitVec 32 := 32#32
  let v547 : BitVec 32 := Scalar.remsi v546 c32_i32_424
  let v2395 : Index := Scalar.indexCast v547
  ![v2395.toNat]
def k0_cond12 (v4 : BitVec 32) (v17 : BitVec 32) : BitVec 1 :=
  let c1_i32_422 : BitVec 32 := 1#32
  let v545 : BitVec 32 := Scalar.addi v4 c1_i32_422
  let c2_i32_423 : BitVec 32 := 2#32
  let v546 : BitVec 32 := Scalar.addi v545 c2_i32_423
  let c32_i32_424 : BitVec 32 := 32#32
  let v547 : BitVec 32 := Scalar.remsi v546 c32_i32_424
  let v548 : BitVec 32 := Scalar.subi v547 v17
  let c64_i32_425 : BitVec 32 := 64#32
  let v549 : BitVec 32 := Scalar.addi v548 c64_i32_425
  let c14_i32_426 : BitVec 32 := 14#32
  let v550 : BitVec 32 := Scalar.subi v549 c14_i32_426
  let c32_i32_427 : BitVec 32 := 32#32
  let v551 : BitVec 32 := Scalar.remsi v550 c32_i32_427
  let c5_i32_428 : BitVec 32 := 5#32
  let v552 : BitVec 1 := Scalar.cmpi .slt v551 c5_i32_428
  let v553 : BitVec 32 := Scalar.extui v552
  let c0_i32_429 : BitVec 32 := 0#32
  let v554 : BitVec 1 := Scalar.cmpi .ne v553 c0_i32_429
  v554

def k0_off84 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk44 (v4 : BitVec 32) (v17 : BitVec 32) (v2396 : BitVec 32) : Prop :=
  (∀ (k0_h12 : k0_cond12 v4 v17 = 1#1), ∀ a, (k0_off84 v2396) a + S512x512.size a ≤ S32768x512.size a)
theorem k0_off84_inb : ∀ (v4 : BitVec 32) (v17 : BitVec 32) (v2396 : BitVec 32) (k0_hw44 : k0_chk44 v4 v17 v2396), ∀ (k0_h12 : k0_cond12 v4 v17 = 1#1), ∀ a, (k0_off84 v2396) a + S512x512.size a ≤ S32768x512.size a := fun v4 v17 v2396 k0_hw44 k0_h12 => k0_hw44 k0_h12

def k0_dev30 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off85 (v4 : BitVec 32) : Fin 1 → Nat :=
  let c3_i32_430 : BitVec 32 := 3#32
  let v555 : BitVec 32 := Scalar.addi v4 c3_i32_430
  let c32_i32_431 : BitVec 32 := 32#32
  let v556 : BitVec 32 := Scalar.remsi v555 c32_i32_431
  let v557 : Index := Scalar.indexCast v556
  ![v557.toNat]
def k0_off86 (v558 : BitVec 32) : Fin 2 → Nat :=
  let c1024_i32_432 : BitVec 32 := 1024#32
  let v559 : BitVec 32 := Scalar.muli v558 c1024_i32_432
  let c512_i32_433 : BitVec 32 := 512#32
  let v560 : BitVec 32 := Scalar.addi v559 c512_i32_433
  let c0_i32_440 : BitVec 32 := 0#32
  ![v560.toNat, 0]

def k0_dev31 (v13 : BitVec 32) : Nat :=
  let c0_i32_439 : BitVec 32 := 0#32
  let c1_i32_438 : BitVec 32 := 1#32
  let v563 : BitVec 32 := Scalar.muli v13 c1_i32_438
  let v564 : BitVec 32 := Scalar.addi c0_i32_439 v563
  v564.toNat
def k0_off87 (v4 : BitVec 32) : Fin 1 → Nat :=
  let c1_i32_442 : BitVec 32 := 1#32
  let v571 : BitVec 32 := Scalar.subi v4 c1_i32_442
  let c3_i32_443 : BitVec 32 := 3#32
  let v572 : BitVec 32 := Scalar.subi v571 c3_i32_443
  let c32_i32_444 : BitVec 32 := 32#32
  let v573 : BitVec 32 := Scalar.addi v572 c32_i32_444
  let c32_i32_445 : BitVec 32 := 32#32
  let v574 : BitVec 32 := Scalar.remsi v573 c32_i32_445
  let v575 : Index := Scalar.indexCast v574
  ![v575.toNat]
def k0_off88 (v576 : BitVec 32) : Fin 2 → Nat :=
  let c1024_i32_446 : BitVec 32 := 1024#32
  let v577 : BitVec 32 := Scalar.muli v576 c1024_i32_446
  let c0_i32_447 : BitVec 32 := 0#32
  let v578 : BitVec 32 := Scalar.addi v577 c0_i32_447
  let c0_i32_452 : BitVec 32 := 0#32
  ![v578.toNat, 0]

def k0_chk46 (v576 : BitVec 32) : Prop :=
  (∀ a, (k0_off88 v576) a + S512x512.size a ≤ S32768x512.size a)
theorem k0_off88_inb : ∀ (v576 : BitVec 32) (k0_hw46 : k0_chk46 v576), ∀ a, (k0_off88 v576) a + S512x512.size a ≤ S32768x512.size a := fun v576 k0_hw46 => k0_hw46

def k0_off89 (v4 : BitVec 32) : Fin 1 → Nat :=
  let c1_i32_454 : BitVec 32 := 1#32
  let v585 : BitVec 32 := Scalar.subi v4 c1_i32_454
  let c3_i32_455 : BitVec 32 := 3#32
  let v586 : BitVec 32 := Scalar.subi v585 c3_i32_455
  let c32_i32_456 : BitVec 32 := 32#32
  let v587 : BitVec 32 := Scalar.addi v586 c32_i32_456
  let c32_i32_457 : BitVec 32 := 32#32
  let v588 : BitVec 32 := Scalar.remsi v587 c32_i32_457
  let v2395 : Index := Scalar.indexCast v588
  ![v2395.toNat]
def k0_cond13 (v4 : BitVec 32) (v17 : BitVec 32) : BitVec 1 :=
  let c1_i32_454 : BitVec 32 := 1#32
  let v585 : BitVec 32 := Scalar.subi v4 c1_i32_454
  let c3_i32_455 : BitVec 32 := 3#32
  let v586 : BitVec 32 := Scalar.subi v585 c3_i32_455
  let c32_i32_456 : BitVec 32 := 32#32
  let v587 : BitVec 32 := Scalar.addi v586 c32_i32_456
  let c32_i32_457 : BitVec 32 := 32#32
  let v588 : BitVec 32 := Scalar.remsi v587 c32_i32_457
  let v589 : BitVec 32 := Scalar.subi v588 v17
  let c64_i32_458 : BitVec 32 := 64#32
  let v590 : BitVec 32 := Scalar.addi v589 c64_i32_458
  let c14_i32_459 : BitVec 32 := 14#32
  let v591 : BitVec 32 := Scalar.subi v590 c14_i32_459
  let c32_i32_460 : BitVec 32 := 32#32
  let v592 : BitVec 32 := Scalar.remsi v591 c32_i32_460
  let c5_i32_461 : BitVec 32 := 5#32
  let v593 : BitVec 1 := Scalar.cmpi .slt v592 c5_i32_461
  let v594 : BitVec 32 := Scalar.extui v593
  let c0_i32_462 : BitVec 32 := 0#32
  let v595 : BitVec 1 := Scalar.cmpi .ne v594 c0_i32_462
  v595

def k0_off90 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk47 (v4 : BitVec 32) (v17 : BitVec 32) (v2396 : BitVec 32) : Prop :=
  (∀ (k0_h13 : k0_cond13 v4 v17 = 1#1), ∀ a, (k0_off90 v2396) a + S512x512.size a ≤ S32768x512.size a)
theorem k0_off90_inb : ∀ (v4 : BitVec 32) (v17 : BitVec 32) (v2396 : BitVec 32) (k0_hw47 : k0_chk47 v4 v17 v2396), ∀ (k0_h13 : k0_cond13 v4 v17 = 1#1), ∀ a, (k0_off90 v2396) a + S512x512.size a ≤ S32768x512.size a := fun v4 v17 v2396 k0_hw47 k0_h13 => k0_hw47 k0_h13

def k0_dev32 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off91 (v4 : BitVec 32) : Fin 1 → Nat :=
  let c4_i32_463 : BitVec 32 := 4#32
  let v596 : BitVec 32 := Scalar.subi v4 c4_i32_463
  let c32_i32_464 : BitVec 32 := 32#32
  let v597 : BitVec 32 := Scalar.addi v596 c32_i32_464
  let c32_i32_465 : BitVec 32 := 32#32
  let v598 : BitVec 32 := Scalar.remsi v597 c32_i32_465
  let v599 : Index := Scalar.indexCast v598
  ![v599.toNat]
def k0_off92 (v600 : BitVec 32) : Fin 2 → Nat :=
  let c1024_i32_466 : BitVec 32 := 1024#32
  let v601 : BitVec 32 := Scalar.muli v600 c1024_i32_466
  let c0_i32_467 : BitVec 32 := 0#32
  let v602 : BitVec 32 := Scalar.addi v601 c0_i32_467
  let c0_i32_473 : BitVec 32 := 0#32
  ![v602.toNat, 0]

def k0_dev33 (v8 : BitVec 32) : Nat :=
  let c0_i32_472 : BitVec 32 := 0#32
  let c1_i32_471 : BitVec 32 := 1#32
  let v605 : BitVec 32 := Scalar.muli v8 c1_i32_471
  let v606 : BitVec 32 := Scalar.addi c0_i32_472 v605
  v606.toNat
def k0_off93 (v4 : BitVec 32) : Fin 1 → Nat :=
  let c1_i32_475 : BitVec 32 := 1#32
  let v613 : BitVec 32 := Scalar.addi v4 c1_i32_475
  let c3_i32_476 : BitVec 32 := 3#32
  let v614 : BitVec 32 := Scalar.addi v613 c3_i32_476
  let c32_i32_477 : BitVec 32 := 32#32
  let v615 : BitVec 32 := Scalar.remsi v614 c32_i32_477
  let v616 : Index := Scalar.indexCast v615
  ![v616.toNat]
def k0_off94 (v617 : BitVec 32) : Fin 2 → Nat :=
  let c1024_i32_478 : BitVec 32 := 1024#32
  let v618 : BitVec 32 := Scalar.muli v617 c1024_i32_478
  let c0_i32_479 : BitVec 32 := 0#32
  let v619 : BitVec 32 := Scalar.addi v618 c0_i32_479
  let c0_i32_484 : BitVec 32 := 0#32
  ![v619.toNat, 0]

def k0_chk49 (v617 : BitVec 32) : Prop :=
  (∀ a, (k0_off94 v617) a + S512x512.size a ≤ S32768x512.size a)
theorem k0_off94_inb : ∀ (v617 : BitVec 32) (k0_hw49 : k0_chk49 v617), ∀ a, (k0_off94 v617) a + S512x512.size a ≤ S32768x512.size a := fun v617 k0_hw49 => k0_hw49

def k0_off95 (v4 : BitVec 32) : Fin 1 → Nat :=
  let c1_i32_486 : BitVec 32 := 1#32
  let v626 : BitVec 32 := Scalar.addi v4 c1_i32_486
  let c3_i32_487 : BitVec 32 := 3#32
  let v627 : BitVec 32 := Scalar.addi v626 c3_i32_487
  let c32_i32_488 : BitVec 32 := 32#32
  let v628 : BitVec 32 := Scalar.remsi v627 c32_i32_488
  let v2395 : Index := Scalar.indexCast v628
  ![v2395.toNat]
def k0_cond14 (v4 : BitVec 32) (v17 : BitVec 32) : BitVec 1 :=
  let c1_i32_486 : BitVec 32 := 1#32
  let v626 : BitVec 32 := Scalar.addi v4 c1_i32_486
  let c3_i32_487 : BitVec 32 := 3#32
  let v627 : BitVec 32 := Scalar.addi v626 c3_i32_487
  let c32_i32_488 : BitVec 32 := 32#32
  let v628 : BitVec 32 := Scalar.remsi v627 c32_i32_488
  let v629 : BitVec 32 := Scalar.subi v628 v17
  let c64_i32_489 : BitVec 32 := 64#32
  let v630 : BitVec 32 := Scalar.addi v629 c64_i32_489
  let c14_i32_490 : BitVec 32 := 14#32
  let v631 : BitVec 32 := Scalar.subi v630 c14_i32_490
  let c32_i32_491 : BitVec 32 := 32#32
  let v632 : BitVec 32 := Scalar.remsi v631 c32_i32_491
  let c5_i32_492 : BitVec 32 := 5#32
  let v633 : BitVec 1 := Scalar.cmpi .slt v632 c5_i32_492
  let v634 : BitVec 32 := Scalar.extui v633
  let c0_i32_493 : BitVec 32 := 0#32
  let v635 : BitVec 1 := Scalar.cmpi .ne v634 c0_i32_493
  v635

def k0_off96 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk50 (v4 : BitVec 32) (v17 : BitVec 32) (v2396 : BitVec 32) : Prop :=
  (∀ (k0_h14 : k0_cond14 v4 v17 = 1#1), ∀ a, (k0_off96 v2396) a + S512x512.size a ≤ S32768x512.size a)
theorem k0_off96_inb : ∀ (v4 : BitVec 32) (v17 : BitVec 32) (v2396 : BitVec 32) (k0_hw50 : k0_chk50 v4 v17 v2396), ∀ (k0_h14 : k0_cond14 v4 v17 = 1#1), ∀ a, (k0_off96 v2396) a + S512x512.size a ≤ S32768x512.size a := fun v4 v17 v2396 k0_hw50 k0_h14 => k0_hw50 k0_h14

def k0_dev34 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off97 (v4 : BitVec 32) : Fin 1 → Nat :=
  let c4_i32_494 : BitVec 32 := 4#32
  let v636 : BitVec 32 := Scalar.addi v4 c4_i32_494
  let c32_i32_495 : BitVec 32 := 32#32
  let v637 : BitVec 32 := Scalar.remsi v636 c32_i32_495
  let v638 : Index := Scalar.indexCast v637
  ![v638.toNat]
def k0_off98 (v639 : BitVec 32) : Fin 2 → Nat :=
  let c1024_i32_496 : BitVec 32 := 1024#32
  let v640 : BitVec 32 := Scalar.muli v639 c1024_i32_496
  let c0_i32_497 : BitVec 32 := 0#32
  let v641 : BitVec 32 := Scalar.addi v640 c0_i32_497
  let c0_i32_504 : BitVec 32 := 0#32
  ![v641.toNat, 0]

def k0_dev35 (v13 : BitVec 32) : Nat :=
  let c0_i32_503 : BitVec 32 := 0#32
  let c1_i32_502 : BitVec 32 := 1#32
  let v644 : BitVec 32 := Scalar.muli v13 c1_i32_502
  let v645 : BitVec 32 := Scalar.addi c0_i32_503 v644
  v645.toNat
def k0_off99 (v4 : BitVec 32) : Fin 1 → Nat :=
  let c1_i32_506 : BitVec 32 := 1#32
  let v652 : BitVec 32 := Scalar.subi v4 c1_i32_506
  let c3_i32_507 : BitVec 32 := 3#32
  let v653 : BitVec 32 := Scalar.subi v652 c3_i32_507
  let c32_i32_508 : BitVec 32 := 32#32
  let v654 : BitVec 32 := Scalar.addi v653 c32_i32_508
  let c32_i32_509 : BitVec 32 := 32#32
  let v655 : BitVec 32 := Scalar.remsi v654 c32_i32_509
  let v656 : Index := Scalar.indexCast v655
  ![v656.toNat]
def k0_off100 (v657 : BitVec 32) : Fin 2 → Nat :=
  let c1024_i32_510 : BitVec 32 := 1024#32
  let v658 : BitVec 32 := Scalar.muli v657 c1024_i32_510
  let c512_i32_511 : BitVec 32 := 512#32
  let v659 : BitVec 32 := Scalar.addi v658 c512_i32_511
  let c0_i32_516 : BitVec 32 := 0#32
  ![v659.toNat, 0]

def k0_chk52 (v657 : BitVec 32) : Prop :=
  (∀ a, (k0_off100 v657) a + S512x512.size a ≤ S32768x512.size a)
theorem k0_off100_inb : ∀ (v657 : BitVec 32) (k0_hw52 : k0_chk52 v657), ∀ a, (k0_off100 v657) a + S512x512.size a ≤ S32768x512.size a := fun v657 k0_hw52 => k0_hw52

def k0_off101 (v4 : BitVec 32) : Fin 1 → Nat :=
  let c1_i32_518 : BitVec 32 := 1#32
  let v666 : BitVec 32 := Scalar.subi v4 c1_i32_518
  let c3_i32_519 : BitVec 32 := 3#32
  let v667 : BitVec 32 := Scalar.subi v666 c3_i32_519
  let c32_i32_520 : BitVec 32 := 32#32
  let v668 : BitVec 32 := Scalar.addi v667 c32_i32_520
  let c32_i32_521 : BitVec 32 := 32#32
  let v669 : BitVec 32 := Scalar.remsi v668 c32_i32_521
  let v2395 : Index := Scalar.indexCast v669
  ![v2395.toNat]
def k0_cond15 (v4 : BitVec 32) (v17 : BitVec 32) : BitVec 1 :=
  let c1_i32_518 : BitVec 32 := 1#32
  let v666 : BitVec 32 := Scalar.subi v4 c1_i32_518
  let c3_i32_519 : BitVec 32 := 3#32
  let v667 : BitVec 32 := Scalar.subi v666 c3_i32_519
  let c32_i32_520 : BitVec 32 := 32#32
  let v668 : BitVec 32 := Scalar.addi v667 c32_i32_520
  let c32_i32_521 : BitVec 32 := 32#32
  let v669 : BitVec 32 := Scalar.remsi v668 c32_i32_521
  let v670 : BitVec 32 := Scalar.subi v669 v17
  let c64_i32_522 : BitVec 32 := 64#32
  let v671 : BitVec 32 := Scalar.addi v670 c64_i32_522
  let c14_i32_523 : BitVec 32 := 14#32
  let v672 : BitVec 32 := Scalar.subi v671 c14_i32_523
  let c32_i32_524 : BitVec 32 := 32#32
  let v673 : BitVec 32 := Scalar.remsi v672 c32_i32_524
  let c5_i32_525 : BitVec 32 := 5#32
  let v674 : BitVec 1 := Scalar.cmpi .slt v673 c5_i32_525
  let v675 : BitVec 32 := Scalar.extui v674
  let c0_i32_526 : BitVec 32 := 0#32
  let v676 : BitVec 1 := Scalar.cmpi .ne v675 c0_i32_526
  v676

def k0_off102 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk53 (v4 : BitVec 32) (v17 : BitVec 32) (v2396 : BitVec 32) : Prop :=
  (∀ (k0_h15 : k0_cond15 v4 v17 = 1#1), ∀ a, (k0_off102 v2396) a + S512x512.size a ≤ S32768x512.size a)
theorem k0_off102_inb : ∀ (v4 : BitVec 32) (v17 : BitVec 32) (v2396 : BitVec 32) (k0_hw53 : k0_chk53 v4 v17 v2396), ∀ (k0_h15 : k0_cond15 v4 v17 = 1#1), ∀ a, (k0_off102 v2396) a + S512x512.size a ≤ S32768x512.size a := fun v4 v17 v2396 k0_hw53 k0_h15 => k0_hw53 k0_h15

def k0_dev36 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off103 (v4 : BitVec 32) : Fin 1 → Nat :=
  let c4_i32_527 : BitVec 32 := 4#32
  let v677 : BitVec 32 := Scalar.subi v4 c4_i32_527
  let c32_i32_528 : BitVec 32 := 32#32
  let v678 : BitVec 32 := Scalar.addi v677 c32_i32_528
  let c32_i32_529 : BitVec 32 := 32#32
  let v679 : BitVec 32 := Scalar.remsi v678 c32_i32_529
  let v680 : Index := Scalar.indexCast v679
  ![v680.toNat]
def k0_off104 (v681 : BitVec 32) : Fin 2 → Nat :=
  let c1024_i32_530 : BitVec 32 := 1024#32
  let v682 : BitVec 32 := Scalar.muli v681 c1024_i32_530
  let c512_i32_531 : BitVec 32 := 512#32
  let v683 : BitVec 32 := Scalar.addi v682 c512_i32_531
  let c0_i32_537 : BitVec 32 := 0#32
  ![v683.toNat, 0]

def k0_dev37 (v8 : BitVec 32) : Nat :=
  let c0_i32_536 : BitVec 32 := 0#32
  let c1_i32_535 : BitVec 32 := 1#32
  let v686 : BitVec 32 := Scalar.muli v8 c1_i32_535
  let v687 : BitVec 32 := Scalar.addi c0_i32_536 v686
  v687.toNat
def k0_off105 (v4 : BitVec 32) : Fin 1 → Nat :=
  let c1_i32_539 : BitVec 32 := 1#32
  let v694 : BitVec 32 := Scalar.addi v4 c1_i32_539
  let c3_i32_540 : BitVec 32 := 3#32
  let v695 : BitVec 32 := Scalar.addi v694 c3_i32_540
  let c32_i32_541 : BitVec 32 := 32#32
  let v696 : BitVec 32 := Scalar.remsi v695 c32_i32_541
  let v697 : Index := Scalar.indexCast v696
  ![v697.toNat]
def k0_off106 (v698 : BitVec 32) : Fin 2 → Nat :=
  let c1024_i32_542 : BitVec 32 := 1024#32
  let v699 : BitVec 32 := Scalar.muli v698 c1024_i32_542
  let c512_i32_543 : BitVec 32 := 512#32
  let v700 : BitVec 32 := Scalar.addi v699 c512_i32_543
  let c0_i32_548 : BitVec 32 := 0#32
  ![v700.toNat, 0]

def k0_chk55 (v698 : BitVec 32) : Prop :=
  (∀ a, (k0_off106 v698) a + S512x512.size a ≤ S32768x512.size a)
theorem k0_off106_inb : ∀ (v698 : BitVec 32) (k0_hw55 : k0_chk55 v698), ∀ a, (k0_off106 v698) a + S512x512.size a ≤ S32768x512.size a := fun v698 k0_hw55 => k0_hw55

def k0_off107 (v4 : BitVec 32) : Fin 1 → Nat :=
  let c1_i32_550 : BitVec 32 := 1#32
  let v707 : BitVec 32 := Scalar.addi v4 c1_i32_550
  let c3_i32_551 : BitVec 32 := 3#32
  let v708 : BitVec 32 := Scalar.addi v707 c3_i32_551
  let c32_i32_552 : BitVec 32 := 32#32
  let v709 : BitVec 32 := Scalar.remsi v708 c32_i32_552
  let v2395 : Index := Scalar.indexCast v709
  ![v2395.toNat]
def k0_cond16 (v4 : BitVec 32) (v17 : BitVec 32) : BitVec 1 :=
  let c1_i32_550 : BitVec 32 := 1#32
  let v707 : BitVec 32 := Scalar.addi v4 c1_i32_550
  let c3_i32_551 : BitVec 32 := 3#32
  let v708 : BitVec 32 := Scalar.addi v707 c3_i32_551
  let c32_i32_552 : BitVec 32 := 32#32
  let v709 : BitVec 32 := Scalar.remsi v708 c32_i32_552
  let v710 : BitVec 32 := Scalar.subi v709 v17
  let c64_i32_553 : BitVec 32 := 64#32
  let v711 : BitVec 32 := Scalar.addi v710 c64_i32_553
  let c14_i32_554 : BitVec 32 := 14#32
  let v712 : BitVec 32 := Scalar.subi v711 c14_i32_554
  let c32_i32_555 : BitVec 32 := 32#32
  let v713 : BitVec 32 := Scalar.remsi v712 c32_i32_555
  let c5_i32_556 : BitVec 32 := 5#32
  let v714 : BitVec 1 := Scalar.cmpi .slt v713 c5_i32_556
  let v715 : BitVec 32 := Scalar.extui v714
  let c0_i32_557 : BitVec 32 := 0#32
  let v716 : BitVec 1 := Scalar.cmpi .ne v715 c0_i32_557
  v716

def k0_off108 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk56 (v4 : BitVec 32) (v17 : BitVec 32) (v2396 : BitVec 32) : Prop :=
  (∀ (k0_h16 : k0_cond16 v4 v17 = 1#1), ∀ a, (k0_off108 v2396) a + S512x512.size a ≤ S32768x512.size a)
theorem k0_off108_inb : ∀ (v4 : BitVec 32) (v17 : BitVec 32) (v2396 : BitVec 32) (k0_hw56 : k0_chk56 v4 v17 v2396), ∀ (k0_h16 : k0_cond16 v4 v17 = 1#1), ∀ a, (k0_off108 v2396) a + S512x512.size a ≤ S32768x512.size a := fun v4 v17 v2396 k0_hw56 k0_h16 => k0_hw56 k0_h16

def k0_dev38 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off109 (v4 : BitVec 32) : Fin 1 → Nat :=
  let c4_i32_558 : BitVec 32 := 4#32
  let v717 : BitVec 32 := Scalar.addi v4 c4_i32_558
  let c32_i32_559 : BitVec 32 := 32#32
  let v718 : BitVec 32 := Scalar.remsi v717 c32_i32_559
  let v719 : Index := Scalar.indexCast v718
  ![v719.toNat]
def k0_off110 (v720 : BitVec 32) : Fin 2 → Nat :=
  let c1024_i32_560 : BitVec 32 := 1024#32
  let v721 : BitVec 32 := Scalar.muli v720 c1024_i32_560
  let c512_i32_561 : BitVec 32 := 512#32
  let v722 : BitVec 32 := Scalar.addi v721 c512_i32_561
  let c0_i32_568 : BitVec 32 := 0#32
  ![v722.toNat, 0]

def k0_dev39 (v13 : BitVec 32) : Nat :=
  let c0_i32_567 : BitVec 32 := 0#32
  let c1_i32_566 : BitVec 32 := 1#32
  let v725 : BitVec 32 := Scalar.muli v13 c1_i32_566
  let v726 : BitVec 32 := Scalar.addi c0_i32_567 v725
  v726.toNat
def k0_off111 (v4 : BitVec 32) : Fin 1 → Nat :=
  let c1_i32_570 : BitVec 32 := 1#32
  let v733 : BitVec 32 := Scalar.subi v4 c1_i32_570
  let c4_i32_571 : BitVec 32 := 4#32
  let v734 : BitVec 32 := Scalar.subi v733 c4_i32_571
  let c32_i32_572 : BitVec 32 := 32#32
  let v735 : BitVec 32 := Scalar.addi v734 c32_i32_572
  let c32_i32_573 : BitVec 32 := 32#32
  let v736 : BitVec 32 := Scalar.remsi v735 c32_i32_573
  let v737 : Index := Scalar.indexCast v736
  ![v737.toNat]
def k0_off112 (v738 : BitVec 32) : Fin 2 → Nat :=
  let c1024_i32_574 : BitVec 32 := 1024#32
  let v739 : BitVec 32 := Scalar.muli v738 c1024_i32_574
  let c0_i32_575 : BitVec 32 := 0#32
  let v740 : BitVec 32 := Scalar.addi v739 c0_i32_575
  let c0_i32_580 : BitVec 32 := 0#32
  ![v740.toNat, 0]

def k0_chk58 (v738 : BitVec 32) : Prop :=
  (∀ a, (k0_off112 v738) a + S512x512.size a ≤ S32768x512.size a)
theorem k0_off112_inb : ∀ (v738 : BitVec 32) (k0_hw58 : k0_chk58 v738), ∀ a, (k0_off112 v738) a + S512x512.size a ≤ S32768x512.size a := fun v738 k0_hw58 => k0_hw58

def k0_off113 (v4 : BitVec 32) : Fin 1 → Nat :=
  let c1_i32_582 : BitVec 32 := 1#32
  let v747 : BitVec 32 := Scalar.subi v4 c1_i32_582
  let c4_i32_583 : BitVec 32 := 4#32
  let v748 : BitVec 32 := Scalar.subi v747 c4_i32_583
  let c32_i32_584 : BitVec 32 := 32#32
  let v749 : BitVec 32 := Scalar.addi v748 c32_i32_584
  let c32_i32_585 : BitVec 32 := 32#32
  let v750 : BitVec 32 := Scalar.remsi v749 c32_i32_585
  let v2395 : Index := Scalar.indexCast v750
  ![v2395.toNat]
def k0_cond17 (v4 : BitVec 32) (v17 : BitVec 32) : BitVec 1 :=
  let c1_i32_582 : BitVec 32 := 1#32
  let v747 : BitVec 32 := Scalar.subi v4 c1_i32_582
  let c4_i32_583 : BitVec 32 := 4#32
  let v748 : BitVec 32 := Scalar.subi v747 c4_i32_583
  let c32_i32_584 : BitVec 32 := 32#32
  let v749 : BitVec 32 := Scalar.addi v748 c32_i32_584
  let c32_i32_585 : BitVec 32 := 32#32
  let v750 : BitVec 32 := Scalar.remsi v749 c32_i32_585
  let v751 : BitVec 32 := Scalar.subi v750 v17
  let c64_i32_586 : BitVec 32 := 64#32
  let v752 : BitVec 32 := Scalar.addi v751 c64_i32_586
  let c14_i32_587 : BitVec 32 := 14#32
  let v753 : BitVec 32 := Scalar.subi v752 c14_i32_587
  let c32_i32_588 : BitVec 32 := 32#32
  let v754 : BitVec 32 := Scalar.remsi v753 c32_i32_588
  let c5_i32_589 : BitVec 32 := 5#32
  let v755 : BitVec 1 := Scalar.cmpi .slt v754 c5_i32_589
  let v756 : BitVec 32 := Scalar.extui v755
  let c0_i32_590 : BitVec 32 := 0#32
  let v757 : BitVec 1 := Scalar.cmpi .ne v756 c0_i32_590
  v757

def k0_off114 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk59 (v4 : BitVec 32) (v17 : BitVec 32) (v2396 : BitVec 32) : Prop :=
  (∀ (k0_h17 : k0_cond17 v4 v17 = 1#1), ∀ a, (k0_off114 v2396) a + S512x512.size a ≤ S32768x512.size a)
theorem k0_off114_inb : ∀ (v4 : BitVec 32) (v17 : BitVec 32) (v2396 : BitVec 32) (k0_hw59 : k0_chk59 v4 v17 v2396), ∀ (k0_h17 : k0_cond17 v4 v17 = 1#1), ∀ a, (k0_off114 v2396) a + S512x512.size a ≤ S32768x512.size a := fun v4 v17 v2396 k0_hw59 k0_h17 => k0_hw59 k0_h17

def k0_dev40 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off115 (v4 : BitVec 32) : Fin 1 → Nat :=
  let c5_i32_591 : BitVec 32 := 5#32
  let v758 : BitVec 32 := Scalar.subi v4 c5_i32_591
  let c32_i32_592 : BitVec 32 := 32#32
  let v759 : BitVec 32 := Scalar.addi v758 c32_i32_592
  let c32_i32_593 : BitVec 32 := 32#32
  let v760 : BitVec 32 := Scalar.remsi v759 c32_i32_593
  let v761 : Index := Scalar.indexCast v760
  ![v761.toNat]
def k0_off116 (v762 : BitVec 32) : Fin 2 → Nat :=
  let c1024_i32_594 : BitVec 32 := 1024#32
  let v763 : BitVec 32 := Scalar.muli v762 c1024_i32_594
  let c0_i32_595 : BitVec 32 := 0#32
  let v764 : BitVec 32 := Scalar.addi v763 c0_i32_595
  let c0_i32_601 : BitVec 32 := 0#32
  ![v764.toNat, 0]

def k0_dev41 (v8 : BitVec 32) : Nat :=
  let c0_i32_600 : BitVec 32 := 0#32
  let c1_i32_599 : BitVec 32 := 1#32
  let v767 : BitVec 32 := Scalar.muli v8 c1_i32_599
  let v768 : BitVec 32 := Scalar.addi c0_i32_600 v767
  v768.toNat
def k0_off117 (v4 : BitVec 32) : Fin 1 → Nat :=
  let c1_i32_603 : BitVec 32 := 1#32
  let v775 : BitVec 32 := Scalar.addi v4 c1_i32_603
  let c4_i32_604 : BitVec 32 := 4#32
  let v776 : BitVec 32 := Scalar.addi v775 c4_i32_604
  let c32_i32_605 : BitVec 32 := 32#32
  let v777 : BitVec 32 := Scalar.remsi v776 c32_i32_605
  let v778 : Index := Scalar.indexCast v777
  ![v778.toNat]
def k0_off118 (v779 : BitVec 32) : Fin 2 → Nat :=
  let c1024_i32_606 : BitVec 32 := 1024#32
  let v780 : BitVec 32 := Scalar.muli v779 c1024_i32_606
  let c0_i32_607 : BitVec 32 := 0#32
  let v781 : BitVec 32 := Scalar.addi v780 c0_i32_607
  let c0_i32_612 : BitVec 32 := 0#32
  ![v781.toNat, 0]

def k0_chk61 (v779 : BitVec 32) : Prop :=
  (∀ a, (k0_off118 v779) a + S512x512.size a ≤ S32768x512.size a)
theorem k0_off118_inb : ∀ (v779 : BitVec 32) (k0_hw61 : k0_chk61 v779), ∀ a, (k0_off118 v779) a + S512x512.size a ≤ S32768x512.size a := fun v779 k0_hw61 => k0_hw61

def k0_off119 (v4 : BitVec 32) : Fin 1 → Nat :=
  let c1_i32_614 : BitVec 32 := 1#32
  let v788 : BitVec 32 := Scalar.addi v4 c1_i32_614
  let c4_i32_615 : BitVec 32 := 4#32
  let v789 : BitVec 32 := Scalar.addi v788 c4_i32_615
  let c32_i32_616 : BitVec 32 := 32#32
  let v790 : BitVec 32 := Scalar.remsi v789 c32_i32_616
  let v2395 : Index := Scalar.indexCast v790
  ![v2395.toNat]
def k0_cond18 (v4 : BitVec 32) (v17 : BitVec 32) : BitVec 1 :=
  let c1_i32_614 : BitVec 32 := 1#32
  let v788 : BitVec 32 := Scalar.addi v4 c1_i32_614
  let c4_i32_615 : BitVec 32 := 4#32
  let v789 : BitVec 32 := Scalar.addi v788 c4_i32_615
  let c32_i32_616 : BitVec 32 := 32#32
  let v790 : BitVec 32 := Scalar.remsi v789 c32_i32_616
  let v791 : BitVec 32 := Scalar.subi v790 v17
  let c64_i32_617 : BitVec 32 := 64#32
  let v792 : BitVec 32 := Scalar.addi v791 c64_i32_617
  let c14_i32_618 : BitVec 32 := 14#32
  let v793 : BitVec 32 := Scalar.subi v792 c14_i32_618
  let c32_i32_619 : BitVec 32 := 32#32
  let v794 : BitVec 32 := Scalar.remsi v793 c32_i32_619
  let c5_i32_620 : BitVec 32 := 5#32
  let v795 : BitVec 1 := Scalar.cmpi .slt v794 c5_i32_620
  let v796 : BitVec 32 := Scalar.extui v795
  let c0_i32_621 : BitVec 32 := 0#32
  let v797 : BitVec 1 := Scalar.cmpi .ne v796 c0_i32_621
  v797

def k0_off120 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk62 (v4 : BitVec 32) (v17 : BitVec 32) (v2396 : BitVec 32) : Prop :=
  (∀ (k0_h18 : k0_cond18 v4 v17 = 1#1), ∀ a, (k0_off120 v2396) a + S512x512.size a ≤ S32768x512.size a)
theorem k0_off120_inb : ∀ (v4 : BitVec 32) (v17 : BitVec 32) (v2396 : BitVec 32) (k0_hw62 : k0_chk62 v4 v17 v2396), ∀ (k0_h18 : k0_cond18 v4 v17 = 1#1), ∀ a, (k0_off120 v2396) a + S512x512.size a ≤ S32768x512.size a := fun v4 v17 v2396 k0_hw62 k0_h18 => k0_hw62 k0_h18

def k0_dev42 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off121 (v4 : BitVec 32) : Fin 1 → Nat :=
  let c5_i32_622 : BitVec 32 := 5#32
  let v798 : BitVec 32 := Scalar.addi v4 c5_i32_622
  let c32_i32_623 : BitVec 32 := 32#32
  let v799 : BitVec 32 := Scalar.remsi v798 c32_i32_623
  let v800 : Index := Scalar.indexCast v799
  ![v800.toNat]
def k0_off122 (v801 : BitVec 32) : Fin 2 → Nat :=
  let c1024_i32_624 : BitVec 32 := 1024#32
  let v802 : BitVec 32 := Scalar.muli v801 c1024_i32_624
  let c0_i32_625 : BitVec 32 := 0#32
  let v803 : BitVec 32 := Scalar.addi v802 c0_i32_625
  let c0_i32_632 : BitVec 32 := 0#32
  ![v803.toNat, 0]

def k0_dev43 (v13 : BitVec 32) : Nat :=
  let c0_i32_631 : BitVec 32 := 0#32
  let c1_i32_630 : BitVec 32 := 1#32
  let v806 : BitVec 32 := Scalar.muli v13 c1_i32_630
  let v807 : BitVec 32 := Scalar.addi c0_i32_631 v806
  v807.toNat
def k0_off123 (v4 : BitVec 32) : Fin 1 → Nat :=
  let c1_i32_634 : BitVec 32 := 1#32
  let v814 : BitVec 32 := Scalar.subi v4 c1_i32_634
  let c4_i32_635 : BitVec 32 := 4#32
  let v815 : BitVec 32 := Scalar.subi v814 c4_i32_635
  let c32_i32_636 : BitVec 32 := 32#32
  let v816 : BitVec 32 := Scalar.addi v815 c32_i32_636
  let c32_i32_637 : BitVec 32 := 32#32
  let v817 : BitVec 32 := Scalar.remsi v816 c32_i32_637
  let v818 : Index := Scalar.indexCast v817
  ![v818.toNat]
def k0_off124 (v819 : BitVec 32) : Fin 2 → Nat :=
  let c1024_i32_638 : BitVec 32 := 1024#32
  let v820 : BitVec 32 := Scalar.muli v819 c1024_i32_638
  let c512_i32_639 : BitVec 32 := 512#32
  let v821 : BitVec 32 := Scalar.addi v820 c512_i32_639
  let c0_i32_644 : BitVec 32 := 0#32
  ![v821.toNat, 0]

def k0_chk64 (v819 : BitVec 32) : Prop :=
  (∀ a, (k0_off124 v819) a + S512x512.size a ≤ S32768x512.size a)
theorem k0_off124_inb : ∀ (v819 : BitVec 32) (k0_hw64 : k0_chk64 v819), ∀ a, (k0_off124 v819) a + S512x512.size a ≤ S32768x512.size a := fun v819 k0_hw64 => k0_hw64

def k0_off125 (v4 : BitVec 32) : Fin 1 → Nat :=
  let c1_i32_646 : BitVec 32 := 1#32
  let v828 : BitVec 32 := Scalar.subi v4 c1_i32_646
  let c4_i32_647 : BitVec 32 := 4#32
  let v829 : BitVec 32 := Scalar.subi v828 c4_i32_647
  let c32_i32_648 : BitVec 32 := 32#32
  let v830 : BitVec 32 := Scalar.addi v829 c32_i32_648
  let c32_i32_649 : BitVec 32 := 32#32
  let v831 : BitVec 32 := Scalar.remsi v830 c32_i32_649
  let v2395 : Index := Scalar.indexCast v831
  ![v2395.toNat]
def k0_cond19 (v4 : BitVec 32) (v17 : BitVec 32) : BitVec 1 :=
  let c1_i32_646 : BitVec 32 := 1#32
  let v828 : BitVec 32 := Scalar.subi v4 c1_i32_646
  let c4_i32_647 : BitVec 32 := 4#32
  let v829 : BitVec 32 := Scalar.subi v828 c4_i32_647
  let c32_i32_648 : BitVec 32 := 32#32
  let v830 : BitVec 32 := Scalar.addi v829 c32_i32_648
  let c32_i32_649 : BitVec 32 := 32#32
  let v831 : BitVec 32 := Scalar.remsi v830 c32_i32_649
  let v832 : BitVec 32 := Scalar.subi v831 v17
  let c64_i32_650 : BitVec 32 := 64#32
  let v833 : BitVec 32 := Scalar.addi v832 c64_i32_650
  let c14_i32_651 : BitVec 32 := 14#32
  let v834 : BitVec 32 := Scalar.subi v833 c14_i32_651
  let c32_i32_652 : BitVec 32 := 32#32
  let v835 : BitVec 32 := Scalar.remsi v834 c32_i32_652
  let c5_i32_653 : BitVec 32 := 5#32
  let v836 : BitVec 1 := Scalar.cmpi .slt v835 c5_i32_653
  let v837 : BitVec 32 := Scalar.extui v836
  let c0_i32_654 : BitVec 32 := 0#32
  let v838 : BitVec 1 := Scalar.cmpi .ne v837 c0_i32_654
  v838

def k0_off126 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk65 (v4 : BitVec 32) (v17 : BitVec 32) (v2396 : BitVec 32) : Prop :=
  (∀ (k0_h19 : k0_cond19 v4 v17 = 1#1), ∀ a, (k0_off126 v2396) a + S512x512.size a ≤ S32768x512.size a)
theorem k0_off126_inb : ∀ (v4 : BitVec 32) (v17 : BitVec 32) (v2396 : BitVec 32) (k0_hw65 : k0_chk65 v4 v17 v2396), ∀ (k0_h19 : k0_cond19 v4 v17 = 1#1), ∀ a, (k0_off126 v2396) a + S512x512.size a ≤ S32768x512.size a := fun v4 v17 v2396 k0_hw65 k0_h19 => k0_hw65 k0_h19

def k0_dev44 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off127 (v4 : BitVec 32) : Fin 1 → Nat :=
  let c5_i32_655 : BitVec 32 := 5#32
  let v839 : BitVec 32 := Scalar.subi v4 c5_i32_655
  let c32_i32_656 : BitVec 32 := 32#32
  let v840 : BitVec 32 := Scalar.addi v839 c32_i32_656
  let c32_i32_657 : BitVec 32 := 32#32
  let v841 : BitVec 32 := Scalar.remsi v840 c32_i32_657
  let v842 : Index := Scalar.indexCast v841
  ![v842.toNat]
def k0_off128 (v843 : BitVec 32) : Fin 2 → Nat :=
  let c1024_i32_658 : BitVec 32 := 1024#32
  let v844 : BitVec 32 := Scalar.muli v843 c1024_i32_658
  let c512_i32_659 : BitVec 32 := 512#32
  let v845 : BitVec 32 := Scalar.addi v844 c512_i32_659
  let c0_i32_665 : BitVec 32 := 0#32
  ![v845.toNat, 0]

def k0_dev45 (v8 : BitVec 32) : Nat :=
  let c0_i32_664 : BitVec 32 := 0#32
  let c1_i32_663 : BitVec 32 := 1#32
  let v848 : BitVec 32 := Scalar.muli v8 c1_i32_663
  let v849 : BitVec 32 := Scalar.addi c0_i32_664 v848
  v849.toNat
def k0_off129 (v4 : BitVec 32) : Fin 1 → Nat :=
  let c1_i32_667 : BitVec 32 := 1#32
  let v856 : BitVec 32 := Scalar.addi v4 c1_i32_667
  let c4_i32_668 : BitVec 32 := 4#32
  let v857 : BitVec 32 := Scalar.addi v856 c4_i32_668
  let c32_i32_669 : BitVec 32 := 32#32
  let v858 : BitVec 32 := Scalar.remsi v857 c32_i32_669
  let v859 : Index := Scalar.indexCast v858
  ![v859.toNat]
def k0_off130 (v860 : BitVec 32) : Fin 2 → Nat :=
  let c1024_i32_670 : BitVec 32 := 1024#32
  let v861 : BitVec 32 := Scalar.muli v860 c1024_i32_670
  let c512_i32_671 : BitVec 32 := 512#32
  let v862 : BitVec 32 := Scalar.addi v861 c512_i32_671
  let c0_i32_676 : BitVec 32 := 0#32
  ![v862.toNat, 0]

def k0_chk67 (v860 : BitVec 32) : Prop :=
  (∀ a, (k0_off130 v860) a + S512x512.size a ≤ S32768x512.size a)
theorem k0_off130_inb : ∀ (v860 : BitVec 32) (k0_hw67 : k0_chk67 v860), ∀ a, (k0_off130 v860) a + S512x512.size a ≤ S32768x512.size a := fun v860 k0_hw67 => k0_hw67

def k0_off131 (v4 : BitVec 32) : Fin 1 → Nat :=
  let c1_i32_678 : BitVec 32 := 1#32
  let v869 : BitVec 32 := Scalar.addi v4 c1_i32_678
  let c4_i32_679 : BitVec 32 := 4#32
  let v870 : BitVec 32 := Scalar.addi v869 c4_i32_679
  let c32_i32_680 : BitVec 32 := 32#32
  let v871 : BitVec 32 := Scalar.remsi v870 c32_i32_680
  let v2395 : Index := Scalar.indexCast v871
  ![v2395.toNat]
def k0_cond20 (v4 : BitVec 32) (v17 : BitVec 32) : BitVec 1 :=
  let c1_i32_678 : BitVec 32 := 1#32
  let v869 : BitVec 32 := Scalar.addi v4 c1_i32_678
  let c4_i32_679 : BitVec 32 := 4#32
  let v870 : BitVec 32 := Scalar.addi v869 c4_i32_679
  let c32_i32_680 : BitVec 32 := 32#32
  let v871 : BitVec 32 := Scalar.remsi v870 c32_i32_680
  let v872 : BitVec 32 := Scalar.subi v871 v17
  let c64_i32_681 : BitVec 32 := 64#32
  let v873 : BitVec 32 := Scalar.addi v872 c64_i32_681
  let c14_i32_682 : BitVec 32 := 14#32
  let v874 : BitVec 32 := Scalar.subi v873 c14_i32_682
  let c32_i32_683 : BitVec 32 := 32#32
  let v875 : BitVec 32 := Scalar.remsi v874 c32_i32_683
  let c5_i32_684 : BitVec 32 := 5#32
  let v876 : BitVec 1 := Scalar.cmpi .slt v875 c5_i32_684
  let v877 : BitVec 32 := Scalar.extui v876
  let c0_i32_685 : BitVec 32 := 0#32
  let v878 : BitVec 1 := Scalar.cmpi .ne v877 c0_i32_685
  v878

def k0_off132 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk68 (v4 : BitVec 32) (v17 : BitVec 32) (v2396 : BitVec 32) : Prop :=
  (∀ (k0_h20 : k0_cond20 v4 v17 = 1#1), ∀ a, (k0_off132 v2396) a + S512x512.size a ≤ S32768x512.size a)
theorem k0_off132_inb : ∀ (v4 : BitVec 32) (v17 : BitVec 32) (v2396 : BitVec 32) (k0_hw68 : k0_chk68 v4 v17 v2396), ∀ (k0_h20 : k0_cond20 v4 v17 = 1#1), ∀ a, (k0_off132 v2396) a + S512x512.size a ≤ S32768x512.size a := fun v4 v17 v2396 k0_hw68 k0_h20 => k0_hw68 k0_h20

def k0_dev46 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off133 (v4 : BitVec 32) : Fin 1 → Nat :=
  let c5_i32_686 : BitVec 32 := 5#32
  let v879 : BitVec 32 := Scalar.addi v4 c5_i32_686
  let c32_i32_687 : BitVec 32 := 32#32
  let v880 : BitVec 32 := Scalar.remsi v879 c32_i32_687
  let v881 : Index := Scalar.indexCast v880
  ![v881.toNat]
def k0_off134 (v882 : BitVec 32) : Fin 2 → Nat :=
  let c1024_i32_688 : BitVec 32 := 1024#32
  let v883 : BitVec 32 := Scalar.muli v882 c1024_i32_688
  let c512_i32_689 : BitVec 32 := 512#32
  let v884 : BitVec 32 := Scalar.addi v883 c512_i32_689
  let c0_i32_696 : BitVec 32 := 0#32
  ![v884.toNat, 0]

def k0_dev47 (v13 : BitVec 32) : Nat :=
  let c0_i32_695 : BitVec 32 := 0#32
  let c1_i32_694 : BitVec 32 := 1#32
  let v887 : BitVec 32 := Scalar.muli v13 c1_i32_694
  let v888 : BitVec 32 := Scalar.addi c0_i32_695 v887
  v888.toNat
def k0_off135 (v4 : BitVec 32) : Fin 1 → Nat :=
  let c1_i32_698 : BitVec 32 := 1#32
  let v895 : BitVec 32 := Scalar.subi v4 c1_i32_698
  let c5_i32_699 : BitVec 32 := 5#32
  let v896 : BitVec 32 := Scalar.subi v895 c5_i32_699
  let c32_i32_700 : BitVec 32 := 32#32
  let v897 : BitVec 32 := Scalar.addi v896 c32_i32_700
  let c32_i32_701 : BitVec 32 := 32#32
  let v898 : BitVec 32 := Scalar.remsi v897 c32_i32_701
  let v899 : Index := Scalar.indexCast v898
  ![v899.toNat]
def k0_off136 (v900 : BitVec 32) : Fin 2 → Nat :=
  let c1024_i32_702 : BitVec 32 := 1024#32
  let v901 : BitVec 32 := Scalar.muli v900 c1024_i32_702
  let c0_i32_703 : BitVec 32 := 0#32
  let v902 : BitVec 32 := Scalar.addi v901 c0_i32_703
  let c0_i32_708 : BitVec 32 := 0#32
  ![v902.toNat, 0]

def k0_chk70 (v900 : BitVec 32) : Prop :=
  (∀ a, (k0_off136 v900) a + S512x512.size a ≤ S32768x512.size a)
theorem k0_off136_inb : ∀ (v900 : BitVec 32) (k0_hw70 : k0_chk70 v900), ∀ a, (k0_off136 v900) a + S512x512.size a ≤ S32768x512.size a := fun v900 k0_hw70 => k0_hw70

def k0_off137 (v4 : BitVec 32) : Fin 1 → Nat :=
  let c1_i32_710 : BitVec 32 := 1#32
  let v909 : BitVec 32 := Scalar.subi v4 c1_i32_710
  let c5_i32_711 : BitVec 32 := 5#32
  let v910 : BitVec 32 := Scalar.subi v909 c5_i32_711
  let c32_i32_712 : BitVec 32 := 32#32
  let v911 : BitVec 32 := Scalar.addi v910 c32_i32_712
  let c32_i32_713 : BitVec 32 := 32#32
  let v912 : BitVec 32 := Scalar.remsi v911 c32_i32_713
  let v2395 : Index := Scalar.indexCast v912
  ![v2395.toNat]
def k0_cond21 (v4 : BitVec 32) (v17 : BitVec 32) : BitVec 1 :=
  let c1_i32_710 : BitVec 32 := 1#32
  let v909 : BitVec 32 := Scalar.subi v4 c1_i32_710
  let c5_i32_711 : BitVec 32 := 5#32
  let v910 : BitVec 32 := Scalar.subi v909 c5_i32_711
  let c32_i32_712 : BitVec 32 := 32#32
  let v911 : BitVec 32 := Scalar.addi v910 c32_i32_712
  let c32_i32_713 : BitVec 32 := 32#32
  let v912 : BitVec 32 := Scalar.remsi v911 c32_i32_713
  let v913 : BitVec 32 := Scalar.subi v912 v17
  let c64_i32_714 : BitVec 32 := 64#32
  let v914 : BitVec 32 := Scalar.addi v913 c64_i32_714
  let c14_i32_715 : BitVec 32 := 14#32
  let v915 : BitVec 32 := Scalar.subi v914 c14_i32_715
  let c32_i32_716 : BitVec 32 := 32#32
  let v916 : BitVec 32 := Scalar.remsi v915 c32_i32_716
  let c5_i32_717 : BitVec 32 := 5#32
  let v917 : BitVec 1 := Scalar.cmpi .slt v916 c5_i32_717
  let v918 : BitVec 32 := Scalar.extui v917
  let c0_i32_718 : BitVec 32 := 0#32
  let v919 : BitVec 1 := Scalar.cmpi .ne v918 c0_i32_718
  v919

def k0_off138 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk71 (v4 : BitVec 32) (v17 : BitVec 32) (v2396 : BitVec 32) : Prop :=
  (∀ (k0_h21 : k0_cond21 v4 v17 = 1#1), ∀ a, (k0_off138 v2396) a + S512x512.size a ≤ S32768x512.size a)
theorem k0_off138_inb : ∀ (v4 : BitVec 32) (v17 : BitVec 32) (v2396 : BitVec 32) (k0_hw71 : k0_chk71 v4 v17 v2396), ∀ (k0_h21 : k0_cond21 v4 v17 = 1#1), ∀ a, (k0_off138 v2396) a + S512x512.size a ≤ S32768x512.size a := fun v4 v17 v2396 k0_hw71 k0_h21 => k0_hw71 k0_h21

def k0_dev48 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off139 (v4 : BitVec 32) : Fin 1 → Nat :=
  let c6_i32_719 : BitVec 32 := 6#32
  let v920 : BitVec 32 := Scalar.subi v4 c6_i32_719
  let c32_i32_720 : BitVec 32 := 32#32
  let v921 : BitVec 32 := Scalar.addi v920 c32_i32_720
  let c32_i32_721 : BitVec 32 := 32#32
  let v922 : BitVec 32 := Scalar.remsi v921 c32_i32_721
  let v923 : Index := Scalar.indexCast v922
  ![v923.toNat]
def k0_off140 (v924 : BitVec 32) : Fin 2 → Nat :=
  let c1024_i32_722 : BitVec 32 := 1024#32
  let v925 : BitVec 32 := Scalar.muli v924 c1024_i32_722
  let c0_i32_723 : BitVec 32 := 0#32
  let v926 : BitVec 32 := Scalar.addi v925 c0_i32_723
  let c0_i32_729 : BitVec 32 := 0#32
  ![v926.toNat, 0]

def k0_dev49 (v8 : BitVec 32) : Nat :=
  let c0_i32_728 : BitVec 32 := 0#32
  let c1_i32_727 : BitVec 32 := 1#32
  let v929 : BitVec 32 := Scalar.muli v8 c1_i32_727
  let v930 : BitVec 32 := Scalar.addi c0_i32_728 v929
  v930.toNat
def k0_off141 (v4 : BitVec 32) : Fin 1 → Nat :=
  let c1_i32_731 : BitVec 32 := 1#32
  let v937 : BitVec 32 := Scalar.addi v4 c1_i32_731
  let c5_i32_732 : BitVec 32 := 5#32
  let v938 : BitVec 32 := Scalar.addi v937 c5_i32_732
  let c32_i32_733 : BitVec 32 := 32#32
  let v939 : BitVec 32 := Scalar.remsi v938 c32_i32_733
  let v940 : Index := Scalar.indexCast v939
  ![v940.toNat]
def k0_off142 (v941 : BitVec 32) : Fin 2 → Nat :=
  let c1024_i32_734 : BitVec 32 := 1024#32
  let v942 : BitVec 32 := Scalar.muli v941 c1024_i32_734
  let c0_i32_735 : BitVec 32 := 0#32
  let v943 : BitVec 32 := Scalar.addi v942 c0_i32_735
  let c0_i32_740 : BitVec 32 := 0#32
  ![v943.toNat, 0]

def k0_chk73 (v941 : BitVec 32) : Prop :=
  (∀ a, (k0_off142 v941) a + S512x512.size a ≤ S32768x512.size a)
theorem k0_off142_inb : ∀ (v941 : BitVec 32) (k0_hw73 : k0_chk73 v941), ∀ a, (k0_off142 v941) a + S512x512.size a ≤ S32768x512.size a := fun v941 k0_hw73 => k0_hw73

def k0_off143 (v4 : BitVec 32) : Fin 1 → Nat :=
  let c1_i32_742 : BitVec 32 := 1#32
  let v950 : BitVec 32 := Scalar.addi v4 c1_i32_742
  let c5_i32_743 : BitVec 32 := 5#32
  let v951 : BitVec 32 := Scalar.addi v950 c5_i32_743
  let c32_i32_744 : BitVec 32 := 32#32
  let v952 : BitVec 32 := Scalar.remsi v951 c32_i32_744
  let v2395 : Index := Scalar.indexCast v952
  ![v2395.toNat]
def k0_cond22 (v4 : BitVec 32) (v17 : BitVec 32) : BitVec 1 :=
  let c1_i32_742 : BitVec 32 := 1#32
  let v950 : BitVec 32 := Scalar.addi v4 c1_i32_742
  let c5_i32_743 : BitVec 32 := 5#32
  let v951 : BitVec 32 := Scalar.addi v950 c5_i32_743
  let c32_i32_744 : BitVec 32 := 32#32
  let v952 : BitVec 32 := Scalar.remsi v951 c32_i32_744
  let v953 : BitVec 32 := Scalar.subi v952 v17
  let c64_i32_745 : BitVec 32 := 64#32
  let v954 : BitVec 32 := Scalar.addi v953 c64_i32_745
  let c14_i32_746 : BitVec 32 := 14#32
  let v955 : BitVec 32 := Scalar.subi v954 c14_i32_746
  let c32_i32_747 : BitVec 32 := 32#32
  let v956 : BitVec 32 := Scalar.remsi v955 c32_i32_747
  let c5_i32_748 : BitVec 32 := 5#32
  let v957 : BitVec 1 := Scalar.cmpi .slt v956 c5_i32_748
  let v958 : BitVec 32 := Scalar.extui v957
  let c0_i32_749 : BitVec 32 := 0#32
  let v959 : BitVec 1 := Scalar.cmpi .ne v958 c0_i32_749
  v959

def k0_off144 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk74 (v4 : BitVec 32) (v17 : BitVec 32) (v2396 : BitVec 32) : Prop :=
  (∀ (k0_h22 : k0_cond22 v4 v17 = 1#1), ∀ a, (k0_off144 v2396) a + S512x512.size a ≤ S32768x512.size a)
theorem k0_off144_inb : ∀ (v4 : BitVec 32) (v17 : BitVec 32) (v2396 : BitVec 32) (k0_hw74 : k0_chk74 v4 v17 v2396), ∀ (k0_h22 : k0_cond22 v4 v17 = 1#1), ∀ a, (k0_off144 v2396) a + S512x512.size a ≤ S32768x512.size a := fun v4 v17 v2396 k0_hw74 k0_h22 => k0_hw74 k0_h22

def k0_dev50 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off145 (v4 : BitVec 32) : Fin 1 → Nat :=
  let c6_i32_750 : BitVec 32 := 6#32
  let v960 : BitVec 32 := Scalar.addi v4 c6_i32_750
  let c32_i32_751 : BitVec 32 := 32#32
  let v961 : BitVec 32 := Scalar.remsi v960 c32_i32_751
  let v962 : Index := Scalar.indexCast v961
  ![v962.toNat]
def k0_off146 (v963 : BitVec 32) : Fin 2 → Nat :=
  let c1024_i32_752 : BitVec 32 := 1024#32
  let v964 : BitVec 32 := Scalar.muli v963 c1024_i32_752
  let c0_i32_753 : BitVec 32 := 0#32
  let v965 : BitVec 32 := Scalar.addi v964 c0_i32_753
  let c0_i32_760 : BitVec 32 := 0#32
  ![v965.toNat, 0]

def k0_dev51 (v13 : BitVec 32) : Nat :=
  let c0_i32_759 : BitVec 32 := 0#32
  let c1_i32_758 : BitVec 32 := 1#32
  let v968 : BitVec 32 := Scalar.muli v13 c1_i32_758
  let v969 : BitVec 32 := Scalar.addi c0_i32_759 v968
  v969.toNat
def k0_off147 (v4 : BitVec 32) : Fin 1 → Nat :=
  let c1_i32_762 : BitVec 32 := 1#32
  let v976 : BitVec 32 := Scalar.subi v4 c1_i32_762
  let c5_i32_763 : BitVec 32 := 5#32
  let v977 : BitVec 32 := Scalar.subi v976 c5_i32_763
  let c32_i32_764 : BitVec 32 := 32#32
  let v978 : BitVec 32 := Scalar.addi v977 c32_i32_764
  let c32_i32_765 : BitVec 32 := 32#32
  let v979 : BitVec 32 := Scalar.remsi v978 c32_i32_765
  let v980 : Index := Scalar.indexCast v979
  ![v980.toNat]
def k0_off148 (v981 : BitVec 32) : Fin 2 → Nat :=
  let c1024_i32_766 : BitVec 32 := 1024#32
  let v982 : BitVec 32 := Scalar.muli v981 c1024_i32_766
  let c512_i32_767 : BitVec 32 := 512#32
  let v983 : BitVec 32 := Scalar.addi v982 c512_i32_767
  let c0_i32_772 : BitVec 32 := 0#32
  ![v983.toNat, 0]

def k0_chk76 (v981 : BitVec 32) : Prop :=
  (∀ a, (k0_off148 v981) a + S512x512.size a ≤ S32768x512.size a)
theorem k0_off148_inb : ∀ (v981 : BitVec 32) (k0_hw76 : k0_chk76 v981), ∀ a, (k0_off148 v981) a + S512x512.size a ≤ S32768x512.size a := fun v981 k0_hw76 => k0_hw76

def k0_off149 (v4 : BitVec 32) : Fin 1 → Nat :=
  let c1_i32_774 : BitVec 32 := 1#32
  let v990 : BitVec 32 := Scalar.subi v4 c1_i32_774
  let c5_i32_775 : BitVec 32 := 5#32
  let v991 : BitVec 32 := Scalar.subi v990 c5_i32_775
  let c32_i32_776 : BitVec 32 := 32#32
  let v992 : BitVec 32 := Scalar.addi v991 c32_i32_776
  let c32_i32_777 : BitVec 32 := 32#32
  let v993 : BitVec 32 := Scalar.remsi v992 c32_i32_777
  let v2395 : Index := Scalar.indexCast v993
  ![v2395.toNat]
def k0_cond23 (v4 : BitVec 32) (v17 : BitVec 32) : BitVec 1 :=
  let c1_i32_774 : BitVec 32 := 1#32
  let v990 : BitVec 32 := Scalar.subi v4 c1_i32_774
  let c5_i32_775 : BitVec 32 := 5#32
  let v991 : BitVec 32 := Scalar.subi v990 c5_i32_775
  let c32_i32_776 : BitVec 32 := 32#32
  let v992 : BitVec 32 := Scalar.addi v991 c32_i32_776
  let c32_i32_777 : BitVec 32 := 32#32
  let v993 : BitVec 32 := Scalar.remsi v992 c32_i32_777
  let v994 : BitVec 32 := Scalar.subi v993 v17
  let c64_i32_778 : BitVec 32 := 64#32
  let v995 : BitVec 32 := Scalar.addi v994 c64_i32_778
  let c14_i32_779 : BitVec 32 := 14#32
  let v996 : BitVec 32 := Scalar.subi v995 c14_i32_779
  let c32_i32_780 : BitVec 32 := 32#32
  let v997 : BitVec 32 := Scalar.remsi v996 c32_i32_780
  let c5_i32_781 : BitVec 32 := 5#32
  let v998 : BitVec 1 := Scalar.cmpi .slt v997 c5_i32_781
  let v999 : BitVec 32 := Scalar.extui v998
  let c0_i32_782 : BitVec 32 := 0#32
  let v1000 : BitVec 1 := Scalar.cmpi .ne v999 c0_i32_782
  v1000

def k0_off150 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk77 (v4 : BitVec 32) (v17 : BitVec 32) (v2396 : BitVec 32) : Prop :=
  (∀ (k0_h23 : k0_cond23 v4 v17 = 1#1), ∀ a, (k0_off150 v2396) a + S512x512.size a ≤ S32768x512.size a)
theorem k0_off150_inb : ∀ (v4 : BitVec 32) (v17 : BitVec 32) (v2396 : BitVec 32) (k0_hw77 : k0_chk77 v4 v17 v2396), ∀ (k0_h23 : k0_cond23 v4 v17 = 1#1), ∀ a, (k0_off150 v2396) a + S512x512.size a ≤ S32768x512.size a := fun v4 v17 v2396 k0_hw77 k0_h23 => k0_hw77 k0_h23

def k0_dev52 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off151 (v4 : BitVec 32) : Fin 1 → Nat :=
  let c6_i32_783 : BitVec 32 := 6#32
  let v1001 : BitVec 32 := Scalar.subi v4 c6_i32_783
  let c32_i32_784 : BitVec 32 := 32#32
  let v1002 : BitVec 32 := Scalar.addi v1001 c32_i32_784
  let c32_i32_785 : BitVec 32 := 32#32
  let v1003 : BitVec 32 := Scalar.remsi v1002 c32_i32_785
  let v1004 : Index := Scalar.indexCast v1003
  ![v1004.toNat]
def k0_off152 (v1005 : BitVec 32) : Fin 2 → Nat :=
  let c1024_i32_786 : BitVec 32 := 1024#32
  let v1006 : BitVec 32 := Scalar.muli v1005 c1024_i32_786
  let c512_i32_787 : BitVec 32 := 512#32
  let v1007 : BitVec 32 := Scalar.addi v1006 c512_i32_787
  let c0_i32_793 : BitVec 32 := 0#32
  ![v1007.toNat, 0]

def k0_dev53 (v8 : BitVec 32) : Nat :=
  let c0_i32_792 : BitVec 32 := 0#32
  let c1_i32_791 : BitVec 32 := 1#32
  let v1010 : BitVec 32 := Scalar.muli v8 c1_i32_791
  let v1011 : BitVec 32 := Scalar.addi c0_i32_792 v1010
  v1011.toNat
def k0_off153 (v4 : BitVec 32) : Fin 1 → Nat :=
  let c1_i32_795 : BitVec 32 := 1#32
  let v1018 : BitVec 32 := Scalar.addi v4 c1_i32_795
  let c5_i32_796 : BitVec 32 := 5#32
  let v1019 : BitVec 32 := Scalar.addi v1018 c5_i32_796
  let c32_i32_797 : BitVec 32 := 32#32
  let v1020 : BitVec 32 := Scalar.remsi v1019 c32_i32_797
  let v1021 : Index := Scalar.indexCast v1020
  ![v1021.toNat]
def k0_off154 (v1022 : BitVec 32) : Fin 2 → Nat :=
  let c1024_i32_798 : BitVec 32 := 1024#32
  let v1023 : BitVec 32 := Scalar.muli v1022 c1024_i32_798
  let c512_i32_799 : BitVec 32 := 512#32
  let v1024 : BitVec 32 := Scalar.addi v1023 c512_i32_799
  let c0_i32_804 : BitVec 32 := 0#32
  ![v1024.toNat, 0]

def k0_chk79 (v1022 : BitVec 32) : Prop :=
  (∀ a, (k0_off154 v1022) a + S512x512.size a ≤ S32768x512.size a)
theorem k0_off154_inb : ∀ (v1022 : BitVec 32) (k0_hw79 : k0_chk79 v1022), ∀ a, (k0_off154 v1022) a + S512x512.size a ≤ S32768x512.size a := fun v1022 k0_hw79 => k0_hw79

def k0_off155 (v4 : BitVec 32) : Fin 1 → Nat :=
  let c1_i32_806 : BitVec 32 := 1#32
  let v1031 : BitVec 32 := Scalar.addi v4 c1_i32_806
  let c5_i32_807 : BitVec 32 := 5#32
  let v1032 : BitVec 32 := Scalar.addi v1031 c5_i32_807
  let c32_i32_808 : BitVec 32 := 32#32
  let v1033 : BitVec 32 := Scalar.remsi v1032 c32_i32_808
  let v2395 : Index := Scalar.indexCast v1033
  ![v2395.toNat]
def k0_cond24 (v4 : BitVec 32) (v17 : BitVec 32) : BitVec 1 :=
  let c1_i32_806 : BitVec 32 := 1#32
  let v1031 : BitVec 32 := Scalar.addi v4 c1_i32_806
  let c5_i32_807 : BitVec 32 := 5#32
  let v1032 : BitVec 32 := Scalar.addi v1031 c5_i32_807
  let c32_i32_808 : BitVec 32 := 32#32
  let v1033 : BitVec 32 := Scalar.remsi v1032 c32_i32_808
  let v1034 : BitVec 32 := Scalar.subi v1033 v17
  let c64_i32_809 : BitVec 32 := 64#32
  let v1035 : BitVec 32 := Scalar.addi v1034 c64_i32_809
  let c14_i32_810 : BitVec 32 := 14#32
  let v1036 : BitVec 32 := Scalar.subi v1035 c14_i32_810
  let c32_i32_811 : BitVec 32 := 32#32
  let v1037 : BitVec 32 := Scalar.remsi v1036 c32_i32_811
  let c5_i32_812 : BitVec 32 := 5#32
  let v1038 : BitVec 1 := Scalar.cmpi .slt v1037 c5_i32_812
  let v1039 : BitVec 32 := Scalar.extui v1038
  let c0_i32_813 : BitVec 32 := 0#32
  let v1040 : BitVec 1 := Scalar.cmpi .ne v1039 c0_i32_813
  v1040

def k0_off156 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk80 (v4 : BitVec 32) (v17 : BitVec 32) (v2396 : BitVec 32) : Prop :=
  (∀ (k0_h24 : k0_cond24 v4 v17 = 1#1), ∀ a, (k0_off156 v2396) a + S512x512.size a ≤ S32768x512.size a)
theorem k0_off156_inb : ∀ (v4 : BitVec 32) (v17 : BitVec 32) (v2396 : BitVec 32) (k0_hw80 : k0_chk80 v4 v17 v2396), ∀ (k0_h24 : k0_cond24 v4 v17 = 1#1), ∀ a, (k0_off156 v2396) a + S512x512.size a ≤ S32768x512.size a := fun v4 v17 v2396 k0_hw80 k0_h24 => k0_hw80 k0_h24

def k0_dev54 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off157 (v4 : BitVec 32) : Fin 1 → Nat :=
  let c6_i32_814 : BitVec 32 := 6#32
  let v1041 : BitVec 32 := Scalar.addi v4 c6_i32_814
  let c32_i32_815 : BitVec 32 := 32#32
  let v1042 : BitVec 32 := Scalar.remsi v1041 c32_i32_815
  let v1043 : Index := Scalar.indexCast v1042
  ![v1043.toNat]
def k0_off158 (v1044 : BitVec 32) : Fin 2 → Nat :=
  let c1024_i32_816 : BitVec 32 := 1024#32
  let v1045 : BitVec 32 := Scalar.muli v1044 c1024_i32_816
  let c512_i32_817 : BitVec 32 := 512#32
  let v1046 : BitVec 32 := Scalar.addi v1045 c512_i32_817
  let c0_i32_824 : BitVec 32 := 0#32
  ![v1046.toNat, 0]

def k0_dev55 (v13 : BitVec 32) : Nat :=
  let c0_i32_823 : BitVec 32 := 0#32
  let c1_i32_822 : BitVec 32 := 1#32
  let v1049 : BitVec 32 := Scalar.muli v13 c1_i32_822
  let v1050 : BitVec 32 := Scalar.addi c0_i32_823 v1049
  v1050.toNat
def k0_off159 (v4 : BitVec 32) : Fin 1 → Nat :=
  let c1_i32_826 : BitVec 32 := 1#32
  let v1057 : BitVec 32 := Scalar.subi v4 c1_i32_826
  let c6_i32_827 : BitVec 32 := 6#32
  let v1058 : BitVec 32 := Scalar.subi v1057 c6_i32_827
  let c32_i32_828 : BitVec 32 := 32#32
  let v1059 : BitVec 32 := Scalar.addi v1058 c32_i32_828
  let c32_i32_829 : BitVec 32 := 32#32
  let v1060 : BitVec 32 := Scalar.remsi v1059 c32_i32_829
  let v1061 : Index := Scalar.indexCast v1060
  ![v1061.toNat]
def k0_off160 (v1062 : BitVec 32) : Fin 2 → Nat :=
  let c1024_i32_830 : BitVec 32 := 1024#32
  let v1063 : BitVec 32 := Scalar.muli v1062 c1024_i32_830
  let c0_i32_831 : BitVec 32 := 0#32
  let v1064 : BitVec 32 := Scalar.addi v1063 c0_i32_831
  let c0_i32_836 : BitVec 32 := 0#32
  ![v1064.toNat, 0]

def k0_chk82 (v1062 : BitVec 32) : Prop :=
  (∀ a, (k0_off160 v1062) a + S512x512.size a ≤ S32768x512.size a)
theorem k0_off160_inb : ∀ (v1062 : BitVec 32) (k0_hw82 : k0_chk82 v1062), ∀ a, (k0_off160 v1062) a + S512x512.size a ≤ S32768x512.size a := fun v1062 k0_hw82 => k0_hw82

def k0_off161 (v4 : BitVec 32) : Fin 1 → Nat :=
  let c1_i32_838 : BitVec 32 := 1#32
  let v1071 : BitVec 32 := Scalar.subi v4 c1_i32_838
  let c6_i32_839 : BitVec 32 := 6#32
  let v1072 : BitVec 32 := Scalar.subi v1071 c6_i32_839
  let c32_i32_840 : BitVec 32 := 32#32
  let v1073 : BitVec 32 := Scalar.addi v1072 c32_i32_840
  let c32_i32_841 : BitVec 32 := 32#32
  let v1074 : BitVec 32 := Scalar.remsi v1073 c32_i32_841
  let v2395 : Index := Scalar.indexCast v1074
  ![v2395.toNat]
def k0_cond25 (v4 : BitVec 32) (v17 : BitVec 32) : BitVec 1 :=
  let c1_i32_838 : BitVec 32 := 1#32
  let v1071 : BitVec 32 := Scalar.subi v4 c1_i32_838
  let c6_i32_839 : BitVec 32 := 6#32
  let v1072 : BitVec 32 := Scalar.subi v1071 c6_i32_839
  let c32_i32_840 : BitVec 32 := 32#32
  let v1073 : BitVec 32 := Scalar.addi v1072 c32_i32_840
  let c32_i32_841 : BitVec 32 := 32#32
  let v1074 : BitVec 32 := Scalar.remsi v1073 c32_i32_841
  let v1075 : BitVec 32 := Scalar.subi v1074 v17
  let c64_i32_842 : BitVec 32 := 64#32
  let v1076 : BitVec 32 := Scalar.addi v1075 c64_i32_842
  let c14_i32_843 : BitVec 32 := 14#32
  let v1077 : BitVec 32 := Scalar.subi v1076 c14_i32_843
  let c32_i32_844 : BitVec 32 := 32#32
  let v1078 : BitVec 32 := Scalar.remsi v1077 c32_i32_844
  let c5_i32_845 : BitVec 32 := 5#32
  let v1079 : BitVec 1 := Scalar.cmpi .slt v1078 c5_i32_845
  let v1080 : BitVec 32 := Scalar.extui v1079
  let c0_i32_846 : BitVec 32 := 0#32
  let v1081 : BitVec 1 := Scalar.cmpi .ne v1080 c0_i32_846
  v1081

def k0_off162 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk83 (v4 : BitVec 32) (v17 : BitVec 32) (v2396 : BitVec 32) : Prop :=
  (∀ (k0_h25 : k0_cond25 v4 v17 = 1#1), ∀ a, (k0_off162 v2396) a + S512x512.size a ≤ S32768x512.size a)
theorem k0_off162_inb : ∀ (v4 : BitVec 32) (v17 : BitVec 32) (v2396 : BitVec 32) (k0_hw83 : k0_chk83 v4 v17 v2396), ∀ (k0_h25 : k0_cond25 v4 v17 = 1#1), ∀ a, (k0_off162 v2396) a + S512x512.size a ≤ S32768x512.size a := fun v4 v17 v2396 k0_hw83 k0_h25 => k0_hw83 k0_h25

def k0_dev56 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off163 (v4 : BitVec 32) : Fin 1 → Nat :=
  let c7_i32_847 : BitVec 32 := 7#32
  let v1082 : BitVec 32 := Scalar.subi v4 c7_i32_847
  let c32_i32_848 : BitVec 32 := 32#32
  let v1083 : BitVec 32 := Scalar.addi v1082 c32_i32_848
  let c32_i32_849 : BitVec 32 := 32#32
  let v1084 : BitVec 32 := Scalar.remsi v1083 c32_i32_849
  let v1085 : Index := Scalar.indexCast v1084
  ![v1085.toNat]
def k0_off164 (v1086 : BitVec 32) : Fin 2 → Nat :=
  let c1024_i32_850 : BitVec 32 := 1024#32
  let v1087 : BitVec 32 := Scalar.muli v1086 c1024_i32_850
  let c0_i32_851 : BitVec 32 := 0#32
  let v1088 : BitVec 32 := Scalar.addi v1087 c0_i32_851
  let c0_i32_858 : BitVec 32 := 0#32
  ![v1088.toNat, 0]

def k0_dev57 (v8 : BitVec 32) : Nat :=
  let c0_i32_857 : BitVec 32 := 0#32
  let c1_i32_856 : BitVec 32 := 1#32
  let v1091 : BitVec 32 := Scalar.muli v8 c1_i32_856
  let v1092 : BitVec 32 := Scalar.addi c0_i32_857 v1091
  v1092.toNat
def k0_off165 (v4 : BitVec 32) : Fin 1 → Nat :=
  let c1_i32_860 : BitVec 32 := 1#32
  let v1099 : BitVec 32 := Scalar.addi v4 c1_i32_860
  let c6_i32_861 : BitVec 32 := 6#32
  let v1100 : BitVec 32 := Scalar.addi v1099 c6_i32_861
  let c32_i32_862 : BitVec 32 := 32#32
  let v1101 : BitVec 32 := Scalar.remsi v1100 c32_i32_862
  let v1102 : Index := Scalar.indexCast v1101
  ![v1102.toNat]
def k0_off166 (v1103 : BitVec 32) : Fin 2 → Nat :=
  let c1024_i32_863 : BitVec 32 := 1024#32
  let v1104 : BitVec 32 := Scalar.muli v1103 c1024_i32_863
  let c0_i32_864 : BitVec 32 := 0#32
  let v1105 : BitVec 32 := Scalar.addi v1104 c0_i32_864
  let c0_i32_869 : BitVec 32 := 0#32
  ![v1105.toNat, 0]

def k0_chk85 (v1103 : BitVec 32) : Prop :=
  (∀ a, (k0_off166 v1103) a + S512x512.size a ≤ S32768x512.size a)
theorem k0_off166_inb : ∀ (v1103 : BitVec 32) (k0_hw85 : k0_chk85 v1103), ∀ a, (k0_off166 v1103) a + S512x512.size a ≤ S32768x512.size a := fun v1103 k0_hw85 => k0_hw85

def k0_off167 (v4 : BitVec 32) : Fin 1 → Nat :=
  let c1_i32_871 : BitVec 32 := 1#32
  let v1112 : BitVec 32 := Scalar.addi v4 c1_i32_871
  let c6_i32_872 : BitVec 32 := 6#32
  let v1113 : BitVec 32 := Scalar.addi v1112 c6_i32_872
  let c32_i32_873 : BitVec 32 := 32#32
  let v1114 : BitVec 32 := Scalar.remsi v1113 c32_i32_873
  let v2395 : Index := Scalar.indexCast v1114
  ![v2395.toNat]
def k0_cond26 (v4 : BitVec 32) (v17 : BitVec 32) : BitVec 1 :=
  let c1_i32_871 : BitVec 32 := 1#32
  let v1112 : BitVec 32 := Scalar.addi v4 c1_i32_871
  let c6_i32_872 : BitVec 32 := 6#32
  let v1113 : BitVec 32 := Scalar.addi v1112 c6_i32_872
  let c32_i32_873 : BitVec 32 := 32#32
  let v1114 : BitVec 32 := Scalar.remsi v1113 c32_i32_873
  let v1115 : BitVec 32 := Scalar.subi v1114 v17
  let c64_i32_874 : BitVec 32 := 64#32
  let v1116 : BitVec 32 := Scalar.addi v1115 c64_i32_874
  let c14_i32_875 : BitVec 32 := 14#32
  let v1117 : BitVec 32 := Scalar.subi v1116 c14_i32_875
  let c32_i32_876 : BitVec 32 := 32#32
  let v1118 : BitVec 32 := Scalar.remsi v1117 c32_i32_876
  let c5_i32_877 : BitVec 32 := 5#32
  let v1119 : BitVec 1 := Scalar.cmpi .slt v1118 c5_i32_877
  let v1120 : BitVec 32 := Scalar.extui v1119
  let c0_i32_878 : BitVec 32 := 0#32
  let v1121 : BitVec 1 := Scalar.cmpi .ne v1120 c0_i32_878
  v1121

def k0_off168 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk86 (v4 : BitVec 32) (v17 : BitVec 32) (v2396 : BitVec 32) : Prop :=
  (∀ (k0_h26 : k0_cond26 v4 v17 = 1#1), ∀ a, (k0_off168 v2396) a + S512x512.size a ≤ S32768x512.size a)
theorem k0_off168_inb : ∀ (v4 : BitVec 32) (v17 : BitVec 32) (v2396 : BitVec 32) (k0_hw86 : k0_chk86 v4 v17 v2396), ∀ (k0_h26 : k0_cond26 v4 v17 = 1#1), ∀ a, (k0_off168 v2396) a + S512x512.size a ≤ S32768x512.size a := fun v4 v17 v2396 k0_hw86 k0_h26 => k0_hw86 k0_h26

def k0_dev58 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off169 (v4 : BitVec 32) : Fin 1 → Nat :=
  let c7_i32_879 : BitVec 32 := 7#32
  let v1122 : BitVec 32 := Scalar.addi v4 c7_i32_879
  let c32_i32_880 : BitVec 32 := 32#32
  let v1123 : BitVec 32 := Scalar.remsi v1122 c32_i32_880
  let v1124 : Index := Scalar.indexCast v1123
  ![v1124.toNat]
def k0_off170 (v1125 : BitVec 32) : Fin 2 → Nat :=
  let c1024_i32_881 : BitVec 32 := 1024#32
  let v1126 : BitVec 32 := Scalar.muli v1125 c1024_i32_881
  let c0_i32_882 : BitVec 32 := 0#32
  let v1127 : BitVec 32 := Scalar.addi v1126 c0_i32_882
  let c0_i32_889 : BitVec 32 := 0#32
  ![v1127.toNat, 0]

def k0_dev59 (v13 : BitVec 32) : Nat :=
  let c0_i32_888 : BitVec 32 := 0#32
  let c1_i32_887 : BitVec 32 := 1#32
  let v1130 : BitVec 32 := Scalar.muli v13 c1_i32_887
  let v1131 : BitVec 32 := Scalar.addi c0_i32_888 v1130
  v1131.toNat
def k0_off171 (v4 : BitVec 32) : Fin 1 → Nat :=
  let c1_i32_891 : BitVec 32 := 1#32
  let v1138 : BitVec 32 := Scalar.subi v4 c1_i32_891
  let c6_i32_892 : BitVec 32 := 6#32
  let v1139 : BitVec 32 := Scalar.subi v1138 c6_i32_892
  let c32_i32_893 : BitVec 32 := 32#32
  let v1140 : BitVec 32 := Scalar.addi v1139 c32_i32_893
  let c32_i32_894 : BitVec 32 := 32#32
  let v1141 : BitVec 32 := Scalar.remsi v1140 c32_i32_894
  let v1142 : Index := Scalar.indexCast v1141
  ![v1142.toNat]
def k0_off172 (v1143 : BitVec 32) : Fin 2 → Nat :=
  let c1024_i32_895 : BitVec 32 := 1024#32
  let v1144 : BitVec 32 := Scalar.muli v1143 c1024_i32_895
  let c512_i32_896 : BitVec 32 := 512#32
  let v1145 : BitVec 32 := Scalar.addi v1144 c512_i32_896
  let c0_i32_901 : BitVec 32 := 0#32
  ![v1145.toNat, 0]

def k0_chk88 (v1143 : BitVec 32) : Prop :=
  (∀ a, (k0_off172 v1143) a + S512x512.size a ≤ S32768x512.size a)
theorem k0_off172_inb : ∀ (v1143 : BitVec 32) (k0_hw88 : k0_chk88 v1143), ∀ a, (k0_off172 v1143) a + S512x512.size a ≤ S32768x512.size a := fun v1143 k0_hw88 => k0_hw88

def k0_off173 (v4 : BitVec 32) : Fin 1 → Nat :=
  let c1_i32_903 : BitVec 32 := 1#32
  let v1152 : BitVec 32 := Scalar.subi v4 c1_i32_903
  let c6_i32_904 : BitVec 32 := 6#32
  let v1153 : BitVec 32 := Scalar.subi v1152 c6_i32_904
  let c32_i32_905 : BitVec 32 := 32#32
  let v1154 : BitVec 32 := Scalar.addi v1153 c32_i32_905
  let c32_i32_906 : BitVec 32 := 32#32
  let v1155 : BitVec 32 := Scalar.remsi v1154 c32_i32_906
  let v2395 : Index := Scalar.indexCast v1155
  ![v2395.toNat]
def k0_cond27 (v4 : BitVec 32) (v17 : BitVec 32) : BitVec 1 :=
  let c1_i32_903 : BitVec 32 := 1#32
  let v1152 : BitVec 32 := Scalar.subi v4 c1_i32_903
  let c6_i32_904 : BitVec 32 := 6#32
  let v1153 : BitVec 32 := Scalar.subi v1152 c6_i32_904
  let c32_i32_905 : BitVec 32 := 32#32
  let v1154 : BitVec 32 := Scalar.addi v1153 c32_i32_905
  let c32_i32_906 : BitVec 32 := 32#32
  let v1155 : BitVec 32 := Scalar.remsi v1154 c32_i32_906
  let v1156 : BitVec 32 := Scalar.subi v1155 v17
  let c64_i32_907 : BitVec 32 := 64#32
  let v1157 : BitVec 32 := Scalar.addi v1156 c64_i32_907
  let c14_i32_908 : BitVec 32 := 14#32
  let v1158 : BitVec 32 := Scalar.subi v1157 c14_i32_908
  let c32_i32_909 : BitVec 32 := 32#32
  let v1159 : BitVec 32 := Scalar.remsi v1158 c32_i32_909
  let c5_i32_910 : BitVec 32 := 5#32
  let v1160 : BitVec 1 := Scalar.cmpi .slt v1159 c5_i32_910
  let v1161 : BitVec 32 := Scalar.extui v1160
  let c0_i32_911 : BitVec 32 := 0#32
  let v1162 : BitVec 1 := Scalar.cmpi .ne v1161 c0_i32_911
  v1162

def k0_off174 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk89 (v4 : BitVec 32) (v17 : BitVec 32) (v2396 : BitVec 32) : Prop :=
  (∀ (k0_h27 : k0_cond27 v4 v17 = 1#1), ∀ a, (k0_off174 v2396) a + S512x512.size a ≤ S32768x512.size a)
theorem k0_off174_inb : ∀ (v4 : BitVec 32) (v17 : BitVec 32) (v2396 : BitVec 32) (k0_hw89 : k0_chk89 v4 v17 v2396), ∀ (k0_h27 : k0_cond27 v4 v17 = 1#1), ∀ a, (k0_off174 v2396) a + S512x512.size a ≤ S32768x512.size a := fun v4 v17 v2396 k0_hw89 k0_h27 => k0_hw89 k0_h27

def k0_dev60 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off175 (v4 : BitVec 32) : Fin 1 → Nat :=
  let c7_i32_912 : BitVec 32 := 7#32
  let v1163 : BitVec 32 := Scalar.subi v4 c7_i32_912
  let c32_i32_913 : BitVec 32 := 32#32
  let v1164 : BitVec 32 := Scalar.addi v1163 c32_i32_913
  let c32_i32_914 : BitVec 32 := 32#32
  let v1165 : BitVec 32 := Scalar.remsi v1164 c32_i32_914
  let v1166 : Index := Scalar.indexCast v1165
  ![v1166.toNat]
def k0_off176 (v1167 : BitVec 32) : Fin 2 → Nat :=
  let c1024_i32_915 : BitVec 32 := 1024#32
  let v1168 : BitVec 32 := Scalar.muli v1167 c1024_i32_915
  let c512_i32_916 : BitVec 32 := 512#32
  let v1169 : BitVec 32 := Scalar.addi v1168 c512_i32_916
  let c0_i32_922 : BitVec 32 := 0#32
  ![v1169.toNat, 0]

def k0_dev61 (v8 : BitVec 32) : Nat :=
  let c0_i32_921 : BitVec 32 := 0#32
  let c1_i32_920 : BitVec 32 := 1#32
  let v1172 : BitVec 32 := Scalar.muli v8 c1_i32_920
  let v1173 : BitVec 32 := Scalar.addi c0_i32_921 v1172
  v1173.toNat
def k0_off177 (v4 : BitVec 32) : Fin 1 → Nat :=
  let c1_i32_924 : BitVec 32 := 1#32
  let v1180 : BitVec 32 := Scalar.addi v4 c1_i32_924
  let c6_i32_925 : BitVec 32 := 6#32
  let v1181 : BitVec 32 := Scalar.addi v1180 c6_i32_925
  let c32_i32_926 : BitVec 32 := 32#32
  let v1182 : BitVec 32 := Scalar.remsi v1181 c32_i32_926
  let v1183 : Index := Scalar.indexCast v1182
  ![v1183.toNat]
def k0_off178 (v1184 : BitVec 32) : Fin 2 → Nat :=
  let c1024_i32_927 : BitVec 32 := 1024#32
  let v1185 : BitVec 32 := Scalar.muli v1184 c1024_i32_927
  let c512_i32_928 : BitVec 32 := 512#32
  let v1186 : BitVec 32 := Scalar.addi v1185 c512_i32_928
  let c0_i32_933 : BitVec 32 := 0#32
  ![v1186.toNat, 0]

def k0_chk91 (v1184 : BitVec 32) : Prop :=
  (∀ a, (k0_off178 v1184) a + S512x512.size a ≤ S32768x512.size a)
theorem k0_off178_inb : ∀ (v1184 : BitVec 32) (k0_hw91 : k0_chk91 v1184), ∀ a, (k0_off178 v1184) a + S512x512.size a ≤ S32768x512.size a := fun v1184 k0_hw91 => k0_hw91

def k0_off179 (v4 : BitVec 32) : Fin 1 → Nat :=
  let c1_i32_935 : BitVec 32 := 1#32
  let v1193 : BitVec 32 := Scalar.addi v4 c1_i32_935
  let c6_i32_936 : BitVec 32 := 6#32
  let v1194 : BitVec 32 := Scalar.addi v1193 c6_i32_936
  let c32_i32_937 : BitVec 32 := 32#32
  let v1195 : BitVec 32 := Scalar.remsi v1194 c32_i32_937
  let v2395 : Index := Scalar.indexCast v1195
  ![v2395.toNat]
def k0_cond28 (v4 : BitVec 32) (v17 : BitVec 32) : BitVec 1 :=
  let c1_i32_935 : BitVec 32 := 1#32
  let v1193 : BitVec 32 := Scalar.addi v4 c1_i32_935
  let c6_i32_936 : BitVec 32 := 6#32
  let v1194 : BitVec 32 := Scalar.addi v1193 c6_i32_936
  let c32_i32_937 : BitVec 32 := 32#32
  let v1195 : BitVec 32 := Scalar.remsi v1194 c32_i32_937
  let v1196 : BitVec 32 := Scalar.subi v1195 v17
  let c64_i32_938 : BitVec 32 := 64#32
  let v1197 : BitVec 32 := Scalar.addi v1196 c64_i32_938
  let c14_i32_939 : BitVec 32 := 14#32
  let v1198 : BitVec 32 := Scalar.subi v1197 c14_i32_939
  let c32_i32_940 : BitVec 32 := 32#32
  let v1199 : BitVec 32 := Scalar.remsi v1198 c32_i32_940
  let c5_i32_941 : BitVec 32 := 5#32
  let v1200 : BitVec 1 := Scalar.cmpi .slt v1199 c5_i32_941
  let v1201 : BitVec 32 := Scalar.extui v1200
  let c0_i32_942 : BitVec 32 := 0#32
  let v1202 : BitVec 1 := Scalar.cmpi .ne v1201 c0_i32_942
  v1202

def k0_off180 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk92 (v4 : BitVec 32) (v17 : BitVec 32) (v2396 : BitVec 32) : Prop :=
  (∀ (k0_h28 : k0_cond28 v4 v17 = 1#1), ∀ a, (k0_off180 v2396) a + S512x512.size a ≤ S32768x512.size a)
theorem k0_off180_inb : ∀ (v4 : BitVec 32) (v17 : BitVec 32) (v2396 : BitVec 32) (k0_hw92 : k0_chk92 v4 v17 v2396), ∀ (k0_h28 : k0_cond28 v4 v17 = 1#1), ∀ a, (k0_off180 v2396) a + S512x512.size a ≤ S32768x512.size a := fun v4 v17 v2396 k0_hw92 k0_h28 => k0_hw92 k0_h28

def k0_dev62 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off181 (v4 : BitVec 32) : Fin 1 → Nat :=
  let c7_i32_943 : BitVec 32 := 7#32
  let v1203 : BitVec 32 := Scalar.addi v4 c7_i32_943
  let c32_i32_944 : BitVec 32 := 32#32
  let v1204 : BitVec 32 := Scalar.remsi v1203 c32_i32_944
  let v1205 : Index := Scalar.indexCast v1204
  ![v1205.toNat]
def k0_off182 (v1206 : BitVec 32) : Fin 2 → Nat :=
  let c1024_i32_945 : BitVec 32 := 1024#32
  let v1207 : BitVec 32 := Scalar.muli v1206 c1024_i32_945
  let c512_i32_946 : BitVec 32 := 512#32
  let v1208 : BitVec 32 := Scalar.addi v1207 c512_i32_946
  let c0_i32_953 : BitVec 32 := 0#32
  ![v1208.toNat, 0]

def k0_dev63 (v13 : BitVec 32) : Nat :=
  let c0_i32_952 : BitVec 32 := 0#32
  let c1_i32_951 : BitVec 32 := 1#32
  let v1211 : BitVec 32 := Scalar.muli v13 c1_i32_951
  let v1212 : BitVec 32 := Scalar.addi c0_i32_952 v1211
  v1212.toNat
def k0_off183 (v4 : BitVec 32) : Fin 1 → Nat :=
  let c1_i32_955 : BitVec 32 := 1#32
  let v1219 : BitVec 32 := Scalar.subi v4 c1_i32_955
  let c7_i32_956 : BitVec 32 := 7#32
  let v1220 : BitVec 32 := Scalar.subi v1219 c7_i32_956
  let c32_i32_957 : BitVec 32 := 32#32
  let v1221 : BitVec 32 := Scalar.addi v1220 c32_i32_957
  let c32_i32_958 : BitVec 32 := 32#32
  let v1222 : BitVec 32 := Scalar.remsi v1221 c32_i32_958
  let v1223 : Index := Scalar.indexCast v1222
  ![v1223.toNat]
def k0_off184 (v1224 : BitVec 32) : Fin 2 → Nat :=
  let c1024_i32_959 : BitVec 32 := 1024#32
  let v1225 : BitVec 32 := Scalar.muli v1224 c1024_i32_959
  let c0_i32_960 : BitVec 32 := 0#32
  let v1226 : BitVec 32 := Scalar.addi v1225 c0_i32_960
  let c0_i32_965 : BitVec 32 := 0#32
  ![v1226.toNat, 0]

def k0_chk94 (v1224 : BitVec 32) : Prop :=
  (∀ a, (k0_off184 v1224) a + S512x512.size a ≤ S32768x512.size a)
theorem k0_off184_inb : ∀ (v1224 : BitVec 32) (k0_hw94 : k0_chk94 v1224), ∀ a, (k0_off184 v1224) a + S512x512.size a ≤ S32768x512.size a := fun v1224 k0_hw94 => k0_hw94

def k0_off185 (v4 : BitVec 32) : Fin 1 → Nat :=
  let c1_i32_967 : BitVec 32 := 1#32
  let v1233 : BitVec 32 := Scalar.subi v4 c1_i32_967
  let c7_i32_968 : BitVec 32 := 7#32
  let v1234 : BitVec 32 := Scalar.subi v1233 c7_i32_968
  let c32_i32_969 : BitVec 32 := 32#32
  let v1235 : BitVec 32 := Scalar.addi v1234 c32_i32_969
  let c32_i32_970 : BitVec 32 := 32#32
  let v1236 : BitVec 32 := Scalar.remsi v1235 c32_i32_970
  let v2395 : Index := Scalar.indexCast v1236
  ![v2395.toNat]
def k0_cond29 (v4 : BitVec 32) (v17 : BitVec 32) : BitVec 1 :=
  let c1_i32_967 : BitVec 32 := 1#32
  let v1233 : BitVec 32 := Scalar.subi v4 c1_i32_967
  let c7_i32_968 : BitVec 32 := 7#32
  let v1234 : BitVec 32 := Scalar.subi v1233 c7_i32_968
  let c32_i32_969 : BitVec 32 := 32#32
  let v1235 : BitVec 32 := Scalar.addi v1234 c32_i32_969
  let c32_i32_970 : BitVec 32 := 32#32
  let v1236 : BitVec 32 := Scalar.remsi v1235 c32_i32_970
  let v1237 : BitVec 32 := Scalar.subi v1236 v17
  let c64_i32_971 : BitVec 32 := 64#32
  let v1238 : BitVec 32 := Scalar.addi v1237 c64_i32_971
  let c14_i32_972 : BitVec 32 := 14#32
  let v1239 : BitVec 32 := Scalar.subi v1238 c14_i32_972
  let c32_i32_973 : BitVec 32 := 32#32
  let v1240 : BitVec 32 := Scalar.remsi v1239 c32_i32_973
  let c5_i32_974 : BitVec 32 := 5#32
  let v1241 : BitVec 1 := Scalar.cmpi .slt v1240 c5_i32_974
  let v1242 : BitVec 32 := Scalar.extui v1241
  let c0_i32_975 : BitVec 32 := 0#32
  let v1243 : BitVec 1 := Scalar.cmpi .ne v1242 c0_i32_975
  v1243

def k0_off186 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk95 (v4 : BitVec 32) (v17 : BitVec 32) (v2396 : BitVec 32) : Prop :=
  (∀ (k0_h29 : k0_cond29 v4 v17 = 1#1), ∀ a, (k0_off186 v2396) a + S512x512.size a ≤ S32768x512.size a)
theorem k0_off186_inb : ∀ (v4 : BitVec 32) (v17 : BitVec 32) (v2396 : BitVec 32) (k0_hw95 : k0_chk95 v4 v17 v2396), ∀ (k0_h29 : k0_cond29 v4 v17 = 1#1), ∀ a, (k0_off186 v2396) a + S512x512.size a ≤ S32768x512.size a := fun v4 v17 v2396 k0_hw95 k0_h29 => k0_hw95 k0_h29

def k0_dev64 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off187 (v4 : BitVec 32) : Fin 1 → Nat :=
  let c8_i32_976 : BitVec 32 := 8#32
  let v1244 : BitVec 32 := Scalar.subi v4 c8_i32_976
  let c32_i32_977 : BitVec 32 := 32#32
  let v1245 : BitVec 32 := Scalar.addi v1244 c32_i32_977
  let c32_i32_978 : BitVec 32 := 32#32
  let v1246 : BitVec 32 := Scalar.remsi v1245 c32_i32_978
  let v1247 : Index := Scalar.indexCast v1246
  ![v1247.toNat]
def k0_off188 (v1248 : BitVec 32) : Fin 2 → Nat :=
  let c1024_i32_979 : BitVec 32 := 1024#32
  let v1249 : BitVec 32 := Scalar.muli v1248 c1024_i32_979
  let c0_i32_980 : BitVec 32 := 0#32
  let v1250 : BitVec 32 := Scalar.addi v1249 c0_i32_980
  let c0_i32_986 : BitVec 32 := 0#32
  ![v1250.toNat, 0]

def k0_dev65 (v8 : BitVec 32) : Nat :=
  let c0_i32_985 : BitVec 32 := 0#32
  let c1_i32_984 : BitVec 32 := 1#32
  let v1253 : BitVec 32 := Scalar.muli v8 c1_i32_984
  let v1254 : BitVec 32 := Scalar.addi c0_i32_985 v1253
  v1254.toNat
def k0_off189 (v4 : BitVec 32) : Fin 1 → Nat :=
  let c1_i32_988 : BitVec 32 := 1#32
  let v1261 : BitVec 32 := Scalar.addi v4 c1_i32_988
  let c7_i32_989 : BitVec 32 := 7#32
  let v1262 : BitVec 32 := Scalar.addi v1261 c7_i32_989
  let c32_i32_990 : BitVec 32 := 32#32
  let v1263 : BitVec 32 := Scalar.remsi v1262 c32_i32_990
  let v1264 : Index := Scalar.indexCast v1263
  ![v1264.toNat]
def k0_off190 (v1265 : BitVec 32) : Fin 2 → Nat :=
  let c1024_i32_991 : BitVec 32 := 1024#32
  let v1266 : BitVec 32 := Scalar.muli v1265 c1024_i32_991
  let c0_i32_992 : BitVec 32 := 0#32
  let v1267 : BitVec 32 := Scalar.addi v1266 c0_i32_992
  let c0_i32_997 : BitVec 32 := 0#32
  ![v1267.toNat, 0]

def k0_chk97 (v1265 : BitVec 32) : Prop :=
  (∀ a, (k0_off190 v1265) a + S512x512.size a ≤ S32768x512.size a)
theorem k0_off190_inb : ∀ (v1265 : BitVec 32) (k0_hw97 : k0_chk97 v1265), ∀ a, (k0_off190 v1265) a + S512x512.size a ≤ S32768x512.size a := fun v1265 k0_hw97 => k0_hw97

def k0_off191 (v4 : BitVec 32) : Fin 1 → Nat :=
  let c1_i32_999 : BitVec 32 := 1#32
  let v1274 : BitVec 32 := Scalar.addi v4 c1_i32_999
  let c7_i32_1000 : BitVec 32 := 7#32
  let v1275 : BitVec 32 := Scalar.addi v1274 c7_i32_1000
  let c32_i32_1001 : BitVec 32 := 32#32
  let v1276 : BitVec 32 := Scalar.remsi v1275 c32_i32_1001
  let v2395 : Index := Scalar.indexCast v1276
  ![v2395.toNat]
def k0_cond30 (v4 : BitVec 32) (v17 : BitVec 32) : BitVec 1 :=
  let c1_i32_999 : BitVec 32 := 1#32
  let v1274 : BitVec 32 := Scalar.addi v4 c1_i32_999
  let c7_i32_1000 : BitVec 32 := 7#32
  let v1275 : BitVec 32 := Scalar.addi v1274 c7_i32_1000
  let c32_i32_1001 : BitVec 32 := 32#32
  let v1276 : BitVec 32 := Scalar.remsi v1275 c32_i32_1001
  let v1277 : BitVec 32 := Scalar.subi v1276 v17
  let c64_i32_1002 : BitVec 32 := 64#32
  let v1278 : BitVec 32 := Scalar.addi v1277 c64_i32_1002
  let c14_i32_1003 : BitVec 32 := 14#32
  let v1279 : BitVec 32 := Scalar.subi v1278 c14_i32_1003
  let c32_i32_1004 : BitVec 32 := 32#32
  let v1280 : BitVec 32 := Scalar.remsi v1279 c32_i32_1004
  let c5_i32_1005 : BitVec 32 := 5#32
  let v1281 : BitVec 1 := Scalar.cmpi .slt v1280 c5_i32_1005
  let v1282 : BitVec 32 := Scalar.extui v1281
  let c0_i32_1006 : BitVec 32 := 0#32
  let v1283 : BitVec 1 := Scalar.cmpi .ne v1282 c0_i32_1006
  v1283

def k0_off192 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk98 (v4 : BitVec 32) (v17 : BitVec 32) (v2396 : BitVec 32) : Prop :=
  (∀ (k0_h30 : k0_cond30 v4 v17 = 1#1), ∀ a, (k0_off192 v2396) a + S512x512.size a ≤ S32768x512.size a)
theorem k0_off192_inb : ∀ (v4 : BitVec 32) (v17 : BitVec 32) (v2396 : BitVec 32) (k0_hw98 : k0_chk98 v4 v17 v2396), ∀ (k0_h30 : k0_cond30 v4 v17 = 1#1), ∀ a, (k0_off192 v2396) a + S512x512.size a ≤ S32768x512.size a := fun v4 v17 v2396 k0_hw98 k0_h30 => k0_hw98 k0_h30

def k0_dev66 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off193 (v4 : BitVec 32) : Fin 1 → Nat :=
  let c8_i32_1007 : BitVec 32 := 8#32
  let v1284 : BitVec 32 := Scalar.addi v4 c8_i32_1007
  let c32_i32_1008 : BitVec 32 := 32#32
  let v1285 : BitVec 32 := Scalar.remsi v1284 c32_i32_1008
  let v1286 : Index := Scalar.indexCast v1285
  ![v1286.toNat]
def k0_off194 (v1287 : BitVec 32) : Fin 2 → Nat :=
  let c1024_i32_1009 : BitVec 32 := 1024#32
  let v1288 : BitVec 32 := Scalar.muli v1287 c1024_i32_1009
  let c0_i32_1010 : BitVec 32 := 0#32
  let v1289 : BitVec 32 := Scalar.addi v1288 c0_i32_1010
  let c0_i32_1017 : BitVec 32 := 0#32
  ![v1289.toNat, 0]

def k0_dev67 (v13 : BitVec 32) : Nat :=
  let c0_i32_1016 : BitVec 32 := 0#32
  let c1_i32_1015 : BitVec 32 := 1#32
  let v1292 : BitVec 32 := Scalar.muli v13 c1_i32_1015
  let v1293 : BitVec 32 := Scalar.addi c0_i32_1016 v1292
  v1293.toNat
def k0_off195 (v4 : BitVec 32) : Fin 1 → Nat :=
  let c1_i32_1019 : BitVec 32 := 1#32
  let v1300 : BitVec 32 := Scalar.subi v4 c1_i32_1019
  let c7_i32_1020 : BitVec 32 := 7#32
  let v1301 : BitVec 32 := Scalar.subi v1300 c7_i32_1020
  let c32_i32_1021 : BitVec 32 := 32#32
  let v1302 : BitVec 32 := Scalar.addi v1301 c32_i32_1021
  let c32_i32_1022 : BitVec 32 := 32#32
  let v1303 : BitVec 32 := Scalar.remsi v1302 c32_i32_1022
  let v1304 : Index := Scalar.indexCast v1303
  ![v1304.toNat]
def k0_off196 (v1305 : BitVec 32) : Fin 2 → Nat :=
  let c1024_i32_1023 : BitVec 32 := 1024#32
  let v1306 : BitVec 32 := Scalar.muli v1305 c1024_i32_1023
  let c512_i32_1024 : BitVec 32 := 512#32
  let v1307 : BitVec 32 := Scalar.addi v1306 c512_i32_1024
  let c0_i32_1029 : BitVec 32 := 0#32
  ![v1307.toNat, 0]

def k0_chk100 (v1305 : BitVec 32) : Prop :=
  (∀ a, (k0_off196 v1305) a + S512x512.size a ≤ S32768x512.size a)
theorem k0_off196_inb : ∀ (v1305 : BitVec 32) (k0_hw100 : k0_chk100 v1305), ∀ a, (k0_off196 v1305) a + S512x512.size a ≤ S32768x512.size a := fun v1305 k0_hw100 => k0_hw100

def k0_off197 (v4 : BitVec 32) : Fin 1 → Nat :=
  let c1_i32_1031 : BitVec 32 := 1#32
  let v1314 : BitVec 32 := Scalar.subi v4 c1_i32_1031
  let c7_i32_1032 : BitVec 32 := 7#32
  let v1315 : BitVec 32 := Scalar.subi v1314 c7_i32_1032
  let c32_i32_1033 : BitVec 32 := 32#32
  let v1316 : BitVec 32 := Scalar.addi v1315 c32_i32_1033
  let c32_i32_1034 : BitVec 32 := 32#32
  let v1317 : BitVec 32 := Scalar.remsi v1316 c32_i32_1034
  let v2395 : Index := Scalar.indexCast v1317
  ![v2395.toNat]
def k0_cond31 (v4 : BitVec 32) (v17 : BitVec 32) : BitVec 1 :=
  let c1_i32_1031 : BitVec 32 := 1#32
  let v1314 : BitVec 32 := Scalar.subi v4 c1_i32_1031
  let c7_i32_1032 : BitVec 32 := 7#32
  let v1315 : BitVec 32 := Scalar.subi v1314 c7_i32_1032
  let c32_i32_1033 : BitVec 32 := 32#32
  let v1316 : BitVec 32 := Scalar.addi v1315 c32_i32_1033
  let c32_i32_1034 : BitVec 32 := 32#32
  let v1317 : BitVec 32 := Scalar.remsi v1316 c32_i32_1034
  let v1318 : BitVec 32 := Scalar.subi v1317 v17
  let c64_i32_1035 : BitVec 32 := 64#32
  let v1319 : BitVec 32 := Scalar.addi v1318 c64_i32_1035
  let c14_i32_1036 : BitVec 32 := 14#32
  let v1320 : BitVec 32 := Scalar.subi v1319 c14_i32_1036
  let c32_i32_1037 : BitVec 32 := 32#32
  let v1321 : BitVec 32 := Scalar.remsi v1320 c32_i32_1037
  let c5_i32_1038 : BitVec 32 := 5#32
  let v1322 : BitVec 1 := Scalar.cmpi .slt v1321 c5_i32_1038
  let v1323 : BitVec 32 := Scalar.extui v1322
  let c0_i32_1039 : BitVec 32 := 0#32
  let v1324 : BitVec 1 := Scalar.cmpi .ne v1323 c0_i32_1039
  v1324

def k0_off198 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk101 (v4 : BitVec 32) (v17 : BitVec 32) (v2396 : BitVec 32) : Prop :=
  (∀ (k0_h31 : k0_cond31 v4 v17 = 1#1), ∀ a, (k0_off198 v2396) a + S512x512.size a ≤ S32768x512.size a)
theorem k0_off198_inb : ∀ (v4 : BitVec 32) (v17 : BitVec 32) (v2396 : BitVec 32) (k0_hw101 : k0_chk101 v4 v17 v2396), ∀ (k0_h31 : k0_cond31 v4 v17 = 1#1), ∀ a, (k0_off198 v2396) a + S512x512.size a ≤ S32768x512.size a := fun v4 v17 v2396 k0_hw101 k0_h31 => k0_hw101 k0_h31

def k0_dev68 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off199 (v4 : BitVec 32) : Fin 1 → Nat :=
  let c8_i32_1040 : BitVec 32 := 8#32
  let v1325 : BitVec 32 := Scalar.subi v4 c8_i32_1040
  let c32_i32_1041 : BitVec 32 := 32#32
  let v1326 : BitVec 32 := Scalar.addi v1325 c32_i32_1041
  let c32_i32_1042 : BitVec 32 := 32#32
  let v1327 : BitVec 32 := Scalar.remsi v1326 c32_i32_1042
  let v1328 : Index := Scalar.indexCast v1327
  ![v1328.toNat]
def k0_off200 (v1329 : BitVec 32) : Fin 2 → Nat :=
  let c1024_i32_1043 : BitVec 32 := 1024#32
  let v1330 : BitVec 32 := Scalar.muli v1329 c1024_i32_1043
  let c512_i32_1044 : BitVec 32 := 512#32
  let v1331 : BitVec 32 := Scalar.addi v1330 c512_i32_1044
  let c0_i32_1050 : BitVec 32 := 0#32
  ![v1331.toNat, 0]

def k0_dev69 (v8 : BitVec 32) : Nat :=
  let c0_i32_1049 : BitVec 32 := 0#32
  let c1_i32_1048 : BitVec 32 := 1#32
  let v1334 : BitVec 32 := Scalar.muli v8 c1_i32_1048
  let v1335 : BitVec 32 := Scalar.addi c0_i32_1049 v1334
  v1335.toNat
def k0_off201 (v4 : BitVec 32) : Fin 1 → Nat :=
  let c1_i32_1052 : BitVec 32 := 1#32
  let v1342 : BitVec 32 := Scalar.addi v4 c1_i32_1052
  let c7_i32_1053 : BitVec 32 := 7#32
  let v1343 : BitVec 32 := Scalar.addi v1342 c7_i32_1053
  let c32_i32_1054 : BitVec 32 := 32#32
  let v1344 : BitVec 32 := Scalar.remsi v1343 c32_i32_1054
  let v1345 : Index := Scalar.indexCast v1344
  ![v1345.toNat]
def k0_off202 (v1346 : BitVec 32) : Fin 2 → Nat :=
  let c1024_i32_1055 : BitVec 32 := 1024#32
  let v1347 : BitVec 32 := Scalar.muli v1346 c1024_i32_1055
  let c512_i32_1056 : BitVec 32 := 512#32
  let v1348 : BitVec 32 := Scalar.addi v1347 c512_i32_1056
  let c0_i32_1061 : BitVec 32 := 0#32
  ![v1348.toNat, 0]

def k0_chk103 (v1346 : BitVec 32) : Prop :=
  (∀ a, (k0_off202 v1346) a + S512x512.size a ≤ S32768x512.size a)
theorem k0_off202_inb : ∀ (v1346 : BitVec 32) (k0_hw103 : k0_chk103 v1346), ∀ a, (k0_off202 v1346) a + S512x512.size a ≤ S32768x512.size a := fun v1346 k0_hw103 => k0_hw103

def k0_off203 (v4 : BitVec 32) : Fin 1 → Nat :=
  let c1_i32_1063 : BitVec 32 := 1#32
  let v1355 : BitVec 32 := Scalar.addi v4 c1_i32_1063
  let c7_i32_1064 : BitVec 32 := 7#32
  let v1356 : BitVec 32 := Scalar.addi v1355 c7_i32_1064
  let c32_i32_1065 : BitVec 32 := 32#32
  let v1357 : BitVec 32 := Scalar.remsi v1356 c32_i32_1065
  let v2395 : Index := Scalar.indexCast v1357
  ![v2395.toNat]
def k0_cond32 (v4 : BitVec 32) (v17 : BitVec 32) : BitVec 1 :=
  let c1_i32_1063 : BitVec 32 := 1#32
  let v1355 : BitVec 32 := Scalar.addi v4 c1_i32_1063
  let c7_i32_1064 : BitVec 32 := 7#32
  let v1356 : BitVec 32 := Scalar.addi v1355 c7_i32_1064
  let c32_i32_1065 : BitVec 32 := 32#32
  let v1357 : BitVec 32 := Scalar.remsi v1356 c32_i32_1065
  let v1358 : BitVec 32 := Scalar.subi v1357 v17
  let c64_i32_1066 : BitVec 32 := 64#32
  let v1359 : BitVec 32 := Scalar.addi v1358 c64_i32_1066
  let c14_i32_1067 : BitVec 32 := 14#32
  let v1360 : BitVec 32 := Scalar.subi v1359 c14_i32_1067
  let c32_i32_1068 : BitVec 32 := 32#32
  let v1361 : BitVec 32 := Scalar.remsi v1360 c32_i32_1068
  let c5_i32_1069 : BitVec 32 := 5#32
  let v1362 : BitVec 1 := Scalar.cmpi .slt v1361 c5_i32_1069
  let v1363 : BitVec 32 := Scalar.extui v1362
  let c0_i32_1070 : BitVec 32 := 0#32
  let v1364 : BitVec 1 := Scalar.cmpi .ne v1363 c0_i32_1070
  v1364

def k0_off204 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk104 (v4 : BitVec 32) (v17 : BitVec 32) (v2396 : BitVec 32) : Prop :=
  (∀ (k0_h32 : k0_cond32 v4 v17 = 1#1), ∀ a, (k0_off204 v2396) a + S512x512.size a ≤ S32768x512.size a)
theorem k0_off204_inb : ∀ (v4 : BitVec 32) (v17 : BitVec 32) (v2396 : BitVec 32) (k0_hw104 : k0_chk104 v4 v17 v2396), ∀ (k0_h32 : k0_cond32 v4 v17 = 1#1), ∀ a, (k0_off204 v2396) a + S512x512.size a ≤ S32768x512.size a := fun v4 v17 v2396 k0_hw104 k0_h32 => k0_hw104 k0_h32

def k0_dev70 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off205 (v4 : BitVec 32) : Fin 1 → Nat :=
  let c8_i32_1071 : BitVec 32 := 8#32
  let v1365 : BitVec 32 := Scalar.addi v4 c8_i32_1071
  let c32_i32_1072 : BitVec 32 := 32#32
  let v1366 : BitVec 32 := Scalar.remsi v1365 c32_i32_1072
  let v1367 : Index := Scalar.indexCast v1366
  ![v1367.toNat]
def k0_off206 (v1368 : BitVec 32) : Fin 2 → Nat :=
  let c1024_i32_1073 : BitVec 32 := 1024#32
  let v1369 : BitVec 32 := Scalar.muli v1368 c1024_i32_1073
  let c512_i32_1074 : BitVec 32 := 512#32
  let v1370 : BitVec 32 := Scalar.addi v1369 c512_i32_1074
  let c0_i32_1081 : BitVec 32 := 0#32
  ![v1370.toNat, 0]

def k0_dev71 (v13 : BitVec 32) : Nat :=
  let c0_i32_1080 : BitVec 32 := 0#32
  let c1_i32_1079 : BitVec 32 := 1#32
  let v1373 : BitVec 32 := Scalar.muli v13 c1_i32_1079
  let v1374 : BitVec 32 := Scalar.addi c0_i32_1080 v1373
  v1374.toNat
def k0_off207 (v4 : BitVec 32) : Fin 1 → Nat :=
  let c1_i32_1083 : BitVec 32 := 1#32
  let v1381 : BitVec 32 := Scalar.subi v4 c1_i32_1083
  let c8_i32_1084 : BitVec 32 := 8#32
  let v1382 : BitVec 32 := Scalar.subi v1381 c8_i32_1084
  let c32_i32_1085 : BitVec 32 := 32#32
  let v1383 : BitVec 32 := Scalar.addi v1382 c32_i32_1085
  let c32_i32_1086 : BitVec 32 := 32#32
  let v1384 : BitVec 32 := Scalar.remsi v1383 c32_i32_1086
  let v1385 : Index := Scalar.indexCast v1384
  ![v1385.toNat]
def k0_off208 (v1386 : BitVec 32) : Fin 2 → Nat :=
  let c1024_i32_1087 : BitVec 32 := 1024#32
  let v1387 : BitVec 32 := Scalar.muli v1386 c1024_i32_1087
  let c0_i32_1088 : BitVec 32 := 0#32
  let v1388 : BitVec 32 := Scalar.addi v1387 c0_i32_1088
  let c0_i32_1093 : BitVec 32 := 0#32
  ![v1388.toNat, 0]

def k0_chk106 (v1386 : BitVec 32) : Prop :=
  (∀ a, (k0_off208 v1386) a + S512x512.size a ≤ S32768x512.size a)
theorem k0_off208_inb : ∀ (v1386 : BitVec 32) (k0_hw106 : k0_chk106 v1386), ∀ a, (k0_off208 v1386) a + S512x512.size a ≤ S32768x512.size a := fun v1386 k0_hw106 => k0_hw106

def k0_off209 (v4 : BitVec 32) : Fin 1 → Nat :=
  let c1_i32_1095 : BitVec 32 := 1#32
  let v1395 : BitVec 32 := Scalar.subi v4 c1_i32_1095
  let c8_i32_1096 : BitVec 32 := 8#32
  let v1396 : BitVec 32 := Scalar.subi v1395 c8_i32_1096
  let c32_i32_1097 : BitVec 32 := 32#32
  let v1397 : BitVec 32 := Scalar.addi v1396 c32_i32_1097
  let c32_i32_1098 : BitVec 32 := 32#32
  let v1398 : BitVec 32 := Scalar.remsi v1397 c32_i32_1098
  let v2395 : Index := Scalar.indexCast v1398
  ![v2395.toNat]
def k0_cond33 (v4 : BitVec 32) (v17 : BitVec 32) : BitVec 1 :=
  let c1_i32_1095 : BitVec 32 := 1#32
  let v1395 : BitVec 32 := Scalar.subi v4 c1_i32_1095
  let c8_i32_1096 : BitVec 32 := 8#32
  let v1396 : BitVec 32 := Scalar.subi v1395 c8_i32_1096
  let c32_i32_1097 : BitVec 32 := 32#32
  let v1397 : BitVec 32 := Scalar.addi v1396 c32_i32_1097
  let c32_i32_1098 : BitVec 32 := 32#32
  let v1398 : BitVec 32 := Scalar.remsi v1397 c32_i32_1098
  let v1399 : BitVec 32 := Scalar.subi v1398 v17
  let c64_i32_1099 : BitVec 32 := 64#32
  let v1400 : BitVec 32 := Scalar.addi v1399 c64_i32_1099
  let c14_i32_1100 : BitVec 32 := 14#32
  let v1401 : BitVec 32 := Scalar.subi v1400 c14_i32_1100
  let c32_i32_1101 : BitVec 32 := 32#32
  let v1402 : BitVec 32 := Scalar.remsi v1401 c32_i32_1101
  let c5_i32_1102 : BitVec 32 := 5#32
  let v1403 : BitVec 1 := Scalar.cmpi .slt v1402 c5_i32_1102
  let v1404 : BitVec 32 := Scalar.extui v1403
  let c0_i32_1103 : BitVec 32 := 0#32
  let v1405 : BitVec 1 := Scalar.cmpi .ne v1404 c0_i32_1103
  v1405

def k0_off210 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk107 (v4 : BitVec 32) (v17 : BitVec 32) (v2396 : BitVec 32) : Prop :=
  (∀ (k0_h33 : k0_cond33 v4 v17 = 1#1), ∀ a, (k0_off210 v2396) a + S512x512.size a ≤ S32768x512.size a)
theorem k0_off210_inb : ∀ (v4 : BitVec 32) (v17 : BitVec 32) (v2396 : BitVec 32) (k0_hw107 : k0_chk107 v4 v17 v2396), ∀ (k0_h33 : k0_cond33 v4 v17 = 1#1), ∀ a, (k0_off210 v2396) a + S512x512.size a ≤ S32768x512.size a := fun v4 v17 v2396 k0_hw107 k0_h33 => k0_hw107 k0_h33

def k0_dev72 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off211 (v4 : BitVec 32) : Fin 1 → Nat :=
  let c9_i32_1104 : BitVec 32 := 9#32
  let v1406 : BitVec 32 := Scalar.subi v4 c9_i32_1104
  let c32_i32_1105 : BitVec 32 := 32#32
  let v1407 : BitVec 32 := Scalar.addi v1406 c32_i32_1105
  let c32_i32_1106 : BitVec 32 := 32#32
  let v1408 : BitVec 32 := Scalar.remsi v1407 c32_i32_1106
  let v1409 : Index := Scalar.indexCast v1408
  ![v1409.toNat]
def k0_off212 (v1410 : BitVec 32) : Fin 2 → Nat :=
  let c1024_i32_1107 : BitVec 32 := 1024#32
  let v1411 : BitVec 32 := Scalar.muli v1410 c1024_i32_1107
  let c0_i32_1108 : BitVec 32 := 0#32
  let v1412 : BitVec 32 := Scalar.addi v1411 c0_i32_1108
  let c0_i32_1114 : BitVec 32 := 0#32
  ![v1412.toNat, 0]

def k0_dev73 (v8 : BitVec 32) : Nat :=
  let c0_i32_1113 : BitVec 32 := 0#32
  let c1_i32_1112 : BitVec 32 := 1#32
  let v1415 : BitVec 32 := Scalar.muli v8 c1_i32_1112
  let v1416 : BitVec 32 := Scalar.addi c0_i32_1113 v1415
  v1416.toNat
def k0_off213 (v4 : BitVec 32) : Fin 1 → Nat :=
  let c1_i32_1116 : BitVec 32 := 1#32
  let v1423 : BitVec 32 := Scalar.addi v4 c1_i32_1116
  let c8_i32_1117 : BitVec 32 := 8#32
  let v1424 : BitVec 32 := Scalar.addi v1423 c8_i32_1117
  let c32_i32_1118 : BitVec 32 := 32#32
  let v1425 : BitVec 32 := Scalar.remsi v1424 c32_i32_1118
  let v1426 : Index := Scalar.indexCast v1425
  ![v1426.toNat]
def k0_off214 (v1427 : BitVec 32) : Fin 2 → Nat :=
  let c1024_i32_1119 : BitVec 32 := 1024#32
  let v1428 : BitVec 32 := Scalar.muli v1427 c1024_i32_1119
  let c0_i32_1120 : BitVec 32 := 0#32
  let v1429 : BitVec 32 := Scalar.addi v1428 c0_i32_1120
  let c0_i32_1125 : BitVec 32 := 0#32
  ![v1429.toNat, 0]

def k0_chk109 (v1427 : BitVec 32) : Prop :=
  (∀ a, (k0_off214 v1427) a + S512x512.size a ≤ S32768x512.size a)
theorem k0_off214_inb : ∀ (v1427 : BitVec 32) (k0_hw109 : k0_chk109 v1427), ∀ a, (k0_off214 v1427) a + S512x512.size a ≤ S32768x512.size a := fun v1427 k0_hw109 => k0_hw109

def k0_off215 (v4 : BitVec 32) : Fin 1 → Nat :=
  let c1_i32_1127 : BitVec 32 := 1#32
  let v1436 : BitVec 32 := Scalar.addi v4 c1_i32_1127
  let c8_i32_1128 : BitVec 32 := 8#32
  let v1437 : BitVec 32 := Scalar.addi v1436 c8_i32_1128
  let c32_i32_1129 : BitVec 32 := 32#32
  let v1438 : BitVec 32 := Scalar.remsi v1437 c32_i32_1129
  let v2395 : Index := Scalar.indexCast v1438
  ![v2395.toNat]
def k0_cond34 (v4 : BitVec 32) (v17 : BitVec 32) : BitVec 1 :=
  let c1_i32_1127 : BitVec 32 := 1#32
  let v1436 : BitVec 32 := Scalar.addi v4 c1_i32_1127
  let c8_i32_1128 : BitVec 32 := 8#32
  let v1437 : BitVec 32 := Scalar.addi v1436 c8_i32_1128
  let c32_i32_1129 : BitVec 32 := 32#32
  let v1438 : BitVec 32 := Scalar.remsi v1437 c32_i32_1129
  let v1439 : BitVec 32 := Scalar.subi v1438 v17
  let c64_i32_1130 : BitVec 32 := 64#32
  let v1440 : BitVec 32 := Scalar.addi v1439 c64_i32_1130
  let c14_i32_1131 : BitVec 32 := 14#32
  let v1441 : BitVec 32 := Scalar.subi v1440 c14_i32_1131
  let c32_i32_1132 : BitVec 32 := 32#32
  let v1442 : BitVec 32 := Scalar.remsi v1441 c32_i32_1132
  let c5_i32_1133 : BitVec 32 := 5#32
  let v1443 : BitVec 1 := Scalar.cmpi .slt v1442 c5_i32_1133
  let v1444 : BitVec 32 := Scalar.extui v1443
  let c0_i32_1134 : BitVec 32 := 0#32
  let v1445 : BitVec 1 := Scalar.cmpi .ne v1444 c0_i32_1134
  v1445

def k0_off216 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk110 (v4 : BitVec 32) (v17 : BitVec 32) (v2396 : BitVec 32) : Prop :=
  (∀ (k0_h34 : k0_cond34 v4 v17 = 1#1), ∀ a, (k0_off216 v2396) a + S512x512.size a ≤ S32768x512.size a)
theorem k0_off216_inb : ∀ (v4 : BitVec 32) (v17 : BitVec 32) (v2396 : BitVec 32) (k0_hw110 : k0_chk110 v4 v17 v2396), ∀ (k0_h34 : k0_cond34 v4 v17 = 1#1), ∀ a, (k0_off216 v2396) a + S512x512.size a ≤ S32768x512.size a := fun v4 v17 v2396 k0_hw110 k0_h34 => k0_hw110 k0_h34

def k0_dev74 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off217 (v4 : BitVec 32) : Fin 1 → Nat :=
  let c9_i32_1135 : BitVec 32 := 9#32
  let v1446 : BitVec 32 := Scalar.addi v4 c9_i32_1135
  let c32_i32_1136 : BitVec 32 := 32#32
  let v1447 : BitVec 32 := Scalar.remsi v1446 c32_i32_1136
  let v1448 : Index := Scalar.indexCast v1447
  ![v1448.toNat]
def k0_off218 (v1449 : BitVec 32) : Fin 2 → Nat :=
  let c1024_i32_1137 : BitVec 32 := 1024#32
  let v1450 : BitVec 32 := Scalar.muli v1449 c1024_i32_1137
  let c0_i32_1138 : BitVec 32 := 0#32
  let v1451 : BitVec 32 := Scalar.addi v1450 c0_i32_1138
  let c0_i32_1145 : BitVec 32 := 0#32
  ![v1451.toNat, 0]

def k0_dev75 (v13 : BitVec 32) : Nat :=
  let c0_i32_1144 : BitVec 32 := 0#32
  let c1_i32_1143 : BitVec 32 := 1#32
  let v1454 : BitVec 32 := Scalar.muli v13 c1_i32_1143
  let v1455 : BitVec 32 := Scalar.addi c0_i32_1144 v1454
  v1455.toNat
def k0_off219 (v4 : BitVec 32) : Fin 1 → Nat :=
  let c1_i32_1147 : BitVec 32 := 1#32
  let v1462 : BitVec 32 := Scalar.subi v4 c1_i32_1147
  let c8_i32_1148 : BitVec 32 := 8#32
  let v1463 : BitVec 32 := Scalar.subi v1462 c8_i32_1148
  let c32_i32_1149 : BitVec 32 := 32#32
  let v1464 : BitVec 32 := Scalar.addi v1463 c32_i32_1149
  let c32_i32_1150 : BitVec 32 := 32#32
  let v1465 : BitVec 32 := Scalar.remsi v1464 c32_i32_1150
  let v1466 : Index := Scalar.indexCast v1465
  ![v1466.toNat]
def k0_off220 (v1467 : BitVec 32) : Fin 2 → Nat :=
  let c1024_i32_1151 : BitVec 32 := 1024#32
  let v1468 : BitVec 32 := Scalar.muli v1467 c1024_i32_1151
  let c512_i32_1152 : BitVec 32 := 512#32
  let v1469 : BitVec 32 := Scalar.addi v1468 c512_i32_1152
  let c0_i32_1157 : BitVec 32 := 0#32
  ![v1469.toNat, 0]

def k0_chk112 (v1467 : BitVec 32) : Prop :=
  (∀ a, (k0_off220 v1467) a + S512x512.size a ≤ S32768x512.size a)
theorem k0_off220_inb : ∀ (v1467 : BitVec 32) (k0_hw112 : k0_chk112 v1467), ∀ a, (k0_off220 v1467) a + S512x512.size a ≤ S32768x512.size a := fun v1467 k0_hw112 => k0_hw112

def k0_off221 (v4 : BitVec 32) : Fin 1 → Nat :=
  let c1_i32_1159 : BitVec 32 := 1#32
  let v1476 : BitVec 32 := Scalar.subi v4 c1_i32_1159
  let c8_i32_1160 : BitVec 32 := 8#32
  let v1477 : BitVec 32 := Scalar.subi v1476 c8_i32_1160
  let c32_i32_1161 : BitVec 32 := 32#32
  let v1478 : BitVec 32 := Scalar.addi v1477 c32_i32_1161
  let c32_i32_1162 : BitVec 32 := 32#32
  let v1479 : BitVec 32 := Scalar.remsi v1478 c32_i32_1162
  let v2395 : Index := Scalar.indexCast v1479
  ![v2395.toNat]
def k0_cond35 (v4 : BitVec 32) (v17 : BitVec 32) : BitVec 1 :=
  let c1_i32_1159 : BitVec 32 := 1#32
  let v1476 : BitVec 32 := Scalar.subi v4 c1_i32_1159
  let c8_i32_1160 : BitVec 32 := 8#32
  let v1477 : BitVec 32 := Scalar.subi v1476 c8_i32_1160
  let c32_i32_1161 : BitVec 32 := 32#32
  let v1478 : BitVec 32 := Scalar.addi v1477 c32_i32_1161
  let c32_i32_1162 : BitVec 32 := 32#32
  let v1479 : BitVec 32 := Scalar.remsi v1478 c32_i32_1162
  let v1480 : BitVec 32 := Scalar.subi v1479 v17
  let c64_i32_1163 : BitVec 32 := 64#32
  let v1481 : BitVec 32 := Scalar.addi v1480 c64_i32_1163
  let c14_i32_1164 : BitVec 32 := 14#32
  let v1482 : BitVec 32 := Scalar.subi v1481 c14_i32_1164
  let c32_i32_1165 : BitVec 32 := 32#32
  let v1483 : BitVec 32 := Scalar.remsi v1482 c32_i32_1165
  let c5_i32_1166 : BitVec 32 := 5#32
  let v1484 : BitVec 1 := Scalar.cmpi .slt v1483 c5_i32_1166
  let v1485 : BitVec 32 := Scalar.extui v1484
  let c0_i32_1167 : BitVec 32 := 0#32
  let v1486 : BitVec 1 := Scalar.cmpi .ne v1485 c0_i32_1167
  v1486

def k0_off222 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk113 (v4 : BitVec 32) (v17 : BitVec 32) (v2396 : BitVec 32) : Prop :=
  (∀ (k0_h35 : k0_cond35 v4 v17 = 1#1), ∀ a, (k0_off222 v2396) a + S512x512.size a ≤ S32768x512.size a)
theorem k0_off222_inb : ∀ (v4 : BitVec 32) (v17 : BitVec 32) (v2396 : BitVec 32) (k0_hw113 : k0_chk113 v4 v17 v2396), ∀ (k0_h35 : k0_cond35 v4 v17 = 1#1), ∀ a, (k0_off222 v2396) a + S512x512.size a ≤ S32768x512.size a := fun v4 v17 v2396 k0_hw113 k0_h35 => k0_hw113 k0_h35

def k0_dev76 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off223 (v4 : BitVec 32) : Fin 1 → Nat :=
  let c9_i32_1168 : BitVec 32 := 9#32
  let v1487 : BitVec 32 := Scalar.subi v4 c9_i32_1168
  let c32_i32_1169 : BitVec 32 := 32#32
  let v1488 : BitVec 32 := Scalar.addi v1487 c32_i32_1169
  let c32_i32_1170 : BitVec 32 := 32#32
  let v1489 : BitVec 32 := Scalar.remsi v1488 c32_i32_1170
  let v1490 : Index := Scalar.indexCast v1489
  ![v1490.toNat]
def k0_off224 (v1491 : BitVec 32) : Fin 2 → Nat :=
  let c1024_i32_1171 : BitVec 32 := 1024#32
  let v1492 : BitVec 32 := Scalar.muli v1491 c1024_i32_1171
  let c512_i32_1172 : BitVec 32 := 512#32
  let v1493 : BitVec 32 := Scalar.addi v1492 c512_i32_1172
  let c0_i32_1178 : BitVec 32 := 0#32
  ![v1493.toNat, 0]

def k0_dev77 (v8 : BitVec 32) : Nat :=
  let c0_i32_1177 : BitVec 32 := 0#32
  let c1_i32_1176 : BitVec 32 := 1#32
  let v1496 : BitVec 32 := Scalar.muli v8 c1_i32_1176
  let v1497 : BitVec 32 := Scalar.addi c0_i32_1177 v1496
  v1497.toNat
def k0_off225 (v4 : BitVec 32) : Fin 1 → Nat :=
  let c1_i32_1180 : BitVec 32 := 1#32
  let v1504 : BitVec 32 := Scalar.addi v4 c1_i32_1180
  let c8_i32_1181 : BitVec 32 := 8#32
  let v1505 : BitVec 32 := Scalar.addi v1504 c8_i32_1181
  let c32_i32_1182 : BitVec 32 := 32#32
  let v1506 : BitVec 32 := Scalar.remsi v1505 c32_i32_1182
  let v1507 : Index := Scalar.indexCast v1506
  ![v1507.toNat]
def k0_off226 (v1508 : BitVec 32) : Fin 2 → Nat :=
  let c1024_i32_1183 : BitVec 32 := 1024#32
  let v1509 : BitVec 32 := Scalar.muli v1508 c1024_i32_1183
  let c512_i32_1184 : BitVec 32 := 512#32
  let v1510 : BitVec 32 := Scalar.addi v1509 c512_i32_1184
  let c0_i32_1189 : BitVec 32 := 0#32
  ![v1510.toNat, 0]

def k0_chk115 (v1508 : BitVec 32) : Prop :=
  (∀ a, (k0_off226 v1508) a + S512x512.size a ≤ S32768x512.size a)
theorem k0_off226_inb : ∀ (v1508 : BitVec 32) (k0_hw115 : k0_chk115 v1508), ∀ a, (k0_off226 v1508) a + S512x512.size a ≤ S32768x512.size a := fun v1508 k0_hw115 => k0_hw115

def k0_off227 (v4 : BitVec 32) : Fin 1 → Nat :=
  let c1_i32_1191 : BitVec 32 := 1#32
  let v1517 : BitVec 32 := Scalar.addi v4 c1_i32_1191
  let c8_i32_1192 : BitVec 32 := 8#32
  let v1518 : BitVec 32 := Scalar.addi v1517 c8_i32_1192
  let c32_i32_1193 : BitVec 32 := 32#32
  let v1519 : BitVec 32 := Scalar.remsi v1518 c32_i32_1193
  let v2395 : Index := Scalar.indexCast v1519
  ![v2395.toNat]
def k0_cond36 (v4 : BitVec 32) (v17 : BitVec 32) : BitVec 1 :=
  let c1_i32_1191 : BitVec 32 := 1#32
  let v1517 : BitVec 32 := Scalar.addi v4 c1_i32_1191
  let c8_i32_1192 : BitVec 32 := 8#32
  let v1518 : BitVec 32 := Scalar.addi v1517 c8_i32_1192
  let c32_i32_1193 : BitVec 32 := 32#32
  let v1519 : BitVec 32 := Scalar.remsi v1518 c32_i32_1193
  let v1520 : BitVec 32 := Scalar.subi v1519 v17
  let c64_i32_1194 : BitVec 32 := 64#32
  let v1521 : BitVec 32 := Scalar.addi v1520 c64_i32_1194
  let c14_i32_1195 : BitVec 32 := 14#32
  let v1522 : BitVec 32 := Scalar.subi v1521 c14_i32_1195
  let c32_i32_1196 : BitVec 32 := 32#32
  let v1523 : BitVec 32 := Scalar.remsi v1522 c32_i32_1196
  let c5_i32_1197 : BitVec 32 := 5#32
  let v1524 : BitVec 1 := Scalar.cmpi .slt v1523 c5_i32_1197
  let v1525 : BitVec 32 := Scalar.extui v1524
  let c0_i32_1198 : BitVec 32 := 0#32
  let v1526 : BitVec 1 := Scalar.cmpi .ne v1525 c0_i32_1198
  v1526

def k0_off228 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk116 (v4 : BitVec 32) (v17 : BitVec 32) (v2396 : BitVec 32) : Prop :=
  (∀ (k0_h36 : k0_cond36 v4 v17 = 1#1), ∀ a, (k0_off228 v2396) a + S512x512.size a ≤ S32768x512.size a)
theorem k0_off228_inb : ∀ (v4 : BitVec 32) (v17 : BitVec 32) (v2396 : BitVec 32) (k0_hw116 : k0_chk116 v4 v17 v2396), ∀ (k0_h36 : k0_cond36 v4 v17 = 1#1), ∀ a, (k0_off228 v2396) a + S512x512.size a ≤ S32768x512.size a := fun v4 v17 v2396 k0_hw116 k0_h36 => k0_hw116 k0_h36

def k0_dev78 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off229 (v4 : BitVec 32) : Fin 1 → Nat :=
  let c9_i32_1199 : BitVec 32 := 9#32
  let v1527 : BitVec 32 := Scalar.addi v4 c9_i32_1199
  let c32_i32_1200 : BitVec 32 := 32#32
  let v1528 : BitVec 32 := Scalar.remsi v1527 c32_i32_1200
  let v1529 : Index := Scalar.indexCast v1528
  ![v1529.toNat]
def k0_off230 (v1530 : BitVec 32) : Fin 2 → Nat :=
  let c1024_i32_1201 : BitVec 32 := 1024#32
  let v1531 : BitVec 32 := Scalar.muli v1530 c1024_i32_1201
  let c512_i32_1202 : BitVec 32 := 512#32
  let v1532 : BitVec 32 := Scalar.addi v1531 c512_i32_1202
  let c0_i32_1209 : BitVec 32 := 0#32
  ![v1532.toNat, 0]

def k0_dev79 (v13 : BitVec 32) : Nat :=
  let c0_i32_1208 : BitVec 32 := 0#32
  let c1_i32_1207 : BitVec 32 := 1#32
  let v1535 : BitVec 32 := Scalar.muli v13 c1_i32_1207
  let v1536 : BitVec 32 := Scalar.addi c0_i32_1208 v1535
  v1536.toNat
def k0_off231 (v4 : BitVec 32) : Fin 1 → Nat :=
  let c1_i32_1211 : BitVec 32 := 1#32
  let v1543 : BitVec 32 := Scalar.subi v4 c1_i32_1211
  let c9_i32_1212 : BitVec 32 := 9#32
  let v1544 : BitVec 32 := Scalar.subi v1543 c9_i32_1212
  let c32_i32_1213 : BitVec 32 := 32#32
  let v1545 : BitVec 32 := Scalar.addi v1544 c32_i32_1213
  let c32_i32_1214 : BitVec 32 := 32#32
  let v1546 : BitVec 32 := Scalar.remsi v1545 c32_i32_1214
  let v1547 : Index := Scalar.indexCast v1546
  ![v1547.toNat]
def k0_off232 (v1548 : BitVec 32) : Fin 2 → Nat :=
  let c1024_i32_1215 : BitVec 32 := 1024#32
  let v1549 : BitVec 32 := Scalar.muli v1548 c1024_i32_1215
  let c0_i32_1216 : BitVec 32 := 0#32
  let v1550 : BitVec 32 := Scalar.addi v1549 c0_i32_1216
  let c0_i32_1221 : BitVec 32 := 0#32
  ![v1550.toNat, 0]

def k0_chk118 (v1548 : BitVec 32) : Prop :=
  (∀ a, (k0_off232 v1548) a + S512x512.size a ≤ S32768x512.size a)
theorem k0_off232_inb : ∀ (v1548 : BitVec 32) (k0_hw118 : k0_chk118 v1548), ∀ a, (k0_off232 v1548) a + S512x512.size a ≤ S32768x512.size a := fun v1548 k0_hw118 => k0_hw118

def k0_off233 (v4 : BitVec 32) : Fin 1 → Nat :=
  let c1_i32_1223 : BitVec 32 := 1#32
  let v1557 : BitVec 32 := Scalar.subi v4 c1_i32_1223
  let c9_i32_1224 : BitVec 32 := 9#32
  let v1558 : BitVec 32 := Scalar.subi v1557 c9_i32_1224
  let c32_i32_1225 : BitVec 32 := 32#32
  let v1559 : BitVec 32 := Scalar.addi v1558 c32_i32_1225
  let c32_i32_1226 : BitVec 32 := 32#32
  let v1560 : BitVec 32 := Scalar.remsi v1559 c32_i32_1226
  let v2395 : Index := Scalar.indexCast v1560
  ![v2395.toNat]
def k0_cond37 (v4 : BitVec 32) (v17 : BitVec 32) : BitVec 1 :=
  let c1_i32_1223 : BitVec 32 := 1#32
  let v1557 : BitVec 32 := Scalar.subi v4 c1_i32_1223
  let c9_i32_1224 : BitVec 32 := 9#32
  let v1558 : BitVec 32 := Scalar.subi v1557 c9_i32_1224
  let c32_i32_1225 : BitVec 32 := 32#32
  let v1559 : BitVec 32 := Scalar.addi v1558 c32_i32_1225
  let c32_i32_1226 : BitVec 32 := 32#32
  let v1560 : BitVec 32 := Scalar.remsi v1559 c32_i32_1226
  let v1561 : BitVec 32 := Scalar.subi v1560 v17
  let c64_i32_1227 : BitVec 32 := 64#32
  let v1562 : BitVec 32 := Scalar.addi v1561 c64_i32_1227
  let c14_i32_1228 : BitVec 32 := 14#32
  let v1563 : BitVec 32 := Scalar.subi v1562 c14_i32_1228
  let c32_i32_1229 : BitVec 32 := 32#32
  let v1564 : BitVec 32 := Scalar.remsi v1563 c32_i32_1229
  let c5_i32_1230 : BitVec 32 := 5#32
  let v1565 : BitVec 1 := Scalar.cmpi .slt v1564 c5_i32_1230
  let v1566 : BitVec 32 := Scalar.extui v1565
  let c0_i32_1231 : BitVec 32 := 0#32
  let v1567 : BitVec 1 := Scalar.cmpi .ne v1566 c0_i32_1231
  v1567

def k0_off234 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk119 (v4 : BitVec 32) (v17 : BitVec 32) (v2396 : BitVec 32) : Prop :=
  (∀ (k0_h37 : k0_cond37 v4 v17 = 1#1), ∀ a, (k0_off234 v2396) a + S512x512.size a ≤ S32768x512.size a)
theorem k0_off234_inb : ∀ (v4 : BitVec 32) (v17 : BitVec 32) (v2396 : BitVec 32) (k0_hw119 : k0_chk119 v4 v17 v2396), ∀ (k0_h37 : k0_cond37 v4 v17 = 1#1), ∀ a, (k0_off234 v2396) a + S512x512.size a ≤ S32768x512.size a := fun v4 v17 v2396 k0_hw119 k0_h37 => k0_hw119 k0_h37

def k0_dev80 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off235 (v4 : BitVec 32) : Fin 1 → Nat :=
  let c10_i32_1232 : BitVec 32 := 10#32
  let v1568 : BitVec 32 := Scalar.subi v4 c10_i32_1232
  let c32_i32_1233 : BitVec 32 := 32#32
  let v1569 : BitVec 32 := Scalar.addi v1568 c32_i32_1233
  let c32_i32_1234 : BitVec 32 := 32#32
  let v1570 : BitVec 32 := Scalar.remsi v1569 c32_i32_1234
  let v1571 : Index := Scalar.indexCast v1570
  ![v1571.toNat]
def k0_off236 (v1572 : BitVec 32) : Fin 2 → Nat :=
  let c1024_i32_1235 : BitVec 32 := 1024#32
  let v1573 : BitVec 32 := Scalar.muli v1572 c1024_i32_1235
  let c0_i32_1236 : BitVec 32 := 0#32
  let v1574 : BitVec 32 := Scalar.addi v1573 c0_i32_1236
  let c0_i32_1242 : BitVec 32 := 0#32
  ![v1574.toNat, 0]

def k0_dev81 (v8 : BitVec 32) : Nat :=
  let c0_i32_1241 : BitVec 32 := 0#32
  let c1_i32_1240 : BitVec 32 := 1#32
  let v1577 : BitVec 32 := Scalar.muli v8 c1_i32_1240
  let v1578 : BitVec 32 := Scalar.addi c0_i32_1241 v1577
  v1578.toNat
def k0_off237 (v4 : BitVec 32) : Fin 1 → Nat :=
  let c1_i32_1244 : BitVec 32 := 1#32
  let v1585 : BitVec 32 := Scalar.addi v4 c1_i32_1244
  let c9_i32_1245 : BitVec 32 := 9#32
  let v1586 : BitVec 32 := Scalar.addi v1585 c9_i32_1245
  let c32_i32_1246 : BitVec 32 := 32#32
  let v1587 : BitVec 32 := Scalar.remsi v1586 c32_i32_1246
  let v1588 : Index := Scalar.indexCast v1587
  ![v1588.toNat]
def k0_off238 (v1589 : BitVec 32) : Fin 2 → Nat :=
  let c1024_i32_1247 : BitVec 32 := 1024#32
  let v1590 : BitVec 32 := Scalar.muli v1589 c1024_i32_1247
  let c0_i32_1248 : BitVec 32 := 0#32
  let v1591 : BitVec 32 := Scalar.addi v1590 c0_i32_1248
  let c0_i32_1253 : BitVec 32 := 0#32
  ![v1591.toNat, 0]

def k0_chk121 (v1589 : BitVec 32) : Prop :=
  (∀ a, (k0_off238 v1589) a + S512x512.size a ≤ S32768x512.size a)
theorem k0_off238_inb : ∀ (v1589 : BitVec 32) (k0_hw121 : k0_chk121 v1589), ∀ a, (k0_off238 v1589) a + S512x512.size a ≤ S32768x512.size a := fun v1589 k0_hw121 => k0_hw121

def k0_off239 (v4 : BitVec 32) : Fin 1 → Nat :=
  let c1_i32_1255 : BitVec 32 := 1#32
  let v1598 : BitVec 32 := Scalar.addi v4 c1_i32_1255
  let c9_i32_1256 : BitVec 32 := 9#32
  let v1599 : BitVec 32 := Scalar.addi v1598 c9_i32_1256
  let c32_i32_1257 : BitVec 32 := 32#32
  let v1600 : BitVec 32 := Scalar.remsi v1599 c32_i32_1257
  let v2395 : Index := Scalar.indexCast v1600
  ![v2395.toNat]
def k0_cond38 (v4 : BitVec 32) (v17 : BitVec 32) : BitVec 1 :=
  let c1_i32_1255 : BitVec 32 := 1#32
  let v1598 : BitVec 32 := Scalar.addi v4 c1_i32_1255
  let c9_i32_1256 : BitVec 32 := 9#32
  let v1599 : BitVec 32 := Scalar.addi v1598 c9_i32_1256
  let c32_i32_1257 : BitVec 32 := 32#32
  let v1600 : BitVec 32 := Scalar.remsi v1599 c32_i32_1257
  let v1601 : BitVec 32 := Scalar.subi v1600 v17
  let c64_i32_1258 : BitVec 32 := 64#32
  let v1602 : BitVec 32 := Scalar.addi v1601 c64_i32_1258
  let c14_i32_1259 : BitVec 32 := 14#32
  let v1603 : BitVec 32 := Scalar.subi v1602 c14_i32_1259
  let c32_i32_1260 : BitVec 32 := 32#32
  let v1604 : BitVec 32 := Scalar.remsi v1603 c32_i32_1260
  let c5_i32_1261 : BitVec 32 := 5#32
  let v1605 : BitVec 1 := Scalar.cmpi .slt v1604 c5_i32_1261
  let v1606 : BitVec 32 := Scalar.extui v1605
  let c0_i32_1262 : BitVec 32 := 0#32
  let v1607 : BitVec 1 := Scalar.cmpi .ne v1606 c0_i32_1262
  v1607

def k0_off240 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk122 (v4 : BitVec 32) (v17 : BitVec 32) (v2396 : BitVec 32) : Prop :=
  (∀ (k0_h38 : k0_cond38 v4 v17 = 1#1), ∀ a, (k0_off240 v2396) a + S512x512.size a ≤ S32768x512.size a)
theorem k0_off240_inb : ∀ (v4 : BitVec 32) (v17 : BitVec 32) (v2396 : BitVec 32) (k0_hw122 : k0_chk122 v4 v17 v2396), ∀ (k0_h38 : k0_cond38 v4 v17 = 1#1), ∀ a, (k0_off240 v2396) a + S512x512.size a ≤ S32768x512.size a := fun v4 v17 v2396 k0_hw122 k0_h38 => k0_hw122 k0_h38

def k0_dev82 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off241 (v4 : BitVec 32) : Fin 1 → Nat :=
  let c10_i32_1263 : BitVec 32 := 10#32
  let v1608 : BitVec 32 := Scalar.addi v4 c10_i32_1263
  let c32_i32_1264 : BitVec 32 := 32#32
  let v1609 : BitVec 32 := Scalar.remsi v1608 c32_i32_1264
  let v1610 : Index := Scalar.indexCast v1609
  ![v1610.toNat]
def k0_off242 (v1611 : BitVec 32) : Fin 2 → Nat :=
  let c1024_i32_1265 : BitVec 32 := 1024#32
  let v1612 : BitVec 32 := Scalar.muli v1611 c1024_i32_1265
  let c0_i32_1266 : BitVec 32 := 0#32
  let v1613 : BitVec 32 := Scalar.addi v1612 c0_i32_1266
  let c0_i32_1273 : BitVec 32 := 0#32
  ![v1613.toNat, 0]

def k0_dev83 (v13 : BitVec 32) : Nat :=
  let c0_i32_1272 : BitVec 32 := 0#32
  let c1_i32_1271 : BitVec 32 := 1#32
  let v1616 : BitVec 32 := Scalar.muli v13 c1_i32_1271
  let v1617 : BitVec 32 := Scalar.addi c0_i32_1272 v1616
  v1617.toNat
def k0_off243 (v4 : BitVec 32) : Fin 1 → Nat :=
  let c1_i32_1275 : BitVec 32 := 1#32
  let v1624 : BitVec 32 := Scalar.subi v4 c1_i32_1275
  let c9_i32_1276 : BitVec 32 := 9#32
  let v1625 : BitVec 32 := Scalar.subi v1624 c9_i32_1276
  let c32_i32_1277 : BitVec 32 := 32#32
  let v1626 : BitVec 32 := Scalar.addi v1625 c32_i32_1277
  let c32_i32_1278 : BitVec 32 := 32#32
  let v1627 : BitVec 32 := Scalar.remsi v1626 c32_i32_1278
  let v1628 : Index := Scalar.indexCast v1627
  ![v1628.toNat]
def k0_off244 (v1629 : BitVec 32) : Fin 2 → Nat :=
  let c1024_i32_1279 : BitVec 32 := 1024#32
  let v1630 : BitVec 32 := Scalar.muli v1629 c1024_i32_1279
  let c512_i32_1280 : BitVec 32 := 512#32
  let v1631 : BitVec 32 := Scalar.addi v1630 c512_i32_1280
  let c0_i32_1285 : BitVec 32 := 0#32
  ![v1631.toNat, 0]

def k0_chk124 (v1629 : BitVec 32) : Prop :=
  (∀ a, (k0_off244 v1629) a + S512x512.size a ≤ S32768x512.size a)
theorem k0_off244_inb : ∀ (v1629 : BitVec 32) (k0_hw124 : k0_chk124 v1629), ∀ a, (k0_off244 v1629) a + S512x512.size a ≤ S32768x512.size a := fun v1629 k0_hw124 => k0_hw124

def k0_off245 (v4 : BitVec 32) : Fin 1 → Nat :=
  let c1_i32_1287 : BitVec 32 := 1#32
  let v1638 : BitVec 32 := Scalar.subi v4 c1_i32_1287
  let c9_i32_1288 : BitVec 32 := 9#32
  let v1639 : BitVec 32 := Scalar.subi v1638 c9_i32_1288
  let c32_i32_1289 : BitVec 32 := 32#32
  let v1640 : BitVec 32 := Scalar.addi v1639 c32_i32_1289
  let c32_i32_1290 : BitVec 32 := 32#32
  let v1641 : BitVec 32 := Scalar.remsi v1640 c32_i32_1290
  let v2395 : Index := Scalar.indexCast v1641
  ![v2395.toNat]
def k0_cond39 (v4 : BitVec 32) (v17 : BitVec 32) : BitVec 1 :=
  let c1_i32_1287 : BitVec 32 := 1#32
  let v1638 : BitVec 32 := Scalar.subi v4 c1_i32_1287
  let c9_i32_1288 : BitVec 32 := 9#32
  let v1639 : BitVec 32 := Scalar.subi v1638 c9_i32_1288
  let c32_i32_1289 : BitVec 32 := 32#32
  let v1640 : BitVec 32 := Scalar.addi v1639 c32_i32_1289
  let c32_i32_1290 : BitVec 32 := 32#32
  let v1641 : BitVec 32 := Scalar.remsi v1640 c32_i32_1290
  let v1642 : BitVec 32 := Scalar.subi v1641 v17
  let c64_i32_1291 : BitVec 32 := 64#32
  let v1643 : BitVec 32 := Scalar.addi v1642 c64_i32_1291
  let c14_i32_1292 : BitVec 32 := 14#32
  let v1644 : BitVec 32 := Scalar.subi v1643 c14_i32_1292
  let c32_i32_1293 : BitVec 32 := 32#32
  let v1645 : BitVec 32 := Scalar.remsi v1644 c32_i32_1293
  let c5_i32_1294 : BitVec 32 := 5#32
  let v1646 : BitVec 1 := Scalar.cmpi .slt v1645 c5_i32_1294
  let v1647 : BitVec 32 := Scalar.extui v1646
  let c0_i32_1295 : BitVec 32 := 0#32
  let v1648 : BitVec 1 := Scalar.cmpi .ne v1647 c0_i32_1295
  v1648

def k0_off246 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk125 (v4 : BitVec 32) (v17 : BitVec 32) (v2396 : BitVec 32) : Prop :=
  (∀ (k0_h39 : k0_cond39 v4 v17 = 1#1), ∀ a, (k0_off246 v2396) a + S512x512.size a ≤ S32768x512.size a)
theorem k0_off246_inb : ∀ (v4 : BitVec 32) (v17 : BitVec 32) (v2396 : BitVec 32) (k0_hw125 : k0_chk125 v4 v17 v2396), ∀ (k0_h39 : k0_cond39 v4 v17 = 1#1), ∀ a, (k0_off246 v2396) a + S512x512.size a ≤ S32768x512.size a := fun v4 v17 v2396 k0_hw125 k0_h39 => k0_hw125 k0_h39

def k0_dev84 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off247 (v4 : BitVec 32) : Fin 1 → Nat :=
  let c10_i32_1296 : BitVec 32 := 10#32
  let v1649 : BitVec 32 := Scalar.subi v4 c10_i32_1296
  let c32_i32_1297 : BitVec 32 := 32#32
  let v1650 : BitVec 32 := Scalar.addi v1649 c32_i32_1297
  let c32_i32_1298 : BitVec 32 := 32#32
  let v1651 : BitVec 32 := Scalar.remsi v1650 c32_i32_1298
  let v1652 : Index := Scalar.indexCast v1651
  ![v1652.toNat]
def k0_off248 (v1653 : BitVec 32) : Fin 2 → Nat :=
  let c1024_i32_1299 : BitVec 32 := 1024#32
  let v1654 : BitVec 32 := Scalar.muli v1653 c1024_i32_1299
  let c512_i32_1300 : BitVec 32 := 512#32
  let v1655 : BitVec 32 := Scalar.addi v1654 c512_i32_1300
  let c0_i32_1306 : BitVec 32 := 0#32
  ![v1655.toNat, 0]

def k0_dev85 (v8 : BitVec 32) : Nat :=
  let c0_i32_1305 : BitVec 32 := 0#32
  let c1_i32_1304 : BitVec 32 := 1#32
  let v1658 : BitVec 32 := Scalar.muli v8 c1_i32_1304
  let v1659 : BitVec 32 := Scalar.addi c0_i32_1305 v1658
  v1659.toNat
def k0_off249 (v4 : BitVec 32) : Fin 1 → Nat :=
  let c1_i32_1308 : BitVec 32 := 1#32
  let v1666 : BitVec 32 := Scalar.addi v4 c1_i32_1308
  let c9_i32_1309 : BitVec 32 := 9#32
  let v1667 : BitVec 32 := Scalar.addi v1666 c9_i32_1309
  let c32_i32_1310 : BitVec 32 := 32#32
  let v1668 : BitVec 32 := Scalar.remsi v1667 c32_i32_1310
  let v1669 : Index := Scalar.indexCast v1668
  ![v1669.toNat]
def k0_off250 (v1670 : BitVec 32) : Fin 2 → Nat :=
  let c1024_i32_1311 : BitVec 32 := 1024#32
  let v1671 : BitVec 32 := Scalar.muli v1670 c1024_i32_1311
  let c512_i32_1312 : BitVec 32 := 512#32
  let v1672 : BitVec 32 := Scalar.addi v1671 c512_i32_1312
  let c0_i32_1317 : BitVec 32 := 0#32
  ![v1672.toNat, 0]

def k0_chk127 (v1670 : BitVec 32) : Prop :=
  (∀ a, (k0_off250 v1670) a + S512x512.size a ≤ S32768x512.size a)
theorem k0_off250_inb : ∀ (v1670 : BitVec 32) (k0_hw127 : k0_chk127 v1670), ∀ a, (k0_off250 v1670) a + S512x512.size a ≤ S32768x512.size a := fun v1670 k0_hw127 => k0_hw127

def k0_off251 (v4 : BitVec 32) : Fin 1 → Nat :=
  let c1_i32_1319 : BitVec 32 := 1#32
  let v1679 : BitVec 32 := Scalar.addi v4 c1_i32_1319
  let c9_i32_1320 : BitVec 32 := 9#32
  let v1680 : BitVec 32 := Scalar.addi v1679 c9_i32_1320
  let c32_i32_1321 : BitVec 32 := 32#32
  let v1681 : BitVec 32 := Scalar.remsi v1680 c32_i32_1321
  let v2395 : Index := Scalar.indexCast v1681
  ![v2395.toNat]
def k0_cond40 (v4 : BitVec 32) (v17 : BitVec 32) : BitVec 1 :=
  let c1_i32_1319 : BitVec 32 := 1#32
  let v1679 : BitVec 32 := Scalar.addi v4 c1_i32_1319
  let c9_i32_1320 : BitVec 32 := 9#32
  let v1680 : BitVec 32 := Scalar.addi v1679 c9_i32_1320
  let c32_i32_1321 : BitVec 32 := 32#32
  let v1681 : BitVec 32 := Scalar.remsi v1680 c32_i32_1321
  let v1682 : BitVec 32 := Scalar.subi v1681 v17
  let c64_i32_1322 : BitVec 32 := 64#32
  let v1683 : BitVec 32 := Scalar.addi v1682 c64_i32_1322
  let c14_i32_1323 : BitVec 32 := 14#32
  let v1684 : BitVec 32 := Scalar.subi v1683 c14_i32_1323
  let c32_i32_1324 : BitVec 32 := 32#32
  let v1685 : BitVec 32 := Scalar.remsi v1684 c32_i32_1324
  let c5_i32_1325 : BitVec 32 := 5#32
  let v1686 : BitVec 1 := Scalar.cmpi .slt v1685 c5_i32_1325
  let v1687 : BitVec 32 := Scalar.extui v1686
  let c0_i32_1326 : BitVec 32 := 0#32
  let v1688 : BitVec 1 := Scalar.cmpi .ne v1687 c0_i32_1326
  v1688

def k0_off252 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk128 (v4 : BitVec 32) (v17 : BitVec 32) (v2396 : BitVec 32) : Prop :=
  (∀ (k0_h40 : k0_cond40 v4 v17 = 1#1), ∀ a, (k0_off252 v2396) a + S512x512.size a ≤ S32768x512.size a)
theorem k0_off252_inb : ∀ (v4 : BitVec 32) (v17 : BitVec 32) (v2396 : BitVec 32) (k0_hw128 : k0_chk128 v4 v17 v2396), ∀ (k0_h40 : k0_cond40 v4 v17 = 1#1), ∀ a, (k0_off252 v2396) a + S512x512.size a ≤ S32768x512.size a := fun v4 v17 v2396 k0_hw128 k0_h40 => k0_hw128 k0_h40

def k0_dev86 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off253 (v4 : BitVec 32) : Fin 1 → Nat :=
  let c10_i32_1327 : BitVec 32 := 10#32
  let v1689 : BitVec 32 := Scalar.addi v4 c10_i32_1327
  let c32_i32_1328 : BitVec 32 := 32#32
  let v1690 : BitVec 32 := Scalar.remsi v1689 c32_i32_1328
  let v1691 : Index := Scalar.indexCast v1690
  ![v1691.toNat]
def k0_off254 (v1692 : BitVec 32) : Fin 2 → Nat :=
  let c1024_i32_1329 : BitVec 32 := 1024#32
  let v1693 : BitVec 32 := Scalar.muli v1692 c1024_i32_1329
  let c512_i32_1330 : BitVec 32 := 512#32
  let v1694 : BitVec 32 := Scalar.addi v1693 c512_i32_1330
  let c0_i32_1337 : BitVec 32 := 0#32
  ![v1694.toNat, 0]

def k0_dev87 (v13 : BitVec 32) : Nat :=
  let c0_i32_1336 : BitVec 32 := 0#32
  let c1_i32_1335 : BitVec 32 := 1#32
  let v1697 : BitVec 32 := Scalar.muli v13 c1_i32_1335
  let v1698 : BitVec 32 := Scalar.addi c0_i32_1336 v1697
  v1698.toNat
def k0_off255 (v4 : BitVec 32) : Fin 1 → Nat :=
  let c1_i32_1339 : BitVec 32 := 1#32
  let v1705 : BitVec 32 := Scalar.subi v4 c1_i32_1339
  let c10_i32_1340 : BitVec 32 := 10#32
  let v1706 : BitVec 32 := Scalar.subi v1705 c10_i32_1340
  let c32_i32_1341 : BitVec 32 := 32#32
  let v1707 : BitVec 32 := Scalar.addi v1706 c32_i32_1341
  let c32_i32_1342 : BitVec 32 := 32#32
  let v1708 : BitVec 32 := Scalar.remsi v1707 c32_i32_1342
  let v1709 : Index := Scalar.indexCast v1708
  ![v1709.toNat]
def k0_off256 (v1710 : BitVec 32) : Fin 2 → Nat :=
  let c1024_i32_1343 : BitVec 32 := 1024#32
  let v1711 : BitVec 32 := Scalar.muli v1710 c1024_i32_1343
  let c0_i32_1344 : BitVec 32 := 0#32
  let v1712 : BitVec 32 := Scalar.addi v1711 c0_i32_1344
  let c0_i32_1349 : BitVec 32 := 0#32
  ![v1712.toNat, 0]

def k0_chk130 (v1710 : BitVec 32) : Prop :=
  (∀ a, (k0_off256 v1710) a + S512x512.size a ≤ S32768x512.size a)
theorem k0_off256_inb : ∀ (v1710 : BitVec 32) (k0_hw130 : k0_chk130 v1710), ∀ a, (k0_off256 v1710) a + S512x512.size a ≤ S32768x512.size a := fun v1710 k0_hw130 => k0_hw130

def k0_off257 (v4 : BitVec 32) : Fin 1 → Nat :=
  let c1_i32_1351 : BitVec 32 := 1#32
  let v1719 : BitVec 32 := Scalar.subi v4 c1_i32_1351
  let c10_i32_1352 : BitVec 32 := 10#32
  let v1720 : BitVec 32 := Scalar.subi v1719 c10_i32_1352
  let c32_i32_1353 : BitVec 32 := 32#32
  let v1721 : BitVec 32 := Scalar.addi v1720 c32_i32_1353
  let c32_i32_1354 : BitVec 32 := 32#32
  let v1722 : BitVec 32 := Scalar.remsi v1721 c32_i32_1354
  let v2395 : Index := Scalar.indexCast v1722
  ![v2395.toNat]
def k0_cond41 (v4 : BitVec 32) (v17 : BitVec 32) : BitVec 1 :=
  let c1_i32_1351 : BitVec 32 := 1#32
  let v1719 : BitVec 32 := Scalar.subi v4 c1_i32_1351
  let c10_i32_1352 : BitVec 32 := 10#32
  let v1720 : BitVec 32 := Scalar.subi v1719 c10_i32_1352
  let c32_i32_1353 : BitVec 32 := 32#32
  let v1721 : BitVec 32 := Scalar.addi v1720 c32_i32_1353
  let c32_i32_1354 : BitVec 32 := 32#32
  let v1722 : BitVec 32 := Scalar.remsi v1721 c32_i32_1354
  let v1723 : BitVec 32 := Scalar.subi v1722 v17
  let c64_i32_1355 : BitVec 32 := 64#32
  let v1724 : BitVec 32 := Scalar.addi v1723 c64_i32_1355
  let c14_i32_1356 : BitVec 32 := 14#32
  let v1725 : BitVec 32 := Scalar.subi v1724 c14_i32_1356
  let c32_i32_1357 : BitVec 32 := 32#32
  let v1726 : BitVec 32 := Scalar.remsi v1725 c32_i32_1357
  let c5_i32_1358 : BitVec 32 := 5#32
  let v1727 : BitVec 1 := Scalar.cmpi .slt v1726 c5_i32_1358
  let v1728 : BitVec 32 := Scalar.extui v1727
  let c0_i32_1359 : BitVec 32 := 0#32
  let v1729 : BitVec 1 := Scalar.cmpi .ne v1728 c0_i32_1359
  v1729

def k0_off258 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk131 (v4 : BitVec 32) (v17 : BitVec 32) (v2396 : BitVec 32) : Prop :=
  (∀ (k0_h41 : k0_cond41 v4 v17 = 1#1), ∀ a, (k0_off258 v2396) a + S512x512.size a ≤ S32768x512.size a)
theorem k0_off258_inb : ∀ (v4 : BitVec 32) (v17 : BitVec 32) (v2396 : BitVec 32) (k0_hw131 : k0_chk131 v4 v17 v2396), ∀ (k0_h41 : k0_cond41 v4 v17 = 1#1), ∀ a, (k0_off258 v2396) a + S512x512.size a ≤ S32768x512.size a := fun v4 v17 v2396 k0_hw131 k0_h41 => k0_hw131 k0_h41

def k0_dev88 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off259 (v4 : BitVec 32) : Fin 1 → Nat :=
  let c11_i32_1360 : BitVec 32 := 11#32
  let v1730 : BitVec 32 := Scalar.subi v4 c11_i32_1360
  let c32_i32_1361 : BitVec 32 := 32#32
  let v1731 : BitVec 32 := Scalar.addi v1730 c32_i32_1361
  let c32_i32_1362 : BitVec 32 := 32#32
  let v1732 : BitVec 32 := Scalar.remsi v1731 c32_i32_1362
  let v1733 : Index := Scalar.indexCast v1732
  ![v1733.toNat]
def k0_off260 (v1734 : BitVec 32) : Fin 2 → Nat :=
  let c1024_i32_1363 : BitVec 32 := 1024#32
  let v1735 : BitVec 32 := Scalar.muli v1734 c1024_i32_1363
  let c0_i32_1364 : BitVec 32 := 0#32
  let v1736 : BitVec 32 := Scalar.addi v1735 c0_i32_1364
  let c0_i32_1370 : BitVec 32 := 0#32
  ![v1736.toNat, 0]

def k0_dev89 (v8 : BitVec 32) : Nat :=
  let c0_i32_1369 : BitVec 32 := 0#32
  let c1_i32_1368 : BitVec 32 := 1#32
  let v1739 : BitVec 32 := Scalar.muli v8 c1_i32_1368
  let v1740 : BitVec 32 := Scalar.addi c0_i32_1369 v1739
  v1740.toNat
def k0_off261 (v4 : BitVec 32) : Fin 1 → Nat :=
  let c1_i32_1372 : BitVec 32 := 1#32
  let v1747 : BitVec 32 := Scalar.addi v4 c1_i32_1372
  let c10_i32_1373 : BitVec 32 := 10#32
  let v1748 : BitVec 32 := Scalar.addi v1747 c10_i32_1373
  let c32_i32_1374 : BitVec 32 := 32#32
  let v1749 : BitVec 32 := Scalar.remsi v1748 c32_i32_1374
  let v1750 : Index := Scalar.indexCast v1749
  ![v1750.toNat]
def k0_off262 (v1751 : BitVec 32) : Fin 2 → Nat :=
  let c1024_i32_1375 : BitVec 32 := 1024#32
  let v1752 : BitVec 32 := Scalar.muli v1751 c1024_i32_1375
  let c0_i32_1376 : BitVec 32 := 0#32
  let v1753 : BitVec 32 := Scalar.addi v1752 c0_i32_1376
  let c0_i32_1381 : BitVec 32 := 0#32
  ![v1753.toNat, 0]

def k0_chk133 (v1751 : BitVec 32) : Prop :=
  (∀ a, (k0_off262 v1751) a + S512x512.size a ≤ S32768x512.size a)
theorem k0_off262_inb : ∀ (v1751 : BitVec 32) (k0_hw133 : k0_chk133 v1751), ∀ a, (k0_off262 v1751) a + S512x512.size a ≤ S32768x512.size a := fun v1751 k0_hw133 => k0_hw133

def k0_off263 (v4 : BitVec 32) : Fin 1 → Nat :=
  let c1_i32_1383 : BitVec 32 := 1#32
  let v1760 : BitVec 32 := Scalar.addi v4 c1_i32_1383
  let c10_i32_1384 : BitVec 32 := 10#32
  let v1761 : BitVec 32 := Scalar.addi v1760 c10_i32_1384
  let c32_i32_1385 : BitVec 32 := 32#32
  let v1762 : BitVec 32 := Scalar.remsi v1761 c32_i32_1385
  let v2395 : Index := Scalar.indexCast v1762
  ![v2395.toNat]
def k0_cond42 (v4 : BitVec 32) (v17 : BitVec 32) : BitVec 1 :=
  let c1_i32_1383 : BitVec 32 := 1#32
  let v1760 : BitVec 32 := Scalar.addi v4 c1_i32_1383
  let c10_i32_1384 : BitVec 32 := 10#32
  let v1761 : BitVec 32 := Scalar.addi v1760 c10_i32_1384
  let c32_i32_1385 : BitVec 32 := 32#32
  let v1762 : BitVec 32 := Scalar.remsi v1761 c32_i32_1385
  let v1763 : BitVec 32 := Scalar.subi v1762 v17
  let c64_i32_1386 : BitVec 32 := 64#32
  let v1764 : BitVec 32 := Scalar.addi v1763 c64_i32_1386
  let c14_i32_1387 : BitVec 32 := 14#32
  let v1765 : BitVec 32 := Scalar.subi v1764 c14_i32_1387
  let c32_i32_1388 : BitVec 32 := 32#32
  let v1766 : BitVec 32 := Scalar.remsi v1765 c32_i32_1388
  let c5_i32_1389 : BitVec 32 := 5#32
  let v1767 : BitVec 1 := Scalar.cmpi .slt v1766 c5_i32_1389
  let v1768 : BitVec 32 := Scalar.extui v1767
  let c0_i32_1390 : BitVec 32 := 0#32
  let v1769 : BitVec 1 := Scalar.cmpi .ne v1768 c0_i32_1390
  v1769

def k0_off264 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk134 (v4 : BitVec 32) (v17 : BitVec 32) (v2396 : BitVec 32) : Prop :=
  (∀ (k0_h42 : k0_cond42 v4 v17 = 1#1), ∀ a, (k0_off264 v2396) a + S512x512.size a ≤ S32768x512.size a)
theorem k0_off264_inb : ∀ (v4 : BitVec 32) (v17 : BitVec 32) (v2396 : BitVec 32) (k0_hw134 : k0_chk134 v4 v17 v2396), ∀ (k0_h42 : k0_cond42 v4 v17 = 1#1), ∀ a, (k0_off264 v2396) a + S512x512.size a ≤ S32768x512.size a := fun v4 v17 v2396 k0_hw134 k0_h42 => k0_hw134 k0_h42

def k0_dev90 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off265 (v4 : BitVec 32) : Fin 1 → Nat :=
  let c11_i32_1391 : BitVec 32 := 11#32
  let v1770 : BitVec 32 := Scalar.addi v4 c11_i32_1391
  let c32_i32_1392 : BitVec 32 := 32#32
  let v1771 : BitVec 32 := Scalar.remsi v1770 c32_i32_1392
  let v1772 : Index := Scalar.indexCast v1771
  ![v1772.toNat]
def k0_off266 (v1773 : BitVec 32) : Fin 2 → Nat :=
  let c1024_i32_1393 : BitVec 32 := 1024#32
  let v1774 : BitVec 32 := Scalar.muli v1773 c1024_i32_1393
  let c0_i32_1394 : BitVec 32 := 0#32
  let v1775 : BitVec 32 := Scalar.addi v1774 c0_i32_1394
  let c0_i32_1401 : BitVec 32 := 0#32
  ![v1775.toNat, 0]

def k0_dev91 (v13 : BitVec 32) : Nat :=
  let c0_i32_1400 : BitVec 32 := 0#32
  let c1_i32_1399 : BitVec 32 := 1#32
  let v1778 : BitVec 32 := Scalar.muli v13 c1_i32_1399
  let v1779 : BitVec 32 := Scalar.addi c0_i32_1400 v1778
  v1779.toNat
def k0_off267 (v4 : BitVec 32) : Fin 1 → Nat :=
  let c1_i32_1403 : BitVec 32 := 1#32
  let v1786 : BitVec 32 := Scalar.subi v4 c1_i32_1403
  let c10_i32_1404 : BitVec 32 := 10#32
  let v1787 : BitVec 32 := Scalar.subi v1786 c10_i32_1404
  let c32_i32_1405 : BitVec 32 := 32#32
  let v1788 : BitVec 32 := Scalar.addi v1787 c32_i32_1405
  let c32_i32_1406 : BitVec 32 := 32#32
  let v1789 : BitVec 32 := Scalar.remsi v1788 c32_i32_1406
  let v1790 : Index := Scalar.indexCast v1789
  ![v1790.toNat]
def k0_off268 (v1791 : BitVec 32) : Fin 2 → Nat :=
  let c1024_i32_1407 : BitVec 32 := 1024#32
  let v1792 : BitVec 32 := Scalar.muli v1791 c1024_i32_1407
  let c512_i32_1408 : BitVec 32 := 512#32
  let v1793 : BitVec 32 := Scalar.addi v1792 c512_i32_1408
  let c0_i32_1413 : BitVec 32 := 0#32
  ![v1793.toNat, 0]

def k0_chk136 (v1791 : BitVec 32) : Prop :=
  (∀ a, (k0_off268 v1791) a + S512x512.size a ≤ S32768x512.size a)
theorem k0_off268_inb : ∀ (v1791 : BitVec 32) (k0_hw136 : k0_chk136 v1791), ∀ a, (k0_off268 v1791) a + S512x512.size a ≤ S32768x512.size a := fun v1791 k0_hw136 => k0_hw136

def k0_off269 (v4 : BitVec 32) : Fin 1 → Nat :=
  let c1_i32_1415 : BitVec 32 := 1#32
  let v1800 : BitVec 32 := Scalar.subi v4 c1_i32_1415
  let c10_i32_1416 : BitVec 32 := 10#32
  let v1801 : BitVec 32 := Scalar.subi v1800 c10_i32_1416
  let c32_i32_1417 : BitVec 32 := 32#32
  let v1802 : BitVec 32 := Scalar.addi v1801 c32_i32_1417
  let c32_i32_1418 : BitVec 32 := 32#32
  let v1803 : BitVec 32 := Scalar.remsi v1802 c32_i32_1418
  let v2395 : Index := Scalar.indexCast v1803
  ![v2395.toNat]
def k0_cond43 (v4 : BitVec 32) (v17 : BitVec 32) : BitVec 1 :=
  let c1_i32_1415 : BitVec 32 := 1#32
  let v1800 : BitVec 32 := Scalar.subi v4 c1_i32_1415
  let c10_i32_1416 : BitVec 32 := 10#32
  let v1801 : BitVec 32 := Scalar.subi v1800 c10_i32_1416
  let c32_i32_1417 : BitVec 32 := 32#32
  let v1802 : BitVec 32 := Scalar.addi v1801 c32_i32_1417
  let c32_i32_1418 : BitVec 32 := 32#32
  let v1803 : BitVec 32 := Scalar.remsi v1802 c32_i32_1418
  let v1804 : BitVec 32 := Scalar.subi v1803 v17
  let c64_i32_1419 : BitVec 32 := 64#32
  let v1805 : BitVec 32 := Scalar.addi v1804 c64_i32_1419
  let c14_i32_1420 : BitVec 32 := 14#32
  let v1806 : BitVec 32 := Scalar.subi v1805 c14_i32_1420
  let c32_i32_1421 : BitVec 32 := 32#32
  let v1807 : BitVec 32 := Scalar.remsi v1806 c32_i32_1421
  let c5_i32_1422 : BitVec 32 := 5#32
  let v1808 : BitVec 1 := Scalar.cmpi .slt v1807 c5_i32_1422
  let v1809 : BitVec 32 := Scalar.extui v1808
  let c0_i32_1423 : BitVec 32 := 0#32
  let v1810 : BitVec 1 := Scalar.cmpi .ne v1809 c0_i32_1423
  v1810

def k0_off270 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk137 (v4 : BitVec 32) (v17 : BitVec 32) (v2396 : BitVec 32) : Prop :=
  (∀ (k0_h43 : k0_cond43 v4 v17 = 1#1), ∀ a, (k0_off270 v2396) a + S512x512.size a ≤ S32768x512.size a)
theorem k0_off270_inb : ∀ (v4 : BitVec 32) (v17 : BitVec 32) (v2396 : BitVec 32) (k0_hw137 : k0_chk137 v4 v17 v2396), ∀ (k0_h43 : k0_cond43 v4 v17 = 1#1), ∀ a, (k0_off270 v2396) a + S512x512.size a ≤ S32768x512.size a := fun v4 v17 v2396 k0_hw137 k0_h43 => k0_hw137 k0_h43

def k0_dev92 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off271 (v4 : BitVec 32) : Fin 1 → Nat :=
  let c11_i32_1424 : BitVec 32 := 11#32
  let v1811 : BitVec 32 := Scalar.subi v4 c11_i32_1424
  let c32_i32_1425 : BitVec 32 := 32#32
  let v1812 : BitVec 32 := Scalar.addi v1811 c32_i32_1425
  let c32_i32_1426 : BitVec 32 := 32#32
  let v1813 : BitVec 32 := Scalar.remsi v1812 c32_i32_1426
  let v1814 : Index := Scalar.indexCast v1813
  ![v1814.toNat]
def k0_off272 (v1815 : BitVec 32) : Fin 2 → Nat :=
  let c1024_i32_1427 : BitVec 32 := 1024#32
  let v1816 : BitVec 32 := Scalar.muli v1815 c1024_i32_1427
  let c512_i32_1428 : BitVec 32 := 512#32
  let v1817 : BitVec 32 := Scalar.addi v1816 c512_i32_1428
  let c0_i32_1434 : BitVec 32 := 0#32
  ![v1817.toNat, 0]

def k0_dev93 (v8 : BitVec 32) : Nat :=
  let c0_i32_1433 : BitVec 32 := 0#32
  let c1_i32_1432 : BitVec 32 := 1#32
  let v1820 : BitVec 32 := Scalar.muli v8 c1_i32_1432
  let v1821 : BitVec 32 := Scalar.addi c0_i32_1433 v1820
  v1821.toNat
def k0_off273 (v4 : BitVec 32) : Fin 1 → Nat :=
  let c1_i32_1436 : BitVec 32 := 1#32
  let v1828 : BitVec 32 := Scalar.addi v4 c1_i32_1436
  let c10_i32_1437 : BitVec 32 := 10#32
  let v1829 : BitVec 32 := Scalar.addi v1828 c10_i32_1437
  let c32_i32_1438 : BitVec 32 := 32#32
  let v1830 : BitVec 32 := Scalar.remsi v1829 c32_i32_1438
  let v1831 : Index := Scalar.indexCast v1830
  ![v1831.toNat]
def k0_off274 (v1832 : BitVec 32) : Fin 2 → Nat :=
  let c1024_i32_1439 : BitVec 32 := 1024#32
  let v1833 : BitVec 32 := Scalar.muli v1832 c1024_i32_1439
  let c512_i32_1440 : BitVec 32 := 512#32
  let v1834 : BitVec 32 := Scalar.addi v1833 c512_i32_1440
  let c0_i32_1445 : BitVec 32 := 0#32
  ![v1834.toNat, 0]

def k0_chk139 (v1832 : BitVec 32) : Prop :=
  (∀ a, (k0_off274 v1832) a + S512x512.size a ≤ S32768x512.size a)
theorem k0_off274_inb : ∀ (v1832 : BitVec 32) (k0_hw139 : k0_chk139 v1832), ∀ a, (k0_off274 v1832) a + S512x512.size a ≤ S32768x512.size a := fun v1832 k0_hw139 => k0_hw139

def k0_off275 (v4 : BitVec 32) : Fin 1 → Nat :=
  let c1_i32_1447 : BitVec 32 := 1#32
  let v1841 : BitVec 32 := Scalar.addi v4 c1_i32_1447
  let c10_i32_1448 : BitVec 32 := 10#32
  let v1842 : BitVec 32 := Scalar.addi v1841 c10_i32_1448
  let c32_i32_1449 : BitVec 32 := 32#32
  let v1843 : BitVec 32 := Scalar.remsi v1842 c32_i32_1449
  let v2395 : Index := Scalar.indexCast v1843
  ![v2395.toNat]
def k0_cond44 (v4 : BitVec 32) (v17 : BitVec 32) : BitVec 1 :=
  let c1_i32_1447 : BitVec 32 := 1#32
  let v1841 : BitVec 32 := Scalar.addi v4 c1_i32_1447
  let c10_i32_1448 : BitVec 32 := 10#32
  let v1842 : BitVec 32 := Scalar.addi v1841 c10_i32_1448
  let c32_i32_1449 : BitVec 32 := 32#32
  let v1843 : BitVec 32 := Scalar.remsi v1842 c32_i32_1449
  let v1844 : BitVec 32 := Scalar.subi v1843 v17
  let c64_i32_1450 : BitVec 32 := 64#32
  let v1845 : BitVec 32 := Scalar.addi v1844 c64_i32_1450
  let c14_i32_1451 : BitVec 32 := 14#32
  let v1846 : BitVec 32 := Scalar.subi v1845 c14_i32_1451
  let c32_i32_1452 : BitVec 32 := 32#32
  let v1847 : BitVec 32 := Scalar.remsi v1846 c32_i32_1452
  let c5_i32_1453 : BitVec 32 := 5#32
  let v1848 : BitVec 1 := Scalar.cmpi .slt v1847 c5_i32_1453
  let v1849 : BitVec 32 := Scalar.extui v1848
  let c0_i32_1454 : BitVec 32 := 0#32
  let v1850 : BitVec 1 := Scalar.cmpi .ne v1849 c0_i32_1454
  v1850

def k0_off276 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk140 (v4 : BitVec 32) (v17 : BitVec 32) (v2396 : BitVec 32) : Prop :=
  (∀ (k0_h44 : k0_cond44 v4 v17 = 1#1), ∀ a, (k0_off276 v2396) a + S512x512.size a ≤ S32768x512.size a)
theorem k0_off276_inb : ∀ (v4 : BitVec 32) (v17 : BitVec 32) (v2396 : BitVec 32) (k0_hw140 : k0_chk140 v4 v17 v2396), ∀ (k0_h44 : k0_cond44 v4 v17 = 1#1), ∀ a, (k0_off276 v2396) a + S512x512.size a ≤ S32768x512.size a := fun v4 v17 v2396 k0_hw140 k0_h44 => k0_hw140 k0_h44

def k0_dev94 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off277 (v4 : BitVec 32) : Fin 1 → Nat :=
  let c11_i32_1455 : BitVec 32 := 11#32
  let v1851 : BitVec 32 := Scalar.addi v4 c11_i32_1455
  let c32_i32_1456 : BitVec 32 := 32#32
  let v1852 : BitVec 32 := Scalar.remsi v1851 c32_i32_1456
  let v1853 : Index := Scalar.indexCast v1852
  ![v1853.toNat]
def k0_off278 (v1854 : BitVec 32) : Fin 2 → Nat :=
  let c1024_i32_1457 : BitVec 32 := 1024#32
  let v1855 : BitVec 32 := Scalar.muli v1854 c1024_i32_1457
  let c512_i32_1458 : BitVec 32 := 512#32
  let v1856 : BitVec 32 := Scalar.addi v1855 c512_i32_1458
  let c0_i32_1465 : BitVec 32 := 0#32
  ![v1856.toNat, 0]

def k0_dev95 (v13 : BitVec 32) : Nat :=
  let c0_i32_1464 : BitVec 32 := 0#32
  let c1_i32_1463 : BitVec 32 := 1#32
  let v1859 : BitVec 32 := Scalar.muli v13 c1_i32_1463
  let v1860 : BitVec 32 := Scalar.addi c0_i32_1464 v1859
  v1860.toNat
def k0_off279 (v4 : BitVec 32) : Fin 1 → Nat :=
  let c1_i32_1467 : BitVec 32 := 1#32
  let v1867 : BitVec 32 := Scalar.subi v4 c1_i32_1467
  let c11_i32_1468 : BitVec 32 := 11#32
  let v1868 : BitVec 32 := Scalar.subi v1867 c11_i32_1468
  let c32_i32_1469 : BitVec 32 := 32#32
  let v1869 : BitVec 32 := Scalar.addi v1868 c32_i32_1469
  let c32_i32_1470 : BitVec 32 := 32#32
  let v1870 : BitVec 32 := Scalar.remsi v1869 c32_i32_1470
  let v1871 : Index := Scalar.indexCast v1870
  ![v1871.toNat]
def k0_off280 (v1872 : BitVec 32) : Fin 2 → Nat :=
  let c1024_i32_1471 : BitVec 32 := 1024#32
  let v1873 : BitVec 32 := Scalar.muli v1872 c1024_i32_1471
  let c0_i32_1472 : BitVec 32 := 0#32
  let v1874 : BitVec 32 := Scalar.addi v1873 c0_i32_1472
  let c0_i32_1477 : BitVec 32 := 0#32
  ![v1874.toNat, 0]

def k0_chk142 (v1872 : BitVec 32) : Prop :=
  (∀ a, (k0_off280 v1872) a + S512x512.size a ≤ S32768x512.size a)
theorem k0_off280_inb : ∀ (v1872 : BitVec 32) (k0_hw142 : k0_chk142 v1872), ∀ a, (k0_off280 v1872) a + S512x512.size a ≤ S32768x512.size a := fun v1872 k0_hw142 => k0_hw142

def k0_off281 (v4 : BitVec 32) : Fin 1 → Nat :=
  let c1_i32_1479 : BitVec 32 := 1#32
  let v1881 : BitVec 32 := Scalar.subi v4 c1_i32_1479
  let c11_i32_1480 : BitVec 32 := 11#32
  let v1882 : BitVec 32 := Scalar.subi v1881 c11_i32_1480
  let c32_i32_1481 : BitVec 32 := 32#32
  let v1883 : BitVec 32 := Scalar.addi v1882 c32_i32_1481
  let c32_i32_1482 : BitVec 32 := 32#32
  let v1884 : BitVec 32 := Scalar.remsi v1883 c32_i32_1482
  let v2395 : Index := Scalar.indexCast v1884
  ![v2395.toNat]
def k0_cond45 (v4 : BitVec 32) (v17 : BitVec 32) : BitVec 1 :=
  let c1_i32_1479 : BitVec 32 := 1#32
  let v1881 : BitVec 32 := Scalar.subi v4 c1_i32_1479
  let c11_i32_1480 : BitVec 32 := 11#32
  let v1882 : BitVec 32 := Scalar.subi v1881 c11_i32_1480
  let c32_i32_1481 : BitVec 32 := 32#32
  let v1883 : BitVec 32 := Scalar.addi v1882 c32_i32_1481
  let c32_i32_1482 : BitVec 32 := 32#32
  let v1884 : BitVec 32 := Scalar.remsi v1883 c32_i32_1482
  let v1885 : BitVec 32 := Scalar.subi v1884 v17
  let c64_i32_1483 : BitVec 32 := 64#32
  let v1886 : BitVec 32 := Scalar.addi v1885 c64_i32_1483
  let c14_i32_1484 : BitVec 32 := 14#32
  let v1887 : BitVec 32 := Scalar.subi v1886 c14_i32_1484
  let c32_i32_1485 : BitVec 32 := 32#32
  let v1888 : BitVec 32 := Scalar.remsi v1887 c32_i32_1485
  let c5_i32_1486 : BitVec 32 := 5#32
  let v1889 : BitVec 1 := Scalar.cmpi .slt v1888 c5_i32_1486
  let v1890 : BitVec 32 := Scalar.extui v1889
  let c0_i32_1487 : BitVec 32 := 0#32
  let v1891 : BitVec 1 := Scalar.cmpi .ne v1890 c0_i32_1487
  v1891

def k0_off282 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk143 (v4 : BitVec 32) (v17 : BitVec 32) (v2396 : BitVec 32) : Prop :=
  (∀ (k0_h45 : k0_cond45 v4 v17 = 1#1), ∀ a, (k0_off282 v2396) a + S512x512.size a ≤ S32768x512.size a)
theorem k0_off282_inb : ∀ (v4 : BitVec 32) (v17 : BitVec 32) (v2396 : BitVec 32) (k0_hw143 : k0_chk143 v4 v17 v2396), ∀ (k0_h45 : k0_cond45 v4 v17 = 1#1), ∀ a, (k0_off282 v2396) a + S512x512.size a ≤ S32768x512.size a := fun v4 v17 v2396 k0_hw143 k0_h45 => k0_hw143 k0_h45

def k0_dev96 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off283 (v4 : BitVec 32) : Fin 1 → Nat :=
  let c12_i32_1488 : BitVec 32 := 12#32
  let v1892 : BitVec 32 := Scalar.subi v4 c12_i32_1488
  let c32_i32_1489 : BitVec 32 := 32#32
  let v1893 : BitVec 32 := Scalar.addi v1892 c32_i32_1489
  let c32_i32_1490 : BitVec 32 := 32#32
  let v1894 : BitVec 32 := Scalar.remsi v1893 c32_i32_1490
  let v1895 : Index := Scalar.indexCast v1894
  ![v1895.toNat]
def k0_off284 (v1896 : BitVec 32) : Fin 2 → Nat :=
  let c1024_i32_1491 : BitVec 32 := 1024#32
  let v1897 : BitVec 32 := Scalar.muli v1896 c1024_i32_1491
  let c0_i32_1492 : BitVec 32 := 0#32
  let v1898 : BitVec 32 := Scalar.addi v1897 c0_i32_1492
  let c0_i32_1498 : BitVec 32 := 0#32
  ![v1898.toNat, 0]

def k0_dev97 (v8 : BitVec 32) : Nat :=
  let c0_i32_1497 : BitVec 32 := 0#32
  let c1_i32_1496 : BitVec 32 := 1#32
  let v1901 : BitVec 32 := Scalar.muli v8 c1_i32_1496
  let v1902 : BitVec 32 := Scalar.addi c0_i32_1497 v1901
  v1902.toNat
def k0_off285 (v4 : BitVec 32) : Fin 1 → Nat :=
  let c1_i32_1500 : BitVec 32 := 1#32
  let v1909 : BitVec 32 := Scalar.addi v4 c1_i32_1500
  let c11_i32_1501 : BitVec 32 := 11#32
  let v1910 : BitVec 32 := Scalar.addi v1909 c11_i32_1501
  let c32_i32_1502 : BitVec 32 := 32#32
  let v1911 : BitVec 32 := Scalar.remsi v1910 c32_i32_1502
  let v1912 : Index := Scalar.indexCast v1911
  ![v1912.toNat]
def k0_off286 (v1913 : BitVec 32) : Fin 2 → Nat :=
  let c1024_i32_1503 : BitVec 32 := 1024#32
  let v1914 : BitVec 32 := Scalar.muli v1913 c1024_i32_1503
  let c0_i32_1504 : BitVec 32 := 0#32
  let v1915 : BitVec 32 := Scalar.addi v1914 c0_i32_1504
  let c0_i32_1509 : BitVec 32 := 0#32
  ![v1915.toNat, 0]

def k0_chk145 (v1913 : BitVec 32) : Prop :=
  (∀ a, (k0_off286 v1913) a + S512x512.size a ≤ S32768x512.size a)
theorem k0_off286_inb : ∀ (v1913 : BitVec 32) (k0_hw145 : k0_chk145 v1913), ∀ a, (k0_off286 v1913) a + S512x512.size a ≤ S32768x512.size a := fun v1913 k0_hw145 => k0_hw145

def k0_off287 (v4 : BitVec 32) : Fin 1 → Nat :=
  let c1_i32_1511 : BitVec 32 := 1#32
  let v1922 : BitVec 32 := Scalar.addi v4 c1_i32_1511
  let c11_i32_1512 : BitVec 32 := 11#32
  let v1923 : BitVec 32 := Scalar.addi v1922 c11_i32_1512
  let c32_i32_1513 : BitVec 32 := 32#32
  let v1924 : BitVec 32 := Scalar.remsi v1923 c32_i32_1513
  let v2395 : Index := Scalar.indexCast v1924
  ![v2395.toNat]
def k0_cond46 (v4 : BitVec 32) (v17 : BitVec 32) : BitVec 1 :=
  let c1_i32_1511 : BitVec 32 := 1#32
  let v1922 : BitVec 32 := Scalar.addi v4 c1_i32_1511
  let c11_i32_1512 : BitVec 32 := 11#32
  let v1923 : BitVec 32 := Scalar.addi v1922 c11_i32_1512
  let c32_i32_1513 : BitVec 32 := 32#32
  let v1924 : BitVec 32 := Scalar.remsi v1923 c32_i32_1513
  let v1925 : BitVec 32 := Scalar.subi v1924 v17
  let c64_i32_1514 : BitVec 32 := 64#32
  let v1926 : BitVec 32 := Scalar.addi v1925 c64_i32_1514
  let c14_i32_1515 : BitVec 32 := 14#32
  let v1927 : BitVec 32 := Scalar.subi v1926 c14_i32_1515
  let c32_i32_1516 : BitVec 32 := 32#32
  let v1928 : BitVec 32 := Scalar.remsi v1927 c32_i32_1516
  let c5_i32_1517 : BitVec 32 := 5#32
  let v1929 : BitVec 1 := Scalar.cmpi .slt v1928 c5_i32_1517
  let v1930 : BitVec 32 := Scalar.extui v1929
  let c0_i32_1518 : BitVec 32 := 0#32
  let v1931 : BitVec 1 := Scalar.cmpi .ne v1930 c0_i32_1518
  v1931

def k0_off288 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk146 (v4 : BitVec 32) (v17 : BitVec 32) (v2396 : BitVec 32) : Prop :=
  (∀ (k0_h46 : k0_cond46 v4 v17 = 1#1), ∀ a, (k0_off288 v2396) a + S512x512.size a ≤ S32768x512.size a)
theorem k0_off288_inb : ∀ (v4 : BitVec 32) (v17 : BitVec 32) (v2396 : BitVec 32) (k0_hw146 : k0_chk146 v4 v17 v2396), ∀ (k0_h46 : k0_cond46 v4 v17 = 1#1), ∀ a, (k0_off288 v2396) a + S512x512.size a ≤ S32768x512.size a := fun v4 v17 v2396 k0_hw146 k0_h46 => k0_hw146 k0_h46

def k0_dev98 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off289 (v4 : BitVec 32) : Fin 1 → Nat :=
  let c12_i32_1519 : BitVec 32 := 12#32
  let v1932 : BitVec 32 := Scalar.addi v4 c12_i32_1519
  let c32_i32_1520 : BitVec 32 := 32#32
  let v1933 : BitVec 32 := Scalar.remsi v1932 c32_i32_1520
  let v1934 : Index := Scalar.indexCast v1933
  ![v1934.toNat]
def k0_off290 (v1935 : BitVec 32) : Fin 2 → Nat :=
  let c1024_i32_1521 : BitVec 32 := 1024#32
  let v1936 : BitVec 32 := Scalar.muli v1935 c1024_i32_1521
  let c0_i32_1522 : BitVec 32 := 0#32
  let v1937 : BitVec 32 := Scalar.addi v1936 c0_i32_1522
  let c0_i32_1529 : BitVec 32 := 0#32
  ![v1937.toNat, 0]

def k0_dev99 (v13 : BitVec 32) : Nat :=
  let c0_i32_1528 : BitVec 32 := 0#32
  let c1_i32_1527 : BitVec 32 := 1#32
  let v1940 : BitVec 32 := Scalar.muli v13 c1_i32_1527
  let v1941 : BitVec 32 := Scalar.addi c0_i32_1528 v1940
  v1941.toNat
def k0_off291 (v4 : BitVec 32) : Fin 1 → Nat :=
  let c1_i32_1531 : BitVec 32 := 1#32
  let v1948 : BitVec 32 := Scalar.subi v4 c1_i32_1531
  let c11_i32_1532 : BitVec 32 := 11#32
  let v1949 : BitVec 32 := Scalar.subi v1948 c11_i32_1532
  let c32_i32_1533 : BitVec 32 := 32#32
  let v1950 : BitVec 32 := Scalar.addi v1949 c32_i32_1533
  let c32_i32_1534 : BitVec 32 := 32#32
  let v1951 : BitVec 32 := Scalar.remsi v1950 c32_i32_1534
  let v1952 : Index := Scalar.indexCast v1951
  ![v1952.toNat]
def k0_off292 (v1953 : BitVec 32) : Fin 2 → Nat :=
  let c1024_i32_1535 : BitVec 32 := 1024#32
  let v1954 : BitVec 32 := Scalar.muli v1953 c1024_i32_1535
  let c512_i32_1536 : BitVec 32 := 512#32
  let v1955 : BitVec 32 := Scalar.addi v1954 c512_i32_1536
  let c0_i32_1541 : BitVec 32 := 0#32
  ![v1955.toNat, 0]

def k0_chk148 (v1953 : BitVec 32) : Prop :=
  (∀ a, (k0_off292 v1953) a + S512x512.size a ≤ S32768x512.size a)
theorem k0_off292_inb : ∀ (v1953 : BitVec 32) (k0_hw148 : k0_chk148 v1953), ∀ a, (k0_off292 v1953) a + S512x512.size a ≤ S32768x512.size a := fun v1953 k0_hw148 => k0_hw148

def k0_off293 (v4 : BitVec 32) : Fin 1 → Nat :=
  let c1_i32_1543 : BitVec 32 := 1#32
  let v1962 : BitVec 32 := Scalar.subi v4 c1_i32_1543
  let c11_i32_1544 : BitVec 32 := 11#32
  let v1963 : BitVec 32 := Scalar.subi v1962 c11_i32_1544
  let c32_i32_1545 : BitVec 32 := 32#32
  let v1964 : BitVec 32 := Scalar.addi v1963 c32_i32_1545
  let c32_i32_1546 : BitVec 32 := 32#32
  let v1965 : BitVec 32 := Scalar.remsi v1964 c32_i32_1546
  let v2395 : Index := Scalar.indexCast v1965
  ![v2395.toNat]
def k0_cond47 (v4 : BitVec 32) (v17 : BitVec 32) : BitVec 1 :=
  let c1_i32_1543 : BitVec 32 := 1#32
  let v1962 : BitVec 32 := Scalar.subi v4 c1_i32_1543
  let c11_i32_1544 : BitVec 32 := 11#32
  let v1963 : BitVec 32 := Scalar.subi v1962 c11_i32_1544
  let c32_i32_1545 : BitVec 32 := 32#32
  let v1964 : BitVec 32 := Scalar.addi v1963 c32_i32_1545
  let c32_i32_1546 : BitVec 32 := 32#32
  let v1965 : BitVec 32 := Scalar.remsi v1964 c32_i32_1546
  let v1966 : BitVec 32 := Scalar.subi v1965 v17
  let c64_i32_1547 : BitVec 32 := 64#32
  let v1967 : BitVec 32 := Scalar.addi v1966 c64_i32_1547
  let c14_i32_1548 : BitVec 32 := 14#32
  let v1968 : BitVec 32 := Scalar.subi v1967 c14_i32_1548
  let c32_i32_1549 : BitVec 32 := 32#32
  let v1969 : BitVec 32 := Scalar.remsi v1968 c32_i32_1549
  let c5_i32_1550 : BitVec 32 := 5#32
  let v1970 : BitVec 1 := Scalar.cmpi .slt v1969 c5_i32_1550
  let v1971 : BitVec 32 := Scalar.extui v1970
  let c0_i32_1551 : BitVec 32 := 0#32
  let v1972 : BitVec 1 := Scalar.cmpi .ne v1971 c0_i32_1551
  v1972

def k0_off294 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk149 (v4 : BitVec 32) (v17 : BitVec 32) (v2396 : BitVec 32) : Prop :=
  (∀ (k0_h47 : k0_cond47 v4 v17 = 1#1), ∀ a, (k0_off294 v2396) a + S512x512.size a ≤ S32768x512.size a)
theorem k0_off294_inb : ∀ (v4 : BitVec 32) (v17 : BitVec 32) (v2396 : BitVec 32) (k0_hw149 : k0_chk149 v4 v17 v2396), ∀ (k0_h47 : k0_cond47 v4 v17 = 1#1), ∀ a, (k0_off294 v2396) a + S512x512.size a ≤ S32768x512.size a := fun v4 v17 v2396 k0_hw149 k0_h47 => k0_hw149 k0_h47

def k0_dev100 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off295 (v4 : BitVec 32) : Fin 1 → Nat :=
  let c12_i32_1552 : BitVec 32 := 12#32
  let v1973 : BitVec 32 := Scalar.subi v4 c12_i32_1552
  let c32_i32_1553 : BitVec 32 := 32#32
  let v1974 : BitVec 32 := Scalar.addi v1973 c32_i32_1553
  let c32_i32_1554 : BitVec 32 := 32#32
  let v1975 : BitVec 32 := Scalar.remsi v1974 c32_i32_1554
  let v1976 : Index := Scalar.indexCast v1975
  ![v1976.toNat]
def k0_off296 (v1977 : BitVec 32) : Fin 2 → Nat :=
  let c1024_i32_1555 : BitVec 32 := 1024#32
  let v1978 : BitVec 32 := Scalar.muli v1977 c1024_i32_1555
  let c512_i32_1556 : BitVec 32 := 512#32
  let v1979 : BitVec 32 := Scalar.addi v1978 c512_i32_1556
  let c0_i32_1562 : BitVec 32 := 0#32
  ![v1979.toNat, 0]

def k0_dev101 (v8 : BitVec 32) : Nat :=
  let c0_i32_1561 : BitVec 32 := 0#32
  let c1_i32_1560 : BitVec 32 := 1#32
  let v1982 : BitVec 32 := Scalar.muli v8 c1_i32_1560
  let v1983 : BitVec 32 := Scalar.addi c0_i32_1561 v1982
  v1983.toNat

def k0_chk4 (v8 : BitVec 32) : Prop :=
  ((k0_dev2 v8) < nD) ∧
  ((k0_dev4 v8) < nD) ∧
  ((k0_dev6 v8) < nD) ∧
  ((k0_dev9 v8) < nD) ∧
  ((k0_dev13 v8) < nD) ∧
  ((k0_dev17 v8) < nD) ∧
  ((k0_dev21 v8) < nD) ∧
  ((k0_dev25 v8) < nD) ∧
  ((k0_dev29 v8) < nD) ∧
  ((k0_dev33 v8) < nD) ∧
  ((k0_dev37 v8) < nD) ∧
  ((k0_dev41 v8) < nD) ∧
  ((k0_dev45 v8) < nD) ∧
  ((k0_dev49 v8) < nD) ∧
  ((k0_dev53 v8) < nD) ∧
  ((k0_dev57 v8) < nD) ∧
  ((k0_dev61 v8) < nD) ∧
  ((k0_dev65 v8) < nD) ∧
  ((k0_dev69 v8) < nD) ∧
  ((k0_dev73 v8) < nD) ∧
  ((k0_dev77 v8) < nD) ∧
  ((k0_dev81 v8) < nD) ∧
  ((k0_dev85 v8) < nD) ∧
  ((k0_dev89 v8) < nD) ∧
  ((k0_dev93 v8) < nD) ∧
  ((k0_dev97 v8) < nD) ∧
  ((k0_dev101 v8) < nD)
theorem k0_dev2_lt : ∀ (v8 : BitVec 32) (k0_hw4 : k0_chk4 v8), (k0_dev2 v8) < nD := fun v8 k0_hw4 => k0_hw4.1
theorem k0_dev4_lt : ∀ (v8 : BitVec 32) (k0_hw4 : k0_chk4 v8), (k0_dev4 v8) < nD := fun v8 k0_hw4 => k0_hw4.2.1
theorem k0_dev6_lt : ∀ (v8 : BitVec 32) (k0_hw4 : k0_chk4 v8), (k0_dev6 v8) < nD := fun v8 k0_hw4 => k0_hw4.2.2.1
theorem k0_dev9_lt : ∀ (v8 : BitVec 32) (k0_hw4 : k0_chk4 v8), (k0_dev9 v8) < nD := fun v8 k0_hw4 => k0_hw4.2.2.2.1
theorem k0_dev13_lt : ∀ (v8 : BitVec 32) (k0_hw4 : k0_chk4 v8), (k0_dev13 v8) < nD := fun v8 k0_hw4 => k0_hw4.2.2.2.2.1
theorem k0_dev17_lt : ∀ (v8 : BitVec 32) (k0_hw4 : k0_chk4 v8), (k0_dev17 v8) < nD := fun v8 k0_hw4 => k0_hw4.2.2.2.2.2.1
theorem k0_dev21_lt : ∀ (v8 : BitVec 32) (k0_hw4 : k0_chk4 v8), (k0_dev21 v8) < nD := fun v8 k0_hw4 => k0_hw4.2.2.2.2.2.2.1
theorem k0_dev25_lt : ∀ (v8 : BitVec 32) (k0_hw4 : k0_chk4 v8), (k0_dev25 v8) < nD := fun v8 k0_hw4 => k0_hw4.2.2.2.2.2.2.2.1
theorem k0_dev29_lt : ∀ (v8 : BitVec 32) (k0_hw4 : k0_chk4 v8), (k0_dev29 v8) < nD := fun v8 k0_hw4 => k0_hw4.2.2.2.2.2.2.2.2.1
theorem k0_dev33_lt : ∀ (v8 : BitVec 32) (k0_hw4 : k0_chk4 v8), (k0_dev33 v8) < nD := fun v8 k0_hw4 => k0_hw4.2.2.2.2.2.2.2.2.2.1
theorem k0_dev37_lt : ∀ (v8 : BitVec 32) (k0_hw4 : k0_chk4 v8), (k0_dev37 v8) < nD := fun v8 k0_hw4 => k0_hw4.2.2.2.2.2.2.2.2.2.2.1
theorem k0_dev41_lt : ∀ (v8 : BitVec 32) (k0_hw4 : k0_chk4 v8), (k0_dev41 v8) < nD := fun v8 k0_hw4 => k0_hw4.2.2.2.2.2.2.2.2.2.2.2.1
theorem k0_dev45_lt : ∀ (v8 : BitVec 32) (k0_hw4 : k0_chk4 v8), (k0_dev45 v8) < nD := fun v8 k0_hw4 => k0_hw4.2.2.2.2.2.2.2.2.2.2.2.2.1
theorem k0_dev49_lt : ∀ (v8 : BitVec 32) (k0_hw4 : k0_chk4 v8), (k0_dev49 v8) < nD := fun v8 k0_hw4 => k0_hw4.2.2.2.2.2.2.2.2.2.2.2.2.2.1
theorem k0_dev53_lt : ∀ (v8 : BitVec 32) (k0_hw4 : k0_chk4 v8), (k0_dev53 v8) < nD := fun v8 k0_hw4 => k0_hw4.2.2.2.2.2.2.2.2.2.2.2.2.2.2.1
theorem k0_dev57_lt : ∀ (v8 : BitVec 32) (k0_hw4 : k0_chk4 v8), (k0_dev57 v8) < nD := fun v8 k0_hw4 => k0_hw4.2.2.2.2.2.2.2.2.2.2.2.2.2.2.2.1
theorem k0_dev61_lt : ∀ (v8 : BitVec 32) (k0_hw4 : k0_chk4 v8), (k0_dev61 v8) < nD := fun v8 k0_hw4 => k0_hw4.2.2.2.2.2.2.2.2.2.2.2.2.2.2.2.2.1
theorem k0_dev65_lt : ∀ (v8 : BitVec 32) (k0_hw4 : k0_chk4 v8), (k0_dev65 v8) < nD := fun v8 k0_hw4 => k0_hw4.2.2.2.2.2.2.2.2.2.2.2.2.2.2.2.2.2.1
theorem k0_dev69_lt : ∀ (v8 : BitVec 32) (k0_hw4 : k0_chk4 v8), (k0_dev69 v8) < nD := fun v8 k0_hw4 => k0_hw4.2.2.2.2.2.2.2.2.2.2.2.2.2.2.2.2.2.2.1
theorem k0_dev73_lt : ∀ (v8 : BitVec 32) (k0_hw4 : k0_chk4 v8), (k0_dev73 v8) < nD := fun v8 k0_hw4 => k0_hw4.2.2.2.2.2.2.2.2.2.2.2.2.2.2.2.2.2.2.2.1
theorem k0_dev77_lt : ∀ (v8 : BitVec 32) (k0_hw4 : k0_chk4 v8), (k0_dev77 v8) < nD := fun v8 k0_hw4 => k0_hw4.2.2.2.2.2.2.2.2.2.2.2.2.2.2.2.2.2.2.2.2.1
theorem k0_dev81_lt : ∀ (v8 : BitVec 32) (k0_hw4 : k0_chk4 v8), (k0_dev81 v8) < nD := fun v8 k0_hw4 => k0_hw4.2.2.2.2.2.2.2.2.2.2.2.2.2.2.2.2.2.2.2.2.2.1
theorem k0_dev85_lt : ∀ (v8 : BitVec 32) (k0_hw4 : k0_chk4 v8), (k0_dev85 v8) < nD := fun v8 k0_hw4 => k0_hw4.2.2.2.2.2.2.2.2.2.2.2.2.2.2.2.2.2.2.2.2.2.2.1
theorem k0_dev89_lt : ∀ (v8 : BitVec 32) (k0_hw4 : k0_chk4 v8), (k0_dev89 v8) < nD := fun v8 k0_hw4 => k0_hw4.2.2.2.2.2.2.2.2.2.2.2.2.2.2.2.2.2.2.2.2.2.2.2.1
theorem k0_dev93_lt : ∀ (v8 : BitVec 32) (k0_hw4 : k0_chk4 v8), (k0_dev93 v8) < nD := fun v8 k0_hw4 => k0_hw4.2.2.2.2.2.2.2.2.2.2.2.2.2.2.2.2.2.2.2.2.2.2.2.2.1
theorem k0_dev97_lt : ∀ (v8 : BitVec 32) (k0_hw4 : k0_chk4 v8), (k0_dev97 v8) < nD := fun v8 k0_hw4 => k0_hw4.2.2.2.2.2.2.2.2.2.2.2.2.2.2.2.2.2.2.2.2.2.2.2.2.2.1
theorem k0_dev101_lt : ∀ (v8 : BitVec 32) (k0_hw4 : k0_chk4 v8), (k0_dev101 v8) < nD := fun v8 k0_hw4 => k0_hw4.2.2.2.2.2.2.2.2.2.2.2.2.2.2.2.2.2.2.2.2.2.2.2.2.2.2

def k0_off297 (v4 : BitVec 32) : Fin 1 → Nat :=
  let c1_i32_1564 : BitVec 32 := 1#32
  let v1990 : BitVec 32 := Scalar.addi v4 c1_i32_1564
  let c11_i32_1565 : BitVec 32 := 11#32
  let v1991 : BitVec 32 := Scalar.addi v1990 c11_i32_1565
  let c32_i32_1566 : BitVec 32 := 32#32
  let v1992 : BitVec 32 := Scalar.remsi v1991 c32_i32_1566
  let v1993 : Index := Scalar.indexCast v1992
  ![v1993.toNat]
def k0_off298 (v1994 : BitVec 32) : Fin 2 → Nat :=
  let c1024_i32_1567 : BitVec 32 := 1024#32
  let v1995 : BitVec 32 := Scalar.muli v1994 c1024_i32_1567
  let c512_i32_1568 : BitVec 32 := 512#32
  let v1996 : BitVec 32 := Scalar.addi v1995 c512_i32_1568
  let c0_i32_1573 : BitVec 32 := 0#32
  ![v1996.toNat, 0]

def k0_chk151 (v1994 : BitVec 32) : Prop :=
  (∀ a, (k0_off298 v1994) a + S512x512.size a ≤ S32768x512.size a)
theorem k0_off298_inb : ∀ (v1994 : BitVec 32) (k0_hw151 : k0_chk151 v1994), ∀ a, (k0_off298 v1994) a + S512x512.size a ≤ S32768x512.size a := fun v1994 k0_hw151 => k0_hw151

def k0_off299 (v4 : BitVec 32) : Fin 1 → Nat :=
  let c1_i32_1575 : BitVec 32 := 1#32
  let v2003 : BitVec 32 := Scalar.addi v4 c1_i32_1575
  let c11_i32_1576 : BitVec 32 := 11#32
  let v2004 : BitVec 32 := Scalar.addi v2003 c11_i32_1576
  let c32_i32_1577 : BitVec 32 := 32#32
  let v2005 : BitVec 32 := Scalar.remsi v2004 c32_i32_1577
  let v2395 : Index := Scalar.indexCast v2005
  ![v2395.toNat]
def k0_cond48 (v4 : BitVec 32) (v17 : BitVec 32) : BitVec 1 :=
  let c1_i32_1575 : BitVec 32 := 1#32
  let v2003 : BitVec 32 := Scalar.addi v4 c1_i32_1575
  let c11_i32_1576 : BitVec 32 := 11#32
  let v2004 : BitVec 32 := Scalar.addi v2003 c11_i32_1576
  let c32_i32_1577 : BitVec 32 := 32#32
  let v2005 : BitVec 32 := Scalar.remsi v2004 c32_i32_1577
  let v2006 : BitVec 32 := Scalar.subi v2005 v17
  let c64_i32_1578 : BitVec 32 := 64#32
  let v2007 : BitVec 32 := Scalar.addi v2006 c64_i32_1578
  let c14_i32_1579 : BitVec 32 := 14#32
  let v2008 : BitVec 32 := Scalar.subi v2007 c14_i32_1579
  let c32_i32_1580 : BitVec 32 := 32#32
  let v2009 : BitVec 32 := Scalar.remsi v2008 c32_i32_1580
  let c5_i32_1581 : BitVec 32 := 5#32
  let v2010 : BitVec 1 := Scalar.cmpi .slt v2009 c5_i32_1581
  let v2011 : BitVec 32 := Scalar.extui v2010
  let c0_i32_1582 : BitVec 32 := 0#32
  let v2012 : BitVec 1 := Scalar.cmpi .ne v2011 c0_i32_1582
  v2012

def k0_off300 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk152 (v4 : BitVec 32) (v17 : BitVec 32) (v2396 : BitVec 32) : Prop :=
  (∀ (k0_h48 : k0_cond48 v4 v17 = 1#1), ∀ a, (k0_off300 v2396) a + S512x512.size a ≤ S32768x512.size a)
theorem k0_off300_inb : ∀ (v4 : BitVec 32) (v17 : BitVec 32) (v2396 : BitVec 32) (k0_hw152 : k0_chk152 v4 v17 v2396), ∀ (k0_h48 : k0_cond48 v4 v17 = 1#1), ∀ a, (k0_off300 v2396) a + S512x512.size a ≤ S32768x512.size a := fun v4 v17 v2396 k0_hw152 k0_h48 => k0_hw152 k0_h48

def k0_dev102 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off301 (v4 : BitVec 32) : Fin 1 → Nat :=
  let c12_i32_1583 : BitVec 32 := 12#32
  let v2013 : BitVec 32 := Scalar.addi v4 c12_i32_1583
  let c32_i32_1584 : BitVec 32 := 32#32
  let v2014 : BitVec 32 := Scalar.remsi v2013 c32_i32_1584
  let v2015 : Index := Scalar.indexCast v2014
  ![v2015.toNat]
def k0_off302 (v2016 : BitVec 32) : Fin 2 → Nat :=
  let c1024_i32_1585 : BitVec 32 := 1024#32
  let v2017 : BitVec 32 := Scalar.muli v2016 c1024_i32_1585
  let c512_i32_1586 : BitVec 32 := 512#32
  let v2018 : BitVec 32 := Scalar.addi v2017 c512_i32_1586
  let c0_i32_1593 : BitVec 32 := 0#32
  ![v2018.toNat, 0]

def k0_dev103 (v13 : BitVec 32) : Nat :=
  let c0_i32_1592 : BitVec 32 := 0#32
  let c1_i32_1591 : BitVec 32 := 1#32
  let v2021 : BitVec 32 := Scalar.muli v13 c1_i32_1591
  let v2022 : BitVec 32 := Scalar.addi c0_i32_1592 v2021
  v2022.toNat

def k0_chk3 (v13 : BitVec 32) : Prop :=
  ((k0_dev1 v13) < nD) ∧
  ((k0_dev5 v13) < nD) ∧
  ((k0_dev7 v13) < nD) ∧
  ((k0_dev11 v13) < nD) ∧
  ((k0_dev15 v13) < nD) ∧
  ((k0_dev19 v13) < nD) ∧
  ((k0_dev23 v13) < nD) ∧
  ((k0_dev27 v13) < nD) ∧
  ((k0_dev31 v13) < nD) ∧
  ((k0_dev35 v13) < nD) ∧
  ((k0_dev39 v13) < nD) ∧
  ((k0_dev43 v13) < nD) ∧
  ((k0_dev47 v13) < nD) ∧
  ((k0_dev51 v13) < nD) ∧
  ((k0_dev55 v13) < nD) ∧
  ((k0_dev59 v13) < nD) ∧
  ((k0_dev63 v13) < nD) ∧
  ((k0_dev67 v13) < nD) ∧
  ((k0_dev71 v13) < nD) ∧
  ((k0_dev75 v13) < nD) ∧
  ((k0_dev79 v13) < nD) ∧
  ((k0_dev83 v13) < nD) ∧
  ((k0_dev87 v13) < nD) ∧
  ((k0_dev91 v13) < nD) ∧
  ((k0_dev95 v13) < nD) ∧
  ((k0_dev99 v13) < nD) ∧
  ((k0_dev103 v13) < nD)
theorem k0_dev1_lt : ∀ (v13 : BitVec 32) (k0_hw3 : k0_chk3 v13), (k0_dev1 v13) < nD := fun v13 k0_hw3 => k0_hw3.1
theorem k0_dev5_lt : ∀ (v13 : BitVec 32) (k0_hw3 : k0_chk3 v13), (k0_dev5 v13) < nD := fun v13 k0_hw3 => k0_hw3.2.1
theorem k0_dev7_lt : ∀ (v13 : BitVec 32) (k0_hw3 : k0_chk3 v13), (k0_dev7 v13) < nD := fun v13 k0_hw3 => k0_hw3.2.2.1
theorem k0_dev11_lt : ∀ (v13 : BitVec 32) (k0_hw3 : k0_chk3 v13), (k0_dev11 v13) < nD := fun v13 k0_hw3 => k0_hw3.2.2.2.1
theorem k0_dev15_lt : ∀ (v13 : BitVec 32) (k0_hw3 : k0_chk3 v13), (k0_dev15 v13) < nD := fun v13 k0_hw3 => k0_hw3.2.2.2.2.1
theorem k0_dev19_lt : ∀ (v13 : BitVec 32) (k0_hw3 : k0_chk3 v13), (k0_dev19 v13) < nD := fun v13 k0_hw3 => k0_hw3.2.2.2.2.2.1
theorem k0_dev23_lt : ∀ (v13 : BitVec 32) (k0_hw3 : k0_chk3 v13), (k0_dev23 v13) < nD := fun v13 k0_hw3 => k0_hw3.2.2.2.2.2.2.1
theorem k0_dev27_lt : ∀ (v13 : BitVec 32) (k0_hw3 : k0_chk3 v13), (k0_dev27 v13) < nD := fun v13 k0_hw3 => k0_hw3.2.2.2.2.2.2.2.1
theorem k0_dev31_lt : ∀ (v13 : BitVec 32) (k0_hw3 : k0_chk3 v13), (k0_dev31 v13) < nD := fun v13 k0_hw3 => k0_hw3.2.2.2.2.2.2.2.2.1
theorem k0_dev35_lt : ∀ (v13 : BitVec 32) (k0_hw3 : k0_chk3 v13), (k0_dev35 v13) < nD := fun v13 k0_hw3 => k0_hw3.2.2.2.2.2.2.2.2.2.1
theorem k0_dev39_lt : ∀ (v13 : BitVec 32) (k0_hw3 : k0_chk3 v13), (k0_dev39 v13) < nD := fun v13 k0_hw3 => k0_hw3.2.2.2.2.2.2.2.2.2.2.1
theorem k0_dev43_lt : ∀ (v13 : BitVec 32) (k0_hw3 : k0_chk3 v13), (k0_dev43 v13) < nD := fun v13 k0_hw3 => k0_hw3.2.2.2.2.2.2.2.2.2.2.2.1
theorem k0_dev47_lt : ∀ (v13 : BitVec 32) (k0_hw3 : k0_chk3 v13), (k0_dev47 v13) < nD := fun v13 k0_hw3 => k0_hw3.2.2.2.2.2.2.2.2.2.2.2.2.1
theorem k0_dev51_lt : ∀ (v13 : BitVec 32) (k0_hw3 : k0_chk3 v13), (k0_dev51 v13) < nD := fun v13 k0_hw3 => k0_hw3.2.2.2.2.2.2.2.2.2.2.2.2.2.1
theorem k0_dev55_lt : ∀ (v13 : BitVec 32) (k0_hw3 : k0_chk3 v13), (k0_dev55 v13) < nD := fun v13 k0_hw3 => k0_hw3.2.2.2.2.2.2.2.2.2.2.2.2.2.2.1
theorem k0_dev59_lt : ∀ (v13 : BitVec 32) (k0_hw3 : k0_chk3 v13), (k0_dev59 v13) < nD := fun v13 k0_hw3 => k0_hw3.2.2.2.2.2.2.2.2.2.2.2.2.2.2.2.1
theorem k0_dev63_lt : ∀ (v13 : BitVec 32) (k0_hw3 : k0_chk3 v13), (k0_dev63 v13) < nD := fun v13 k0_hw3 => k0_hw3.2.2.2.2.2.2.2.2.2.2.2.2.2.2.2.2.1
theorem k0_dev67_lt : ∀ (v13 : BitVec 32) (k0_hw3 : k0_chk3 v13), (k0_dev67 v13) < nD := fun v13 k0_hw3 => k0_hw3.2.2.2.2.2.2.2.2.2.2.2.2.2.2.2.2.2.1
theorem k0_dev71_lt : ∀ (v13 : BitVec 32) (k0_hw3 : k0_chk3 v13), (k0_dev71 v13) < nD := fun v13 k0_hw3 => k0_hw3.2.2.2.2.2.2.2.2.2.2.2.2.2.2.2.2.2.2.1
theorem k0_dev75_lt : ∀ (v13 : BitVec 32) (k0_hw3 : k0_chk3 v13), (k0_dev75 v13) < nD := fun v13 k0_hw3 => k0_hw3.2.2.2.2.2.2.2.2.2.2.2.2.2.2.2.2.2.2.2.1
theorem k0_dev79_lt : ∀ (v13 : BitVec 32) (k0_hw3 : k0_chk3 v13), (k0_dev79 v13) < nD := fun v13 k0_hw3 => k0_hw3.2.2.2.2.2.2.2.2.2.2.2.2.2.2.2.2.2.2.2.2.1
theorem k0_dev83_lt : ∀ (v13 : BitVec 32) (k0_hw3 : k0_chk3 v13), (k0_dev83 v13) < nD := fun v13 k0_hw3 => k0_hw3.2.2.2.2.2.2.2.2.2.2.2.2.2.2.2.2.2.2.2.2.2.1
theorem k0_dev87_lt : ∀ (v13 : BitVec 32) (k0_hw3 : k0_chk3 v13), (k0_dev87 v13) < nD := fun v13 k0_hw3 => k0_hw3.2.2.2.2.2.2.2.2.2.2.2.2.2.2.2.2.2.2.2.2.2.2.1
theorem k0_dev91_lt : ∀ (v13 : BitVec 32) (k0_hw3 : k0_chk3 v13), (k0_dev91 v13) < nD := fun v13 k0_hw3 => k0_hw3.2.2.2.2.2.2.2.2.2.2.2.2.2.2.2.2.2.2.2.2.2.2.2.1
theorem k0_dev95_lt : ∀ (v13 : BitVec 32) (k0_hw3 : k0_chk3 v13), (k0_dev95 v13) < nD := fun v13 k0_hw3 => k0_hw3.2.2.2.2.2.2.2.2.2.2.2.2.2.2.2.2.2.2.2.2.2.2.2.2.1
theorem k0_dev99_lt : ∀ (v13 : BitVec 32) (k0_hw3 : k0_chk3 v13), (k0_dev99 v13) < nD := fun v13 k0_hw3 => k0_hw3.2.2.2.2.2.2.2.2.2.2.2.2.2.2.2.2.2.2.2.2.2.2.2.2.2.1
theorem k0_dev103_lt : ∀ (v13 : BitVec 32) (k0_hw3 : k0_chk3 v13), (k0_dev103 v13) < nD := fun v13 k0_hw3 => k0_hw3.2.2.2.2.2.2.2.2.2.2.2.2.2.2.2.2.2.2.2.2.2.2.2.2.2.2

def k0_off303 (v4 : BitVec 32) : Fin 1 → Nat :=
  let c1_i32_1595 : BitVec 32 := 1#32
  let v2029 : BitVec 32 := Scalar.subi v4 c1_i32_1595
  let c12_i32_1596 : BitVec 32 := 12#32
  let v2030 : BitVec 32 := Scalar.subi v2029 c12_i32_1596
  let c32_i32_1597 : BitVec 32 := 32#32
  let v2031 : BitVec 32 := Scalar.addi v2030 c32_i32_1597
  let c32_i32_1598 : BitVec 32 := 32#32
  let v2032 : BitVec 32 := Scalar.remsi v2031 c32_i32_1598
  let v2033 : Index := Scalar.indexCast v2032
  ![v2033.toNat]
def k0_off304 (v2034 : BitVec 32) : Fin 2 → Nat :=
  let c1024_i32_1599 : BitVec 32 := 1024#32
  let v2035 : BitVec 32 := Scalar.muli v2034 c1024_i32_1599
  let c0_i32_1600 : BitVec 32 := 0#32
  let v2036 : BitVec 32 := Scalar.addi v2035 c0_i32_1600
  let c0_i32_1605 : BitVec 32 := 0#32
  ![v2036.toNat, 0]

def k0_chk154 (v2034 : BitVec 32) : Prop :=
  (∀ a, (k0_off304 v2034) a + S512x512.size a ≤ S32768x512.size a)
theorem k0_off304_inb : ∀ (v2034 : BitVec 32) (k0_hw154 : k0_chk154 v2034), ∀ a, (k0_off304 v2034) a + S512x512.size a ≤ S32768x512.size a := fun v2034 k0_hw154 => k0_hw154

def k0_off305 (v4 : BitVec 32) : Fin 1 → Nat :=
  let c1_i32_1607 : BitVec 32 := 1#32
  let v2043 : BitVec 32 := Scalar.subi v4 c1_i32_1607
  let c12_i32_1608 : BitVec 32 := 12#32
  let v2044 : BitVec 32 := Scalar.subi v2043 c12_i32_1608
  let c32_i32_1609 : BitVec 32 := 32#32
  let v2045 : BitVec 32 := Scalar.addi v2044 c32_i32_1609
  let c32_i32_1610 : BitVec 32 := 32#32
  let v2046 : BitVec 32 := Scalar.remsi v2045 c32_i32_1610
  let v2395 : Index := Scalar.indexCast v2046
  ![v2395.toNat]
def k0_cond49 (v4 : BitVec 32) (v17 : BitVec 32) : BitVec 1 :=
  let c1_i32_1607 : BitVec 32 := 1#32
  let v2043 : BitVec 32 := Scalar.subi v4 c1_i32_1607
  let c12_i32_1608 : BitVec 32 := 12#32
  let v2044 : BitVec 32 := Scalar.subi v2043 c12_i32_1608
  let c32_i32_1609 : BitVec 32 := 32#32
  let v2045 : BitVec 32 := Scalar.addi v2044 c32_i32_1609
  let c32_i32_1610 : BitVec 32 := 32#32
  let v2046 : BitVec 32 := Scalar.remsi v2045 c32_i32_1610
  let v2047 : BitVec 32 := Scalar.subi v2046 v17
  let c64_i32_1611 : BitVec 32 := 64#32
  let v2048 : BitVec 32 := Scalar.addi v2047 c64_i32_1611
  let c14_i32_1612 : BitVec 32 := 14#32
  let v2049 : BitVec 32 := Scalar.subi v2048 c14_i32_1612
  let c32_i32_1613 : BitVec 32 := 32#32
  let v2050 : BitVec 32 := Scalar.remsi v2049 c32_i32_1613
  let c5_i32_1614 : BitVec 32 := 5#32
  let v2051 : BitVec 1 := Scalar.cmpi .slt v2050 c5_i32_1614
  let v2052 : BitVec 32 := Scalar.extui v2051
  let c0_i32_1615 : BitVec 32 := 0#32
  let v2053 : BitVec 1 := Scalar.cmpi .ne v2052 c0_i32_1615
  v2053

def k0_off306 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk155 (v4 : BitVec 32) (v17 : BitVec 32) (v2396 : BitVec 32) : Prop :=
  (∀ (k0_h49 : k0_cond49 v4 v17 = 1#1), ∀ a, (k0_off306 v2396) a + S512x512.size a ≤ S32768x512.size a)
theorem k0_off306_inb : ∀ (v4 : BitVec 32) (v17 : BitVec 32) (v2396 : BitVec 32) (k0_hw155 : k0_chk155 v4 v17 v2396), ∀ (k0_h49 : k0_cond49 v4 v17 = 1#1), ∀ a, (k0_off306 v2396) a + S512x512.size a ≤ S32768x512.size a := fun v4 v17 v2396 k0_hw155 k0_h49 => k0_hw155 k0_h49

def k0_dev104 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off307 (v4 : BitVec 32) : Fin 1 → Nat :=
  let c1_i32_1616 : BitVec 32 := 1#32
  let v2054 : BitVec 32 := Scalar.addi v4 c1_i32_1616
  let c12_i32_1617 : BitVec 32 := 12#32
  let v2055 : BitVec 32 := Scalar.addi v2054 c12_i32_1617
  let c32_i32_1618 : BitVec 32 := 32#32
  let v2056 : BitVec 32 := Scalar.remsi v2055 c32_i32_1618
  let v2057 : Index := Scalar.indexCast v2056
  ![v2057.toNat]
def k0_off308 (v2058 : BitVec 32) : Fin 2 → Nat :=
  let c1024_i32_1619 : BitVec 32 := 1024#32
  let v2059 : BitVec 32 := Scalar.muli v2058 c1024_i32_1619
  let c0_i32_1620 : BitVec 32 := 0#32
  let v2060 : BitVec 32 := Scalar.addi v2059 c0_i32_1620
  let c0_i32_1625 : BitVec 32 := 0#32
  ![v2060.toNat, 0]

def k0_chk156 (v2058 : BitVec 32) : Prop :=
  (∀ a, (k0_off308 v2058) a + S512x512.size a ≤ S32768x512.size a)
theorem k0_off308_inb : ∀ (v2058 : BitVec 32) (k0_hw156 : k0_chk156 v2058), ∀ a, (k0_off308 v2058) a + S512x512.size a ≤ S32768x512.size a := fun v2058 k0_hw156 => k0_hw156

def k0_off309 (v4 : BitVec 32) : Fin 1 → Nat :=
  let c1_i32_1627 : BitVec 32 := 1#32
  let v2067 : BitVec 32 := Scalar.addi v4 c1_i32_1627
  let c12_i32_1628 : BitVec 32 := 12#32
  let v2068 : BitVec 32 := Scalar.addi v2067 c12_i32_1628
  let c32_i32_1629 : BitVec 32 := 32#32
  let v2069 : BitVec 32 := Scalar.remsi v2068 c32_i32_1629
  let v2395 : Index := Scalar.indexCast v2069
  ![v2395.toNat]
def k0_cond50 (v4 : BitVec 32) (v17 : BitVec 32) : BitVec 1 :=
  let c1_i32_1627 : BitVec 32 := 1#32
  let v2067 : BitVec 32 := Scalar.addi v4 c1_i32_1627
  let c12_i32_1628 : BitVec 32 := 12#32
  let v2068 : BitVec 32 := Scalar.addi v2067 c12_i32_1628
  let c32_i32_1629 : BitVec 32 := 32#32
  let v2069 : BitVec 32 := Scalar.remsi v2068 c32_i32_1629
  let v2070 : BitVec 32 := Scalar.subi v2069 v17
  let c64_i32_1630 : BitVec 32 := 64#32
  let v2071 : BitVec 32 := Scalar.addi v2070 c64_i32_1630
  let c14_i32_1631 : BitVec 32 := 14#32
  let v2072 : BitVec 32 := Scalar.subi v2071 c14_i32_1631
  let c32_i32_1632 : BitVec 32 := 32#32
  let v2073 : BitVec 32 := Scalar.remsi v2072 c32_i32_1632
  let c5_i32_1633 : BitVec 32 := 5#32
  let v2074 : BitVec 1 := Scalar.cmpi .slt v2073 c5_i32_1633
  let v2075 : BitVec 32 := Scalar.extui v2074
  let c0_i32_1634 : BitVec 32 := 0#32
  let v2076 : BitVec 1 := Scalar.cmpi .ne v2075 c0_i32_1634
  v2076

def k0_off310 (v2396 : BitVec 32) : Fin 2 → Nat :=
  let c1024_i32_2011 : BitVec 32 := 1024#32
  let v2397 : BitVec 32 := Scalar.muli v2396 c1024_i32_2011
  let c0_i32_2012 : BitVec 32 := 0#32
  let v2398 : BitVec 32 := Scalar.addi v2397 c0_i32_2012
  let c0_i32_2015 : BitVec 32 := 0#32
  ![v2398.toNat, 0]

def k0_chk157 (v4 : BitVec 32) (v17 : BitVec 32) (v2396 : BitVec 32) : Prop :=
  (∀ (k0_h50 : k0_cond50 v4 v17 = 1#1), ∀ a, (k0_off310 v2396) a + S512x512.size a ≤ S32768x512.size a)
theorem k0_off310_inb : ∀ (v4 : BitVec 32) (v17 : BitVec 32) (v2396 : BitVec 32) (k0_hw157 : k0_chk157 v4 v17 v2396), ∀ (k0_h50 : k0_cond50 v4 v17 = 1#1), ∀ a, (k0_off310 v2396) a + S512x512.size a ≤ S32768x512.size a := fun v4 v17 v2396 k0_hw157 k0_h50 => k0_hw157 k0_h50

def k0_dev105 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off311 (v4 : BitVec 32) : Fin 1 → Nat :=
  let c1_i32_1635 : BitVec 32 := 1#32
  let v2077 : BitVec 32 := Scalar.subi v4 c1_i32_1635
  let c12_i32_1636 : BitVec 32 := 12#32
  let v2078 : BitVec 32 := Scalar.subi v2077 c12_i32_1636
  let c32_i32_1637 : BitVec 32 := 32#32
  let v2079 : BitVec 32 := Scalar.addi v2078 c32_i32_1637
  let c32_i32_1638 : BitVec 32 := 32#32
  let v2080 : BitVec 32 := Scalar.remsi v2079 c32_i32_1638
  let v2081 : Index := Scalar.indexCast v2080
  ![v2081.toNat]
def k0_off312 (v2082 : BitVec 32) : Fin 2 → Nat :=
  let c1024_i32_1639 : BitVec 32 := 1024#32
  let v2083 : BitVec 32 := Scalar.muli v2082 c1024_i32_1639
  let c512_i32_1640 : BitVec 32 := 512#32
  let v2084 : BitVec 32 := Scalar.addi v2083 c512_i32_1640
  let c0_i32_1645 : BitVec 32 := 0#32
  ![v2084.toNat, 0]

def k0_chk158 (v2082 : BitVec 32) : Prop :=
  (∀ a, (k0_off312 v2082) a + S512x512.size a ≤ S32768x512.size a)
theorem k0_off312_inb : ∀ (v2082 : BitVec 32) (k0_hw158 : k0_chk158 v2082), ∀ a, (k0_off312 v2082) a + S512x512.size a ≤ S32768x512.size a := fun v2082 k0_hw158 => k0_hw158

def k0_off313 (v4 : BitVec 32) : Fin 1 → Nat :=
  let c1_i32_1647 : BitVec 32 := 1#32
  let v2091 : BitVec 32 := Scalar.subi v4 c1_i32_1647
  let c12_i32_1648 : BitVec 32 := 12#32
  let v2092 : BitVec 32 := Scalar.subi v2091 c12_i32_1648
  let c32_i32_1649 : BitVec 32 := 32#32
  let v2093 : BitVec 32 := Scalar.addi v2092 c32_i32_1649
  let c32_i32_1650 : BitVec 32 := 32#32
  let v2094 : BitVec 32 := Scalar.remsi v2093 c32_i32_1650
  let v2395 : Index := Scalar.indexCast v2094
  ![v2395.toNat]
def k0_cond51 (v4 : BitVec 32) (v17 : BitVec 32) : BitVec 1 :=
  let c1_i32_1647 : BitVec 32 := 1#32
  let v2091 : BitVec 32 := Scalar.subi v4 c1_i32_1647
  let c12_i32_1648 : BitVec 32 := 12#32
  let v2092 : BitVec 32 := Scalar.subi v2091 c12_i32_1648
  let c32_i32_1649 : BitVec 32 := 32#32
  let v2093 : BitVec 32 := Scalar.addi v2092 c32_i32_1649
  let c32_i32_1650 : BitVec 32 := 32#32
  let v2094 : BitVec 32 := Scalar.remsi v2093 c32_i32_1650
  let v2095 : BitVec 32 := Scalar.subi v2094 v17
  let c64_i32_1651 : BitVec 32 := 64#32
  let v2096 : BitVec 32 := Scalar.addi v2095 c64_i32_1651
  let c14_i32_1652 : BitVec 32 := 14#32
  let v2097 : BitVec 32 := Scalar.subi v2096 c14_i32_1652
  let c32_i32_1653 : BitVec 32 := 32#32
  let v2098 : BitVec 32 := Scalar.remsi v2097 c32_i32_1653
  let c5_i32_1654 : BitVec 32 := 5#32
  let v2099 : BitVec 1 := Scalar.cmpi .slt v2098 c5_i32_1654
  let v2100 : BitVec 32 := Scalar.extui v2099
  let c0_i32_1655 : BitVec 32 := 0#32
  let v2101 : BitVec 1 := Scalar.cmpi .ne v2100 c0_i32_1655
  v2101

def k0_off314 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk159 (v4 : BitVec 32) (v17 : BitVec 32) (v2396 : BitVec 32) : Prop :=
  (∀ (k0_h51 : k0_cond51 v4 v17 = 1#1), ∀ a, (k0_off314 v2396) a + S512x512.size a ≤ S32768x512.size a)
theorem k0_off314_inb : ∀ (v4 : BitVec 32) (v17 : BitVec 32) (v2396 : BitVec 32) (k0_hw159 : k0_chk159 v4 v17 v2396), ∀ (k0_h51 : k0_cond51 v4 v17 = 1#1), ∀ a, (k0_off314 v2396) a + S512x512.size a ≤ S32768x512.size a := fun v4 v17 v2396 k0_hw159 k0_h51 => k0_hw159 k0_h51

def k0_dev106 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat
def k0_off315 (v4 : BitVec 32) : Fin 1 → Nat :=
  let c1_i32_1656 : BitVec 32 := 1#32
  let v2102 : BitVec 32 := Scalar.addi v4 c1_i32_1656
  let c12_i32_1657 : BitVec 32 := 12#32
  let v2103 : BitVec 32 := Scalar.addi v2102 c12_i32_1657
  let c32_i32_1658 : BitVec 32 := 32#32
  let v2104 : BitVec 32 := Scalar.remsi v2103 c32_i32_1658
  let v2105 : Index := Scalar.indexCast v2104
  ![v2105.toNat]

def k0_chk1_0 (v4 : BitVec 32) : Prop :=
  (∀ a, (k0_off2 v4) a + S1.size a ≤ S32.size a) ∧
  (∀ a, (k0_off3 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off13 v4) a + S1.size a ≤ S32.size a) ∧
  (∀ a, (k0_off15 v4) a + S1.size a ≤ S32.size a) ∧
  (∀ a, (k0_off19 v4) a + S1.size a ≤ S32.size a) ∧
  (∀ a, (k0_off21 v4) a + S1.size a ≤ S32.size a) ∧
  (∀ a, (k0_off25 v4) a + S1.size a ≤ S32.size a) ∧
  (∀ a, (k0_off27 v4) a + S1.size a ≤ S32.size a) ∧
  (∀ a, (k0_off31 v4) a + S1.size a ≤ S32.size a) ∧
  (∀ a, (k0_off33 v4) a + S1.size a ≤ S32.size a) ∧
  (∀ a, (k0_off37 v4) a + S1.size a ≤ S32.size a) ∧
  (∀ a, (k0_off39 v4) a + S1.size a ≤ S32.size a) ∧
  (∀ a, (k0_off43 v4) a + S1.size a ≤ S32.size a) ∧
  (∀ a, (k0_off45 v4) a + S1.size a ≤ S32.size a) ∧
  (∀ a, (k0_off49 v4) a + S1.size a ≤ S32.size a) ∧
  (∀ a, (k0_off51 v4) a + S1.size a ≤ S32.size a) ∧
  (∀ a, (k0_off55 v4) a + S1.size a ≤ S32.size a) ∧
  (∀ a, (k0_off57 v4) a + S1.size a ≤ S32.size a) ∧
  (∀ a, (k0_off61 v4) a + S1.size a ≤ S32.size a) ∧
  (∀ a, (k0_off63 v4) a + S1.size a ≤ S32.size a) ∧
  (∀ a, (k0_off67 v4) a + S1.size a ≤ S32.size a) ∧
  (∀ a, (k0_off69 v4) a + S1.size a ≤ S32.size a) ∧
  (∀ a, (k0_off73 v4) a + S1.size a ≤ S32.size a) ∧
  (∀ a, (k0_off75 v4) a + S1.size a ≤ S32.size a) ∧
  (∀ a, (k0_off79 v4) a + S1.size a ≤ S32.size a) ∧
  (∀ a, (k0_off81 v4) a + S1.size a ≤ S32.size a) ∧
  (∀ a, (k0_off85 v4) a + S1.size a ≤ S32.size a) ∧
  (∀ a, (k0_off87 v4) a + S1.size a ≤ S32.size a) ∧
  (∀ a, (k0_off91 v4) a + S1.size a ≤ S32.size a)
def k0_chk1_1 (v4 : BitVec 32) : Prop :=
  (∀ a, (k0_off93 v4) a + S1.size a ≤ S32.size a) ∧
  (∀ a, (k0_off97 v4) a + S1.size a ≤ S32.size a) ∧
  (∀ a, (k0_off99 v4) a + S1.size a ≤ S32.size a) ∧
  (∀ a, (k0_off103 v4) a + S1.size a ≤ S32.size a) ∧
  (∀ a, (k0_off105 v4) a + S1.size a ≤ S32.size a) ∧
  (∀ a, (k0_off109 v4) a + S1.size a ≤ S32.size a) ∧
  (∀ a, (k0_off111 v4) a + S1.size a ≤ S32.size a) ∧
  (∀ a, (k0_off115 v4) a + S1.size a ≤ S32.size a) ∧
  (∀ a, (k0_off117 v4) a + S1.size a ≤ S32.size a) ∧
  (∀ a, (k0_off121 v4) a + S1.size a ≤ S32.size a) ∧
  (∀ a, (k0_off123 v4) a + S1.size a ≤ S32.size a) ∧
  (∀ a, (k0_off127 v4) a + S1.size a ≤ S32.size a) ∧
  (∀ a, (k0_off129 v4) a + S1.size a ≤ S32.size a) ∧
  (∀ a, (k0_off133 v4) a + S1.size a ≤ S32.size a) ∧
  (∀ a, (k0_off135 v4) a + S1.size a ≤ S32.size a) ∧
  (∀ a, (k0_off139 v4) a + S1.size a ≤ S32.size a) ∧
  (∀ a, (k0_off141 v4) a + S1.size a ≤ S32.size a) ∧
  (∀ a, (k0_off145 v4) a + S1.size a ≤ S32.size a) ∧
  (∀ a, (k0_off147 v4) a + S1.size a ≤ S32.size a) ∧
  (∀ a, (k0_off151 v4) a + S1.size a ≤ S32.size a) ∧
  (∀ a, (k0_off153 v4) a + S1.size a ≤ S32.size a) ∧
  (∀ a, (k0_off157 v4) a + S1.size a ≤ S32.size a) ∧
  (∀ a, (k0_off159 v4) a + S1.size a ≤ S32.size a) ∧
  (∀ a, (k0_off163 v4) a + S1.size a ≤ S32.size a) ∧
  (∀ a, (k0_off165 v4) a + S1.size a ≤ S32.size a) ∧
  (∀ a, (k0_off169 v4) a + S1.size a ≤ S32.size a) ∧
  (∀ a, (k0_off171 v4) a + S1.size a ≤ S32.size a) ∧
  (∀ a, (k0_off175 v4) a + S1.size a ≤ S32.size a) ∧
  (∀ a, (k0_off177 v4) a + S1.size a ≤ S32.size a) ∧
  (∀ a, (k0_off181 v4) a + S1.size a ≤ S32.size a) ∧
  (∀ a, (k0_off183 v4) a + S1.size a ≤ S32.size a) ∧
  (∀ a, (k0_off187 v4) a + S1.size a ≤ S32.size a)
def k0_chk1_2 (v4 : BitVec 32) : Prop :=
  (∀ a, (k0_off189 v4) a + S1.size a ≤ S32.size a) ∧
  (∀ a, (k0_off193 v4) a + S1.size a ≤ S32.size a) ∧
  (∀ a, (k0_off195 v4) a + S1.size a ≤ S32.size a) ∧
  (∀ a, (k0_off199 v4) a + S1.size a ≤ S32.size a) ∧
  (∀ a, (k0_off201 v4) a + S1.size a ≤ S32.size a) ∧
  (∀ a, (k0_off205 v4) a + S1.size a ≤ S32.size a) ∧
  (∀ a, (k0_off207 v4) a + S1.size a ≤ S32.size a) ∧
  (∀ a, (k0_off211 v4) a + S1.size a ≤ S32.size a) ∧
  (∀ a, (k0_off213 v4) a + S1.size a ≤ S32.size a) ∧
  (∀ a, (k0_off217 v4) a + S1.size a ≤ S32.size a) ∧
  (∀ a, (k0_off219 v4) a + S1.size a ≤ S32.size a) ∧
  (∀ a, (k0_off223 v4) a + S1.size a ≤ S32.size a) ∧
  (∀ a, (k0_off225 v4) a + S1.size a ≤ S32.size a) ∧
  (∀ a, (k0_off229 v4) a + S1.size a ≤ S32.size a) ∧
  (∀ a, (k0_off231 v4) a + S1.size a ≤ S32.size a) ∧
  (∀ a, (k0_off235 v4) a + S1.size a ≤ S32.size a) ∧
  (∀ a, (k0_off237 v4) a + S1.size a ≤ S32.size a) ∧
  (∀ a, (k0_off241 v4) a + S1.size a ≤ S32.size a) ∧
  (∀ a, (k0_off243 v4) a + S1.size a ≤ S32.size a) ∧
  (∀ a, (k0_off247 v4) a + S1.size a ≤ S32.size a) ∧
  (∀ a, (k0_off249 v4) a + S1.size a ≤ S32.size a) ∧
  (∀ a, (k0_off253 v4) a + S1.size a ≤ S32.size a) ∧
  (∀ a, (k0_off255 v4) a + S1.size a ≤ S32.size a) ∧
  (∀ a, (k0_off259 v4) a + S1.size a ≤ S32.size a) ∧
  (∀ a, (k0_off261 v4) a + S1.size a ≤ S32.size a) ∧
  (∀ a, (k0_off265 v4) a + S1.size a ≤ S32.size a) ∧
  (∀ a, (k0_off267 v4) a + S1.size a ≤ S32.size a) ∧
  (∀ a, (k0_off271 v4) a + S1.size a ≤ S32.size a) ∧
  (∀ a, (k0_off273 v4) a + S1.size a ≤ S32.size a) ∧
  (∀ a, (k0_off277 v4) a + S1.size a ≤ S32.size a) ∧
  (∀ a, (k0_off279 v4) a + S1.size a ≤ S32.size a) ∧
  (∀ a, (k0_off283 v4) a + S1.size a ≤ S32.size a)
def k0_chk1_3 (v4 : BitVec 32) : Prop :=
  (∀ a, (k0_off285 v4) a + S1.size a ≤ S32.size a) ∧
  (∀ a, (k0_off289 v4) a + S1.size a ≤ S32.size a) ∧
  (∀ a, (k0_off291 v4) a + S1.size a ≤ S32.size a) ∧
  (∀ a, (k0_off295 v4) a + S1.size a ≤ S32.size a) ∧
  (∀ a, (k0_off297 v4) a + S1.size a ≤ S32.size a) ∧
  (∀ a, (k0_off301 v4) a + S1.size a ≤ S32.size a) ∧
  (∀ a, (k0_off303 v4) a + S1.size a ≤ S32.size a) ∧
  (∀ a, (k0_off307 v4) a + S1.size a ≤ S32.size a) ∧
  (∀ a, (k0_off311 v4) a + S1.size a ≤ S32.size a) ∧
  (∀ a, (k0_off315 v4) a + S1.size a ≤ S32.size a)
def k0_chk1 (v4 : BitVec 32) : Prop :=
  k0_chk1_0 v4 ∧
  k0_chk1_1 v4 ∧
  k0_chk1_2 v4 ∧
  k0_chk1_3 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off7_inb : ∀ (v4 : BitVec 32) (k0_hw1 : k0_chk1 v4), ∀ a, (k0_off7 v4) a + S1.size a ≤ S32.size a := fun v4 k0_hw1 => k0_hw1.1.2.2.1
theorem k0_off9_inb : ∀ (v4 : BitVec 32) (k0_hw1 : k0_chk1 v4), ∀ a, (k0_off9 v4) a + S1.size a ≤ S32.size a := fun v4 k0_hw1 => k0_hw1.1.2.2.2.1
theorem k0_off11_inb : ∀ (v4 : BitVec 32) (k0_hw1 : k0_chk1 v4), ∀ a, (k0_off11 v4) a + S1.size a ≤ S32.size a := fun v4 k0_hw1 => k0_hw1.1.2.2.2.2.1
theorem k0_off13_inb : ∀ (v4 : BitVec 32) (k0_hw1 : k0_chk1 v4), ∀ a, (k0_off13 v4) a + S1.size a ≤ S32.size a := fun v4 k0_hw1 => k0_hw1.1.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.1
theorem k0_off27_inb : ∀ (v4 : BitVec 32) (k0_hw1 : k0_chk1 v4), ∀ a, (k0_off27 v4) a + S1.size a ≤ S32.size a := fun v4 k0_hw1 => k0_hw1.1.2.2.2.2.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.1
theorem k0_off39_inb : ∀ (v4 : BitVec 32) (k0_hw1 : k0_chk1 v4), ∀ a, (k0_off39 v4) a + S1.size a ≤ S32.size a := fun v4 k0_hw1 => k0_hw1.1.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.1.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.1.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.1
theorem k0_off63_inb : ∀ (v4 : BitVec 32) (k0_hw1 : k0_chk1 v4), ∀ a, (k0_off63 v4) a + S1.size a ≤ S32.size a := fun v4 k0_hw1 => k0_hw1.1.2.2.2.2.2.2.2.2.2.2.2.2.2.2.2.2.2.2.2.2.2.2.1
theorem k0_off67_inb : ∀ (v4 : BitVec 32) (k0_hw1 : k0_chk1 v4), ∀ a, (k0_off67 v4) a + S1.size a ≤ S32.size a := fun v4 k0_hw1 => k0_hw1.1.2.2.2.2.2.2.2.2.2.2.2.2.2.2.2.2.2.2.2.2.2.2.2.1
theorem k0_off69_inb : ∀ (v4 : BitVec 32) (k0_hw1 : k0_chk1 v4), ∀ a, (k0_off69 v4) a + S1.size a ≤ S32.size a := fun v4 k0_hw1 => k0_hw1.1.2.2.2.2.2.2.2.2.2.2.2.2.2.2.2.2.2.2.2.2.2.2.2.2.1
theorem k0_off73_inb : ∀ (v4 : BitVec 32) (k0_hw1 : k0_chk1 v4), ∀ a, (k0_off73 v4) a + S1.size a ≤ S32.size a := fun v4 k0_hw1 => k0_hw1.1.2.2.2.2.2.2.2.2.2.2.2.2.2.2.2.2.2.2.2.2.2.2.2.2.2.1
theorem k0_off75_inb : ∀ (v4 : BitVec 32) (k0_hw1 : k0_chk1 v4), ∀ a, (k0_off75 v4) a + S1.size a ≤ S32.size a := fun v4 k0_hw1 => k0_hw1.1.2.2.2.2.2.2.2.2.2.2.2.2.2.2.2.2.2.2.2.2.2.2.2.2.2.2.1
theorem k0_off79_inb : ∀ (v4 : BitVec 32) (k0_hw1 : k0_chk1 v4), ∀ a, (k0_off79 v4) a + S1.size a ≤ S32.size a := fun v4 k0_hw1 => k0_hw1.1.2.2.2.2.2.2.2.2.2.2.2.2.2.2.2.2.2.2.2.2.2.2.2.2.2.2.2.1
theorem k0_off81_inb : ∀ (v4 : BitVec 32) (k0_hw1 : k0_chk1 v4), ∀ a, (k0_off81 v4) a + S1.size a ≤ S32.size a := fun v4 k0_hw1 => k0_hw1.1.2.2.2.2.2.2.2.2.2.2.2.2.2.2.2.2.2.2.2.2.2.2.2.2.2.2.2.2.1
theorem k0_off85_inb : ∀ (v4 : BitVec 32) (k0_hw1 : k0_chk1 v4), ∀ a, (k0_off85 v4) a + S1.size a ≤ S32.size a := fun v4 k0_hw1 => k0_hw1.1.2.2.2.2.2.2.2.2.2.2.2.2.2.2.2.2.2.2.2.2.2.2.2.2.2.2.2.2.2.1
theorem k0_off87_inb : ∀ (v4 : BitVec 32) (k0_hw1 : k0_chk1 v4), ∀ a, (k0_off87 v4) a + S1.size a ≤ S32.size a := fun v4 k0_hw1 => k0_hw1.1.2.2.2.2.2.2.2.2.2.2.2.2.2.2.2.2.2.2.2.2.2.2.2.2.2.2.2.2.2.2.1
theorem k0_off91_inb : ∀ (v4 : BitVec 32) (k0_hw1 : k0_chk1 v4), ∀ a, (k0_off91 v4) a + S1.size a ≤ S32.size a := fun v4 k0_hw1 => k0_hw1.1.2.2.2.2.2.2.2.2.2.2.2.2.2.2.2.2.2.2.2.2.2.2.2.2.2.2.2.2.2.2.2
theorem k0_off93_inb : ∀ (v4 : BitVec 32) (k0_hw1 : k0_chk1 v4), ∀ a, (k0_off93 v4) a + S1.size a ≤ S32.size a := fun v4 k0_hw1 => k0_hw1.2.1.1
theorem k0_off97_inb : ∀ (v4 : BitVec 32) (k0_hw1 : k0_chk1 v4), ∀ a, (k0_off97 v4) a + S1.size a ≤ S32.size a := fun v4 k0_hw1 => k0_hw1.2.1.2.1
theorem k0_off99_inb : ∀ (v4 : BitVec 32) (k0_hw1 : k0_chk1 v4), ∀ a, (k0_off99 v4) a + S1.size a ≤ S32.size a := fun v4 k0_hw1 => k0_hw1.2.1.2.2.1
theorem k0_off103_inb : ∀ (v4 : BitVec 32) (k0_hw1 : k0_chk1 v4), ∀ a, (k0_off103 v4) a + S1.size a ≤ S32.size a := fun v4 k0_hw1 => k0_hw1.2.1.2.2.2.1
theorem k0_off105_inb : ∀ (v4 : BitVec 32) (k0_hw1 : k0_chk1 v4), ∀ a, (k0_off105 v4) a + S1.size a ≤ S32.size a := fun v4 k0_hw1 => k0_hw1.2.1.2.2.2.2.1
theorem k0_off109_inb : ∀ (v4 : BitVec 32) (k0_hw1 : k0_chk1 v4), ∀ a, (k0_off109 v4) a + S1.size a ≤ S32.size a := fun v4 k0_hw1 => k0_hw1.2.1.2.2.2.2.2.1
theorem k0_off111_inb : ∀ (v4 : BitVec 32) (k0_hw1 : k0_chk1 v4), ∀ a, (k0_off111 v4) a + S1.size a ≤ S32.size a := fun v4 k0_hw1 => k0_hw1.2.1.2.2.2.2.2.2.1
theorem k0_off115_inb : ∀ (v4 : BitVec 32) (k0_hw1 : k0_chk1 v4), ∀ a, (k0_off115 v4) a + S1.size a ≤ S32.size a := fun v4 k0_hw1 => k0_hw1.2.1.2.2.2.2.2.2.2.1
theorem k0_off117_inb : ∀ (v4 : BitVec 32) (k0_hw1 : k0_chk1 v4), ∀ a, (k0_off117 v4) a + S1.size a ≤ S32.size a := fun v4 k0_hw1 => k0_hw1.2.1.2.2.2.2.2.2.2.2.1
theorem k0_off121_inb : ∀ (v4 : BitVec 32) (k0_hw1 : k0_chk1 v4), ∀ a, (k0_off121 v4) a + S1.size a ≤ S32.size a := fun v4 k0_hw1 => k0_hw1.2.1.2.2.2.2.2.2.2.2.2.1
theorem k0_off123_inb : ∀ (v4 : BitVec 32) (k0_hw1 : k0_chk1 v4), ∀ a, (k0_off123 v4) a + S1.size a ≤ S32.size a := fun v4 k0_hw1 => k0_hw1.2.1.2.2.2.2.2.2.2.2.2.2.1
theorem k0_off127_inb : ∀ (v4 : BitVec 32) (k0_hw1 : k0_chk1 v4), ∀ a, (k0_off127 v4) a + S1.size a ≤ S32.size a := fun v4 k0_hw1 => k0_hw1.2.1.2.2.2.2.2.2.2.2.2.2.2.1
theorem k0_off129_inb : ∀ (v4 : BitVec 32) (k0_hw1 : k0_chk1 v4), ∀ a, (k0_off129 v4) a + S1.size a ≤ S32.size a := fun v4 k0_hw1 => k0_hw1.2.1.2.2.2.2.2.2.2.2.2.2.2.2.1
theorem k0_off133_inb : ∀ (v4 : BitVec 32) (k0_hw1 : k0_chk1 v4), ∀ a, (k0_off133 v4) a + S1.size a ≤ S32.size a := fun v4 k0_hw1 => k0_hw1.2.1.2.2.2.2.2.2.2.2.2.2.2.2.2.1
theorem k0_off135_inb : ∀ (v4 : BitVec 32) (k0_hw1 : k0_chk1 v4), ∀ a, (k0_off135 v4) a + S1.size a ≤ S32.size a := fun v4 k0_hw1 => k0_hw1.2.1.2.2.2.2.2.2.2.2.2.2.2.2.2.2.1
theorem k0_off139_inb : ∀ (v4 : BitVec 32) (k0_hw1 : k0_chk1 v4), ∀ a, (k0_off139 v4) a + S1.size a ≤ S32.size a := fun v4 k0_hw1 => k0_hw1.2.1.2.2.2.2.2.2.2.2.2.2.2.2.2.2.2.1
theorem k0_off141_inb : ∀ (v4 : BitVec 32) (k0_hw1 : k0_chk1 v4), ∀ a, (k0_off141 v4) a + S1.size a ≤ S32.size a := fun v4 k0_hw1 => k0_hw1.2.1.2.2.2.2.2.2.2.2.2.2.2.2.2.2.2.2.1
theorem k0_off145_inb : ∀ (v4 : BitVec 32) (k0_hw1 : k0_chk1 v4), ∀ a, (k0_off145 v4) a + S1.size a ≤ S32.size a := fun v4 k0_hw1 => k0_hw1.2.1.2.2.2.2.2.2.2.2.2.2.2.2.2.2.2.2.2.1
theorem k0_off147_inb : ∀ (v4 : BitVec 32) (k0_hw1 : k0_chk1 v4), ∀ a, (k0_off147 v4) a + S1.size a ≤ S32.size a := fun v4 k0_hw1 => k0_hw1.2.1.2.2.2.2.2.2.2.2.2.2.2.2.2.2.2.2.2.2.1
theorem k0_off151_inb : ∀ (v4 : BitVec 32) (k0_hw1 : k0_chk1 v4), ∀ a, (k0_off151 v4) a + S1.size a ≤ S32.size a := fun v4 k0_hw1 => k0_hw1.2.1.2.2.2.2.2.2.2.2.2.2.2.2.2.2.2.2.2.2.2.1
theorem k0_off153_inb : ∀ (v4 : BitVec 32) (k0_hw1 : k0_chk1 v4), ∀ a, (k0_off153 v4) a + S1.size a ≤ S32.size a := fun v4 k0_hw1 => k0_hw1.2.1.2.2.2.2.2.2.2.2.2.2.2.2.2.2.2.2.2.2.2.2.1
theorem k0_off157_inb : ∀ (v4 : BitVec 32) (k0_hw1 : k0_chk1 v4), ∀ a, (k0_off157 v4) a + S1.size a ≤ S32.size a := fun v4 k0_hw1 => k0_hw1.2.1.2.2.2.2.2.2.2.2.2.2.2.2.2.2.2.2.2.2.2.2.2.1
theorem k0_off159_inb : ∀ (v4 : BitVec 32) (k0_hw1 : k0_chk1 v4), ∀ a, (k0_off159 v4) a + S1.size a ≤ S32.size a := fun v4 k0_hw1 => k0_hw1.2.1.2.2.2.2.2.2.2.2.2.2.2.2.2.2.2.2.2.2.2.2.2.2.1
theorem k0_off163_inb : ∀ (v4 : BitVec 32) (k0_hw1 : k0_chk1 v4), ∀ a, (k0_off163 v4) a + S1.size a ≤ S32.size a := fun v4 k0_hw1 => k0_hw1.2.1.2.2.2.2.2.2.2.2.2.2.2.2.2.2.2.2.2.2.2.2.2.2.2.1
theorem k0_off165_inb : ∀ (v4 : BitVec 32) (k0_hw1 : k0_chk1 v4), ∀ a, (k0_off165 v4) a + S1.size a ≤ S32.size a := fun v4 k0_hw1 => k0_hw1.2.1.2.2.2.2.2.2.2.2.2.2.2.2.2.2.2.2.2.2.2.2.2.2.2.2.1
theorem k0_off169_inb : ∀ (v4 : BitVec 32) (k0_hw1 : k0_chk1 v4), ∀ a, (k0_off169 v4) a + S1.size a ≤ S32.size a := fun v4 k0_hw1 => k0_hw1.2.1.2.2.2.2.2.2.2.2.2.2.2.2.2.2.2.2.2.2.2.2.2.2.2.2.2.1
theorem k0_off171_inb : ∀ (v4 : BitVec 32) (k0_hw1 : k0_chk1 v4), ∀ a, (k0_off171 v4) a + S1.size a ≤ S32.size a := fun v4 k0_hw1 => k0_hw1.2.1.2.2.2.2.2.2.2.2.2.2.2.2.2.2.2.2.2.2.2.2.2.2.2.2.2.2.1
theorem k0_off175_inb : ∀ (v4 : BitVec 32) (k0_hw1 : k0_chk1 v4), ∀ a, (k0_off175 v4) a + S1.size a ≤ S32.size a := fun v4 k0_hw1 => k0_hw1.2.1.2.2.2.2.2.2.2.2.2.2.2.2.2.2.2.2.2.2.2.2.2.2.2.2.2.2.2.1
theorem k0_off177_inb : ∀ (v4 : BitVec 32) (k0_hw1 : k0_chk1 v4), ∀ a, (k0_off177 v4) a + S1.size a ≤ S32.size a := fun v4 k0_hw1 => k0_hw1.2.1.2.2.2.2.2.2.2.2.2.2.2.2.2.2.2.2.2.2.2.2.2.2.2.2.2.2.2.2.1
theorem k0_off181_inb : ∀ (v4 : BitVec 32) (k0_hw1 : k0_chk1 v4), ∀ a, (k0_off181 v4) a + S1.size a ≤ S32.size a := fun v4 k0_hw1 => k0_hw1.2.1.2.2.2.2.2.2.2.2.2.2.2.2.2.2.2.2.2.2.2.2.2.2.2.2.2.2.2.2.2.1
theorem k0_off183_inb : ∀ (v4 : BitVec 32) (k0_hw1 : k0_chk1 v4), ∀ a, (k0_off183 v4) a + S1.size a ≤ S32.size a := fun v4 k0_hw1 => k0_hw1.2.1.2.2.2.2.2.2.2.2.2.2.2.2.2.2.2.2.2.2.2.2.2.2.2.2.2.2.2.2.2.2.1
theorem k0_off187_inb : ∀ (v4 : BitVec 32) (k0_hw1 : k0_chk1 v4), ∀ a, (k0_off187 v4) a + S1.size a ≤ S32.size a := fun v4 k0_hw1 => k0_hw1.2.1.2.2.2.2.2.2.2.2.2.2.2.2.2.2.2.2.2.2.2.2.2.2.2.2.2.2.2.2.2.2.2
theorem k0_off189_inb : ∀ (v4 : BitVec 32) (k0_hw1 : k0_chk1 v4), ∀ a, (k0_off189 v4) a + S1.size a ≤ S32.size a := fun v4 k0_hw1 => k0_hw1.2.2.1.1
theorem k0_off193_inb : ∀ (v4 : BitVec 32) (k0_hw1 : k0_chk1 v4), ∀ a, (k0_off193 v4) a + S1.size a ≤ S32.size a := fun v4 k0_hw1 => k0_hw1.2.2.1.2.1
theorem k0_off195_inb : ∀ (v4 : BitVec 32) (k0_hw1 : k0_chk1 v4), ∀ a, (k0_off195 v4) a + S1.size a ≤ S32.size a := fun v4 k0_hw1 => k0_hw1.2.2.1.2.2.1
theorem k0_off199_inb : ∀ (v4 : BitVec 32) (k0_hw1 : k0_chk1 v4), ∀ a, (k0_off199 v4) a + S1.size a ≤ S32.size a := fun v4 k0_hw1 => k0_hw1.2.2.1.2.2.2.1
theorem k0_off201_inb : ∀ (v4 : BitVec 32) (k0_hw1 : k0_chk1 v4), ∀ a, (k0_off201 v4) a + S1.size a ≤ S32.size a := fun v4 k0_hw1 => k0_hw1.2.2.1.2.2.2.2.1
theorem k0_off205_inb : ∀ (v4 : BitVec 32) (k0_hw1 : k0_chk1 v4), ∀ a, (k0_off205 v4) a + S1.size a ≤ S32.size a := fun v4 k0_hw1 => k0_hw1.2.2.1.2.2.2.2.2.1
theorem k0_off207_inb : ∀ (v4 : BitVec 32) (k0_hw1 : k0_chk1 v4), ∀ a, (k0_off207 v4) a + S1.size a ≤ S32.size a := fun v4 k0_hw1 => k0_hw1.2.2.1.2.2.2.2.2.2.1
theorem k0_off211_inb : ∀ (v4 : BitVec 32) (k0_hw1 : k0_chk1 v4), ∀ a, (k0_off211 v4) a + S1.size a ≤ S32.size a := fun v4 k0_hw1 => k0_hw1.2.2.1.2.2.2.2.2.2.2.1
theorem k0_off213_inb : ∀ (v4 : BitVec 32) (k0_hw1 : k0_chk1 v4), ∀ a, (k0_off213 v4) a + S1.size a ≤ S32.size a := fun v4 k0_hw1 => k0_hw1.2.2.1.2.2.2.2.2.2.2.2.1
theorem k0_off217_inb : ∀ (v4 : BitVec 32) (k0_hw1 : k0_chk1 v4), ∀ a, (k0_off217 v4) a + S1.size a ≤ S32.size a := fun v4 k0_hw1 => k0_hw1.2.2.1.2.2.2.2.2.2.2.2.2.1
theorem k0_off219_inb : ∀ (v4 : BitVec 32) (k0_hw1 : k0_chk1 v4), ∀ a, (k0_off219 v4) a + S1.size a ≤ S32.size a := fun v4 k0_hw1 => k0_hw1.2.2.1.2.2.2.2.2.2.2.2.2.2.1
theorem k0_off223_inb : ∀ (v4 : BitVec 32) (k0_hw1 : k0_chk1 v4), ∀ a, (k0_off223 v4) a + S1.size a ≤ S32.size a := fun v4 k0_hw1 => k0_hw1.2.2.1.2.2.2.2.2.2.2.2.2.2.2.1
theorem k0_off225_inb : ∀ (v4 : BitVec 32) (k0_hw1 : k0_chk1 v4), ∀ a, (k0_off225 v4) a + S1.size a ≤ S32.size a := fun v4 k0_hw1 => k0_hw1.2.2.1.2.2.2.2.2.2.2.2.2.2.2.2.1
theorem k0_off229_inb : ∀ (v4 : BitVec 32) (k0_hw1 : k0_chk1 v4), ∀ a, (k0_off229 v4) a + S1.size a ≤ S32.size a := fun v4 k0_hw1 => k0_hw1.2.2.1.2.2.2.2.2.2.2.2.2.2.2.2.2.1
theorem k0_off231_inb : ∀ (v4 : BitVec 32) (k0_hw1 : k0_chk1 v4), ∀ a, (k0_off231 v4) a + S1.size a ≤ S32.size a := fun v4 k0_hw1 => k0_hw1.2.2.1.2.2.2.2.2.2.2.2.2.2.2.2.2.2.1
theorem k0_off235_inb : ∀ (v4 : BitVec 32) (k0_hw1 : k0_chk1 v4), ∀ a, (k0_off235 v4) a + S1.size a ≤ S32.size a := fun v4 k0_hw1 => k0_hw1.2.2.1.2.2.2.2.2.2.2.2.2.2.2.2.2.2.2.1
theorem k0_off237_inb : ∀ (v4 : BitVec 32) (k0_hw1 : k0_chk1 v4), ∀ a, (k0_off237 v4) a + S1.size a ≤ S32.size a := fun v4 k0_hw1 => k0_hw1.2.2.1.2.2.2.2.2.2.2.2.2.2.2.2.2.2.2.2.1
theorem k0_off241_inb : ∀ (v4 : BitVec 32) (k0_hw1 : k0_chk1 v4), ∀ a, (k0_off241 v4) a + S1.size a ≤ S32.size a := fun v4 k0_hw1 => k0_hw1.2.2.1.2.2.2.2.2.2.2.2.2.2.2.2.2.2.2.2.2.1
theorem k0_off243_inb : ∀ (v4 : BitVec 32) (k0_hw1 : k0_chk1 v4), ∀ a, (k0_off243 v4) a + S1.size a ≤ S32.size a := fun v4 k0_hw1 => k0_hw1.2.2.1.2.2.2.2.2.2.2.2.2.2.2.2.2.2.2.2.2.2.1
theorem k0_off247_inb : ∀ (v4 : BitVec 32) (k0_hw1 : k0_chk1 v4), ∀ a, (k0_off247 v4) a + S1.size a ≤ S32.size a := fun v4 k0_hw1 => k0_hw1.2.2.1.2.2.2.2.2.2.2.2.2.2.2.2.2.2.2.2.2.2.2.1
theorem k0_off249_inb : ∀ (v4 : BitVec 32) (k0_hw1 : k0_chk1 v4), ∀ a, (k0_off249 v4) a + S1.size a ≤ S32.size a := fun v4 k0_hw1 => k0_hw1.2.2.1.2.2.2.2.2.2.2.2.2.2.2.2.2.2.2.2.2.2.2.2.1
theorem k0_off253_inb : ∀ (v4 : BitVec 32) (k0_hw1 : k0_chk1 v4), ∀ a, (k0_off253 v4) a + S1.size a ≤ S32.size a := fun v4 k0_hw1 => k0_hw1.2.2.1.2.2.2.2.2.2.2.2.2.2.2.2.2.2.2.2.2.2.2.2.2.1
theorem k0_off255_inb : ∀ (v4 : BitVec 32) (k0_hw1 : k0_chk1 v4), ∀ a, (k0_off255 v4) a + S1.size a ≤ S32.size a := fun v4 k0_hw1 => k0_hw1.2.2.1.2.2.2.2.2.2.2.2.2.2.2.2.2.2.2.2.2.2.2.2.2.2.1
theorem k0_off259_inb : ∀ (v4 : BitVec 32) (k0_hw1 : k0_chk1 v4), ∀ a, (k0_off259 v4) a + S1.size a ≤ S32.size a := fun v4 k0_hw1 => k0_hw1.2.2.1.2.2.2.2.2.2.2.2.2.2.2.2.2.2.2.2.2.2.2.2.2.2.2.1
theorem k0_off261_inb : ∀ (v4 : BitVec 32) (k0_hw1 : k0_chk1 v4), ∀ a, (k0_off261 v4) a + S1.size a ≤ S32.size a := fun v4 k0_hw1 => k0_hw1.2.2.1.2.2.2.2.2.2.2.2.2.2.2.2.2.2.2.2.2.2.2.2.2.2.2.2.1
theorem k0_off265_inb : ∀ (v4 : BitVec 32) (k0_hw1 : k0_chk1 v4), ∀ a, (k0_off265 v4) a + S1.size a ≤ S32.size a := fun v4 k0_hw1 => k0_hw1.2.2.1.2.2.2.2.2.2.2.2.2.2.2.2.2.2.2.2.2.2.2.2.2.2.2.2.2.1
theorem k0_off267_inb : ∀ (v4 : BitVec 32) (k0_hw1 : k0_chk1 v4), ∀ a, (k0_off267 v4) a + S1.size a ≤ S32.size a := fun v4 k0_hw1 => k0_hw1.2.2.1.2.2.2.2.2.2.2.2.2.2.2.2.2.2.2.2.2.2.2.2.2.2.2.2.2.2.1
theorem k0_off271_inb : ∀ (v4 : BitVec 32) (k0_hw1 : k0_chk1 v4), ∀ a, (k0_off271 v4) a + S1.size a ≤ S32.size a := fun v4 k0_hw1 => k0_hw1.2.2.1.2.2.2.2.2.2.2.2.2.2.2.2.2.2.2.2.2.2.2.2.2.2.2.2.2.2.2.1
theorem k0_off273_inb : ∀ (v4 : BitVec 32) (k0_hw1 : k0_chk1 v4), ∀ a, (k0_off273 v4) a + S1.size a ≤ S32.size a := fun v4 k0_hw1 => k0_hw1.2.2.1.2.2.2.2.2.2.2.2.2.2.2.2.2.2.2.2.2.2.2.2.2.2.2.2.2.2.2.2.1
theorem k0_off277_inb : ∀ (v4 : BitVec 32) (k0_hw1 : k0_chk1 v4), ∀ a, (k0_off277 v4) a + S1.size a ≤ S32.size a := fun v4 k0_hw1 => k0_hw1.2.2.1.2.2.2.2.2.2.2.2.2.2.2.2.2.2.2.2.2.2.2.2.2.2.2.2.2.2.2.2.2.1
theorem k0_off279_inb : ∀ (v4 : BitVec 32) (k0_hw1 : k0_chk1 v4), ∀ a, (k0_off279 v4) a + S1.size a ≤ S32.size a := fun v4 k0_hw1 => k0_hw1.2.2.1.2.2.2.2.2.2.2.2.2.2.2.2.2.2.2.2.2.2.2.2.2.2.2.2.2.2.2.2.2.2.1
theorem k0_off283_inb : ∀ (v4 : BitVec 32) (k0_hw1 : k0_chk1 v4), ∀ a, (k0_off283 v4) a + S1.size a ≤ S32.size a := fun v4 k0_hw1 => k0_hw1.2.2.1.2.2.2.2.2.2.2.2.2.2.2.2.2.2.2.2.2.2.2.2.2.2.2.2.2.2.2.2.2.2.2
theorem k0_off285_inb : ∀ (v4 : BitVec 32) (k0_hw1 : k0_chk1 v4), ∀ a, (k0_off285 v4) a + S1.size a ≤ S32.size a := fun v4 k0_hw1 => k0_hw1.2.2.2.1
theorem k0_off289_inb : ∀ (v4 : BitVec 32) (k0_hw1 : k0_chk1 v4), ∀ a, (k0_off289 v4) a + S1.size a ≤ S32.size a := fun v4 k0_hw1 => k0_hw1.2.2.2.2.1
theorem k0_off291_inb : ∀ (v4 : BitVec 32) (k0_hw1 : k0_chk1 v4), ∀ a, (k0_off291 v4) a + S1.size a ≤ S32.size a := fun v4 k0_hw1 => k0_hw1.2.2.2.2.2.1
theorem k0_off295_inb : ∀ (v4 : BitVec 32) (k0_hw1 : k0_chk1 v4), ∀ a, (k0_off295 v4) a + S1.size a ≤ S32.size a := fun v4 k0_hw1 => k0_hw1.2.2.2.2.2.2.1
theorem k0_off297_inb : ∀ (v4 : BitVec 32) (k0_hw1 : k0_chk1 v4), ∀ a, (k0_off297 v4) a + S1.size a ≤ S32.size a := fun v4 k0_hw1 => k0_hw1.2.2.2.2.2.2.2.1
theorem k0_off301_inb : ∀ (v4 : BitVec 32) (k0_hw1 : k0_chk1 v4), ∀ a, (k0_off301 v4) a + S1.size a ≤ S32.size a := fun v4 k0_hw1 => k0_hw1.2.2.2.2.2.2.2.2.1
theorem k0_off303_inb : ∀ (v4 : BitVec 32) (k0_hw1 : k0_chk1 v4), ∀ a, (k0_off303 v4) a + S1.size a ≤ S32.size a := fun v4 k0_hw1 => k0_hw1.2.2.2.2.2.2.2.2.2.1
theorem k0_off307_inb : ∀ (v4 : BitVec 32) (k0_hw1 : k0_chk1 v4), ∀ a, (k0_off307 v4) a + S1.size a ≤ S32.size a := fun v4 k0_hw1 => k0_hw1.2.2.2.2.2.2.2.2.2.2.1
theorem k0_off311_inb : ∀ (v4 : BitVec 32) (k0_hw1 : k0_chk1 v4), ∀ a, (k0_off311 v4) a + S1.size a ≤ S32.size a := fun v4 k0_hw1 => k0_hw1.2.2.2.2.2.2.2.2.2.2.2.1
theorem k0_off315_inb : ∀ (v4 : BitVec 32) (k0_hw1 : k0_chk1 v4), ∀ a, (k0_off315 v4) a + S1.size a ≤ S32.size a := fun v4 k0_hw1 => k0_hw1.2.2.2.2.2.2.2.2.2.2.2.2

def k0_off316 (v2106 : BitVec 32) : Fin 2 → Nat :=
  let c1024_i32_1659 : BitVec 32 := 1024#32
  let v2107 : BitVec 32 := Scalar.muli v2106 c1024_i32_1659
  let c512_i32_1660 : BitVec 32 := 512#32
  let v2108 : BitVec 32 := Scalar.addi v2107 c512_i32_1660
  let c0_i32_1665 : BitVec 32 := 0#32
  ![v2108.toNat, 0]

def k0_chk160 (v2106 : BitVec 32) : Prop :=
  (∀ a, (k0_off316 v2106) a + S512x512.size a ≤ S32768x512.size a)
theorem k0_off316_inb : ∀ (v2106 : BitVec 32) (k0_hw160 : k0_chk160 v2106), ∀ a, (k0_off316 v2106) a + S512x512.size a ≤ S32768x512.size a := fun v2106 k0_hw160 => k0_hw160

def k0_off317 (v4 : BitVec 32) : Fin 1 → Nat :=
  let c1_i32_1667 : BitVec 32 := 1#32
  let v2115 : BitVec 32 := Scalar.addi v4 c1_i32_1667
  let c12_i32_1668 : BitVec 32 := 12#32
  let v2116 : BitVec 32 := Scalar.addi v2115 c12_i32_1668
  let c32_i32_1669 : BitVec 32 := 32#32
  let v2117 : BitVec 32 := Scalar.remsi v2116 c32_i32_1669
  let v2395 : Index := Scalar.indexCast v2117
  ![v2395.toNat]
def k0_cond52 (v4 : BitVec 32) (v17 : BitVec 32) : BitVec 1 :=
  let c1_i32_1667 : BitVec 32 := 1#32
  let v2115 : BitVec 32 := Scalar.addi v4 c1_i32_1667
  let c12_i32_1668 : BitVec 32 := 12#32
  let v2116 : BitVec 32 := Scalar.addi v2115 c12_i32_1668
  let c32_i32_1669 : BitVec 32 := 32#32
  let v2117 : BitVec 32 := Scalar.remsi v2116 c32_i32_1669
  let v2118 : BitVec 32 := Scalar.subi v2117 v17
  let c64_i32_1670 : BitVec 32 := 64#32
  let v2119 : BitVec 32 := Scalar.addi v2118 c64_i32_1670
  let c14_i32_1671 : BitVec 32 := 14#32
  let v2120 : BitVec 32 := Scalar.subi v2119 c14_i32_1671
  let c32_i32_1672 : BitVec 32 := 32#32
  let v2121 : BitVec 32 := Scalar.remsi v2120 c32_i32_1672
  let c5_i32_1673 : BitVec 32 := 5#32
  let v2122 : BitVec 1 := Scalar.cmpi .slt v2121 c5_i32_1673
  let v2123 : BitVec 32 := Scalar.extui v2122
  let c0_i32_1674 : BitVec 32 := 0#32
  let v2124 : BitVec 1 := Scalar.cmpi .ne v2123 c0_i32_1674
  v2124

def k0_off318 (v2396 : BitVec 32) : Fin 2 → Nat :=
  let c1024_i32_2011 : BitVec 32 := 1024#32
  let v2397 : BitVec 32 := Scalar.muli v2396 c1024_i32_2011
  let c512_i32_2012 : BitVec 32 := 512#32
  let v2398 : BitVec 32 := Scalar.addi v2397 c512_i32_2012
  let c0_i32_2015 : BitVec 32 := 0#32
  ![v2398.toNat, 0]

def k0_chk161 (v4 : BitVec 32) (v17 : BitVec 32) (v2396 : BitVec 32) : Prop :=
  (∀ (k0_h52 : k0_cond52 v4 v17 = 1#1), ∀ a, (k0_off318 v2396) a + S512x512.size a ≤ S32768x512.size a)
theorem k0_off318_inb : ∀ (v4 : BitVec 32) (v17 : BitVec 32) (v2396 : BitVec 32) (k0_hw161 : k0_chk161 v4 v17 v2396), ∀ (k0_h52 : k0_cond52 v4 v17 = 1#1), ∀ a, (k0_off318 v2396) a + S512x512.size a ≤ S32768x512.size a := fun v4 v17 v2396 k0_hw161 k0_h52 => k0_hw161 k0_h52

def k0_dev107 (v15 : BitVec 32) : Nat :=
  let c0_i32_2014 : BitVec 32 := 0#32
  let c1_i32_2013 : BitVec 32 := 1#32
  let v2399 : BitVec 32 := Scalar.muli v15 c1_i32_2013
  let v2400 : BitVec 32 := Scalar.addi c0_i32_2014 v2399
  v2400.toNat

def k0_chk10_0 (v4 : BitVec 32) (v15 : BitVec 32) (v17 : BitVec 32) : Prop :=
  (∀ (k0_h1 : k0_cond1 v4 v17 = 1#1), ∀ a, (k0_off17 v4) a + S1.size a ≤ S32.size a) ∧
  (∀ (k0_h1 : k0_cond1 v4 v17 = 1#1), (k0_dev8 v15) < nD) ∧
  (∀ (k0_h2 : k0_cond2 v4 v17 = 1#1), ∀ a, (k0_off23 v4) a + S1.size a ≤ S32.size a) ∧
  (∀ (k0_h2 : k0_cond2 v4 v17 = 1#1), (k0_dev10 v15) < nD) ∧
  (∀ (k0_h3 : k0_cond3 v4 v17 = 1#1), ∀ a, (k0_off29 v4) a + S1.size a ≤ S32.size a) ∧
  (∀ (k0_h3 : k0_cond3 v4 v17 = 1#1), (k0_dev12 v15) < nD) ∧
  (∀ (k0_h4 : k0_cond4 v4 v17 = 1#1), ∀ a, (k0_off35 v4) a + S1.size a ≤ S32.size a) ∧
  (∀ (k0_h4 : k0_cond4 v4 v17 = 1#1), (k0_dev14 v15) < nD) ∧
  (∀ (k0_h5 : k0_cond5 v4 v17 = 1#1), ∀ a, (k0_off41 v4) a + S1.size a ≤ S32.size a) ∧
  (∀ (k0_h5 : k0_cond5 v4 v17 = 1#1), (k0_dev16 v15) < nD) ∧
  (∀ (k0_h6 : k0_cond6 v4 v17 = 1#1), ∀ a, (k0_off47 v4) a + S1.size a ≤ S32.size a) ∧
  (∀ (k0_h6 : k0_cond6 v4 v17 = 1#1), (k0_dev18 v15) < nD) ∧
  (∀ (k0_h7 : k0_cond7 v4 v17 = 1#1), ∀ a, (k0_off53 v4) a + S1.size a ≤ S32.size a) ∧
  (∀ (k0_h7 : k0_cond7 v4 v17 = 1#1), (k0_dev20 v15) < nD) ∧
  (∀ (k0_h8 : k0_cond8 v4 v17 = 1#1), ∀ a, (k0_off59 v4) a + S1.size a ≤ S32.size a) ∧
  (∀ (k0_h8 : k0_cond8 v4 v17 = 1#1), (k0_dev22 v15) < nD) ∧
  (∀ (k0_h9 : k0_cond9 v4 v17 = 1#1), ∀ a, (k0_off65 v4) a + S1.size a ≤ S32.size a) ∧
  (∀ (k0_h9 : k0_cond9 v4 v17 = 1#1), (k0_dev24 v15) < nD) ∧
  (∀ (k0_h10 : k0_cond10 v4 v17 = 1#1), ∀ a, (k0_off71 v4) a + S1.size a ≤ S32.size a) ∧
  (∀ (k0_h10 : k0_cond10 v4 v17 = 1#1), (k0_dev26 v15) < nD) ∧
  (∀ (k0_h11 : k0_cond11 v4 v17 = 1#1), ∀ a, (k0_off77 v4) a + S1.size a ≤ S32.size a) ∧
  (∀ (k0_h11 : k0_cond11 v4 v17 = 1#1), (k0_dev28 v15) < nD) ∧
  (∀ (k0_h12 : k0_cond12 v4 v17 = 1#1), ∀ a, (k0_off83 v4) a + S1.size a ≤ S32.size a) ∧
  (∀ (k0_h12 : k0_cond12 v4 v17 = 1#1), (k0_dev30 v15) < nD) ∧
  (∀ (k0_h13 : k0_cond13 v4 v17 = 1#1), ∀ a, (k0_off89 v4) a + S1.size a ≤ S32.size a) ∧
  (∀ (k0_h13 : k0_cond13 v4 v17 = 1#1), (k0_dev32 v15) < nD) ∧
  (∀ (k0_h14 : k0_cond14 v4 v17 = 1#1), ∀ a, (k0_off95 v4) a + S1.size a ≤ S32.size a) ∧
  (∀ (k0_h14 : k0_cond14 v4 v17 = 1#1), (k0_dev34 v15) < nD) ∧
  (∀ (k0_h15 : k0_cond15 v4 v17 = 1#1), ∀ a, (k0_off101 v4) a + S1.size a ≤ S32.size a) ∧
  (∀ (k0_h15 : k0_cond15 v4 v17 = 1#1), (k0_dev36 v15) < nD) ∧
  (∀ (k0_h16 : k0_cond16 v4 v17 = 1#1), ∀ a, (k0_off107 v4) a + S1.size a ≤ S32.size a) ∧
  (∀ (k0_h16 : k0_cond16 v4 v17 = 1#1), (k0_dev38 v15) < nD)
def k0_chk10_1 (v4 : BitVec 32) (v15 : BitVec 32) (v17 : BitVec 32) : Prop :=
  (∀ (k0_h17 : k0_cond17 v4 v17 = 1#1), ∀ a, (k0_off113 v4) a + S1.size a ≤ S32.size a) ∧
  (∀ (k0_h17 : k0_cond17 v4 v17 = 1#1), (k0_dev40 v15) < nD) ∧
  (∀ (k0_h18 : k0_cond18 v4 v17 = 1#1), ∀ a, (k0_off119 v4) a + S1.size a ≤ S32.size a) ∧
  (∀ (k0_h18 : k0_cond18 v4 v17 = 1#1), (k0_dev42 v15) < nD) ∧
  (∀ (k0_h19 : k0_cond19 v4 v17 = 1#1), ∀ a, (k0_off125 v4) a + S1.size a ≤ S32.size a) ∧
  (∀ (k0_h19 : k0_cond19 v4 v17 = 1#1), (k0_dev44 v15) < nD) ∧
  (∀ (k0_h20 : k0_cond20 v4 v17 = 1#1), ∀ a, (k0_off131 v4) a + S1.size a ≤ S32.size a) ∧
  (∀ (k0_h20 : k0_cond20 v4 v17 = 1#1), (k0_dev46 v15) < nD) ∧
  (∀ (k0_h21 : k0_cond21 v4 v17 = 1#1), ∀ a, (k0_off137 v4) a + S1.size a ≤ S32.size a) ∧
  (∀ (k0_h21 : k0_cond21 v4 v17 = 1#1), (k0_dev48 v15) < nD) ∧
  (∀ (k0_h22 : k0_cond22 v4 v17 = 1#1), ∀ a, (k0_off143 v4) a + S1.size a ≤ S32.size a) ∧
  (∀ (k0_h22 : k0_cond22 v4 v17 = 1#1), (k0_dev50 v15) < nD) ∧
  (∀ (k0_h23 : k0_cond23 v4 v17 = 1#1), ∀ a, (k0_off149 v4) a + S1.size a ≤ S32.size a) ∧
  (∀ (k0_h23 : k0_cond23 v4 v17 = 1#1), (k0_dev52 v15) < nD) ∧
  (∀ (k0_h24 : k0_cond24 v4 v17 = 1#1), ∀ a, (k0_off155 v4) a + S1.size a ≤ S32.size a) ∧
  (∀ (k0_h24 : k0_cond24 v4 v17 = 1#1), (k0_dev54 v15) < nD) ∧
  (∀ (k0_h25 : k0_cond25 v4 v17 = 1#1), ∀ a, (k0_off161 v4) a + S1.size a ≤ S32.size a) ∧
  (∀ (k0_h25 : k0_cond25 v4 v17 = 1#1), (k0_dev56 v15) < nD) ∧
  (∀ (k0_h26 : k0_cond26 v4 v17 = 1#1), ∀ a, (k0_off167 v4) a + S1.size a ≤ S32.size a) ∧
  (∀ (k0_h26 : k0_cond26 v4 v17 = 1#1), (k0_dev58 v15) < nD) ∧
  (∀ (k0_h27 : k0_cond27 v4 v17 = 1#1), ∀ a, (k0_off173 v4) a + S1.size a ≤ S32.size a) ∧
  (∀ (k0_h27 : k0_cond27 v4 v17 = 1#1), (k0_dev60 v15) < nD) ∧
  (∀ (k0_h28 : k0_cond28 v4 v17 = 1#1), ∀ a, (k0_off179 v4) a + S1.size a ≤ S32.size a) ∧
  (∀ (k0_h28 : k0_cond28 v4 v17 = 1#1), (k0_dev62 v15) < nD) ∧
  (∀ (k0_h29 : k0_cond29 v4 v17 = 1#1), ∀ a, (k0_off185 v4) a + S1.size a ≤ S32.size a) ∧
  (∀ (k0_h29 : k0_cond29 v4 v17 = 1#1), (k0_dev64 v15) < nD) ∧
  (∀ (k0_h30 : k0_cond30 v4 v17 = 1#1), ∀ a, (k0_off191 v4) a + S1.size a ≤ S32.size a) ∧
  (∀ (k0_h30 : k0_cond30 v4 v17 = 1#1), (k0_dev66 v15) < nD) ∧
  (∀ (k0_h31 : k0_cond31 v4 v17 = 1#1), ∀ a, (k0_off197 v4) a + S1.size a ≤ S32.size a) ∧
  (∀ (k0_h31 : k0_cond31 v4 v17 = 1#1), (k0_dev68 v15) < nD) ∧
  (∀ (k0_h32 : k0_cond32 v4 v17 = 1#1), ∀ a, (k0_off203 v4) a + S1.size a ≤ S32.size a) ∧
  (∀ (k0_h32 : k0_cond32 v4 v17 = 1#1), (k0_dev70 v15) < nD)
def k0_chk10_2 (v4 : BitVec 32) (v15 : BitVec 32) (v17 : BitVec 32) : Prop :=
  (∀ (k0_h33 : k0_cond33 v4 v17 = 1#1), ∀ a, (k0_off209 v4) a + S1.size a ≤ S32.size a) ∧
  (∀ (k0_h33 : k0_cond33 v4 v17 = 1#1), (k0_dev72 v15) < nD) ∧
  (∀ (k0_h34 : k0_cond34 v4 v17 = 1#1), ∀ a, (k0_off215 v4) a + S1.size a ≤ S32.size a) ∧
  (∀ (k0_h34 : k0_cond34 v4 v17 = 1#1), (k0_dev74 v15) < nD) ∧
  (∀ (k0_h35 : k0_cond35 v4 v17 = 1#1), ∀ a, (k0_off221 v4) a + S1.size a ≤ S32.size a) ∧
  (∀ (k0_h35 : k0_cond35 v4 v17 = 1#1), (k0_dev76 v15) < nD) ∧
  (∀ (k0_h36 : k0_cond36 v4 v17 = 1#1), ∀ a, (k0_off227 v4) a + S1.size a ≤ S32.size a) ∧
  (∀ (k0_h36 : k0_cond36 v4 v17 = 1#1), (k0_dev78 v15) < nD) ∧
  (∀ (k0_h37 : k0_cond37 v4 v17 = 1#1), ∀ a, (k0_off233 v4) a + S1.size a ≤ S32.size a) ∧
  (∀ (k0_h37 : k0_cond37 v4 v17 = 1#1), (k0_dev80 v15) < nD) ∧
  (∀ (k0_h38 : k0_cond38 v4 v17 = 1#1), ∀ a, (k0_off239 v4) a + S1.size a ≤ S32.size a) ∧
  (∀ (k0_h38 : k0_cond38 v4 v17 = 1#1), (k0_dev82 v15) < nD) ∧
  (∀ (k0_h39 : k0_cond39 v4 v17 = 1#1), ∀ a, (k0_off245 v4) a + S1.size a ≤ S32.size a) ∧
  (∀ (k0_h39 : k0_cond39 v4 v17 = 1#1), (k0_dev84 v15) < nD) ∧
  (∀ (k0_h40 : k0_cond40 v4 v17 = 1#1), ∀ a, (k0_off251 v4) a + S1.size a ≤ S32.size a) ∧
  (∀ (k0_h40 : k0_cond40 v4 v17 = 1#1), (k0_dev86 v15) < nD) ∧
  (∀ (k0_h41 : k0_cond41 v4 v17 = 1#1), ∀ a, (k0_off257 v4) a + S1.size a ≤ S32.size a) ∧
  (∀ (k0_h41 : k0_cond41 v4 v17 = 1#1), (k0_dev88 v15) < nD) ∧
  (∀ (k0_h42 : k0_cond42 v4 v17 = 1#1), ∀ a, (k0_off263 v4) a + S1.size a ≤ S32.size a) ∧
  (∀ (k0_h42 : k0_cond42 v4 v17 = 1#1), (k0_dev90 v15) < nD) ∧
  (∀ (k0_h43 : k0_cond43 v4 v17 = 1#1), ∀ a, (k0_off269 v4) a + S1.size a ≤ S32.size a) ∧
  (∀ (k0_h43 : k0_cond43 v4 v17 = 1#1), (k0_dev92 v15) < nD) ∧
  (∀ (k0_h44 : k0_cond44 v4 v17 = 1#1), ∀ a, (k0_off275 v4) a + S1.size a ≤ S32.size a) ∧
  (∀ (k0_h44 : k0_cond44 v4 v17 = 1#1), (k0_dev94 v15) < nD) ∧
  (∀ (k0_h45 : k0_cond45 v4 v17 = 1#1), ∀ a, (k0_off281 v4) a + S1.size a ≤ S32.size a) ∧
  (∀ (k0_h45 : k0_cond45 v4 v17 = 1#1), (k0_dev96 v15) < nD) ∧
  (∀ (k0_h46 : k0_cond46 v4 v17 = 1#1), ∀ a, (k0_off287 v4) a + S1.size a ≤ S32.size a) ∧
  (∀ (k0_h46 : k0_cond46 v4 v17 = 1#1), (k0_dev98 v15) < nD) ∧
  (∀ (k0_h47 : k0_cond47 v4 v17 = 1#1), ∀ a, (k0_off293 v4) a + S1.size a ≤ S32.size a) ∧
  (∀ (k0_h47 : k0_cond47 v4 v17 = 1#1), (k0_dev100 v15) < nD) ∧
  (∀ (k0_h48 : k0_cond48 v4 v17 = 1#1), ∀ a, (k0_off299 v4) a + S1.size a ≤ S32.size a) ∧
  (∀ (k0_h48 : k0_cond48 v4 v17 = 1#1), (k0_dev102 v15) < nD)
def k0_chk10_3 (v4 : BitVec 32) (v15 : BitVec 32) (v17 : BitVec 32) : Prop :=
  (∀ (k0_h49 : k0_cond49 v4 v17 = 1#1), ∀ a, (k0_off305 v4) a + S1.size a ≤ S32.size a) ∧
  (∀ (k0_h49 : k0_cond49 v4 v17 = 1#1), (k0_dev104 v15) < nD) ∧
  (∀ (k0_h50 : k0_cond50 v4 v17 = 1#1), ∀ a, (k0_off309 v4) a + S1.size a ≤ S32.size a) ∧
  (∀ (k0_h50 : k0_cond50 v4 v17 = 1#1), (k0_dev105 v15) < nD) ∧
  (∀ (k0_h51 : k0_cond51 v4 v17 = 1#1), ∀ a, (k0_off313 v4) a + S1.size a ≤ S32.size a) ∧
  (∀ (k0_h51 : k0_cond51 v4 v17 = 1#1), (k0_dev106 v15) < nD) ∧
  (∀ (k0_h52 : k0_cond52 v4 v17 = 1#1), ∀ a, (k0_off317 v4) a + S1.size a ≤ S32.size a) ∧
  (∀ (k0_h52 : k0_cond52 v4 v17 = 1#1), (k0_dev107 v15) < nD)
def k0_chk10 (v4 : BitVec 32) (v15 : BitVec 32) (v17 : BitVec 32) : Prop :=
  k0_chk10_0 v4 v15 v17 ∧
  k0_chk10_1 v4 v15 v17 ∧
  k0_chk10_2 v4 v15 v17 ∧
  k0_chk10_3 v4 v15 v17
theorem k0_off17_inb : ∀ (v4 : BitVec 32) (v15 : BitVec 32) (v17 : BitVec 32) (k0_hw10 : k0_chk10 v4 v15 v17), ∀ (k0_h1 : k0_cond1 v4 v17 = 1#1), ∀ a, (k0_off17 v4) a + S1.size a ≤ S32.size a := fun v4 v15 v17 k0_hw10 k0_h1 => k0_hw10.1.1 k0_h1
theorem k0_dev8_lt : ∀ (v4 : BitVec 32) (v15 : BitVec 32) (v17 : BitVec 32) (k0_hw10 : k0_chk10 v4 v15 v17), ∀ (k0_h1 : k0_cond1 v4 v17 = 1#1), (k0_dev8 v15) < nD := fun v4 v15 v17 k0_hw10 k0_h1 => k0_hw10.1.2.1 k0_h1
theorem k0_off23_inb : ∀ (v4 : BitVec 32) (v15 : BitVec 32) (v17 : BitVec 32) (k0_hw10 : k0_chk10 v4 v15 v17), ∀ (k0_h2 : k0_cond2 v4 v17 = 1#1), ∀ a, (k0_off23 v4) a + S1.size a ≤ S32.size a := fun v4 v15 v17 k0_hw10 k0_h2 => k0_hw10.1.2.2.1 k0_h2
theorem k0_dev10_lt : ∀ (v4 : BitVec 32) (v15 : BitVec 32) (v17 : BitVec 32) (k0_hw10 : k0_chk10 v4 v15 v17), ∀ (k0_h2 : k0_cond2 v4 v17 = 1#1), (k0_dev10 v15) < nD := fun v4 v15 v17 k0_hw10 k0_h2 => k0_hw10.1.2.2.2.1 k0_h2
theorem k0_off29_inb : ∀ (v4 : BitVec 32) (v15 : BitVec 32) (v17 : BitVec 32) (k0_hw10 : k0_chk10 v4 v15 v17), ∀ (k0_h3 : k0_cond3 v4 v17 = 1#1), ∀ a, (k0_off29 v4) a + S1.size a ≤ S32.size a := fun v4 v15 v17 k0_hw10 k0_h3 => k0_hw10.1.2.2.2.2.1 k0_h3
theorem k0_dev12_lt : ∀ (v4 : BitVec 32) (v15 : BitVec 32) (v17 : BitVec 32) (k0_hw10 : k0_chk10 v4 v15 v17), ∀ (k0_h3 : k0_cond3 v4 v17 = 1#1), (k0_dev12 v15) < nD := fun v4 v15 v17 k0_hw10 k0_h3 => k0_hw10.1.2.2.2.2.2.1 k0_h3
theorem k0_off35_inb : ∀ (v4 : BitVec 32) (v15 : BitVec 32) (v17 : BitVec 32) (k0_hw10 : k0_chk10 v4 v15 v17), ∀ (k0_h4 : k0_cond4 v4 v17 = 1#1), ∀ a, (k0_off35 v4) a + S1.size a ≤ S32.size a := fun v4 v15 v17 k0_hw10 k0_h4 => k0_hw10.1.2.2.2.2.2.2.1 k0_h4
theorem k0_dev14_lt : ∀ (v4 : BitVec 32) (v15 : BitVec 32) (v17 : BitVec 32) (k0_hw10 : k0_chk10 v4 v15 v17), ∀ (k0_h4 : k0_cond4 v4 v17 = 1#1), (k0_dev14 v15) < nD := fun v4 v15 v17 k0_hw10 k0_h4 => k0_hw10.1.2.2.2.2.2.2.2.1 k0_h4
theorem k0_off41_inb : ∀ (v4 : BitVec 32) (v15 : BitVec 32) (v17 : BitVec 32) (k0_hw10 : k0_chk10 v4 v15 v17), ∀ (k0_h5 : k0_cond5 v4 v17 = 1#1), ∀ a, (k0_off41 v4) a + S1.size a ≤ S32.size a := fun v4 v15 v17 k0_hw10 k0_h5 => k0_hw10.1.2.2.2.2.2.2.2.2.1 k0_h5
theorem k0_dev16_lt : ∀ (v4 : BitVec 32) (v15 : BitVec 32) (v17 : BitVec 32) (k0_hw10 : k0_chk10 v4 v15 v17), ∀ (k0_h5 : k0_cond5 v4 v17 = 1#1), (k0_dev16 v15) < nD := fun v4 v15 v17 k0_hw10 k0_h5 => k0_hw10.1.2.2.2.2.2.2.2.2.2.1 k0_h5
theorem k0_off47_inb : ∀ (v4 : BitVec 32) (v15 : BitVec 32) (v17 : BitVec 32) (k0_hw10 : k0_chk10 v4 v15 v17), ∀ (k0_h6 : k0_cond6 v4 v17 = 1#1), ∀ a, (k0_off47 v4) a + S1.size a ≤ S32.size a := fun v4 v15 v17 k0_hw10 k0_h6 => k0_hw10.1.2.2.2.2.2.2.2.2.2.2.1 k0_h6
theorem k0_dev18_lt : ∀ (v4 : BitVec 32) (v15 : BitVec 32) (v17 : BitVec 32) (k0_hw10 : k0_chk10 v4 v15 v17), ∀ (k0_h6 : k0_cond6 v4 v17 = 1#1), (k0_dev18 v15) < nD := fun v4 v15 v17 k0_hw10 k0_h6 => k0_hw10.1.2.2.2.2.2.2.2.2.2.2.2.1 k0_h6
theorem k0_off53_inb : ∀ (v4 : BitVec 32) (v15 : BitVec 32) (v17 : BitVec 32) (k0_hw10 : k0_chk10 v4 v15 v17), ∀ (k0_h7 : k0_cond7 v4 v17 = 1#1), ∀ a, (k0_off53 v4) a + S1.size a ≤ S32.size a := fun v4 v15 v17 k0_hw10 k0_h7 => k0_hw10.1.2.2.2.2.2.2.2.2.2.2.2.2.1 k0_h7
theorem k0_dev20_lt : ∀ (v4 : BitVec 32) (v15 : BitVec 32) (v17 : BitVec 32) (k0_hw10 : k0_chk10 v4 v15 v17), ∀ (k0_h7 : k0_cond7 v4 v17 = 1#1), (k0_dev20 v15) < nD := fun v4 v15 v17 k0_hw10 k0_h7 => k0_hw10.1.2.2.2.2.2.2.2.2.2.2.2.2.2.1 k0_h7
theorem k0_off59_inb : ∀ (v4 : BitVec 32) (v15 : BitVec 32) (v17 : BitVec 32) (k0_hw10 : k0_chk10 v4 v15 v17), ∀ (k0_h8 : k0_cond8 v4 v17 = 1#1), ∀ a, (k0_off59 v4) a + S1.size a ≤ S32.size a := fun v4 v15 v17 k0_hw10 k0_h8 => k0_hw10.1.2.2.2.2.2.2.2.2.2.2.2.2.2.2.1 k0_h8
theorem k0_dev22_lt : ∀ (v4 : BitVec 32) (v15 : BitVec 32) (v17 : BitVec 32) (k0_hw10 : k0_chk10 v4 v15 v17), ∀ (k0_h8 : k0_cond8 v4 v17 = 1#1), (k0_dev22 v15) < nD := fun v4 v15 v17 k0_hw10 k0_h8 => k0_hw10.1.2.2.2.2.2.2.2.2.2.2.2.2.2.2.2.1 k0_h8
theorem k0_off65_inb : ∀ (v4 : BitVec 32) (v15 : BitVec 32) (v17 : BitVec 32) (k0_hw10 : k0_chk10 v4 v15 v17), ∀ (k0_h9 : k0_cond9 v4 v17 = 1#1), ∀ a, (k0_off65 v4) a + S1.size a ≤ S32.size a := fun v4 v15 v17 k0_hw10 k0_h9 => k0_hw10.1.2.2.2.2.2.2.2.2.2.2.2.2.2.2.2.2.1 k0_h9
theorem k0_dev24_lt : ∀ (v4 : BitVec 32) (v15 : BitVec 32) (v17 : BitVec 32) (k0_hw10 : k0_chk10 v4 v15 v17), ∀ (k0_h9 : k0_cond9 v4 v17 = 1#1), (k0_dev24 v15) < nD := fun v4 v15 v17 k0_hw10 k0_h9 => k0_hw10.1.2.2.2.2.2.2.2.2.2.2.2.2.2.2.2.2.2.1 k0_h9
theorem k0_off71_inb : ∀ (v4 : BitVec 32) (v15 : BitVec 32) (v17 : BitVec 32) (k0_hw10 : k0_chk10 v4 v15 v17), ∀ (k0_h10 : k0_cond10 v4 v17 = 1#1), ∀ a, (k0_off71 v4) a + S1.size a ≤ S32.size a := fun v4 v15 v17 k0_hw10 k0_h10 => k0_hw10.1.2.2.2.2.2.2.2.2.2.2.2.2.2.2.2.2.2.2.1 k0_h10
theorem k0_dev26_lt : ∀ (v4 : BitVec 32) (v15 : BitVec 32) (v17 : BitVec 32) (k0_hw10 : k0_chk10 v4 v15 v17), ∀ (k0_h10 : k0_cond10 v4 v17 = 1#1), (k0_dev26 v15) < nD := fun v4 v15 v17 k0_hw10 k0_h10 => k0_hw10.1.2.2.2.2.2.2.2.2.2.2.2.2.2.2.2.2.2.2.2.1 k0_h10
theorem k0_off77_inb : ∀ (v4 : BitVec 32) (v15 : BitVec 32) (v17 : BitVec 32) (k0_hw10 : k0_chk10 v4 v15 v17), ∀ (k0_h11 : k0_cond11 v4 v17 = 1#1), ∀ a, (k0_off77 v4) a + S1.size a ≤ S32.size a := fun v4 v15 v17 k0_hw10 k0_h11 => k0_hw10.1.2.2.2.2.2.2.2.2.2.2.2.2.2.2.2.2.2.2.2.2.1 k0_h11
theorem k0_dev28_lt : ∀ (v4 : BitVec 32) (v15 : BitVec 32) (v17 : BitVec 32) (k0_hw10 : k0_chk10 v4 v15 v17), ∀ (k0_h11 : k0_cond11 v4 v17 = 1#1), (k0_dev28 v15) < nD := fun v4 v15 v17 k0_hw10 k0_h11 => k0_hw10.1.2.2.2.2.2.2.2.2.2.2.2.2.2.2.2.2.2.2.2.2.2.1 k0_h11
theorem k0_off83_inb : ∀ (v4 : BitVec 32) (v15 : BitVec 32) (v17 : BitVec 32) (k0_hw10 : k0_chk10 v4 v15 v17), ∀ (k0_h12 : k0_cond12 v4 v17 = 1#1), ∀ a, (k0_off83 v4) a + S1.size a ≤ S32.size a := fun v4 v15 v17 k0_hw10 k0_h12 => k0_hw10.1.2.2.2.2.2.2.2.2.2.2.2.2.2.2.2.2.2.2.2.2.2.2.1 k0_h12
theorem k0_dev30_lt : ∀ (v4 : BitVec 32) (v15 : BitVec 32) (v17 : BitVec 32) (k0_hw10 : k0_chk10 v4 v15 v17), ∀ (k0_h12 : k0_cond12 v4 v17 = 1#1), (k0_dev30 v15) < nD := fun v4 v15 v17 k0_hw10 k0_h12 => k0_hw10.1.2.2.2.2.2.2.2.2.2.2.2.2.2.2.2.2.2.2.2.2.2.2.2.1 k0_h12
theorem k0_off89_inb : ∀ (v4 : BitVec 32) (v15 : BitVec 32) (v17 : BitVec 32) (k0_hw10 : k0_chk10 v4 v15 v17), ∀ (k0_h13 : k0_cond13 v4 v17 = 1#1), ∀ a, (k0_off89 v4) a + S1.size a ≤ S32.size a := fun v4 v15 v17 k0_hw10 k0_h13 => k0_hw10.1.2.2.2.2.2.2.2.2.2.2.2.2.2.2.2.2.2.2.2.2.2.2.2.2.1 k0_h13
theorem k0_dev32_lt : ∀ (v4 : BitVec 32) (v15 : BitVec 32) (v17 : BitVec 32) (k0_hw10 : k0_chk10 v4 v15 v17), ∀ (k0_h13 : k0_cond13 v4 v17 = 1#1), (k0_dev32 v15) < nD := fun v4 v15 v17 k0_hw10 k0_h13 => k0_hw10.1.2.2.2.2.2.2.2.2.2.2.2.2.2.2.2.2.2.2.2.2.2.2.2.2.2.1 k0_h13
theorem k0_off95_inb : ∀ (v4 : BitVec 32) (v15 : BitVec 32) (v17 : BitVec 32) (k0_hw10 : k0_chk10 v4 v15 v17), ∀ (k0_h14 : k0_cond14 v4 v17 = 1#1), ∀ a, (k0_off95 v4) a + S1.size a ≤ S32.size a := fun v4 v15 v17 k0_hw10 k0_h14 => k0_hw10.1.2.2.2.2.2.2.2.2.2.2.2.2.2.2.2.2.2.2.2.2.2.2.2.2.2.2.1 k0_h14
theorem k0_dev34_lt : ∀ (v4 : BitVec 32) (v15 : BitVec 32) (v17 : BitVec 32) (k0_hw10 : k0_chk10 v4 v15 v17), ∀ (k0_h14 : k0_cond14 v4 v17 = 1#1), (k0_dev34 v15) < nD := fun v4 v15 v17 k0_hw10 k0_h14 => k0_hw10.1.2.2.2.2.2.2.2.2.2.2.2.2.2.2.2.2.2.2.2.2.2.2.2.2.2.2.2.1 k0_h14
theorem k0_off101_inb : ∀ (v4 : BitVec 32) (v15 : BitVec 32) (v17 : BitVec 32) (k0_hw10 : k0_chk10 v4 v15 v17), ∀ (k0_h15 : k0_cond15 v4 v17 = 1#1), ∀ a, (k0_off101 v4) a + S1.size a ≤ S32.size a := fun v4 v15 v17 k0_hw10 k0_h15 => k0_hw10.1.2.2.2.2.2.2.2.2.2.2.2.2.2.2.2.2.2.2.2.2.2.2.2.2.2.2.2.2.1 k0_h15
theorem k0_dev36_lt : ∀ (v4 : BitVec 32) (v15 : BitVec 32) (v17 : BitVec 32) (k0_hw10 : k0_chk10 v4 v15 v17), ∀ (k0_h15 : k0_cond15 v4 v17 = 1#1), (k0_dev36 v15) < nD := fun v4 v15 v17 k0_hw10 k0_h15 => k0_hw10.1.2.2.2.2.2.2.2.2.2.2.2.2.2.2.2.2.2.2.2.2.2.2.2.2.2.2.2.2.2.1 k0_h15
theorem k0_off107_inb : ∀ (v4 : BitVec 32) (v15 : BitVec 32) (v17 : BitVec 32) (k0_hw10 : k0_chk10 v4 v15 v17), ∀ (k0_h16 : k0_cond16 v4 v17 = 1#1), ∀ a, (k0_off107 v4) a + S1.size a ≤ S32.size a := fun v4 v15 v17 k0_hw10 k0_h16 => k0_hw10.1.2.2.2.2.2.2.2.2.2.2.2.2.2.2.2.2.2.2.2.2.2.2.2.2.2.2.2.2.2.2.1 k0_h16
theorem k0_dev38_lt : ∀ (v4 : BitVec 32) (v15 : BitVec 32) (v17 : BitVec 32) (k0_hw10 : k0_chk10 v4 v15 v17), ∀ (k0_h16 : k0_cond16 v4 v17 = 1#1), (k0_dev38 v15) < nD := fun v4 v15 v17 k0_hw10 k0_h16 => k0_hw10.1.2.2.2.2.2.2.2.2.2.2.2.2.2.2.2.2.2.2.2.2.2.2.2.2.2.2.2.2.2.2.2 k0_h16
theorem k0_off113_inb : ∀ (v4 : BitVec 32) (v15 : BitVec 32) (v17 : BitVec 32) (k0_hw10 : k0_chk10 v4 v15 v17), ∀ (k0_h17 : k0_cond17 v4 v17 = 1#1), ∀ a, (k0_off113 v4) a + S1.size a ≤ S32.size a := fun v4 v15 v17 k0_hw10 k0_h17 => k0_hw10.2.1.1 k0_h17
theorem k0_dev40_lt : ∀ (v4 : BitVec 32) (v15 : BitVec 32) (v17 : BitVec 32) (k0_hw10 : k0_chk10 v4 v15 v17), ∀ (k0_h17 : k0_cond17 v4 v17 = 1#1), (k0_dev40 v15) < nD := fun v4 v15 v17 k0_hw10 k0_h17 => k0_hw10.2.1.2.1 k0_h17
theorem k0_off119_inb : ∀ (v4 : BitVec 32) (v15 : BitVec 32) (v17 : BitVec 32) (k0_hw10 : k0_chk10 v4 v15 v17), ∀ (k0_h18 : k0_cond18 v4 v17 = 1#1), ∀ a, (k0_off119 v4) a + S1.size a ≤ S32.size a := fun v4 v15 v17 k0_hw10 k0_h18 => k0_hw10.2.1.2.2.1 k0_h18
theorem k0_dev42_lt : ∀ (v4 : BitVec 32) (v15 : BitVec 32) (v17 : BitVec 32) (k0_hw10 : k0_chk10 v4 v15 v17), ∀ (k0_h18 : k0_cond18 v4 v17 = 1#1), (k0_dev42 v15) < nD := fun v4 v15 v17 k0_hw10 k0_h18 => k0_hw10.2.1.2.2.2.1 k0_h18
theorem k0_off125_inb : ∀ (v4 : BitVec 32) (v15 : BitVec 32) (v17 : BitVec 32) (k0_hw10 : k0_chk10 v4 v15 v17), ∀ (k0_h19 : k0_cond19 v4 v17 = 1#1), ∀ a, (k0_off125 v4) a + S1.size a ≤ S32.size a := fun v4 v15 v17 k0_hw10 k0_h19 => k0_hw10.2.1.2.2.2.2.1 k0_h19
theorem k0_dev44_lt : ∀ (v4 : BitVec 32) (v15 : BitVec 32) (v17 : BitVec 32) (k0_hw10 : k0_chk10 v4 v15 v17), ∀ (k0_h19 : k0_cond19 v4 v17 = 1#1), (k0_dev44 v15) < nD := fun v4 v15 v17 k0_hw10 k0_h19 => k0_hw10.2.1.2.2.2.2.2.1 k0_h19
theorem k0_off131_inb : ∀ (v4 : BitVec 32) (v15 : BitVec 32) (v17 : BitVec 32) (k0_hw10 : k0_chk10 v4 v15 v17), ∀ (k0_h20 : k0_cond20 v4 v17 = 1#1), ∀ a, (k0_off131 v4) a + S1.size a ≤ S32.size a := fun v4 v15 v17 k0_hw10 k0_h20 => k0_hw10.2.1.2.2.2.2.2.2.1 k0_h20
theorem k0_dev46_lt : ∀ (v4 : BitVec 32) (v15 : BitVec 32) (v17 : BitVec 32) (k0_hw10 : k0_chk10 v4 v15 v17), ∀ (k0_h20 : k0_cond20 v4 v17 = 1#1), (k0_dev46 v15) < nD := fun v4 v15 v17 k0_hw10 k0_h20 => k0_hw10.2.1.2.2.2.2.2.2.2.1 k0_h20
theorem k0_off137_inb : ∀ (v4 : BitVec 32) (v15 : BitVec 32) (v17 : BitVec 32) (k0_hw10 : k0_chk10 v4 v15 v17), ∀ (k0_h21 : k0_cond21 v4 v17 = 1#1), ∀ a, (k0_off137 v4) a + S1.size a ≤ S32.size a := fun v4 v15 v17 k0_hw10 k0_h21 => k0_hw10.2.1.2.2.2.2.2.2.2.2.1 k0_h21
theorem k0_dev48_lt : ∀ (v4 : BitVec 32) (v15 : BitVec 32) (v17 : BitVec 32) (k0_hw10 : k0_chk10 v4 v15 v17), ∀ (k0_h21 : k0_cond21 v4 v17 = 1#1), (k0_dev48 v15) < nD := fun v4 v15 v17 k0_hw10 k0_h21 => k0_hw10.2.1.2.2.2.2.2.2.2.2.2.1 k0_h21
theorem k0_off143_inb : ∀ (v4 : BitVec 32) (v15 : BitVec 32) (v17 : BitVec 32) (k0_hw10 : k0_chk10 v4 v15 v17), ∀ (k0_h22 : k0_cond22 v4 v17 = 1#1), ∀ a, (k0_off143 v4) a + S1.size a ≤ S32.size a := fun v4 v15 v17 k0_hw10 k0_h22 => k0_hw10.2.1.2.2.2.2.2.2.2.2.2.2.1 k0_h22
theorem k0_dev50_lt : ∀ (v4 : BitVec 32) (v15 : BitVec 32) (v17 : BitVec 32) (k0_hw10 : k0_chk10 v4 v15 v17), ∀ (k0_h22 : k0_cond22 v4 v17 = 1#1), (k0_dev50 v15) < nD := fun v4 v15 v17 k0_hw10 k0_h22 => k0_hw10.2.1.2.2.2.2.2.2.2.2.2.2.2.1 k0_h22
theorem k0_off149_inb : ∀ (v4 : BitVec 32) (v15 : BitVec 32) (v17 : BitVec 32) (k0_hw10 : k0_chk10 v4 v15 v17), ∀ (k0_h23 : k0_cond23 v4 v17 = 1#1), ∀ a, (k0_off149 v4) a + S1.size a ≤ S32.size a := fun v4 v15 v17 k0_hw10 k0_h23 => k0_hw10.2.1.2.2.2.2.2.2.2.2.2.2.2.2.1 k0_h23
theorem k0_dev52_lt : ∀ (v4 : BitVec 32) (v15 : BitVec 32) (v17 : BitVec 32) (k0_hw10 : k0_chk10 v4 v15 v17), ∀ (k0_h23 : k0_cond23 v4 v17 = 1#1), (k0_dev52 v15) < nD := fun v4 v15 v17 k0_hw10 k0_h23 => k0_hw10.2.1.2.2.2.2.2.2.2.2.2.2.2.2.2.1 k0_h23
theorem k0_off155_inb : ∀ (v4 : BitVec 32) (v15 : BitVec 32) (v17 : BitVec 32) (k0_hw10 : k0_chk10 v4 v15 v17), ∀ (k0_h24 : k0_cond24 v4 v17 = 1#1), ∀ a, (k0_off155 v4) a + S1.size a ≤ S32.size a := fun v4 v15 v17 k0_hw10 k0_h24 => k0_hw10.2.1.2.2.2.2.2.2.2.2.2.2.2.2.2.2.1 k0_h24
theorem k0_dev54_lt : ∀ (v4 : BitVec 32) (v15 : BitVec 32) (v17 : BitVec 32) (k0_hw10 : k0_chk10 v4 v15 v17), ∀ (k0_h24 : k0_cond24 v4 v17 = 1#1), (k0_dev54 v15) < nD := fun v4 v15 v17 k0_hw10 k0_h24 => k0_hw10.2.1.2.2.2.2.2.2.2.2.2.2.2.2.2.2.2.1 k0_h24
theorem k0_off161_inb : ∀ (v4 : BitVec 32) (v15 : BitVec 32) (v17 : BitVec 32) (k0_hw10 : k0_chk10 v4 v15 v17), ∀ (k0_h25 : k0_cond25 v4 v17 = 1#1), ∀ a, (k0_off161 v4) a + S1.size a ≤ S32.size a := fun v4 v15 v17 k0_hw10 k0_h25 => k0_hw10.2.1.2.2.2.2.2.2.2.2.2.2.2.2.2.2.2.2.1 k0_h25
theorem k0_dev56_lt : ∀ (v4 : BitVec 32) (v15 : BitVec 32) (v17 : BitVec 32) (k0_hw10 : k0_chk10 v4 v15 v17), ∀ (k0_h25 : k0_cond25 v4 v17 = 1#1), (k0_dev56 v15) < nD := fun v4 v15 v17 k0_hw10 k0_h25 => k0_hw10.2.1.2.2.2.2.2.2.2.2.2.2.2.2.2.2.2.2.2.1 k0_h25
theorem k0_off167_inb : ∀ (v4 : BitVec 32) (v15 : BitVec 32) (v17 : BitVec 32) (k0_hw10 : k0_chk10 v4 v15 v17), ∀ (k0_h26 : k0_cond26 v4 v17 = 1#1), ∀ a, (k0_off167 v4) a + S1.size a ≤ S32.size a := fun v4 v15 v17 k0_hw10 k0_h26 => k0_hw10.2.1.2.2.2.2.2.2.2.2.2.2.2.2.2.2.2.2.2.2.1 k0_h26
theorem k0_dev58_lt : ∀ (v4 : BitVec 32) (v15 : BitVec 32) (v17 : BitVec 32) (k0_hw10 : k0_chk10 v4 v15 v17), ∀ (k0_h26 : k0_cond26 v4 v17 = 1#1), (k0_dev58 v15) < nD := fun v4 v15 v17 k0_hw10 k0_h26 => k0_hw10.2.1.2.2.2.2.2.2.2.2.2.2.2.2.2.2.2.2.2.2.2.1 k0_h26
theorem k0_off173_inb : ∀ (v4 : BitVec 32) (v15 : BitVec 32) (v17 : BitVec 32) (k0_hw10 : k0_chk10 v4 v15 v17), ∀ (k0_h27 : k0_cond27 v4 v17 = 1#1), ∀ a, (k0_off173 v4) a + S1.size a ≤ S32.size a := fun v4 v15 v17 k0_hw10 k0_h27 => k0_hw10.2.1.2.2.2.2.2.2.2.2.2.2.2.2.2.2.2.2.2.2.2.2.1 k0_h27
theorem k0_dev60_lt : ∀ (v4 : BitVec 32) (v15 : BitVec 32) (v17 : BitVec 32) (k0_hw10 : k0_chk10 v4 v15 v17), ∀ (k0_h27 : k0_cond27 v4 v17 = 1#1), (k0_dev60 v15) < nD := fun v4 v15 v17 k0_hw10 k0_h27 => k0_hw10.2.1.2.2.2.2.2.2.2.2.2.2.2.2.2.2.2.2.2.2.2.2.2.1 k0_h27
theorem k0_off179_inb : ∀ (v4 : BitVec 32) (v15 : BitVec 32) (v17 : BitVec 32) (k0_hw10 : k0_chk10 v4 v15 v17), ∀ (k0_h28 : k0_cond28 v4 v17 = 1#1), ∀ a, (k0_off179 v4) a + S1.size a ≤ S32.size a := fun v4 v15 v17 k0_hw10 k0_h28 => k0_hw10.2.1.2.2.2.2.2.2.2.2.2.2.2.2.2.2.2.2.2.2.2.2.2.2.1 k0_h28
theorem k0_dev62_lt : ∀ (v4 : BitVec 32) (v15 : BitVec 32) (v17 : BitVec 32) (k0_hw10 : k0_chk10 v4 v15 v17), ∀ (k0_h28 : k0_cond28 v4 v17 = 1#1), (k0_dev62 v15) < nD := fun v4 v15 v17 k0_hw10 k0_h28 => k0_hw10.2.1.2.2.2.2.2.2.2.2.2.2.2.2.2.2.2.2.2.2.2.2.2.2.2.1 k0_h28
theorem k0_off185_inb : ∀ (v4 : BitVec 32) (v15 : BitVec 32) (v17 : BitVec 32) (k0_hw10 : k0_chk10 v4 v15 v17), ∀ (k0_h29 : k0_cond29 v4 v17 = 1#1), ∀ a, (k0_off185 v4) a + S1.size a ≤ S32.size a := fun v4 v15 v17 k0_hw10 k0_h29 => k0_hw10.2.1.2.2.2.2.2.2.2.2.2.2.2.2.2.2.2.2.2.2.2.2.2.2.2.2.1 k0_h29
theorem k0_dev64_lt : ∀ (v4 : BitVec 32) (v15 : BitVec 32) (v17 : BitVec 32) (k0_hw10 : k0_chk10 v4 v15 v17), ∀ (k0_h29 : k0_cond29 v4 v17 = 1#1), (k0_dev64 v15) < nD := fun v4 v15 v17 k0_hw10 k0_h29 => k0_hw10.2.1.2.2.2.2.2.2.2.2.2.2.2.2.2.2.2.2.2.2.2.2.2.2.2.2.2.1 k0_h29
theorem k0_off191_inb : ∀ (v4 : BitVec 32) (v15 : BitVec 32) (v17 : BitVec 32) (k0_hw10 : k0_chk10 v4 v15 v17), ∀ (k0_h30 : k0_cond30 v4 v17 = 1#1), ∀ a, (k0_off191 v4) a + S1.size a ≤ S32.size a := fun v4 v15 v17 k0_hw10 k0_h30 => k0_hw10.2.1.2.2.2.2.2.2.2.2.2.2.2.2.2.2.2.2.2.2.2.2.2.2.2.2.2.2.1 k0_h30
theorem k0_dev66_lt : ∀ (v4 : BitVec 32) (v15 : BitVec 32) (v17 : BitVec 32) (k0_hw10 : k0_chk10 v4 v15 v17), ∀ (k0_h30 : k0_cond30 v4 v17 = 1#1), (k0_dev66 v15) < nD := fun v4 v15 v17 k0_hw10 k0_h30 => k0_hw10.2.1.2.2.2.2.2.2.2.2.2.2.2.2.2.2.2.2.2.2.2.2.2.2.2.2.2.2.2.1 k0_h30
theorem k0_off197_inb : ∀ (v4 : BitVec 32) (v15 : BitVec 32) (v17 : BitVec 32) (k0_hw10 : k0_chk10 v4 v15 v17), ∀ (k0_h31 : k0_cond31 v4 v17 = 1#1), ∀ a, (k0_off197 v4) a + S1.size a ≤ S32.size a := fun v4 v15 v17 k0_hw10 k0_h31 => k0_hw10.2.1.2.2.2.2.2.2.2.2.2.2.2.2.2.2.2.2.2.2.2.2.2.2.2.2.2.2.2.2.1 k0_h31
theorem k0_dev68_lt : ∀ (v4 : BitVec 32) (v15 : BitVec 32) (v17 : BitVec 32) (k0_hw10 : k0_chk10 v4 v15 v17), ∀ (k0_h31 : k0_cond31 v4 v17 = 1#1), (k0_dev68 v15) < nD := fun v4 v15 v17 k0_hw10 k0_h31 => k0_hw10.2.1.2.2.2.2.2.2.2.2.2.2.2.2.2.2.2.2.2.2.2.2.2.2.2.2.2.2.2.2.2.1 k0_h31
theorem k0_off203_inb : ∀ (v4 : BitVec 32) (v15 : BitVec 32) (v17 : BitVec 32) (k0_hw10 : k0_chk10 v4 v15 v17), ∀ (k0_h32 : k0_cond32 v4 v17 = 1#1), ∀ a, (k0_off203 v4) a + S1.size a ≤ S32.size a := fun v4 v15 v17 k0_hw10 k0_h32 => k0_hw10.2.1.2.2.2.2.2.2.2.2.2.2.2.2.2.2.2.2.2.2.2.2.2.2.2.2.2.2.2.2.2.2.1 k0_h32
theorem k0_dev70_lt : ∀ (v4 : BitVec 32) (v15 : BitVec 32) (v17 : BitVec 32) (k0_hw10 : k0_chk10 v4 v15 v17), ∀ (k0_h32 : k0_cond32 v4 v17 = 1#1), (k0_dev70 v15) < nD := fun v4 v15 v17 k0_hw10 k0_h32 => k0_hw10.2.1.2.2.2.2.2.2.2.2.2.2.2.2.2.2.2.2.2.2.2.2.2.2.2.2.2.2.2.2.2.2.2 k0_h32
theorem k0_off209_inb : ∀ (v4 : BitVec 32) (v15 : BitVec 32) (v17 : BitVec 32) (k0_hw10 : k0_chk10 v4 v15 v17), ∀ (k0_h33 : k0_cond33 v4 v17 = 1#1), ∀ a, (k0_off209 v4) a + S1.size a ≤ S32.size a := fun v4 v15 v17 k0_hw10 k0_h33 => k0_hw10.2.2.1.1 k0_h33
theorem k0_dev72_lt : ∀ (v4 : BitVec 32) (v15 : BitVec 32) (v17 : BitVec 32) (k0_hw10 : k0_chk10 v4 v15 v17), ∀ (k0_h33 : k0_cond33 v4 v17 = 1#1), (k0_dev72 v15) < nD := fun v4 v15 v17 k0_hw10 k0_h33 => k0_hw10.2.2.1.2.1 k0_h33
theorem k0_off215_inb : ∀ (v4 : BitVec 32) (v15 : BitVec 32) (v17 : BitVec 32) (k0_hw10 : k0_chk10 v4 v15 v17), ∀ (k0_h34 : k0_cond34 v4 v17 = 1#1), ∀ a, (k0_off215 v4) a + S1.size a ≤ S32.size a := fun v4 v15 v17 k0_hw10 k0_h34 => k0_hw10.2.2.1.2.2.1 k0_h34
theorem k0_dev74_lt : ∀ (v4 : BitVec 32) (v15 : BitVec 32) (v17 : BitVec 32) (k0_hw10 : k0_chk10 v4 v15 v17), ∀ (k0_h34 : k0_cond34 v4 v17 = 1#1), (k0_dev74 v15) < nD := fun v4 v15 v17 k0_hw10 k0_h34 => k0_hw10.2.2.1.2.2.2.1 k0_h34
theorem k0_off221_inb : ∀ (v4 : BitVec 32) (v15 : BitVec 32) (v17 : BitVec 32) (k0_hw10 : k0_chk10 v4 v15 v17), ∀ (k0_h35 : k0_cond35 v4 v17 = 1#1), ∀ a, (k0_off221 v4) a + S1.size a ≤ S32.size a := fun v4 v15 v17 k0_hw10 k0_h35 => k0_hw10.2.2.1.2.2.2.2.1 k0_h35
theorem k0_dev76_lt : ∀ (v4 : BitVec 32) (v15 : BitVec 32) (v17 : BitVec 32) (k0_hw10 : k0_chk10 v4 v15 v17), ∀ (k0_h35 : k0_cond35 v4 v17 = 1#1), (k0_dev76 v15) < nD := fun v4 v15 v17 k0_hw10 k0_h35 => k0_hw10.2.2.1.2.2.2.2.2.1 k0_h35
theorem k0_off227_inb : ∀ (v4 : BitVec 32) (v15 : BitVec 32) (v17 : BitVec 32) (k0_hw10 : k0_chk10 v4 v15 v17), ∀ (k0_h36 : k0_cond36 v4 v17 = 1#1), ∀ a, (k0_off227 v4) a + S1.size a ≤ S32.size a := fun v4 v15 v17 k0_hw10 k0_h36 => k0_hw10.2.2.1.2.2.2.2.2.2.1 k0_h36
theorem k0_dev78_lt : ∀ (v4 : BitVec 32) (v15 : BitVec 32) (v17 : BitVec 32) (k0_hw10 : k0_chk10 v4 v15 v17), ∀ (k0_h36 : k0_cond36 v4 v17 = 1#1), (k0_dev78 v15) < nD := fun v4 v15 v17 k0_hw10 k0_h36 => k0_hw10.2.2.1.2.2.2.2.2.2.2.1 k0_h36
theorem k0_off233_inb : ∀ (v4 : BitVec 32) (v15 : BitVec 32) (v17 : BitVec 32) (k0_hw10 : k0_chk10 v4 v15 v17), ∀ (k0_h37 : k0_cond37 v4 v17 = 1#1), ∀ a, (k0_off233 v4) a + S1.size a ≤ S32.size a := fun v4 v15 v17 k0_hw10 k0_h37 => k0_hw10.2.2.1.2.2.2.2.2.2.2.2.1 k0_h37
theorem k0_dev80_lt : ∀ (v4 : BitVec 32) (v15 : BitVec 32) (v17 : BitVec 32) (k0_hw10 : k0_chk10 v4 v15 v17), ∀ (k0_h37 : k0_cond37 v4 v17 = 1#1), (k0_dev80 v15) < nD := fun v4 v15 v17 k0_hw10 k0_h37 => k0_hw10.2.2.1.2.2.2.2.2.2.2.2.2.1 k0_h37
theorem k0_off239_inb : ∀ (v4 : BitVec 32) (v15 : BitVec 32) (v17 : BitVec 32) (k0_hw10 : k0_chk10 v4 v15 v17), ∀ (k0_h38 : k0_cond38 v4 v17 = 1#1), ∀ a, (k0_off239 v4) a + S1.size a ≤ S32.size a := fun v4 v15 v17 k0_hw10 k0_h38 => k0_hw10.2.2.1.2.2.2.2.2.2.2.2.2.2.1 k0_h38
theorem k0_dev82_lt : ∀ (v4 : BitVec 32) (v15 : BitVec 32) (v17 : BitVec 32) (k0_hw10 : k0_chk10 v4 v15 v17), ∀ (k0_h38 : k0_cond38 v4 v17 = 1#1), (k0_dev82 v15) < nD := fun v4 v15 v17 k0_hw10 k0_h38 => k0_hw10.2.2.1.2.2.2.2.2.2.2.2.2.2.2.1 k0_h38
theorem k0_off245_inb : ∀ (v4 : BitVec 32) (v15 : BitVec 32) (v17 : BitVec 32) (k0_hw10 : k0_chk10 v4 v15 v17), ∀ (k0_h39 : k0_cond39 v4 v17 = 1#1), ∀ a, (k0_off245 v4) a + S1.size a ≤ S32.size a := fun v4 v15 v17 k0_hw10 k0_h39 => k0_hw10.2.2.1.2.2.2.2.2.2.2.2.2.2.2.2.1 k0_h39
theorem k0_dev84_lt : ∀ (v4 : BitVec 32) (v15 : BitVec 32) (v17 : BitVec 32) (k0_hw10 : k0_chk10 v4 v15 v17), ∀ (k0_h39 : k0_cond39 v4 v17 = 1#1), (k0_dev84 v15) < nD := fun v4 v15 v17 k0_hw10 k0_h39 => k0_hw10.2.2.1.2.2.2.2.2.2.2.2.2.2.2.2.2.1 k0_h39
theorem k0_off251_inb : ∀ (v4 : BitVec 32) (v15 : BitVec 32) (v17 : BitVec 32) (k0_hw10 : k0_chk10 v4 v15 v17), ∀ (k0_h40 : k0_cond40 v4 v17 = 1#1), ∀ a, (k0_off251 v4) a + S1.size a ≤ S32.size a := fun v4 v15 v17 k0_hw10 k0_h40 => k0_hw10.2.2.1.2.2.2.2.2.2.2.2.2.2.2.2.2.2.1 k0_h40
theorem k0_dev86_lt : ∀ (v4 : BitVec 32) (v15 : BitVec 32) (v17 : BitVec 32) (k0_hw10 : k0_chk10 v4 v15 v17), ∀ (k0_h40 : k0_cond40 v4 v17 = 1#1), (k0_dev86 v15) < nD := fun v4 v15 v17 k0_hw10 k0_h40 => k0_hw10.2.2.1.2.2.2.2.2.2.2.2.2.2.2.2.2.2.2.1 k0_h40
theorem k0_off257_inb : ∀ (v4 : BitVec 32) (v15 : BitVec 32) (v17 : BitVec 32) (k0_hw10 : k0_chk10 v4 v15 v17), ∀ (k0_h41 : k0_cond41 v4 v17 = 1#1), ∀ a, (k0_off257 v4) a + S1.size a ≤ S32.size a := fun v4 v15 v17 k0_hw10 k0_h41 => k0_hw10.2.2.1.2.2.2.2.2.2.2.2.2.2.2.2.2.2.2.2.1 k0_h41
theorem k0_dev88_lt : ∀ (v4 : BitVec 32) (v15 : BitVec 32) (v17 : BitVec 32) (k0_hw10 : k0_chk10 v4 v15 v17), ∀ (k0_h41 : k0_cond41 v4 v17 = 1#1), (k0_dev88 v15) < nD := fun v4 v15 v17 k0_hw10 k0_h41 => k0_hw10.2.2.1.2.2.2.2.2.2.2.2.2.2.2.2.2.2.2.2.2.1 k0_h41
theorem k0_off263_inb : ∀ (v4 : BitVec 32) (v15 : BitVec 32) (v17 : BitVec 32) (k0_hw10 : k0_chk10 v4 v15 v17), ∀ (k0_h42 : k0_cond42 v4 v17 = 1#1), ∀ a, (k0_off263 v4) a + S1.size a ≤ S32.size a := fun v4 v15 v17 k0_hw10 k0_h42 => k0_hw10.2.2.1.2.2.2.2.2.2.2.2.2.2.2.2.2.2.2.2.2.2.1 k0_h42
theorem k0_dev90_lt : ∀ (v4 : BitVec 32) (v15 : BitVec 32) (v17 : BitVec 32) (k0_hw10 : k0_chk10 v4 v15 v17), ∀ (k0_h42 : k0_cond42 v4 v17 = 1#1), (k0_dev90 v15) < nD := fun v4 v15 v17 k0_hw10 k0_h42 => k0_hw10.2.2.1.2.2.2.2.2.2.2.2.2.2.2.2.2.2.2.2.2.2.2.1 k0_h42
theorem k0_off269_inb : ∀ (v4 : BitVec 32) (v15 : BitVec 32) (v17 : BitVec 32) (k0_hw10 : k0_chk10 v4 v15 v17), ∀ (k0_h43 : k0_cond43 v4 v17 = 1#1), ∀ a, (k0_off269 v4) a + S1.size a ≤ S32.size a := fun v4 v15 v17 k0_hw10 k0_h43 => k0_hw10.2.2.1.2.2.2.2.2.2.2.2.2.2.2.2.2.2.2.2.2.2.2.2.1 k0_h43
theorem k0_dev92_lt : ∀ (v4 : BitVec 32) (v15 : BitVec 32) (v17 : BitVec 32) (k0_hw10 : k0_chk10 v4 v15 v17), ∀ (k0_h43 : k0_cond43 v4 v17 = 1#1), (k0_dev92 v15) < nD := fun v4 v15 v17 k0_hw10 k0_h43 => k0_hw10.2.2.1.2.2.2.2.2.2.2.2.2.2.2.2.2.2.2.2.2.2.2.2.2.1 k0_h43
theorem k0_off275_inb : ∀ (v4 : BitVec 32) (v15 : BitVec 32) (v17 : BitVec 32) (k0_hw10 : k0_chk10 v4 v15 v17), ∀ (k0_h44 : k0_cond44 v4 v17 = 1#1), ∀ a, (k0_off275 v4) a + S1.size a ≤ S32.size a := fun v4 v15 v17 k0_hw10 k0_h44 => k0_hw10.2.2.1.2.2.2.2.2.2.2.2.2.2.2.2.2.2.2.2.2.2.2.2.2.2.1 k0_h44
theorem k0_dev94_lt : ∀ (v4 : BitVec 32) (v15 : BitVec 32) (v17 : BitVec 32) (k0_hw10 : k0_chk10 v4 v15 v17), ∀ (k0_h44 : k0_cond44 v4 v17 = 1#1), (k0_dev94 v15) < nD := fun v4 v15 v17 k0_hw10 k0_h44 => k0_hw10.2.2.1.2.2.2.2.2.2.2.2.2.2.2.2.2.2.2.2.2.2.2.2.2.2.2.1 k0_h44
theorem k0_off281_inb : ∀ (v4 : BitVec 32) (v15 : BitVec 32) (v17 : BitVec 32) (k0_hw10 : k0_chk10 v4 v15 v17), ∀ (k0_h45 : k0_cond45 v4 v17 = 1#1), ∀ a, (k0_off281 v4) a + S1.size a ≤ S32.size a := fun v4 v15 v17 k0_hw10 k0_h45 => k0_hw10.2.2.1.2.2.2.2.2.2.2.2.2.2.2.2.2.2.2.2.2.2.2.2.2.2.2.2.1 k0_h45
theorem k0_dev96_lt : ∀ (v4 : BitVec 32) (v15 : BitVec 32) (v17 : BitVec 32) (k0_hw10 : k0_chk10 v4 v15 v17), ∀ (k0_h45 : k0_cond45 v4 v17 = 1#1), (k0_dev96 v15) < nD := fun v4 v15 v17 k0_hw10 k0_h45 => k0_hw10.2.2.1.2.2.2.2.2.2.2.2.2.2.2.2.2.2.2.2.2.2.2.2.2.2.2.2.2.1 k0_h45
theorem k0_off287_inb : ∀ (v4 : BitVec 32) (v15 : BitVec 32) (v17 : BitVec 32) (k0_hw10 : k0_chk10 v4 v15 v17), ∀ (k0_h46 : k0_cond46 v4 v17 = 1#1), ∀ a, (k0_off287 v4) a + S1.size a ≤ S32.size a := fun v4 v15 v17 k0_hw10 k0_h46 => k0_hw10.2.2.1.2.2.2.2.2.2.2.2.2.2.2.2.2.2.2.2.2.2.2.2.2.2.2.2.2.2.1 k0_h46
theorem k0_dev98_lt : ∀ (v4 : BitVec 32) (v15 : BitVec 32) (v17 : BitVec 32) (k0_hw10 : k0_chk10 v4 v15 v17), ∀ (k0_h46 : k0_cond46 v4 v17 = 1#1), (k0_dev98 v15) < nD := fun v4 v15 v17 k0_hw10 k0_h46 => k0_hw10.2.2.1.2.2.2.2.2.2.2.2.2.2.2.2.2.2.2.2.2.2.2.2.2.2.2.2.2.2.2.1 k0_h46
theorem k0_off293_inb : ∀ (v4 : BitVec 32) (v15 : BitVec 32) (v17 : BitVec 32) (k0_hw10 : k0_chk10 v4 v15 v17), ∀ (k0_h47 : k0_cond47 v4 v17 = 1#1), ∀ a, (k0_off293 v4) a + S1.size a ≤ S32.size a := fun v4 v15 v17 k0_hw10 k0_h47 => k0_hw10.2.2.1.2.2.2.2.2.2.2.2.2.2.2.2.2.2.2.2.2.2.2.2.2.2.2.2.2.2.2.2.1 k0_h47
theorem k0_dev100_lt : ∀ (v4 : BitVec 32) (v15 : BitVec 32) (v17 : BitVec 32) (k0_hw10 : k0_chk10 v4 v15 v17), ∀ (k0_h47 : k0_cond47 v4 v17 = 1#1), (k0_dev100 v15) < nD := fun v4 v15 v17 k0_hw10 k0_h47 => k0_hw10.2.2.1.2.2.2.2.2.2.2.2.2.2.2.2.2.2.2.2.2.2.2.2.2.2.2.2.2.2.2.2.2.1 k0_h47
theorem k0_off299_inb : ∀ (v4 : BitVec 32) (v15 : BitVec 32) (v17 : BitVec 32) (k0_hw10 : k0_chk10 v4 v15 v17), ∀ (k0_h48 : k0_cond48 v4 v17 = 1#1), ∀ a, (k0_off299 v4) a + S1.size a ≤ S32.size a := fun v4 v15 v17 k0_hw10 k0_h48 => k0_hw10.2.2.1.2.2.2.2.2.2.2.2.2.2.2.2.2.2.2.2.2.2.2.2.2.2.2.2.2.2.2.2.2.2.1 k0_h48
theorem k0_dev102_lt : ∀ (v4 : BitVec 32) (v15 : BitVec 32) (v17 : BitVec 32) (k0_hw10 : k0_chk10 v4 v15 v17), ∀ (k0_h48 : k0_cond48 v4 v17 = 1#1), (k0_dev102 v15) < nD := fun v4 v15 v17 k0_hw10 k0_h48 => k0_hw10.2.2.1.2.2.2.2.2.2.2.2.2.2.2.2.2.2.2.2.2.2.2.2.2.2.2.2.2.2.2.2.2.2.2 k0_h48
theorem k0_off305_inb : ∀ (v4 : BitVec 32) (v15 : BitVec 32) (v17 : BitVec 32) (k0_hw10 : k0_chk10 v4 v15 v17), ∀ (k0_h49 : k0_cond49 v4 v17 = 1#1), ∀ a, (k0_off305 v4) a + S1.size a ≤ S32.size a := fun v4 v15 v17 k0_hw10 k0_h49 => k0_hw10.2.2.2.1 k0_h49
theorem k0_dev104_lt : ∀ (v4 : BitVec 32) (v15 : BitVec 32) (v17 : BitVec 32) (k0_hw10 : k0_chk10 v4 v15 v17), ∀ (k0_h49 : k0_cond49 v4 v17 = 1#1), (k0_dev104 v15) < nD := fun v4 v15 v17 k0_hw10 k0_h49 => k0_hw10.2.2.2.2.1 k0_h49
theorem k0_off309_inb : ∀ (v4 : BitVec 32) (v15 : BitVec 32) (v17 : BitVec 32) (k0_hw10 : k0_chk10 v4 v15 v17), ∀ (k0_h50 : k0_cond50 v4 v17 = 1#1), ∀ a, (k0_off309 v4) a + S1.size a ≤ S32.size a := fun v4 v15 v17 k0_hw10 k0_h50 => k0_hw10.2.2.2.2.2.1 k0_h50
theorem k0_dev105_lt : ∀ (v4 : BitVec 32) (v15 : BitVec 32) (v17 : BitVec 32) (k0_hw10 : k0_chk10 v4 v15 v17), ∀ (k0_h50 : k0_cond50 v4 v17 = 1#1), (k0_dev105 v15) < nD := fun v4 v15 v17 k0_hw10 k0_h50 => k0_hw10.2.2.2.2.2.2.1 k0_h50
theorem k0_off313_inb : ∀ (v4 : BitVec 32) (v15 : BitVec 32) (v17 : BitVec 32) (k0_hw10 : k0_chk10 v4 v15 v17), ∀ (k0_h51 : k0_cond51 v4 v17 = 1#1), ∀ a, (k0_off313 v4) a + S1.size a ≤ S32.size a := fun v4 v15 v17 k0_hw10 k0_h51 => k0_hw10.2.2.2.2.2.2.2.1 k0_h51
theorem k0_dev106_lt : ∀ (v4 : BitVec 32) (v15 : BitVec 32) (v17 : BitVec 32) (k0_hw10 : k0_chk10 v4 v15 v17), ∀ (k0_h51 : k0_cond51 v4 v17 = 1#1), (k0_dev106 v15) < nD := fun v4 v15 v17 k0_hw10 k0_h51 => k0_hw10.2.2.2.2.2.2.2.2.1 k0_h51
theorem k0_off317_inb : ∀ (v4 : BitVec 32) (v15 : BitVec 32) (v17 : BitVec 32) (k0_hw10 : k0_chk10 v4 v15 v17), ∀ (k0_h52 : k0_cond52 v4 v17 = 1#1), ∀ a, (k0_off317 v4) a + S1.size a ≤ S32.size a := fun v4 v15 v17 k0_hw10 k0_h52 => k0_hw10.2.2.2.2.2.2.2.2.2.1 k0_h52
theorem k0_dev107_lt : ∀ (v4 : BitVec 32) (v15 : BitVec 32) (v17 : BitVec 32) (k0_hw10 : k0_chk10 v4 v15 v17), ∀ (k0_h52 : k0_cond52 v4 v17 = 1#1), (k0_dev107 v15) < nD := fun v4 v15 v17 k0_hw10 k0_h52 => k0_hw10.2.2.2.2.2.2.2.2.2.2 k0_h52

def k0_off319 (v31 : BitVec 32) : Fin 2 → Nat :=
  let c1024_i32_17 : BitVec 32 := 1024#32
  let v32 : BitVec 32 := Scalar.muli v31 c1024_i32_17
  let c0_i32_18 : BitVec 32 := 0#32
  let v33 : BitVec 32 := Scalar.addi v32 c0_i32_18
  let c0_i32_1680 : BitVec 32 := 0#32
  ![v33.toNat, 0]

def k0_chk5 (v31 : BitVec 32) : Prop :=
  (∀ a, (k0_off8 v31) a + S512x512.size a ≤ S32768x512.size a) ∧
  (∀ a, (k0_off319 v31) a + S512x512.size a ≤ S32768x512.size a)
theorem k0_off8_inb : ∀ (v31 : BitVec 32) (k0_hw5 : k0_chk5 v31), ∀ a, (k0_off8 v31) a + S512x512.size a ≤ S32768x512.size a := fun v31 k0_hw5 => k0_hw5.1
theorem k0_off319_inb : ∀ (v31 : BitVec 32) (k0_hw5 : k0_chk5 v31), ∀ a, (k0_off319 v31) a + S512x512.size a ≤ S32768x512.size a := fun v31 k0_hw5 => k0_hw5.2

def k0_off320 (v45 : BitVec 32) : Fin 2 → Nat :=
  let c1024_i32_28 : BitVec 32 := 1024#32
  let v46 : BitVec 32 := Scalar.muli v45 c1024_i32_28
  let c0_i32_29 : BitVec 32 := 0#32
  let v47 : BitVec 32 := Scalar.addi v46 c0_i32_29
  let c0_i32_1686 : BitVec 32 := 0#32
  ![v47.toNat, 0]

def k0_chk6 (v45 : BitVec 32) : Prop :=
  (∀ a, (k0_off10 v45) a + S512x512.size a ≤ S32768x512.size a) ∧
  (∀ a, (k0_off320 v45) a + S512x512.size a ≤ S32768x512.size a)
theorem k0_off10_inb : ∀ (v45 : BitVec 32) (k0_hw6 : k0_chk6 v45), ∀ a, (k0_off10 v45) a + S512x512.size a ≤ S32768x512.size a := fun v45 k0_hw6 => k0_hw6.1
theorem k0_off320_inb : ∀ (v45 : BitVec 32) (k0_hw6 : k0_chk6 v45), ∀ a, (k0_off320 v45) a + S512x512.size a ≤ S32768x512.size a := fun v45 k0_hw6 => k0_hw6.2

def k0_off321 (v60 : BitVec 32) : Fin 2 → Nat :=
  let c1024_i32_40 : BitVec 32 := 1024#32
  let v61 : BitVec 32 := Scalar.muli v60 c1024_i32_40
  let c512_i32 : BitVec 32 := 512#32
  let v62 : BitVec 32 := Scalar.addi v61 c512_i32
  let c0_i32_1692 : BitVec 32 := 0#32
  ![v62.toNat, 0]

def k0_chk7 (v60 : BitVec 32) : Prop :=
  (∀ a, (k0_off12 v60) a + S512x512.size a ≤ S32768x512.size a) ∧
  (∀ a, (k0_off321 v60) a + S512x512.size a ≤ S32768x512.size a)
theorem k0_off12_inb : ∀ (v60 : BitVec 32) (k0_hw7 : k0_chk7 v60), ∀ a, (k0_off12 v60) a + S512x512.size a ≤ S32768x512.size a := fun v60 k0_hw7 => k0_hw7.1
theorem k0_off321_inb : ∀ (v60 : BitVec 32) (k0_hw7 : k0_chk7 v60), ∀ a, (k0_off321 v60) a + S512x512.size a ≤ S32768x512.size a := fun v60 k0_hw7 => k0_hw7.2

def k0_off322 (v74 : BitVec 32) : Fin 2 → Nat :=
  let c1024_i32_50 : BitVec 32 := 1024#32
  let v75 : BitVec 32 := Scalar.muli v74 c1024_i32_50
  let c512_i32_51 : BitVec 32 := 512#32
  let v76 : BitVec 32 := Scalar.addi v75 c512_i32_51
  let c0_i32_1698 : BitVec 32 := 0#32
  ![v76.toNat, 0]

def k0_chk8 (v74 : BitVec 32) : Prop :=
  (∀ a, (k0_off14 v74) a + S512x512.size a ≤ S32768x512.size a) ∧
  (∀ a, (k0_off322 v74) a + S512x512.size a ≤ S32768x512.size a)
theorem k0_off14_inb : ∀ (v74 : BitVec 32) (k0_hw8 : k0_chk8 v74), ∀ a, (k0_off14 v74) a + S512x512.size a ≤ S32768x512.size a := fun v74 k0_hw8 => k0_hw8.1
theorem k0_off322_inb : ∀ (v74 : BitVec 32) (k0_hw8 : k0_chk8 v74), ∀ a, (k0_off322 v74) a + S512x512.size a ≤ S32768x512.size a := fun v74 k0_hw8 => k0_hw8.2

def k0_off323 (v114 : BitVec 32) : Fin 2 → Nat :=
  let c1024_i32_82 : BitVec 32 := 1024#32
  let v117 : BitVec 32 := Scalar.muli v114 c1024_i32_82
  let c0_i32_83 : BitVec 32 := 0#32
  let v118 : BitVec 32 := Scalar.addi v117 c0_i32_83
  let c0_i32_1702 : BitVec 32 := 0#32
  ![v118.toNat, 0]

def k0_chk12 (v114 : BitVec 32) : Prop :=
  (∀ a, (k0_off20 v114) a + S512x512.size a ≤ S32768x512.size a) ∧
  (∀ a, (k0_off323 v114) a + S512x512.size a ≤ S32768x512.size a)
theorem k0_off20_inb : ∀ (v114 : BitVec 32) (k0_hw12 : k0_chk12 v114), ∀ a, (k0_off20 v114) a + S512x512.size a ≤ S32768x512.size a := fun v114 k0_hw12 => k0_hw12.1
theorem k0_off323_inb : ∀ (v114 : BitVec 32) (k0_hw12 : k0_chk12 v114), ∀ a, (k0_off323 v114) a + S512x512.size a ≤ S32768x512.size a := fun v114 k0_hw12 => k0_hw12.2

def k0_off324 (v153 : BitVec 32) : Fin 2 → Nat :=
  let c1024_i32_112 : BitVec 32 := 1024#32
  let v156 : BitVec 32 := Scalar.muli v153 c1024_i32_112
  let c0_i32_113 : BitVec 32 := 0#32
  let v157 : BitVec 32 := Scalar.addi v156 c0_i32_113
  let c0_i32_1707 : BitVec 32 := 0#32
  ![v157.toNat, 0]

def k0_chk15 (v153 : BitVec 32) : Prop :=
  (∀ a, (k0_off26 v153) a + S512x512.size a ≤ S32768x512.size a) ∧
  (∀ a, (k0_off324 v153) a + S512x512.size a ≤ S32768x512.size a)
theorem k0_off26_inb : ∀ (v153 : BitVec 32) (k0_hw15 : k0_chk15 v153), ∀ a, (k0_off26 v153) a + S512x512.size a ≤ S32768x512.size a := fun v153 k0_hw15 => k0_hw15.1
theorem k0_off324_inb : ∀ (v153 : BitVec 32) (k0_hw15 : k0_chk15 v153), ∀ a, (k0_off324 v153) a + S512x512.size a ≤ S32768x512.size a := fun v153 k0_hw15 => k0_hw15.2

def k0_off325 (v195 : BitVec 32) : Fin 2 → Nat :=
  let c1024_i32_146 : BitVec 32 := 1024#32
  let v198 : BitVec 32 := Scalar.muli v195 c1024_i32_146
  let c512_i32_147 : BitVec 32 := 512#32
  let v199 : BitVec 32 := Scalar.addi v198 c512_i32_147
  let c0_i32_1712 : BitVec 32 := 0#32
  ![v199.toNat, 0]

def k0_chk18 (v195 : BitVec 32) : Prop :=
  (∀ a, (k0_off32 v195) a + S512x512.size a ≤ S32768x512.size a) ∧
  (∀ a, (k0_off325 v195) a + S512x512.size a ≤ S32768x512.size a)
theorem k0_off32_inb : ∀ (v195 : BitVec 32) (k0_hw18 : k0_chk18 v195), ∀ a, (k0_off32 v195) a + S512x512.size a ≤ S32768x512.size a := fun v195 k0_hw18 => k0_hw18.1
theorem k0_off325_inb : ∀ (v195 : BitVec 32) (k0_hw18 : k0_chk18 v195), ∀ a, (k0_off325 v195) a + S512x512.size a ≤ S32768x512.size a := fun v195 k0_hw18 => k0_hw18.2

def k0_off326 (v234 : BitVec 32) : Fin 2 → Nat :=
  let c1024_i32_177 : BitVec 32 := 1024#32
  let v237 : BitVec 32 := Scalar.muli v234 c1024_i32_177
  let c512_i32_178 : BitVec 32 := 512#32
  let v238 : BitVec 32 := Scalar.addi v237 c512_i32_178
  let c0_i32_1717 : BitVec 32 := 0#32
  ![v238.toNat, 0]

def k0_chk21 (v234 : BitVec 32) : Prop :=
  (∀ a, (k0_off38 v234) a + S512x512.size a ≤ S32768x512.size a) ∧
  (∀ a, (k0_off326 v234) a + S512x512.size a ≤ S32768x512.size a)
theorem k0_off38_inb : ∀ (v234 : BitVec 32) (k0_hw21 : k0_chk21 v234), ∀ a, (k0_off38 v234) a + S512x512.size a ≤ S32768x512.size a := fun v234 k0_hw21 => k0_hw21.1
theorem k0_off326_inb : ∀ (v234 : BitVec 32) (k0_hw21 : k0_chk21 v234), ∀ a, (k0_off326 v234) a + S512x512.size a ≤ S32768x512.size a := fun v234 k0_hw21 => k0_hw21.2

def k0_off327 (v276 : BitVec 32) : Fin 2 → Nat :=
  let c1024_i32_211 : BitVec 32 := 1024#32
  let v279 : BitVec 32 := Scalar.muli v276 c1024_i32_211
  let c0_i32_212 : BitVec 32 := 0#32
  let v280 : BitVec 32 := Scalar.addi v279 c0_i32_212
  let c0_i32_1722 : BitVec 32 := 0#32
  ![v280.toNat, 0]

def k0_chk24 (v276 : BitVec 32) : Prop :=
  (∀ a, (k0_off44 v276) a + S512x512.size a ≤ S32768x512.size a) ∧
  (∀ a, (k0_off327 v276) a + S512x512.size a ≤ S32768x512.size a)
theorem k0_off44_inb : ∀ (v276 : BitVec 32) (k0_hw24 : k0_chk24 v276), ∀ a, (k0_off44 v276) a + S512x512.size a ≤ S32768x512.size a := fun v276 k0_hw24 => k0_hw24.1
theorem k0_off327_inb : ∀ (v276 : BitVec 32) (k0_hw24 : k0_chk24 v276), ∀ a, (k0_off327 v276) a + S512x512.size a ≤ S32768x512.size a := fun v276 k0_hw24 => k0_hw24.2

def k0_off328 (v315 : BitVec 32) : Fin 2 → Nat :=
  let c1024_i32_241 : BitVec 32 := 1024#32
  let v318 : BitVec 32 := Scalar.muli v315 c1024_i32_241
  let c0_i32_242 : BitVec 32 := 0#32
  let v319 : BitVec 32 := Scalar.addi v318 c0_i32_242
  let c0_i32_1727 : BitVec 32 := 0#32
  ![v319.toNat, 0]

def k0_chk27 (v315 : BitVec 32) : Prop :=
  (∀ a, (k0_off50 v315) a + S512x512.size a ≤ S32768x512.size a) ∧
  (∀ a, (k0_off328 v315) a + S512x512.size a ≤ S32768x512.size a)
theorem k0_off50_inb : ∀ (v315 : BitVec 32) (k0_hw27 : k0_chk27 v315), ∀ a, (k0_off50 v315) a + S512x512.size a ≤ S32768x512.size a := fun v315 k0_hw27 => k0_hw27.1
theorem k0_off328_inb : ∀ (v315 : BitVec 32) (k0_hw27 : k0_chk27 v315), ∀ a, (k0_off328 v315) a + S512x512.size a ≤ S32768x512.size a := fun v315 k0_hw27 => k0_hw27.2

def k0_off329 (v357 : BitVec 32) : Fin 2 → Nat :=
  let c1024_i32_275 : BitVec 32 := 1024#32
  let v360 : BitVec 32 := Scalar.muli v357 c1024_i32_275
  let c512_i32_276 : BitVec 32 := 512#32
  let v361 : BitVec 32 := Scalar.addi v360 c512_i32_276
  let c0_i32_1732 : BitVec 32 := 0#32
  ![v361.toNat, 0]

def k0_chk30 (v357 : BitVec 32) : Prop :=
  (∀ a, (k0_off56 v357) a + S512x512.size a ≤ S32768x512.size a) ∧
  (∀ a, (k0_off329 v357) a + S512x512.size a ≤ S32768x512.size a)
theorem k0_off56_inb : ∀ (v357 : BitVec 32) (k0_hw30 : k0_chk30 v357), ∀ a, (k0_off56 v357) a + S512x512.size a ≤ S32768x512.size a := fun v357 k0_hw30 => k0_hw30.1
theorem k0_off329_inb : ∀ (v357 : BitVec 32) (k0_hw30 : k0_chk30 v357), ∀ a, (k0_off329 v357) a + S512x512.size a ≤ S32768x512.size a := fun v357 k0_hw30 => k0_hw30.2

def k0_off330 (v396 : BitVec 32) : Fin 2 → Nat :=
  let c1024_i32_306 : BitVec 32 := 1024#32
  let v399 : BitVec 32 := Scalar.muli v396 c1024_i32_306
  let c512_i32_307 : BitVec 32 := 512#32
  let v400 : BitVec 32 := Scalar.addi v399 c512_i32_307
  let c0_i32_1737 : BitVec 32 := 0#32
  ![v400.toNat, 0]

def k0_chk33 (v396 : BitVec 32) : Prop :=
  (∀ a, (k0_off62 v396) a + S512x512.size a ≤ S32768x512.size a) ∧
  (∀ a, (k0_off330 v396) a + S512x512.size a ≤ S32768x512.size a)
theorem k0_off62_inb : ∀ (v396 : BitVec 32) (k0_hw33 : k0_chk33 v396), ∀ a, (k0_off62 v396) a + S512x512.size a ≤ S32768x512.size a := fun v396 k0_hw33 => k0_hw33.1
theorem k0_off330_inb : ∀ (v396 : BitVec 32) (k0_hw33 : k0_chk33 v396), ∀ a, (k0_off330 v396) a + S512x512.size a ≤ S32768x512.size a := fun v396 k0_hw33 => k0_hw33.2

def k0_off331 (v438 : BitVec 32) : Fin 2 → Nat :=
  let c1024_i32_340 : BitVec 32 := 1024#32
  let v441 : BitVec 32 := Scalar.muli v438 c1024_i32_340
  let c0_i32_341 : BitVec 32 := 0#32
  let v442 : BitVec 32 := Scalar.addi v441 c0_i32_341
  let c0_i32_1742 : BitVec 32 := 0#32
  ![v442.toNat, 0]

def k0_chk36 (v438 : BitVec 32) : Prop :=
  (∀ a, (k0_off68 v438) a + S512x512.size a ≤ S32768x512.size a) ∧
  (∀ a, (k0_off331 v438) a + S512x512.size a ≤ S32768x512.size a)
theorem k0_off68_inb : ∀ (v438 : BitVec 32) (k0_hw36 : k0_chk36 v438), ∀ a, (k0_off68 v438) a + S512x512.size a ≤ S32768x512.size a := fun v438 k0_hw36 => k0_hw36.1
theorem k0_off331_inb : ∀ (v438 : BitVec 32) (k0_hw36 : k0_chk36 v438), ∀ a, (k0_off331 v438) a + S512x512.size a ≤ S32768x512.size a := fun v438 k0_hw36 => k0_hw36.2

def k0_off332 (v477 : BitVec 32) : Fin 2 → Nat :=
  let c1024_i32_370 : BitVec 32 := 1024#32
  let v480 : BitVec 32 := Scalar.muli v477 c1024_i32_370
  let c0_i32_371 : BitVec 32 := 0#32
  let v481 : BitVec 32 := Scalar.addi v480 c0_i32_371
  let c0_i32_1747 : BitVec 32 := 0#32
  ![v481.toNat, 0]

def k0_chk39 (v477 : BitVec 32) : Prop :=
  (∀ a, (k0_off74 v477) a + S512x512.size a ≤ S32768x512.size a) ∧
  (∀ a, (k0_off332 v477) a + S512x512.size a ≤ S32768x512.size a)
theorem k0_off74_inb : ∀ (v477 : BitVec 32) (k0_hw39 : k0_chk39 v477), ∀ a, (k0_off74 v477) a + S512x512.size a ≤ S32768x512.size a := fun v477 k0_hw39 => k0_hw39.1
theorem k0_off332_inb : ∀ (v477 : BitVec 32) (k0_hw39 : k0_chk39 v477), ∀ a, (k0_off332 v477) a + S512x512.size a ≤ S32768x512.size a := fun v477 k0_hw39 => k0_hw39.2

def k0_off333 (v519 : BitVec 32) : Fin 2 → Nat :=
  let c1024_i32_404 : BitVec 32 := 1024#32
  let v522 : BitVec 32 := Scalar.muli v519 c1024_i32_404
  let c512_i32_405 : BitVec 32 := 512#32
  let v523 : BitVec 32 := Scalar.addi v522 c512_i32_405
  let c0_i32_1752 : BitVec 32 := 0#32
  ![v523.toNat, 0]

def k0_chk42 (v519 : BitVec 32) : Prop :=
  (∀ a, (k0_off80 v519) a + S512x512.size a ≤ S32768x512.size a) ∧
  (∀ a, (k0_off333 v519) a + S512x512.size a ≤ S32768x512.size a)
theorem k0_off80_inb : ∀ (v519 : BitVec 32) (k0_hw42 : k0_chk42 v519), ∀ a, (k0_off80 v519) a + S512x512.size a ≤ S32768x512.size a := fun v519 k0_hw42 => k0_hw42.1
theorem k0_off333_inb : ∀ (v519 : BitVec 32) (k0_hw42 : k0_chk42 v519), ∀ a, (k0_off333 v519) a + S512x512.size a ≤ S32768x512.size a := fun v519 k0_hw42 => k0_hw42.2

def k0_off334 (v558 : BitVec 32) : Fin 2 → Nat :=
  let c1024_i32_434 : BitVec 32 := 1024#32
  let v561 : BitVec 32 := Scalar.muli v558 c1024_i32_434
  let c512_i32_435 : BitVec 32 := 512#32
  let v562 : BitVec 32 := Scalar.addi v561 c512_i32_435
  let c0_i32_1757 : BitVec 32 := 0#32
  ![v562.toNat, 0]

def k0_chk45 (v558 : BitVec 32) : Prop :=
  (∀ a, (k0_off86 v558) a + S512x512.size a ≤ S32768x512.size a) ∧
  (∀ a, (k0_off334 v558) a + S512x512.size a ≤ S32768x512.size a)
theorem k0_off86_inb : ∀ (v558 : BitVec 32) (k0_hw45 : k0_chk45 v558), ∀ a, (k0_off86 v558) a + S512x512.size a ≤ S32768x512.size a := fun v558 k0_hw45 => k0_hw45.1
theorem k0_off334_inb : ∀ (v558 : BitVec 32) (k0_hw45 : k0_chk45 v558), ∀ a, (k0_off334 v558) a + S512x512.size a ≤ S32768x512.size a := fun v558 k0_hw45 => k0_hw45.2

def k0_off335 (v600 : BitVec 32) : Fin 2 → Nat :=
  let c1024_i32_468 : BitVec 32 := 1024#32
  let v603 : BitVec 32 := Scalar.muli v600 c1024_i32_468
  let c0_i32_469 : BitVec 32 := 0#32
  let v604 : BitVec 32 := Scalar.addi v603 c0_i32_469
  let c0_i32_1762 : BitVec 32 := 0#32
  ![v604.toNat, 0]

def k0_chk48 (v600 : BitVec 32) : Prop :=
  (∀ a, (k0_off92 v600) a + S512x512.size a ≤ S32768x512.size a) ∧
  (∀ a, (k0_off335 v600) a + S512x512.size a ≤ S32768x512.size a)
theorem k0_off92_inb : ∀ (v600 : BitVec 32) (k0_hw48 : k0_chk48 v600), ∀ a, (k0_off92 v600) a + S512x512.size a ≤ S32768x512.size a := fun v600 k0_hw48 => k0_hw48.1
theorem k0_off335_inb : ∀ (v600 : BitVec 32) (k0_hw48 : k0_chk48 v600), ∀ a, (k0_off335 v600) a + S512x512.size a ≤ S32768x512.size a := fun v600 k0_hw48 => k0_hw48.2

def k0_off336 (v639 : BitVec 32) : Fin 2 → Nat :=
  let c1024_i32_498 : BitVec 32 := 1024#32
  let v642 : BitVec 32 := Scalar.muli v639 c1024_i32_498
  let c0_i32_499 : BitVec 32 := 0#32
  let v643 : BitVec 32 := Scalar.addi v642 c0_i32_499
  let c0_i32_1767 : BitVec 32 := 0#32
  ![v643.toNat, 0]

def k0_chk51 (v639 : BitVec 32) : Prop :=
  (∀ a, (k0_off98 v639) a + S512x512.size a ≤ S32768x512.size a) ∧
  (∀ a, (k0_off336 v639) a + S512x512.size a ≤ S32768x512.size a)
theorem k0_off98_inb : ∀ (v639 : BitVec 32) (k0_hw51 : k0_chk51 v639), ∀ a, (k0_off98 v639) a + S512x512.size a ≤ S32768x512.size a := fun v639 k0_hw51 => k0_hw51.1
theorem k0_off336_inb : ∀ (v639 : BitVec 32) (k0_hw51 : k0_chk51 v639), ∀ a, (k0_off336 v639) a + S512x512.size a ≤ S32768x512.size a := fun v639 k0_hw51 => k0_hw51.2

def k0_off337 (v681 : BitVec 32) : Fin 2 → Nat :=
  let c1024_i32_532 : BitVec 32 := 1024#32
  let v684 : BitVec 32 := Scalar.muli v681 c1024_i32_532
  let c512_i32_533 : BitVec 32 := 512#32
  let v685 : BitVec 32 := Scalar.addi v684 c512_i32_533
  let c0_i32_1772 : BitVec 32 := 0#32
  ![v685.toNat, 0]

def k0_chk54 (v681 : BitVec 32) : Prop :=
  (∀ a, (k0_off104 v681) a + S512x512.size a ≤ S32768x512.size a) ∧
  (∀ a, (k0_off337 v681) a + S512x512.size a ≤ S32768x512.size a)
theorem k0_off104_inb : ∀ (v681 : BitVec 32) (k0_hw54 : k0_chk54 v681), ∀ a, (k0_off104 v681) a + S512x512.size a ≤ S32768x512.size a := fun v681 k0_hw54 => k0_hw54.1
theorem k0_off337_inb : ∀ (v681 : BitVec 32) (k0_hw54 : k0_chk54 v681), ∀ a, (k0_off337 v681) a + S512x512.size a ≤ S32768x512.size a := fun v681 k0_hw54 => k0_hw54.2

def k0_off338 (v720 : BitVec 32) : Fin 2 → Nat :=
  let c1024_i32_562 : BitVec 32 := 1024#32
  let v723 : BitVec 32 := Scalar.muli v720 c1024_i32_562
  let c512_i32_563 : BitVec 32 := 512#32
  let v724 : BitVec 32 := Scalar.addi v723 c512_i32_563
  let c0_i32_1777 : BitVec 32 := 0#32
  ![v724.toNat, 0]

def k0_chk57 (v720 : BitVec 32) : Prop :=
  (∀ a, (k0_off110 v720) a + S512x512.size a ≤ S32768x512.size a) ∧
  (∀ a, (k0_off338 v720) a + S512x512.size a ≤ S32768x512.size a)
theorem k0_off110_inb : ∀ (v720 : BitVec 32) (k0_hw57 : k0_chk57 v720), ∀ a, (k0_off110 v720) a + S512x512.size a ≤ S32768x512.size a := fun v720 k0_hw57 => k0_hw57.1
theorem k0_off338_inb : ∀ (v720 : BitVec 32) (k0_hw57 : k0_chk57 v720), ∀ a, (k0_off338 v720) a + S512x512.size a ≤ S32768x512.size a := fun v720 k0_hw57 => k0_hw57.2

def k0_off339 (v762 : BitVec 32) : Fin 2 → Nat :=
  let c1024_i32_596 : BitVec 32 := 1024#32
  let v765 : BitVec 32 := Scalar.muli v762 c1024_i32_596
  let c0_i32_597 : BitVec 32 := 0#32
  let v766 : BitVec 32 := Scalar.addi v765 c0_i32_597
  let c0_i32_1782 : BitVec 32 := 0#32
  ![v766.toNat, 0]

def k0_chk60 (v762 : BitVec 32) : Prop :=
  (∀ a, (k0_off116 v762) a + S512x512.size a ≤ S32768x512.size a) ∧
  (∀ a, (k0_off339 v762) a + S512x512.size a ≤ S32768x512.size a)
theorem k0_off116_inb : ∀ (v762 : BitVec 32) (k0_hw60 : k0_chk60 v762), ∀ a, (k0_off116 v762) a + S512x512.size a ≤ S32768x512.size a := fun v762 k0_hw60 => k0_hw60.1
theorem k0_off339_inb : ∀ (v762 : BitVec 32) (k0_hw60 : k0_chk60 v762), ∀ a, (k0_off339 v762) a + S512x512.size a ≤ S32768x512.size a := fun v762 k0_hw60 => k0_hw60.2

def k0_off340 (v801 : BitVec 32) : Fin 2 → Nat :=
  let c1024_i32_626 : BitVec 32 := 1024#32
  let v804 : BitVec 32 := Scalar.muli v801 c1024_i32_626
  let c0_i32_627 : BitVec 32 := 0#32
  let v805 : BitVec 32 := Scalar.addi v804 c0_i32_627
  let c0_i32_1787 : BitVec 32 := 0#32
  ![v805.toNat, 0]

def k0_chk63 (v801 : BitVec 32) : Prop :=
  (∀ a, (k0_off122 v801) a + S512x512.size a ≤ S32768x512.size a) ∧
  (∀ a, (k0_off340 v801) a + S512x512.size a ≤ S32768x512.size a)
theorem k0_off122_inb : ∀ (v801 : BitVec 32) (k0_hw63 : k0_chk63 v801), ∀ a, (k0_off122 v801) a + S512x512.size a ≤ S32768x512.size a := fun v801 k0_hw63 => k0_hw63.1
theorem k0_off340_inb : ∀ (v801 : BitVec 32) (k0_hw63 : k0_chk63 v801), ∀ a, (k0_off340 v801) a + S512x512.size a ≤ S32768x512.size a := fun v801 k0_hw63 => k0_hw63.2

def k0_off341 (v843 : BitVec 32) : Fin 2 → Nat :=
  let c1024_i32_660 : BitVec 32 := 1024#32
  let v846 : BitVec 32 := Scalar.muli v843 c1024_i32_660
  let c512_i32_661 : BitVec 32 := 512#32
  let v847 : BitVec 32 := Scalar.addi v846 c512_i32_661
  let c0_i32_1792 : BitVec 32 := 0#32
  ![v847.toNat, 0]

def k0_chk66 (v843 : BitVec 32) : Prop :=
  (∀ a, (k0_off128 v843) a + S512x512.size a ≤ S32768x512.size a) ∧
  (∀ a, (k0_off341 v843) a + S512x512.size a ≤ S32768x512.size a)
theorem k0_off128_inb : ∀ (v843 : BitVec 32) (k0_hw66 : k0_chk66 v843), ∀ a, (k0_off128 v843) a + S512x512.size a ≤ S32768x512.size a := fun v843 k0_hw66 => k0_hw66.1
theorem k0_off341_inb : ∀ (v843 : BitVec 32) (k0_hw66 : k0_chk66 v843), ∀ a, (k0_off341 v843) a + S512x512.size a ≤ S32768x512.size a := fun v843 k0_hw66 => k0_hw66.2

def k0_off342 (v882 : BitVec 32) : Fin 2 → Nat :=
  let c1024_i32_690 : BitVec 32 := 1024#32
  let v885 : BitVec 32 := Scalar.muli v882 c1024_i32_690
  let c512_i32_691 : BitVec 32 := 512#32
  let v886 : BitVec 32 := Scalar.addi v885 c512_i32_691
  let c0_i32_1797 : BitVec 32 := 0#32
  ![v886.toNat, 0]

def k0_chk69 (v882 : BitVec 32) : Prop :=
  (∀ a, (k0_off134 v882) a + S512x512.size a ≤ S32768x512.size a) ∧
  (∀ a, (k0_off342 v882) a + S512x512.size a ≤ S32768x512.size a)
theorem k0_off134_inb : ∀ (v882 : BitVec 32) (k0_hw69 : k0_chk69 v882), ∀ a, (k0_off134 v882) a + S512x512.size a ≤ S32768x512.size a := fun v882 k0_hw69 => k0_hw69.1
theorem k0_off342_inb : ∀ (v882 : BitVec 32) (k0_hw69 : k0_chk69 v882), ∀ a, (k0_off342 v882) a + S512x512.size a ≤ S32768x512.size a := fun v882 k0_hw69 => k0_hw69.2

def k0_off343 (v924 : BitVec 32) : Fin 2 → Nat :=
  let c1024_i32_724 : BitVec 32 := 1024#32
  let v927 : BitVec 32 := Scalar.muli v924 c1024_i32_724
  let c0_i32_725 : BitVec 32 := 0#32
  let v928 : BitVec 32 := Scalar.addi v927 c0_i32_725
  let c0_i32_1802 : BitVec 32 := 0#32
  ![v928.toNat, 0]

def k0_chk72 (v924 : BitVec 32) : Prop :=
  (∀ a, (k0_off140 v924) a + S512x512.size a ≤ S32768x512.size a) ∧
  (∀ a, (k0_off343 v924) a + S512x512.size a ≤ S32768x512.size a)
theorem k0_off140_inb : ∀ (v924 : BitVec 32) (k0_hw72 : k0_chk72 v924), ∀ a, (k0_off140 v924) a + S512x512.size a ≤ S32768x512.size a := fun v924 k0_hw72 => k0_hw72.1
theorem k0_off343_inb : ∀ (v924 : BitVec 32) (k0_hw72 : k0_chk72 v924), ∀ a, (k0_off343 v924) a + S512x512.size a ≤ S32768x512.size a := fun v924 k0_hw72 => k0_hw72.2

def k0_off344 (v963 : BitVec 32) : Fin 2 → Nat :=
  let c1024_i32_754 : BitVec 32 := 1024#32
  let v966 : BitVec 32 := Scalar.muli v963 c1024_i32_754
  let c0_i32_755 : BitVec 32 := 0#32
  let v967 : BitVec 32 := Scalar.addi v966 c0_i32_755
  let c0_i32_1807 : BitVec 32 := 0#32
  ![v967.toNat, 0]

def k0_chk75 (v963 : BitVec 32) : Prop :=
  (∀ a, (k0_off146 v963) a + S512x512.size a ≤ S32768x512.size a) ∧
  (∀ a, (k0_off344 v963) a + S512x512.size a ≤ S32768x512.size a)
theorem k0_off146_inb : ∀ (v963 : BitVec 32) (k0_hw75 : k0_chk75 v963), ∀ a, (k0_off146 v963) a + S512x512.size a ≤ S32768x512.size a := fun v963 k0_hw75 => k0_hw75.1
theorem k0_off344_inb : ∀ (v963 : BitVec 32) (k0_hw75 : k0_chk75 v963), ∀ a, (k0_off344 v963) a + S512x512.size a ≤ S32768x512.size a := fun v963 k0_hw75 => k0_hw75.2

def k0_off345 (v1005 : BitVec 32) : Fin 2 → Nat :=
  let c1024_i32_788 : BitVec 32 := 1024#32
  let v1008 : BitVec 32 := Scalar.muli v1005 c1024_i32_788
  let c512_i32_789 : BitVec 32 := 512#32
  let v1009 : BitVec 32 := Scalar.addi v1008 c512_i32_789
  let c0_i32_1812 : BitVec 32 := 0#32
  ![v1009.toNat, 0]

def k0_chk78 (v1005 : BitVec 32) : Prop :=
  (∀ a, (k0_off152 v1005) a + S512x512.size a ≤ S32768x512.size a) ∧
  (∀ a, (k0_off345 v1005) a + S512x512.size a ≤ S32768x512.size a)
theorem k0_off152_inb : ∀ (v1005 : BitVec 32) (k0_hw78 : k0_chk78 v1005), ∀ a, (k0_off152 v1005) a + S512x512.size a ≤ S32768x512.size a := fun v1005 k0_hw78 => k0_hw78.1
theorem k0_off345_inb : ∀ (v1005 : BitVec 32) (k0_hw78 : k0_chk78 v1005), ∀ a, (k0_off345 v1005) a + S512x512.size a ≤ S32768x512.size a := fun v1005 k0_hw78 => k0_hw78.2

def k0_off346 (v1044 : BitVec 32) : Fin 2 → Nat :=
  let c1024_i32_818 : BitVec 32 := 1024#32
  let v1047 : BitVec 32 := Scalar.muli v1044 c1024_i32_818
  let c512_i32_819 : BitVec 32 := 512#32
  let v1048 : BitVec 32 := Scalar.addi v1047 c512_i32_819
  let c0_i32_1817 : BitVec 32 := 0#32
  ![v1048.toNat, 0]

def k0_chk81 (v1044 : BitVec 32) : Prop :=
  (∀ a, (k0_off158 v1044) a + S512x512.size a ≤ S32768x512.size a) ∧
  (∀ a, (k0_off346 v1044) a + S512x512.size a ≤ S32768x512.size a)
theorem k0_off158_inb : ∀ (v1044 : BitVec 32) (k0_hw81 : k0_chk81 v1044), ∀ a, (k0_off158 v1044) a + S512x512.size a ≤ S32768x512.size a := fun v1044 k0_hw81 => k0_hw81.1
theorem k0_off346_inb : ∀ (v1044 : BitVec 32) (k0_hw81 : k0_chk81 v1044), ∀ a, (k0_off346 v1044) a + S512x512.size a ≤ S32768x512.size a := fun v1044 k0_hw81 => k0_hw81.2

def k0_off347 (v1086 : BitVec 32) : Fin 2 → Nat :=
  let c1024_i32_852 : BitVec 32 := 1024#32
  let v1089 : BitVec 32 := Scalar.muli v1086 c1024_i32_852
  let c0_i32_853 : BitVec 32 := 0#32
  let v1090 : BitVec 32 := Scalar.addi v1089 c0_i32_853
  let c0_i32_1822 : BitVec 32 := 0#32
  ![v1090.toNat, 0]

def k0_chk84 (v1086 : BitVec 32) : Prop :=
  (∀ a, (k0_off164 v1086) a + S512x512.size a ≤ S32768x512.size a) ∧
  (∀ a, (k0_off347 v1086) a + S512x512.size a ≤ S32768x512.size a)
theorem k0_off164_inb : ∀ (v1086 : BitVec 32) (k0_hw84 : k0_chk84 v1086), ∀ a, (k0_off164 v1086) a + S512x512.size a ≤ S32768x512.size a := fun v1086 k0_hw84 => k0_hw84.1
theorem k0_off347_inb : ∀ (v1086 : BitVec 32) (k0_hw84 : k0_chk84 v1086), ∀ a, (k0_off347 v1086) a + S512x512.size a ≤ S32768x512.size a := fun v1086 k0_hw84 => k0_hw84.2

def k0_off348 (v1125 : BitVec 32) : Fin 2 → Nat :=
  let c1024_i32_883 : BitVec 32 := 1024#32
  let v1128 : BitVec 32 := Scalar.muli v1125 c1024_i32_883
  let c0_i32_884 : BitVec 32 := 0#32
  let v1129 : BitVec 32 := Scalar.addi v1128 c0_i32_884
  let c0_i32_1827 : BitVec 32 := 0#32
  ![v1129.toNat, 0]

def k0_chk87 (v1125 : BitVec 32) : Prop :=
  (∀ a, (k0_off170 v1125) a + S512x512.size a ≤ S32768x512.size a) ∧
  (∀ a, (k0_off348 v1125) a + S512x512.size a ≤ S32768x512.size a)
theorem k0_off170_inb : ∀ (v1125 : BitVec 32) (k0_hw87 : k0_chk87 v1125), ∀ a, (k0_off170 v1125) a + S512x512.size a ≤ S32768x512.size a := fun v1125 k0_hw87 => k0_hw87.1
theorem k0_off348_inb : ∀ (v1125 : BitVec 32) (k0_hw87 : k0_chk87 v1125), ∀ a, (k0_off348 v1125) a + S512x512.size a ≤ S32768x512.size a := fun v1125 k0_hw87 => k0_hw87.2

def k0_off349 (v1167 : BitVec 32) : Fin 2 → Nat :=
  let c1024_i32_917 : BitVec 32 := 1024#32
  let v1170 : BitVec 32 := Scalar.muli v1167 c1024_i32_917
  let c512_i32_918 : BitVec 32 := 512#32
  let v1171 : BitVec 32 := Scalar.addi v1170 c512_i32_918
  let c0_i32_1832 : BitVec 32 := 0#32
  ![v1171.toNat, 0]

def k0_chk90 (v1167 : BitVec 32) : Prop :=
  (∀ a, (k0_off176 v1167) a + S512x512.size a ≤ S32768x512.size a) ∧
  (∀ a, (k0_off349 v1167) a + S512x512.size a ≤ S32768x512.size a)
theorem k0_off176_inb : ∀ (v1167 : BitVec 32) (k0_hw90 : k0_chk90 v1167), ∀ a, (k0_off176 v1167) a + S512x512.size a ≤ S32768x512.size a := fun v1167 k0_hw90 => k0_hw90.1
theorem k0_off349_inb : ∀ (v1167 : BitVec 32) (k0_hw90 : k0_chk90 v1167), ∀ a, (k0_off349 v1167) a + S512x512.size a ≤ S32768x512.size a := fun v1167 k0_hw90 => k0_hw90.2

def k0_off350 (v1206 : BitVec 32) : Fin 2 → Nat :=
  let c1024_i32_947 : BitVec 32 := 1024#32
  let v1209 : BitVec 32 := Scalar.muli v1206 c1024_i32_947
  let c512_i32_948 : BitVec 32 := 512#32
  let v1210 : BitVec 32 := Scalar.addi v1209 c512_i32_948
  let c0_i32_1837 : BitVec 32 := 0#32
  ![v1210.toNat, 0]

def k0_chk93 (v1206 : BitVec 32) : Prop :=
  (∀ a, (k0_off182 v1206) a + S512x512.size a ≤ S32768x512.size a) ∧
  (∀ a, (k0_off350 v1206) a + S512x512.size a ≤ S32768x512.size a)
theorem k0_off182_inb : ∀ (v1206 : BitVec 32) (k0_hw93 : k0_chk93 v1206), ∀ a, (k0_off182 v1206) a + S512x512.size a ≤ S32768x512.size a := fun v1206 k0_hw93 => k0_hw93.1
theorem k0_off350_inb : ∀ (v1206 : BitVec 32) (k0_hw93 : k0_chk93 v1206), ∀ a, (k0_off350 v1206) a + S512x512.size a ≤ S32768x512.size a := fun v1206 k0_hw93 => k0_hw93.2

def k0_off351 (v1248 : BitVec 32) : Fin 2 → Nat :=
  let c1024_i32_981 : BitVec 32 := 1024#32
  let v1251 : BitVec 32 := Scalar.muli v1248 c1024_i32_981
  let c0_i32_982 : BitVec 32 := 0#32
  let v1252 : BitVec 32 := Scalar.addi v1251 c0_i32_982
  let c0_i32_1842 : BitVec 32 := 0#32
  ![v1252.toNat, 0]

def k0_chk96 (v1248 : BitVec 32) : Prop :=
  (∀ a, (k0_off188 v1248) a + S512x512.size a ≤ S32768x512.size a) ∧
  (∀ a, (k0_off351 v1248) a + S512x512.size a ≤ S32768x512.size a)
theorem k0_off188_inb : ∀ (v1248 : BitVec 32) (k0_hw96 : k0_chk96 v1248), ∀ a, (k0_off188 v1248) a + S512x512.size a ≤ S32768x512.size a := fun v1248 k0_hw96 => k0_hw96.1
theorem k0_off351_inb : ∀ (v1248 : BitVec 32) (k0_hw96 : k0_chk96 v1248), ∀ a, (k0_off351 v1248) a + S512x512.size a ≤ S32768x512.size a := fun v1248 k0_hw96 => k0_hw96.2

def k0_off352 (v1287 : BitVec 32) : Fin 2 → Nat :=
  let c1024_i32_1011 : BitVec 32 := 1024#32
  let v1290 : BitVec 32 := Scalar.muli v1287 c1024_i32_1011
  let c0_i32_1012 : BitVec 32 := 0#32
  let v1291 : BitVec 32 := Scalar.addi v1290 c0_i32_1012
  let c0_i32_1847 : BitVec 32 := 0#32
  ![v1291.toNat, 0]

def k0_chk99 (v1287 : BitVec 32) : Prop :=
  (∀ a, (k0_off194 v1287) a + S512x512.size a ≤ S32768x512.size a) ∧
  (∀ a, (k0_off352 v1287) a + S512x512.size a ≤ S32768x512.size a)
theorem k0_off194_inb : ∀ (v1287 : BitVec 32) (k0_hw99 : k0_chk99 v1287), ∀ a, (k0_off194 v1287) a + S512x512.size a ≤ S32768x512.size a := fun v1287 k0_hw99 => k0_hw99.1
theorem k0_off352_inb : ∀ (v1287 : BitVec 32) (k0_hw99 : k0_chk99 v1287), ∀ a, (k0_off352 v1287) a + S512x512.size a ≤ S32768x512.size a := fun v1287 k0_hw99 => k0_hw99.2

def k0_off353 (v1329 : BitVec 32) : Fin 2 → Nat :=
  let c1024_i32_1045 : BitVec 32 := 1024#32
  let v1332 : BitVec 32 := Scalar.muli v1329 c1024_i32_1045
  let c512_i32_1046 : BitVec 32 := 512#32
  let v1333 : BitVec 32 := Scalar.addi v1332 c512_i32_1046
  let c0_i32_1852 : BitVec 32 := 0#32
  ![v1333.toNat, 0]

def k0_chk102 (v1329 : BitVec 32) : Prop :=
  (∀ a, (k0_off200 v1329) a + S512x512.size a ≤ S32768x512.size a) ∧
  (∀ a, (k0_off353 v1329) a + S512x512.size a ≤ S32768x512.size a)
theorem k0_off200_inb : ∀ (v1329 : BitVec 32) (k0_hw102 : k0_chk102 v1329), ∀ a, (k0_off200 v1329) a + S512x512.size a ≤ S32768x512.size a := fun v1329 k0_hw102 => k0_hw102.1
theorem k0_off353_inb : ∀ (v1329 : BitVec 32) (k0_hw102 : k0_chk102 v1329), ∀ a, (k0_off353 v1329) a + S512x512.size a ≤ S32768x512.size a := fun v1329 k0_hw102 => k0_hw102.2

def k0_off354 (v1368 : BitVec 32) : Fin 2 → Nat :=
  let c1024_i32_1075 : BitVec 32 := 1024#32
  let v1371 : BitVec 32 := Scalar.muli v1368 c1024_i32_1075
  let c512_i32_1076 : BitVec 32 := 512#32
  let v1372 : BitVec 32 := Scalar.addi v1371 c512_i32_1076
  let c0_i32_1857 : BitVec 32 := 0#32
  ![v1372.toNat, 0]

def k0_chk105 (v1368 : BitVec 32) : Prop :=
  (∀ a, (k0_off206 v1368) a + S512x512.size a ≤ S32768x512.size a) ∧
  (∀ a, (k0_off354 v1368) a + S512x512.size a ≤ S32768x512.size a)
theorem k0_off206_inb : ∀ (v1368 : BitVec 32) (k0_hw105 : k0_chk105 v1368), ∀ a, (k0_off206 v1368) a + S512x512.size a ≤ S32768x512.size a := fun v1368 k0_hw105 => k0_hw105.1
theorem k0_off354_inb : ∀ (v1368 : BitVec 32) (k0_hw105 : k0_chk105 v1368), ∀ a, (k0_off354 v1368) a + S512x512.size a ≤ S32768x512.size a := fun v1368 k0_hw105 => k0_hw105.2

def k0_off355 (v1410 : BitVec 32) : Fin 2 → Nat :=
  let c1024_i32_1109 : BitVec 32 := 1024#32
  let v1413 : BitVec 32 := Scalar.muli v1410 c1024_i32_1109
  let c0_i32_1110 : BitVec 32 := 0#32
  let v1414 : BitVec 32 := Scalar.addi v1413 c0_i32_1110
  let c0_i32_1862 : BitVec 32 := 0#32
  ![v1414.toNat, 0]

def k0_chk108 (v1410 : BitVec 32) : Prop :=
  (∀ a, (k0_off212 v1410) a + S512x512.size a ≤ S32768x512.size a) ∧
  (∀ a, (k0_off355 v1410) a + S512x512.size a ≤ S32768x512.size a)
theorem k0_off212_inb : ∀ (v1410 : BitVec 32) (k0_hw108 : k0_chk108 v1410), ∀ a, (k0_off212 v1410) a + S512x512.size a ≤ S32768x512.size a := fun v1410 k0_hw108 => k0_hw108.1
theorem k0_off355_inb : ∀ (v1410 : BitVec 32) (k0_hw108 : k0_chk108 v1410), ∀ a, (k0_off355 v1410) a + S512x512.size a ≤ S32768x512.size a := fun v1410 k0_hw108 => k0_hw108.2

def k0_off356 (v1449 : BitVec 32) : Fin 2 → Nat :=
  let c1024_i32_1139 : BitVec 32 := 1024#32
  let v1452 : BitVec 32 := Scalar.muli v1449 c1024_i32_1139
  let c0_i32_1140 : BitVec 32 := 0#32
  let v1453 : BitVec 32 := Scalar.addi v1452 c0_i32_1140
  let c0_i32_1867 : BitVec 32 := 0#32
  ![v1453.toNat, 0]

def k0_chk111 (v1449 : BitVec 32) : Prop :=
  (∀ a, (k0_off218 v1449) a + S512x512.size a ≤ S32768x512.size a) ∧
  (∀ a, (k0_off356 v1449) a + S512x512.size a ≤ S32768x512.size a)
theorem k0_off218_inb : ∀ (v1449 : BitVec 32) (k0_hw111 : k0_chk111 v1449), ∀ a, (k0_off218 v1449) a + S512x512.size a ≤ S32768x512.size a := fun v1449 k0_hw111 => k0_hw111.1
theorem k0_off356_inb : ∀ (v1449 : BitVec 32) (k0_hw111 : k0_chk111 v1449), ∀ a, (k0_off356 v1449) a + S512x512.size a ≤ S32768x512.size a := fun v1449 k0_hw111 => k0_hw111.2

def k0_off357 (v1491 : BitVec 32) : Fin 2 → Nat :=
  let c1024_i32_1173 : BitVec 32 := 1024#32
  let v1494 : BitVec 32 := Scalar.muli v1491 c1024_i32_1173
  let c512_i32_1174 : BitVec 32 := 512#32
  let v1495 : BitVec 32 := Scalar.addi v1494 c512_i32_1174
  let c0_i32_1872 : BitVec 32 := 0#32
  ![v1495.toNat, 0]

def k0_chk114 (v1491 : BitVec 32) : Prop :=
  (∀ a, (k0_off224 v1491) a + S512x512.size a ≤ S32768x512.size a) ∧
  (∀ a, (k0_off357 v1491) a + S512x512.size a ≤ S32768x512.size a)
theorem k0_off224_inb : ∀ (v1491 : BitVec 32) (k0_hw114 : k0_chk114 v1491), ∀ a, (k0_off224 v1491) a + S512x512.size a ≤ S32768x512.size a := fun v1491 k0_hw114 => k0_hw114.1
theorem k0_off357_inb : ∀ (v1491 : BitVec 32) (k0_hw114 : k0_chk114 v1491), ∀ a, (k0_off357 v1491) a + S512x512.size a ≤ S32768x512.size a := fun v1491 k0_hw114 => k0_hw114.2

def k0_off358 (v1530 : BitVec 32) : Fin 2 → Nat :=
  let c1024_i32_1203 : BitVec 32 := 1024#32
  let v1533 : BitVec 32 := Scalar.muli v1530 c1024_i32_1203
  let c512_i32_1204 : BitVec 32 := 512#32
  let v1534 : BitVec 32 := Scalar.addi v1533 c512_i32_1204
  let c0_i32_1877 : BitVec 32 := 0#32
  ![v1534.toNat, 0]

def k0_chk117 (v1530 : BitVec 32) : Prop :=
  (∀ a, (k0_off230 v1530) a + S512x512.size a ≤ S32768x512.size a) ∧
  (∀ a, (k0_off358 v1530) a + S512x512.size a ≤ S32768x512.size a)
theorem k0_off230_inb : ∀ (v1530 : BitVec 32) (k0_hw117 : k0_chk117 v1530), ∀ a, (k0_off230 v1530) a + S512x512.size a ≤ S32768x512.size a := fun v1530 k0_hw117 => k0_hw117.1
theorem k0_off358_inb : ∀ (v1530 : BitVec 32) (k0_hw117 : k0_chk117 v1530), ∀ a, (k0_off358 v1530) a + S512x512.size a ≤ S32768x512.size a := fun v1530 k0_hw117 => k0_hw117.2

def k0_off359 (v1572 : BitVec 32) : Fin 2 → Nat :=
  let c1024_i32_1237 : BitVec 32 := 1024#32
  let v1575 : BitVec 32 := Scalar.muli v1572 c1024_i32_1237
  let c0_i32_1238 : BitVec 32 := 0#32
  let v1576 : BitVec 32 := Scalar.addi v1575 c0_i32_1238
  let c0_i32_1882 : BitVec 32 := 0#32
  ![v1576.toNat, 0]

def k0_chk120 (v1572 : BitVec 32) : Prop :=
  (∀ a, (k0_off236 v1572) a + S512x512.size a ≤ S32768x512.size a) ∧
  (∀ a, (k0_off359 v1572) a + S512x512.size a ≤ S32768x512.size a)
theorem k0_off236_inb : ∀ (v1572 : BitVec 32) (k0_hw120 : k0_chk120 v1572), ∀ a, (k0_off236 v1572) a + S512x512.size a ≤ S32768x512.size a := fun v1572 k0_hw120 => k0_hw120.1
theorem k0_off359_inb : ∀ (v1572 : BitVec 32) (k0_hw120 : k0_chk120 v1572), ∀ a, (k0_off359 v1572) a + S512x512.size a ≤ S32768x512.size a := fun v1572 k0_hw120 => k0_hw120.2

def k0_off360 (v1611 : BitVec 32) : Fin 2 → Nat :=
  let c1024_i32_1267 : BitVec 32 := 1024#32
  let v1614 : BitVec 32 := Scalar.muli v1611 c1024_i32_1267
  let c0_i32_1268 : BitVec 32 := 0#32
  let v1615 : BitVec 32 := Scalar.addi v1614 c0_i32_1268
  let c0_i32_1887 : BitVec 32 := 0#32
  ![v1615.toNat, 0]

def k0_chk123 (v1611 : BitVec 32) : Prop :=
  (∀ a, (k0_off242 v1611) a + S512x512.size a ≤ S32768x512.size a) ∧
  (∀ a, (k0_off360 v1611) a + S512x512.size a ≤ S32768x512.size a)
theorem k0_off242_inb : ∀ (v1611 : BitVec 32) (k0_hw123 : k0_chk123 v1611), ∀ a, (k0_off242 v1611) a + S512x512.size a ≤ S32768x512.size a := fun v1611 k0_hw123 => k0_hw123.1
theorem k0_off360_inb : ∀ (v1611 : BitVec 32) (k0_hw123 : k0_chk123 v1611), ∀ a, (k0_off360 v1611) a + S512x512.size a ≤ S32768x512.size a := fun v1611 k0_hw123 => k0_hw123.2

def k0_off361 (v1653 : BitVec 32) : Fin 2 → Nat :=
  let c1024_i32_1301 : BitVec 32 := 1024#32
  let v1656 : BitVec 32 := Scalar.muli v1653 c1024_i32_1301
  let c512_i32_1302 : BitVec 32 := 512#32
  let v1657 : BitVec 32 := Scalar.addi v1656 c512_i32_1302
  let c0_i32_1892 : BitVec 32 := 0#32
  ![v1657.toNat, 0]

def k0_chk126 (v1653 : BitVec 32) : Prop :=
  (∀ a, (k0_off248 v1653) a + S512x512.size a ≤ S32768x512.size a) ∧
  (∀ a, (k0_off361 v1653) a + S512x512.size a ≤ S32768x512.size a)
theorem k0_off248_inb : ∀ (v1653 : BitVec 32) (k0_hw126 : k0_chk126 v1653), ∀ a, (k0_off248 v1653) a + S512x512.size a ≤ S32768x512.size a := fun v1653 k0_hw126 => k0_hw126.1
theorem k0_off361_inb : ∀ (v1653 : BitVec 32) (k0_hw126 : k0_chk126 v1653), ∀ a, (k0_off361 v1653) a + S512x512.size a ≤ S32768x512.size a := fun v1653 k0_hw126 => k0_hw126.2

def k0_off362 (v1692 : BitVec 32) : Fin 2 → Nat :=
  let c1024_i32_1331 : BitVec 32 := 1024#32
  let v1695 : BitVec 32 := Scalar.muli v1692 c1024_i32_1331
  let c512_i32_1332 : BitVec 32 := 512#32
  let v1696 : BitVec 32 := Scalar.addi v1695 c512_i32_1332
  let c0_i32_1897 : BitVec 32 := 0#32
  ![v1696.toNat, 0]

def k0_chk129 (v1692 : BitVec 32) : Prop :=
  (∀ a, (k0_off254 v1692) a + S512x512.size a ≤ S32768x512.size a) ∧
  (∀ a, (k0_off362 v1692) a + S512x512.size a ≤ S32768x512.size a)
theorem k0_off254_inb : ∀ (v1692 : BitVec 32) (k0_hw129 : k0_chk129 v1692), ∀ a, (k0_off254 v1692) a + S512x512.size a ≤ S32768x512.size a := fun v1692 k0_hw129 => k0_hw129.1
theorem k0_off362_inb : ∀ (v1692 : BitVec 32) (k0_hw129 : k0_chk129 v1692), ∀ a, (k0_off362 v1692) a + S512x512.size a ≤ S32768x512.size a := fun v1692 k0_hw129 => k0_hw129.2

def k0_off363 (v1734 : BitVec 32) : Fin 2 → Nat :=
  let c1024_i32_1365 : BitVec 32 := 1024#32
  let v1737 : BitVec 32 := Scalar.muli v1734 c1024_i32_1365
  let c0_i32_1366 : BitVec 32 := 0#32
  let v1738 : BitVec 32 := Scalar.addi v1737 c0_i32_1366
  let c0_i32_1902 : BitVec 32 := 0#32
  ![v1738.toNat, 0]

def k0_chk132 (v1734 : BitVec 32) : Prop :=
  (∀ a, (k0_off260 v1734) a + S512x512.size a ≤ S32768x512.size a) ∧
  (∀ a, (k0_off363 v1734) a + S512x512.size a ≤ S32768x512.size a)
theorem k0_off260_inb : ∀ (v1734 : BitVec 32) (k0_hw132 : k0_chk132 v1734), ∀ a, (k0_off260 v1734) a + S512x512.size a ≤ S32768x512.size a := fun v1734 k0_hw132 => k0_hw132.1
theorem k0_off363_inb : ∀ (v1734 : BitVec 32) (k0_hw132 : k0_chk132 v1734), ∀ a, (k0_off363 v1734) a + S512x512.size a ≤ S32768x512.size a := fun v1734 k0_hw132 => k0_hw132.2

def k0_off364 (v1773 : BitVec 32) : Fin 2 → Nat :=
  let c1024_i32_1395 : BitVec 32 := 1024#32
  let v1776 : BitVec 32 := Scalar.muli v1773 c1024_i32_1395
  let c0_i32_1396 : BitVec 32 := 0#32
  let v1777 : BitVec 32 := Scalar.addi v1776 c0_i32_1396
  let c0_i32_1907 : BitVec 32 := 0#32
  ![v1777.toNat, 0]

def k0_chk135 (v1773 : BitVec 32) : Prop :=
  (∀ a, (k0_off266 v1773) a + S512x512.size a ≤ S32768x512.size a) ∧
  (∀ a, (k0_off364 v1773) a + S512x512.size a ≤ S32768x512.size a)
theorem k0_off266_inb : ∀ (v1773 : BitVec 32) (k0_hw135 : k0_chk135 v1773), ∀ a, (k0_off266 v1773) a + S512x512.size a ≤ S32768x512.size a := fun v1773 k0_hw135 => k0_hw135.1
theorem k0_off364_inb : ∀ (v1773 : BitVec 32) (k0_hw135 : k0_chk135 v1773), ∀ a, (k0_off364 v1773) a + S512x512.size a ≤ S32768x512.size a := fun v1773 k0_hw135 => k0_hw135.2

def k0_off365 (v1815 : BitVec 32) : Fin 2 → Nat :=
  let c1024_i32_1429 : BitVec 32 := 1024#32
  let v1818 : BitVec 32 := Scalar.muli v1815 c1024_i32_1429
  let c512_i32_1430 : BitVec 32 := 512#32
  let v1819 : BitVec 32 := Scalar.addi v1818 c512_i32_1430
  let c0_i32_1912 : BitVec 32 := 0#32
  ![v1819.toNat, 0]

def k0_chk138 (v1815 : BitVec 32) : Prop :=
  (∀ a, (k0_off272 v1815) a + S512x512.size a ≤ S32768x512.size a) ∧
  (∀ a, (k0_off365 v1815) a + S512x512.size a ≤ S32768x512.size a)
theorem k0_off272_inb : ∀ (v1815 : BitVec 32) (k0_hw138 : k0_chk138 v1815), ∀ a, (k0_off272 v1815) a + S512x512.size a ≤ S32768x512.size a := fun v1815 k0_hw138 => k0_hw138.1
theorem k0_off365_inb : ∀ (v1815 : BitVec 32) (k0_hw138 : k0_chk138 v1815), ∀ a, (k0_off365 v1815) a + S512x512.size a ≤ S32768x512.size a := fun v1815 k0_hw138 => k0_hw138.2

def k0_off366 (v1854 : BitVec 32) : Fin 2 → Nat :=
  let c1024_i32_1459 : BitVec 32 := 1024#32
  let v1857 : BitVec 32 := Scalar.muli v1854 c1024_i32_1459
  let c512_i32_1460 : BitVec 32 := 512#32
  let v1858 : BitVec 32 := Scalar.addi v1857 c512_i32_1460
  let c0_i32_1917 : BitVec 32 := 0#32
  ![v1858.toNat, 0]

def k0_chk141 (v1854 : BitVec 32) : Prop :=
  (∀ a, (k0_off278 v1854) a + S512x512.size a ≤ S32768x512.size a) ∧
  (∀ a, (k0_off366 v1854) a + S512x512.size a ≤ S32768x512.size a)
theorem k0_off278_inb : ∀ (v1854 : BitVec 32) (k0_hw141 : k0_chk141 v1854), ∀ a, (k0_off278 v1854) a + S512x512.size a ≤ S32768x512.size a := fun v1854 k0_hw141 => k0_hw141.1
theorem k0_off366_inb : ∀ (v1854 : BitVec 32) (k0_hw141 : k0_chk141 v1854), ∀ a, (k0_off366 v1854) a + S512x512.size a ≤ S32768x512.size a := fun v1854 k0_hw141 => k0_hw141.2

def k0_off367 (v1896 : BitVec 32) : Fin 2 → Nat :=
  let c1024_i32_1493 : BitVec 32 := 1024#32
  let v1899 : BitVec 32 := Scalar.muli v1896 c1024_i32_1493
  let c0_i32_1494 : BitVec 32 := 0#32
  let v1900 : BitVec 32 := Scalar.addi v1899 c0_i32_1494
  let c0_i32_1922 : BitVec 32 := 0#32
  ![v1900.toNat, 0]

def k0_chk144 (v1896 : BitVec 32) : Prop :=
  (∀ a, (k0_off284 v1896) a + S512x512.size a ≤ S32768x512.size a) ∧
  (∀ a, (k0_off367 v1896) a + S512x512.size a ≤ S32768x512.size a)
theorem k0_off284_inb : ∀ (v1896 : BitVec 32) (k0_hw144 : k0_chk144 v1896), ∀ a, (k0_off284 v1896) a + S512x512.size a ≤ S32768x512.size a := fun v1896 k0_hw144 => k0_hw144.1
theorem k0_off367_inb : ∀ (v1896 : BitVec 32) (k0_hw144 : k0_chk144 v1896), ∀ a, (k0_off367 v1896) a + S512x512.size a ≤ S32768x512.size a := fun v1896 k0_hw144 => k0_hw144.2

def k0_off368 (v1935 : BitVec 32) : Fin 2 → Nat :=
  let c1024_i32_1523 : BitVec 32 := 1024#32
  let v1938 : BitVec 32 := Scalar.muli v1935 c1024_i32_1523
  let c0_i32_1524 : BitVec 32 := 0#32
  let v1939 : BitVec 32 := Scalar.addi v1938 c0_i32_1524
  let c0_i32_1927 : BitVec 32 := 0#32
  ![v1939.toNat, 0]

def k0_chk147 (v1935 : BitVec 32) : Prop :=
  (∀ a, (k0_off290 v1935) a + S512x512.size a ≤ S32768x512.size a) ∧
  (∀ a, (k0_off368 v1935) a + S512x512.size a ≤ S32768x512.size a)
theorem k0_off290_inb : ∀ (v1935 : BitVec 32) (k0_hw147 : k0_chk147 v1935), ∀ a, (k0_off290 v1935) a + S512x512.size a ≤ S32768x512.size a := fun v1935 k0_hw147 => k0_hw147.1
theorem k0_off368_inb : ∀ (v1935 : BitVec 32) (k0_hw147 : k0_chk147 v1935), ∀ a, (k0_off368 v1935) a + S512x512.size a ≤ S32768x512.size a := fun v1935 k0_hw147 => k0_hw147.2

def k0_off369 (v1977 : BitVec 32) : Fin 2 → Nat :=
  let c1024_i32_1557 : BitVec 32 := 1024#32
  let v1980 : BitVec 32 := Scalar.muli v1977 c1024_i32_1557
  let c512_i32_1558 : BitVec 32 := 512#32
  let v1981 : BitVec 32 := Scalar.addi v1980 c512_i32_1558
  let c0_i32_1932 : BitVec 32 := 0#32
  ![v1981.toNat, 0]

def k0_chk150 (v1977 : BitVec 32) : Prop :=
  (∀ a, (k0_off296 v1977) a + S512x512.size a ≤ S32768x512.size a) ∧
  (∀ a, (k0_off369 v1977) a + S512x512.size a ≤ S32768x512.size a)
theorem k0_off296_inb : ∀ (v1977 : BitVec 32) (k0_hw150 : k0_chk150 v1977), ∀ a, (k0_off296 v1977) a + S512x512.size a ≤ S32768x512.size a := fun v1977 k0_hw150 => k0_hw150.1
theorem k0_off369_inb : ∀ (v1977 : BitVec 32) (k0_hw150 : k0_chk150 v1977), ∀ a, (k0_off369 v1977) a + S512x512.size a ≤ S32768x512.size a := fun v1977 k0_hw150 => k0_hw150.2

def k0_off370 (v2016 : BitVec 32) : Fin 2 → Nat :=
  let c1024_i32_1587 : BitVec 32 := 1024#32
  let v2019 : BitVec 32 := Scalar.muli v2016 c1024_i32_1587
  let c512_i32_1588 : BitVec 32 := 512#32
  let v2020 : BitVec 32 := Scalar.addi v2019 c512_i32_1588
  let c0_i32_1937 : BitVec 32 := 0#32
  ![v2020.toNat, 0]

def k0_chk153 (v2016 : BitVec 32) : Prop :=
  (∀ a, (k0_off302 v2016) a + S512x512.size a ≤ S32768x512.size a) ∧
  (∀ a, (k0_off370 v2016) a + S512x512.size a ≤ S32768x512.size a)
theorem k0_off302_inb : ∀ (v2016 : BitVec 32) (k0_hw153 : k0_chk153 v2016), ∀ a, (k0_off302 v2016) a + S512x512.size a ≤ S32768x512.size a := fun v2016 k0_hw153 => k0_hw153.1
theorem k0_off370_inb : ∀ (v2016 : BitVec 32) (k0_hw153 : k0_chk153 v2016), ∀ a, (k0_off370 v2016) a + S512x512.size a ≤ S32768x512.size a := fun v2016 k0_hw153 => k0_hw153.2

def k0_off371 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32_1939 : BitVec 32 := 1024#32
  let v2333 : BitVec 32 := Scalar.muli v2 c1024_i32_1939
  let c0_i32_1941 : BitVec 32 := 0#32
  ![v2333.toNat, 0]
def k0_off372 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32 : BitVec 32 := 1024#32
  let v25 : BitVec 32 := Scalar.muli v2 c1024_i32
  let c0_i32_2010 : BitVec 32 := 0#32
  ![v25.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩

abbrev nBuf : Space → Nat
  | .hbm => 1
  | .vmem => 0
  | .smem => 0
  | _ => 0

abbrev bufTy : (tb : Table) → Fin (tcTables nBuf tb) → BufTy
  | .hbm, ⟨0, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Prog.lean ====
/-
  The kernel's body, restated by recursion over the ring's steps. The printed body spells every send, wait and relay out; here each kind
  of step is one definition at a direction and a step number, at the ring position of the device that runs it.
-/
module

public import proofs.«01_k».proof.Proof.Gen.KernelIdeal.Skeleton
public import Idealize.ShloMosaic.Lib.Tactic

@[expose] public section

noncomputable section

namespace Cert.KernelIdeal.Ring

open Idealize.ShloMosaic Idealize.SL.Sem Cert.KernelIdeal Cert.KernelIdeal.Facts₀ Cert.KernelIdeal.Facts

attribute [local instance] Gen.facts

/-! ## The ring -/

/-- The ring's positions, device by device. -/
def posTab : List Nat :=
  [0, 31, 30, 1, 2, 29, 28, 3, 7, 24, 25, 6, 5, 26, 27, 4, 8, 23, 22, 9, 10, 21, 20, 11, 15, 16, 17, 14, 13, 18, 19, 12]
/-- The ring's devices, position by position. -/
def ringTab : List Nat :=
  [0, 3, 4, 7, 15, 12, 11, 8, 16, 19, 20, 23, 31, 28, 27, 24, 25, 26, 29, 30, 22, 21, 18, 17, 9, 10, 13, 14, 6, 5, 2, 1]
/-- The relay partners, device by device. -/
def mateTab : List Nat :=
  [8, 9, 10, 11, 5, 4, 7, 6, 0, 1, 2, 3, 13, 12, 15, 14, 24, 25, 26, 27, 21, 20, 23, 22, 16, 17, 18, 19, 29, 28, 31, 30]

/-- The ring position of a device. -/
def pos (c : Dev nD) : Nat := posTab.getD c.val 0
/-- The device at a ring position. -/
def ring (p : Nat) : Dev nD := ⟨ringTab.getD (p % 32) 0 % 32, Nat.mod_lt _ (by decide)⟩
/-- The relay partner of a device. -/
def mate (c : Dev nD) : Dev nD := ⟨mateTab.getD c.val 0 % 32, Nat.mod_lt _ (by decide)⟩
/-- The neighbour that a device sends to: the next one rightward (`true`), the one before leftward. -/
def nbr (d : Bool) (c : Dev nD) : Dev nD := ring (if d then pos c + 1 else pos c + 31)
/-- The ring position whose chunk a device passes on at hop `k` in direction `d`: its own at hop 0. -/
def hopPos (d : Bool) (c : Dev nD) (k : Nat) : Nat := if d then (pos c + 32 - k) % 32 else (pos c + k) % 32
/-- The place of a chunk's origin is below 32. -/
theorem hopPos_lt (d : Bool) (c : Dev nD) (k : Nat) : hopPos d c k < 32 := by
  unfold hopPos; split <;> exact Nat.mod_lt _ (by decide)
/-- Whether a device relays the chunk at ring position `p`: its partner lies 14 to 18 positions before it. -/
def relays (c : Dev nD) (p : Nat) : Bool := decide ((p + 64 - pos (mate c) - 14) % 32 < 5)

/-! ## Words -/

/-- The word of a number. -/
def w (n : Nat) : BitVec 32 := BitVec.ofNat 32 n
/-- The row of a half-chunk, of the chunk of the device that a word names. -/
def rowOff (H v : BitVec 32) : Fin 2 → Nat := ![(Scalar.addi (Scalar.muli v 1024#32) H).toNat, 0]
/-- A half-chunk lies inside the result. -/
def recvChk (H v : BitVec 32) : Prop := ∀ a, (rowOff H v) a + S512x512.size a ≤ S32768x512.size a
instance recvChk.dec (H v : BitVec 32) : Decidable (recvChk H v) := decidable_of_iff' _ (Iff.of_eq (recvChk.eq_1 H v))
/-- A half-chunk lies inside the result, at the send and at the later wait. -/
def sendChk (H v : BitVec 32) : Prop :=
  (∀ a, (rowOff H v) a + S512x512.size a ≤ S32768x512.size a) ∧ ∀ a, (rowOff H v) a + S512x512.size a ≤ S32768x512.size a
instance sendChk.dec (H v : BitVec 32) : Decidable (sendChk H v) := decidable_of_iff' _ (Iff.of_eq (sendChk.eq_1 H v))
/-- The word of the ring position of the chunk received after hop `k`. -/
def origin (d : Bool) (k p : BitVec 32) : BitVec 32 :=
  if d then Scalar.remsi (Scalar.addi (Scalar.subi (Scalar.subi p 1#32) k) 32#32) 32#32
  else Scalar.remsi (Scalar.addi (Scalar.addi p 1#32) k) 32#32
/-- The relay's condition, at the words of both partners' ring positions. -/
def relayCond (d : Bool) (k p q : BitVec 32) : BitVec 1 :=
  Scalar.cmpi .ne (Scalar.extui (Scalar.cmpi .slt (Scalar.remsi (Scalar.subi (Scalar.addi (Scalar.subi (origin d k p) q) 64#32) 14#32)
    32#32) 5#32)) 0#32
/-- A relayed half-chunk lies inside the result. -/
def relayChk (d : Bool) (k p q H v : BitVec 32) : Prop :=
  ∀ (_ : relayCond d k p q = 1#1), ∀ a, (rowOff H v) a + S512x512.size a ≤ S32768x512.size a
instance relayChk.dec (d : Bool) (k p q H v : BitVec 32) : Decidable (relayChk d k p q H v) :=
  decidable_of_iff' _ (Iff.of_eq (relayChk.eq_1 d k p q H v))

/-- The words agree with the numbers: a relay's condition holds just where the numbers say. -/
theorem relayCond_iff : ∀ (d : Bool) (c : Dev nD) (k : Fin 13),
    (relayCond d (w k.val) (w (pos c)) (w (pos (mate c))) = 1#1) ↔ relays c (hopPos d c (k.val + 1)) = true := by
  decide +kernel

/-! ## The steps -/

/-- The half of a chunk that step `t` moves. -/
def half (t : Fin 26) : BitVec 32 := w (512 * (t.val % 2))
/-- The chunk that step `t` moves. -/
def hop (t : Fin 26) : Fin 13 := ⟨t.val / 2, by omega⟩

/-- A place below 32 is an entry of the tables. -/
theorem tab_inb {p : Nat} (h : p < 32) : ∀ a, (![p] : Fin 1 → Nat) a + S1.size a ≤ S32.size a := by
  intro a; fin_cases a; exact h
/-- A step's number is an entry of the semaphore arrays. -/
theorem cell_inb (t : Fin 26) : ∀ a, (![t.val] : Fin 1 → Nat) a + S1.size a ≤ S26.size a := by
  intro a; fin_cases a; exact t.isLt
/-- A half lies inside the operand. -/
theorem half_inb (t : Fin 26) : ∀ a, (![512 * (t.val % 2), 0] : Fin 2 → Nat) a + S512x512.size a ≤ S1024x512.size a := by
  intro a; fin_cases a
  · show 512 * (t.val % 2) + 512 ≤ 1024; omega
  · show 0 + 512 ≤ 512; omega

variable {F : FTy → Type} [FloatOps F]

/-- The programs of the body. -/
abbrev P (F : FTy → Type) := Prog (TpuEff nD τ sig (Elt F) Λ₀ .tc) PUnit

/-- A send made: its direction, its step, the word of the chunk's device and the check passed on it. -/
structure Sent where
  d : Bool
  t : Fin 26
  v : BitVec 32
  chk : sendChk (half t) v

/-- The operands of the kernel's body. -/
structure Ops where
  x : Memref sig .tc .vmem S1024x512 .f32
  hx : x.IsWhole
  tab : Memref sig .tc .smem S32 .i32
  out : Memref sig .tc .hbm S32768x512 .f32
  sendR : DmaSems sig S26
  recvR : DmaSems sig S26
  sendL : DmaSems sig S26
  recvL : DmaSems sig S26
  relayS : DmaSems sig S_
  relayR : DmaSems sig S_
  own : DmaSems sig S_

namespace Ops
variable (o : Ops)
/-- A direction's send cells, and its receive cells. -/
def sends (d : Bool) : DmaSems sig S26 := if d then o.sendR else o.sendL
@[inherit_doc sends] def recvs (d : Bool) : DmaSems sig S26 := if d then o.recvR else o.recvL
/-- One cell of an array of 26. -/
def cell (s : DmaSems sig S26) (t : Fin 26) : DmaSem sig :=
  ((s.slice (Rect.unit (s := S26) ![t.val] S1.size (cell_inb t))).squeeze S_ squeezes_S1_S_).sem
/-- A half-chunk of the result. -/
def rows (H v : BitVec 32) (h : recvChk H v) : Memref sig .tc .hbm S512x512 .f32 :=
  o.out.slice (Rect.unit (s := S32768x512) (rowOff H v) S512x512.size h) (fun _ => rfl)
/-- A half of the device's own chunk. -/
def own2 (t : Fin 26) : Memref sig .tc .vmem S512x512 .f32 :=
  o.x.slice (Rect.unit (s := S1024x512) ![512 * (t.val % 2), 0] S512x512.size (half_inb t)) (fun _ => rfl)
end Ops

variable (o : Ops) (c : Dev nD)

/-- Read the ring's table at a position. -/
def look (p : Nat) (h : p < 32) (K : Elt F .i32 → P F) : P F :=
  smemLoad o.tab (Rect.unit (s := S32) ![p] S1.size (tab_inb h)) numel1_S1 rfl >>= K

/-- The first two sends of a direction: the device's own halves. -/
def sendOwn (d : Bool) (t : Fin 26) (K : Sent → P F) : P F :=
  look o (hopPos d c (hop t).val) (hopPos_lt _ _ _) fun v =>
  .op (.assume (sendChk (half t) v) (sendChk.dec (half t) v)) fun h =>
  .op (.enqueueDma (o.own2 t) (.remote (Dev.tc (nbr d c)) (o.rows (half t) v h.down.1) (.dma (Ops.cell (o.sends d) t)))
    (.dma (Ops.cell (o.recvs d) t)) (View.wordExact_bits rfl) (View.wordExact_bits rfl) ⟨⟨rfl, Or.inl rfl⟩, trivial⟩) fun _ =>
  K ⟨d, t, v, h.down⟩

/-- A later send of a direction: a half-chunk received two steps before. -/
def sendOn (d : Bool) (t : Fin 26) (K : Sent → P F) : P F :=
  look o (hopPos d c (hop t).val) (hopPos_lt _ _ _) fun v =>
  .op (.assume (sendChk (half t) v) (sendChk.dec (half t) v)) fun h =>
  .op (.enqueueDma (o.rows (half t) v h.down.1) (.remote (Dev.tc (nbr d c)) (o.rows (half t) v h.down.1) (.dma (Ops.cell (o.sends d) t)))
    (.dma (Ops.cell (o.recvs d) t)) (View.wordExact_bits rfl) (View.wordExact_bits rfl) ⟨⟨rfl, Or.inl rfl⟩, trivial⟩) fun _ =>
  K ⟨d, t, v, h.down⟩

/-- The relay of a half-chunk received, where the partner needs it. -/
def relay (d : Bool) (t : Fin 26) (K : P F) : P F :=
  if hr : relays c (hopPos d c ((hop t).val + 1)) = true then
    look o (hopPos d c ((hop t).val + 1)) (hopPos_lt _ _ _) fun v =>
    .op (.assume (relayChk d (w (hop t).val) (w (pos c)) (w (pos (mate c))) (half t) v) (relayChk.dec _ _ _ _ _ _)) fun h =>
    .op (.enqueueDma (o.rows (half t) v (h.down ((relayCond_iff _ _ _).2 hr)))
      (.remote (Dev.tc (mate c)) (o.rows (half t) v (h.down ((relayCond_iff _ _ _).2 hr))) (.dma o.relayS.sem))
      (.dma o.relayR.sem) (View.wordExact_bits rfl) (View.wordExact_bits rfl) ⟨⟨rfl, Or.inl rfl⟩, trivial⟩) fun _ => K
  else K

/-- A receive: wait for the half-chunk of step `t`, then relay it where the partner needs it. -/
def recv (d : Bool) (t : Fin 26) (K : P F) : P F :=
  look o (hopPos d c ((hop t).val + 1)) (hopPos_lt _ _ _) fun v =>
  .op (.assume (recvChk (half t) v) (recvChk.dec (half t) v)) fun h =>
  .op (.waitDma2 (Ops.cell (o.recvs d) t) (o.rows (half t) v h.down) (o.rows (half t) v h.down) (View.wordExact_bits rfl)
    (View.wordExact_bits rfl)) fun _ =>
  relay o c d t K

/-- The steps from `t` on: in each direction receive a half-chunk and pass it on; the sends made are listed, the last first. -/
def steps : (n t : Nat) → t + n = 24 → List Sent → (List Sent → P F) → P F
  | 0, _, _, acc, K => K acc
  | n + 1, t, h, acc, K =>
    recv o c true ⟨t, by omega⟩ <| sendOn o c true ⟨t + 2, by omega⟩ fun r =>
    recv o c false ⟨t, by omega⟩ <| sendOn o c false ⟨t + 2, by omega⟩ fun l =>
    steps n (t + 1) (by omega) (l :: r :: acc) K

/-- The waits for the sends made. The first two of a direction name the device's own halves as what was sent. -/
def waits : List Sent → P F → P F
  | [], K => K
  | s :: l, K =>
    if s.t.val < 2 then
      .op (.waitDma2 (Ops.cell (o.sends s.d) s.t) (o.rows (half s.t) s.v s.chk.2) (o.own2 s.t) (View.wordExact_bits rfl)
        (View.wordExact_bits rfl)) fun _ => waits l K
    else
      .op (.waitDma2 (Ops.cell (o.sends s.d) s.t) (o.rows (half s.t) s.v s.chk.2) (o.rows (half s.t) s.v s.chk.2) (View.wordExact_bits rfl)
        (View.wordExact_bits rfl)) fun _ => waits l K

/-- Waits of one half-chunk each on one cell. -/
def waitN (s : DmaSem sig) : Nat → P F → P F
  | 0, K => K
  | n + 1, K =>
    .op (.waitDma2 s (o.out.slice (Rect.unit (s := S32768x512) (k0_off371 c) S512x512.size (k0_off371_inb c)) (fun _ => rfl) :
        Memref sig .tc .hbm S512x512 .f32)
      (o.out.slice (Rect.unit (s := S32768x512) (k0_off371 c) S512x512.size (k0_off371_inb c)) (fun _ => rfl) :
        Memref sig .tc .hbm S512x512 .f32) (View.wordExact_bits rfl) (View.wordExact_bits rfl)) fun _ => waitN s n K

/-- The wait for the copy of the device's own chunk. -/
def waitOwn (K : P F) : P F :=
  .op (.waitDma2 o.own.sem o.x (o.out.slice (Rect.unit (s := S32768x512) (k0_off372 c) S1024x512.size (k0_off372_inb c)) (fun _ => rfl) :
        Memref sig .tc .hbm S1024x512 .f32) o.hx.wordExact (View.wordExact_bits rfl)) fun _ => K

/-- The body behind its head. -/
def tail : P F :=
  sendOwn o c true 0 fun r0 => sendOwn o c false 0 fun l0 => sendOwn o c true 1 fun r1 => sendOwn o c false 1 fun l1 =>
  steps o c 24 0 rfl [l1, r1, l0, r0] fun acc =>
  recv o c true 24 <| recv o c false 24 <| recv o c true 25 <| recv o c false 25 <|
  waits o acc.reverse <| waitN o c o.relayS.sem 10 <| waitN o c o.relayR.sem 10 <| waitOwn o c <| .ret ⟨⟩

end Cert.KernelIdeal.Ring
-- ==== Proof.Facts.lean ====
/-
  The ring's numbers and cells. A send and a receive have a number n below 52: the two directions alternate, a send or receive of one
  direction has an even number, of the other an odd one. Everything the protocol needs of the ring is a fact about these numbers.
-/
module

public import proofs.«01_k».proof.Proof.Prog
public import Idealize.ShloMosaic.Lib.Pipeline.ValueKit.Geometry

@[expose] public section

noncomputable section

namespace Cert.KernelIdeal.Ring

open Idealize.ShloMosaic Idealize.ShloMosaic.TcCoe Idealize.SL.Sem Cert.KernelIdeal Cert.KernelIdeal.Facts₀ Cert.KernelIdeal.Facts

attribute [local instance] Gen.facts

/-! ## Numbers -/

/-- The direction of number `n`: even ones go rightward. -/
def dr (n : Nat) : Bool := n % 2 == 0
/-- The step of number `n`. -/
def st (n : Nat) : Fin 26 := ⟨n / 2 % 26, Nat.mod_lt _ (by decide)⟩
/-- The half that number `n` moves. -/
def hb (n : Nat) : Fin 2 := ⟨n / 2 % 2, Nat.mod_lt _ (by decide)⟩
/-- The device whose chunk the receive `n` brings. -/
def src (c : Dev nD) (n : Nat) : Dev nD := ring (hopPos (dr n) c ((hop (st n)).val + 1))
/-- The device whose chunk the send `n` passes on. -/
def dst (c : Dev nD) (n : Nat) : Dev nD := ring (hopPos (dr n) c (hop (st n)).val)
/-- The device that the send `n` goes to. -/
def peer (c : Dev nD) (n : Nat) : Dev nD := nbr (dr n) c
/-- Whether the half-chunk of the receive `n` is relayed. -/
def rl (c : Dev nD) (n : Nat) : Bool := relays c (hopPos (dr n) c ((hop (st n)).val + 1))
/-- The receives that are relayed. -/
def rel (c : Dev nD) : Finset Nat := (Finset.range 52).filter fun n => rl c n = true

/-- The relayed steps are those of the 52 at which the table says so. -/
theorem mem_rel {c : Dev nD} {n : Nat} : n ∈ rel c ↔ n < 52 ∧ rl c n = true := by
  unfold rel; rw [Finset.mem_filter, Finset.mem_range]

/-- Ten half-chunks are relayed from each device. -/
theorem rel_card : ∀ c : Dev nD, (rel c).card = 10 := by decide +kernel
/-- What is passed on is what came four numbers before. -/
theorem dst_add4 : ∀ c : Dev nD, ∀ n < 48, dst c (n + 4) = src c n := by decide +kernel
/-- A device's own chunk goes first. -/
theorem dst_own : ∀ c : Dev nD, ∀ n < 4, dst c n = c := by decide +kernel
/-- What is received is what the neighbour sent. -/
theorem src_peer : ∀ c : Dev nD, ∀ n < 52, src (peer c n) n = dst c n := by decide +kernel
/-- Partners are partners of each other. -/
theorem mate_mate : ∀ c : Dev nD, mate (mate c) = c := by decide +kernel
/-- The two neighbours are each other's. -/
theorem nbr_nbr : ∀ (d : Bool) (c : Dev nD), nbr (!d) (nbr d c) = c := by decide +kernel
/-- Going to a neighbour and back ends at the start. -/
theorem nbr_nbr' (d : Bool) (c : Dev nD) : nbr d (nbr (!d) c) = c := by
  have := nbr_nbr (!d) c; rwa [Bool.not_not] at this
/-- The device at a device's own position is itself. -/
theorem ring_pos : ∀ c : Dev nD, ring (pos c) = c := by decide +kernel
/-- A place on the ring is below 32. -/
theorem pos_lt : ∀ c : Dev nD, pos c < 32 := by decide +kernel
/-- Which half a step moves repeats every four steps. -/
theorem hb_add4 (n : Nat) : hb (n + 4) = hb n := by
  apply Fin.ext; show (n + 4) / 2 % 2 = n / 2 % 2; omega
/-- The direction of a step repeats every four steps. -/
theorem dr_add4 (n : Nat) : dr (n + 4) = dr n := by
  unfold dr; rw [show (n + 4) % 2 = n % 2 by omega]
/-- The half that step `n` moves is the parity of its number in its own direction. -/
theorem st_half (n : Nat) : (st n).val % 2 = (hb n).val := by
  show n / 2 % 26 % 2 = n / 2 % 2; omega
/-- Step `n` is number `n / 2` in its own direction. -/
theorem st_val {n : Nat} (h : n < 52) : (st n).val = n / 2 := Nat.mod_eq_of_lt (by omega)

/-- The half-chunks a device gets by the ring and by its partner's relay are, with its own, all of them, each once. -/
def got (c : Dev nD) : List (Dev nD × Fin 2) :=
  (c, 0) :: (c, 1) :: (((List.range 52).map fun n => (src c n, hb n)) ++ (((List.range 52).filter fun n => rl (mate c) n).map fun n => (src (mate c) n, hb n)))
/-- No half comes to a device twice. -/
theorem got_nodup : ∀ c : Dev nD, (got c).Nodup := by decide +kernel
/-- A device comes to hold 64 halves. -/
theorem got_length : ∀ c : Dev nD, (got c).length = 64 := by decide +kernel

/-! ## Cells -/

/-- The send cell of number `n`. -/
def scell (n : Nat) : DmaSem sig := ⟨(if dr n then 4 else 56) + (st n).val, by have := (st n).isLt; show _ < 111; split <;> omega⟩
/-- The receive cell of number `n`. -/
def rcell (n : Nat) : DmaSem sig := ⟨(if dr n then 30 else 82) + (st n).val, by have := (st n).isLt; show _ < 111; split <;> omega⟩
/-- The relay's send and receive cell, and the cell of the local copy. -/
def relS : DmaSem sig := ⟨108, by decide⟩
@[inherit_doc relS] def relR : DmaSem sig := ⟨109, by decide⟩
@[inherit_doc relS] def ownC : DmaSem sig := ⟨110, by decide⟩
/-- The barrier. -/
def barS : Sem sig := sig.barrier 0 rfl

/-- What a cell is for. -/
inductive Kind where
  | bar | send (n : Nat) | recv (n : Nat) | relS | relR | own | other
  deriving DecidableEq

/-- What a semaphore is for, read off its number. -/
def kind : SemLoc sig → Kind
  | .reg _ => .bar
  | .dma s =>
    if s.val < 4 then .other else if s.val < 30 then .send (2 * (s.val - 4)) else if s.val < 56 then .recv (2 * (s.val - 30))
    else if s.val < 82 then .send (2 * (s.val - 56) + 1) else if s.val < 108 then .recv (2 * (s.val - 82) + 1)
    else if s.val < 109 then .relS else if s.val < 110 then .relR else .own

/-- The barrier's semaphore is of its own kind. -/
theorem kind_bar : kind (.reg barS) = .bar := rfl
/-- The cell of send `n` is of that kind. -/
theorem kind_send : ∀ n < 52, kind (.dma (scell n)) = .send n := by decide +kernel
/-- The cell of landing `n` is of that kind. -/
theorem kind_recv : ∀ n < 52, kind (.dma (rcell n)) = .recv n := by decide +kernel
/-- The kind of the semaphore on which relays leave. -/
theorem kind_relS : kind (.dma relS) = .relS := by decide +kernel
/-- The kind of the semaphore on which relays land. -/
theorem kind_relR : kind (.dma relR) = .relR := by decide +kernel
/-- The kind of the semaphore of the local copy. -/
theorem kind_own : kind (.dma ownC) = .own := by decide +kernel

/-- The kernel's own semaphores, listed: the sends, the receives, the three others. -/
def osem : (Bool × Fin 52) ⊕ Fin 3 → SemLoc sig
  | .inl (false, n) => .dma (scell n.val)
  | .inl (true, n) => .dma (rcell n.val)
  | .inr 0 => .dma relS
  | .inr 1 => .dma relR
  | .inr 2 => .dma ownC

/-! ## The operands -/

/-- The operands that the launch passes. -/
def ops0 : Ops where
  x := Memref.whole cc0_stg0_0
  hx := Memref.isWhole_whole _
  tab := Memref.whole cc0_stg2_0
  out := Memref.whole main_v1
  sendR := cc0_scratch0
  recvR := cc0_scratch1
  sendL := cc0_scratch2
  recvL := cc0_scratch3
  relayS := cc0_scratch4
  relayR := cc0_scratch5
  own := cc0_scratch6

/-- The cell that the program names for send `n`. -/
theorem cell_send : ∀ n < 52, Ops.cell (ops0.sends (dr n)) (st n) = scell n := by decide +kernel
/-- The cell that the program names for landing `n`. -/
theorem cell_recv : ∀ n < 52, Ops.cell (ops0.recvs (dr n)) (st n) = rcell n := by decide +kernel
/-- The semaphore that the program names for relays leaving. -/
theorem cell_relS : ops0.relayS.sem = relS := by decide +kernel
/-- The semaphore that the program names for relays landing. -/
theorem cell_relR : ops0.relayR.sem = relR := by decide +kernel
/-- The semaphore that the program names for the local copy. -/
theorem cell_own : ops0.own.sem = ownC := by decide +kernel

/-! ## Half-chunks -/

/-- A half of a chunk lies inside the result. -/
theorem blk_inb (b : Dev nD) (h : Fin 2) : ∀ a, (![1024 * b.val + 512 * h.val, 0] : Fin 2 → Nat) a + S512x512.size a ≤ S32768x512.size a := by
  intro a
  have hb : b.val < 32 := b.isLt
  have hh := h.isLt
  fin_cases a
  · show 1024 * b.val + 512 * h.val + 512 ≤ 32768; omega
  · show 0 + 512 ≤ 512; omega

/-- Half `h` of device `b`'s chunk of the result. -/
def blk (b : Dev nD) (h : Fin 2) : Memref sig .tc .hbm S512x512 .f32 :=
  (Memref.whole main_v1 : Memref sig .tc .hbm S32768x512 .f32).slice
    (Rect.unit (s := S32768x512) ![1024 * b.val + 512 * h.val, 0] S512x512.size (blk_inb b h)) (fun _ => rfl)

/-- The rows that the program computes for a half of a chunk. -/
theorem rowOff_eq : ∀ (b : Dev nD) (t : Fin 26), rowOff (half t) (w b.val) = ![1024 * b.val + 512 * (t.val % 2), 0] := by
  have h : ∀ (b : Dev nD) (t : Fin 26), (Scalar.addi (Scalar.muli (w b.val) 1024#32) (half t)).toNat = 1024 * b.val + 512 * (t.val % 2) := by
    decide +kernel
  intro b t; unfold rowOff; rw [h]

/-- The rows that number `n` moves, at the word of the chunk's device, are that half-chunk. -/
theorem rows_eq (b : Dev nD) (n : Nat) (h : recvChk (half (st n)) (w b.val)) : ops0.rows (half (st n)) (w b.val) h = blk b (hb n) := by
  unfold Ops.rows blk
  apply Memref.slice_unit_congr
  rw [rowOff_eq, st_half]

/-- The side condition on the rows of a landing holds for every chunk. -/
theorem chk_rows (b : Dev nD) (t : Fin 26) : recvChk (half t) (w b.val) := by
  unfold recvChk; rw [rowOff_eq]
  exact blk_inb b ⟨t.val % 2, Nat.mod_lt _ (by decide)⟩

/-- The stage of the device's chunk, by halves. -/
theorem xh_inb (h : Fin 2) : ∀ a, (![512 * h.val, 0] : Fin 2 → Nat) a + S512x512.size a ≤ S1024x512.size a := by
  intro a
  have hh := h.isLt
  fin_cases a
  · show 512 * h.val + 512 ≤ 1024; omega
  · show 0 + 512 ≤ 512; omega
/-- Half `h` of the stage. -/
def xh (h : Fin 2) : Memref sig .tc .vmem S512x512 .f32 :=
  (Memref.whole cc0_stg0_0 : Memref sig .tc .vmem S1024x512 .f32).slice
    (Rect.unit (s := S1024x512) ![512 * h.val, 0] S512x512.size (xh_inb h)) (fun _ => rfl)
/-- In its first steps a device sends from the half of the operand that the step moves. -/
theorem own2_eq (n : Nat) : ops0.own2 (st n) = xh (hb n) := by
  unfold Ops.own2 xh
  apply Memref.slice_unit_congr
  rw [st_half]

/-- A chunk lies inside the result. -/
theorem chunk_inb (b : Dev nD) : ∀ a, (![1024 * b.val, 0] : Fin 2 → Nat) a + S1024x512.size a ≤ S32768x512.size a := by
  intro a
  have hb : b.val < 32 := b.isLt
  fin_cases a
  · show 1024 * b.val + 1024 ≤ 32768; omega
  · show 0 + 512 ≤ 512; omega
/-- Device `b`'s chunk of the result. -/
def chunk (b : Dev nD) : Memref sig .tc .hbm S1024x512 .f32 :=
  (Memref.whole main_v1 : Memref sig .tc .hbm S32768x512 .f32).slice
    (Rect.unit (s := S32768x512) ![1024 * b.val, 0] S1024x512.size (chunk_inb b)) (fun _ => rfl)

/-- The units of one half-chunk's copy, and of one chunk's. -/
def Nh : Nat := (blk 0 0).view.dmaCredit
@[inherit_doc Nh] def Nc : Nat := (chunk 0).view.dmaCredit
/-- A half chunk has units. -/
theorem Nh_pos : 0 < Nh := View.dmaCredit_pos _ (by decide)
/-- A chunk has units. -/
theorem Nc_pos : 0 < Nc := View.dmaCredit_pos _ (by decide)
/-- A copy into a half of the result is worth a half chunk's units. -/
theorem credit_blk (b : Dev nD) (h : Fin 2) : (blk b h).view.dmaCredit = Nh := rfl
/-- A copy into a chunk of the result is worth a chunk's units. -/
theorem credit_chunk (b : Dev nD) : (chunk b).view.dmaCredit = Nc := rfl
attribute [irreducible] Nh Nc

/-! ## Which elements -/

/-- The elements of a half-chunk, of a half of the stage, of a chunk. -/
def bset (b : Dev nD) (h : Fin 2) : Finset S32768x512.Idx := (blk b h).view.set
@[inherit_doc bset] def xset (h : Fin 2) : Finset S1024x512.Idx := (xh h).view.set
@[inherit_doc bset] def cset (b : Dev nD) : Finset S32768x512.Idx := (chunk b).view.set

/-- An element of half `h` of chunk `b`: its row is among the 512 rows from there. -/
theorem mem_blk {b : Dev nD} {h : Fin 2} {i : S32768x512.Idx} : i ∈ bset b h ↔ (i 0).val / 512 = 2 * b.val + h.val := by
  refine (ValueKit.mem_set_slice_whole_iff main_v1 _ i Rect.mem_set_unit).trans ?_
  have h1 : (i 1).val < 512 := (i 1).isLt
  constructor
  · intro H
    have := H 0
    change 1024 * b.val + 512 * h.val ≤ (i 0).val ∧ (i 0).val < 1024 * b.val + 512 * h.val + 512 at this
    omega
  · intro H a
    fin_cases a
    · show 1024 * b.val + 512 * h.val ≤ (i 0).val ∧ (i 0).val < 1024 * b.val + 512 * h.val + 512
      omega
    · show 0 ≤ (i 1).val ∧ (i 1).val < 0 + 512
      omega

/-- Distinct half-chunks share no element. -/
theorem blk_disjoint {b b' : Dev nD} {h h' : Fin 2} (hne : (b, h) ≠ (b', h')) : Disjoint (bset b h) (bset b' h') := by
  rw [Finset.disjoint_left]
  intro i hi hi'
  have h1 := mem_blk.1 hi
  have h2 := mem_blk.1 hi'
  have h3 := h.isLt
  have h4 := h'.isLt
  apply hne
  have : b.val = b'.val := by omega
  have h5 : h.val = h'.val := by omega
  rw [Fin.ext this, Fin.ext h5]

/-- All half-chunks together are the result. -/
theorem blk_cover : Finset.univ.biUnion (fun p : Dev nD × Fin 2 => bset p.1 p.2) = Finset.univ := by
  apply Finset.eq_univ_of_forall
  intro i
  have h0 : (i 0).val < 32768 := (i 0).isLt
  refine Finset.mem_biUnion.2 ⟨(⟨(i 0).val / 1024, by show _ < 32; omega⟩, ⟨(i 0).val / 512 % 2, by omega⟩), Finset.mem_univ _, mem_blk.2 ?_⟩
  show (i 0).val / 512 = 2 * ((i 0).val / 1024) + (i 0).val / 512 % 2
  omega

/-- A chunk is its two halves. -/
theorem chunk_set (b : Dev nD) : cset b = bset b 0 ∪ bset b 1 := by
  ext i
  rw [Finset.mem_union]
  refine Iff.trans ?_ (Iff.or mem_blk mem_blk).symm
  refine (ValueKit.mem_set_slice_whole_iff main_v1 _ i Rect.mem_set_unit).trans ?_
  have h1 : (i 1).val < 512 := (i 1).isLt
  constructor
  · intro H
    have := H 0
    change 1024 * b.val ≤ (i 0).val ∧ (i 0).val < 1024 * b.val + 1024 at this
    show (i 0).val / 512 = 2 * b.val + 0 ∨ (i 0).val / 512 = 2 * b.val + 1
    omega
  · intro H a
    change (i 0).val / 512 = 2 * b.val + 0 ∨ (i 0).val / 512 = 2 * b.val + 1 at H
    fin_cases a
    · show 1024 * b.val ≤ (i 0).val ∧ (i 0).val < 1024 * b.val + 1024
      omega
    · show 0 ≤ (i 1).val ∧ (i 1).val < 0 + 512
      omega

/-- The stage is its two halves. -/
theorem mem_xh {h : Fin 2} {i : S1024x512.Idx} : i ∈ xset h ↔ (i 0).val / 512 = h.val := by
  refine (ValueKit.mem_set_slice_whole_iff cc0_stg0_0 _ i Rect.mem_set_unit).trans ?_
  have h1 : (i 1).val < 512 := (i 1).isLt
  constructor
  · intro H
    have := H 0
    change 512 * h.val ≤ (i 0).val ∧ (i 0).val < 512 * h.val + 512 at this
    omega
  · intro H a
    fin_cases a
    · show 512 * h.val ≤ (i 0).val ∧ (i 0).val < 512 * h.val + 512
      omega
    · show 0 ≤ (i 1).val ∧ (i 1).val < 0 + 512
      omega
/-- The two halves of the operand are disjoint. -/
theorem xh_disjoint : ∀ a b : Fin 2, a ≠ b → Disjoint (xset a) (xset b) := by
  intro a b hne
  rw [Finset.disjoint_left]
  intro i hi hi'
  exact hne (Fin.ext ((mem_xh.1 hi).symm.trans (mem_xh.1 hi')))
/-- The two halves make up the operand. -/
theorem xh_cover : Finset.univ.biUnion (fun h : Fin 2 => xset h) = Finset.univ := by
  apply Finset.eq_univ_of_forall
  intro i
  have h0 : (i 0).val < 1024 := (i 0).isLt
  exact Finset.mem_biUnion.2 ⟨⟨(i 0).val / 512, by omega⟩, Finset.mem_univ _, mem_xh.2 rfl⟩

/-! ## Contents -/

variable {F : FTy → Type} [FloatOps F] (X : Dev nD → S1024x512.Idx → Elt F .f32)

/-- The whole result: every device's chunk at its place. -/
def full : S32768x512.Idx → Elt F .f32 := fun i =>
  X ⟨(i 0).val / 1024, by have h : (i 0).val < 32768 := (i 0).isLt; show _ < 32; omega⟩
    (Shape.pair ⟨(i 0).val % 1024, Nat.mod_lt _ (by decide)⟩ ⟨(i 1).val, (i 1).isLt⟩)

/-- At a row of chunk `b` the gathered array holds what device `b` holds. -/
theorem full_at (b : Dev nD) (i : S32768x512.Idx) (j : S1024x512.Idx) (h0 : (i 0).val = 1024 * b.val + (j 0).val) (h1 : (i 1).val = (j 1).val) :
    full X i = X b j := by
  have hj : (j 0).val < 1024 := (j 0).isLt
  unfold full
  congr 1
  · congr 1; omega
  · refine Eq.trans ?_ (Shape.pair_eta j)
    congr 1
    · apply Fin.ext; show (i 0).val % 1024 = (j 0).val; omega
    · exact Fin.ext h1

/-- A half of the stage of device `b` reads as its half-chunk of the whole. -/
theorem read_xh (b : Dev nD) (h : Fin 2) : (xh h).view.read (Elt F) (X b) = (blk b h).view.read (Elt F) (full X) := by
  funext j
  exact (full_at X b ((blk b h).view.emb j) ((xh h).view.emb j)
    (by
      have e1 := ValueKit.view_emb_slice_whole_unit_val main_v1 _ S512x512.size (blk_inb b h) j 0
      have e2 := ValueKit.view_emb_slice_whole_unit_val cc0_stg0_0 _ S512x512.size (xh_inb h) j 0
      refine e1.trans (Eq.trans ?_ (congrArg (1024 * b.val + ·) e2.symm))
      exact Nat.add_assoc _ _ _)
    (by
      have e1 := ValueKit.view_emb_slice_whole_unit_val main_v1 _ S512x512.size (blk_inb b h) j 1
      have e2 := ValueKit.view_emb_slice_whole_unit_val cc0_stg0_0 _ S512x512.size (xh_inb h) j 1
      exact e1.trans e2.symm)).symm

/-- The stage of device `b` reads as its chunk of the whole. -/
theorem read_stage (b : Dev nD) : (Memref.whole cc0_stg0_0 : Memref sig .tc .vmem S1024x512 .f32).view.read (Elt F) (X b)
    = (chunk b).view.read (Elt F) (full X) := by
  funext j
  exact (full_at X b ((chunk b).view.emb j) j
    (ValueKit.view_emb_slice_whole_unit_val main_v1 _ S1024x512.size (chunk_inb b) j 0)
    ((ValueKit.view_emb_slice_whole_unit_val main_v1 _ S1024x512.size (chunk_inb b) j 1).trans (Nat.zero_add _))).symm

/-- A write of what a view reads off some contents agrees with them under the view. -/
theorem land {sp : Space} {s : Shape} {e : EltTy} (v : View sig .tc sp s e) (f g : v.ty.Contents (Elt F)) (u : s.Idx → Elt F e)
    (h : u = v.read (Elt F) g) : ∀ i ∈ v.set, v.write (Elt F) f u Finset.univ i = g i := by
  intro i hi
  rw [h, View.write_read_eq_piecewise]
  exact Finset.piecewise_eq_of_mem _ _ _ hi

/-- What lands in a half-chunk agrees with the whole there: out of a stage's half, out of the half-chunk on another device. -/
theorem land_own (b : Dev nD) (h : Fin 2) (f : S32768x512.Idx → Elt F .f32) :
    ∀ i ∈ bset b h, (blk b h).view.write (Elt F) f ((xh h).view.read (Elt F) (X b)) Finset.univ i = full X i :=
  land (blk b h).view f (full X) _ (read_xh X b h)
@[inherit_doc land_own] theorem land_on (b : Dev nD) (h : Fin 2) (f : S32768x512.Idx → Elt F .f32) :
    ∀ i ∈ bset b h, (blk b h).view.write (Elt F) f ((blk b h).view.read (Elt F) (full X)) Finset.univ i = full X i :=
  land (blk b h).view f (full X) _ rfl
/-- The local copy puts the device's own chunk in its place. -/
theorem land_chunk (b : Dev nD) (f : S32768x512.Idx → Elt F .f32) :
    ∀ i ∈ cset b, (chunk b).view.write (Elt F) f ((Memref.whole cc0_stg0_0 : Memref sig .tc .vmem S1024x512 .f32).view.read (Elt F) (X b))
      Finset.univ i = full X i :=
  land (chunk b).view f (full X) _ (read_stage X b)

attribute [irreducible] rel rl src dst peer scell rcell relS relR ownC barS kind bset xset cset full

end Cert.KernelIdeal.Ring
-- ==== Proof.Sched.lean ====
/-
  The protocol. Every cell has one round. A receive cell's duty is paid by the neighbour's copy, with the half-chunk that lands; a send
  cell's by the device's own copy, with the share of the source lent to it; the relay's cells take ten duties each. The barrier's three
  duties carry the right to write the half-chunks that the two neighbours and the partner get, each with that its cell is open.
-/
module

public import proofs.«01_k».proof.Proof.Facts
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Pipeline.TalkSites

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

/-- The rounds of the protocol's cells, their duties numbered; the staging pipeline's copy beside them. -/
abbrev RR : Type := URounds (GSem nD τ sig) ℕ
@[inherit_doc RR] abbrev UU : Type := UR sig nD τ × RR

local notation "𝕄" => MT nD τ sig ℕ (Elt F) ℕ UU ℕ

abbrev EP : Emb (UR sig nD τ) (MT nD τ sig ℕ (Elt F) ℕ UU ℕ) := embL
abbrev ER : Emb RR (MT nD τ sig ℕ (Elt F) ℕ UU ℕ) := embR

/-! ## Points-tos -/

/-- Elements of a device's result, of its stage. -/
abbrev outP (c : Dev nD) (S : Finset S32768x512.Idx) (q : PosShare TreeShare) (f : S32768x512.Idx → Elt F .f32) : sProp 𝕄 :=
  (c : Thread nD τ).loc main_v1 ↦[S]{q} (f : Buf (Elt F) ((c : Thread nD τ).loc main_v1))
@[inherit_doc outP] abbrev stgP (c : Dev nD) (S : Finset S1024x512.Idx) (q : PosShare TreeShare) (f : S1024x512.Idx → Elt F .f32) : sProp 𝕄 :=
  (c : Thread nD τ).loc cc0_stg0_0 ↦[S]{q} (f : Buf (Elt F) ((c : Thread nD τ).loc cc0_stg0_0))

/-- The share of a half-chunk lent to the onward copy, and the share kept or lent to the relay. -/
abbrev qS : PosShare TreeShare := (fullShare : PosShare TreeShare).left
@[inherit_doc qS] abbrev qK : PosShare TreeShare := (fullShare : PosShare TreeShare).right
/-- The shares of the stage: the local copy's, each direction's. -/
abbrev qX (d : Bool) : PosShare TreeShare := if d then qK.left else qK.right

/-! ## Cells -/

abbrev barG (c : Dev nD) : GSem nD τ sig := ((c : Thread nD τ), .reg barS)
abbrev sndG (c : Dev nD) (n : ℕ) : GSem nD τ sig := ((c : Thread nD τ), .dma (scell n))
abbrev rcvG (c : Dev nD) (n : ℕ) : GSem nD τ sig := ((c : Thread nD τ), .dma (rcell n))
abbrev rlsG (c : Dev nD) : GSem nD τ sig := ((c : Thread nD τ), .dma relS)
abbrev rlrG (c : Dev nD) : GSem nD τ sig := ((c : Thread nD τ), .dma relR)
abbrev ownG (c : Dev nD) : GSem nD τ sig := ((c : Thread nD τ), .dma ownC)

variable (X : Dev nD → S1024x512.Idx → Elt F .f32)

/-! ## The schedule -/

/-- The right to write what the send `n` fills on the neighbour, whose receive cell is open. -/
def slot (c : Dev nD) (n : ℕ) : sProp 𝕄 :=
  iprop((∃ f, outP (peer c n) (bset (dst c n) (hb n)) fullShare f) ∗ reached ER (rcvG (peer c n) n) 0)
/-- The right to write what the relay of the receive `n` fills on the partner, whose relay cell is open. -/
def rslot (c : Dev nD) (n : ℕ) : sProp 𝕄 :=
  iprop((∃ f, outP (mate c) (bset (src c n) (hb n)) fullShare f) ∗ reached ER (rlrG (mate c)) 0)
/-- The slots of one direction. -/
def slots (c : Dev nD) (d : Bool) : sProp 𝕄 := bigSep ((Finset.range 52).filter fun n => dr n = d) (slot (F := F) c)
/-- The slots of the relay. -/
def rslots (c : Dev nD) : sProp 𝕄 := bigSep (rel c) (rslot (F := F) c)

/-- What a send's source was, to come back. -/
def sendPay (c : Dev nD) (n : ℕ) : sProp 𝕄 :=
  if n < 4 then stgP c (xset (hb n)) (qX (dr n)) (X c) else outP c (bset (dst c n) (hb n)) qS (full X)
/-- What a receive brings. -/
def recvPay (c : Dev nD) (n : ℕ) : sProp 𝕄 := outP c (bset (src c n) (hb n)) fullShare (full X)
/-- What a relay's source was, to come back. -/
def relsPay (c : Dev nD) (n : ℕ) : sProp 𝕄 := outP c (bset (src c n) (hb n)) qK (full X)
/-- What a relay brings. -/
def relrPay (c : Dev nD) (n : ℕ) : sProp 𝕄 := outP c (bset (src (mate c) n) (hb n)) fullShare (full X)
/-- What the local copy makes, with its source back. -/
def ownPay (c : Dev nD) : sProp 𝕄 := iprop(outP c (cset c) fullShare (full X) ∗ stgP c Finset.univ qS (X c))
/-- What each barrier duty carries. -/
def barPay (c : Dev nD) : ℕ → sProp 𝕄
  | 0 => slots c true
  | 1 => slots c false
  | _ => rslots c

/-- The duties of a cell by its kind. -/
def dut (c : Dev nD) : Kind → Finset ℕ
  | .bar => {0, 1, 2}
  | .send _ => {0}
  | .recv _ => {0}
  | .relS => rel c
  | .relR => rel (mate c)
  | .own => {0}
  | .other => ∅
/-- The units of a duty. -/
def amt : Kind → ℕ
  | .bar => 1
  | .own => Nc
  | _ => Nh
/-- The payload of a duty. -/
def pay (c : Dev nD) (d : ℕ) : Kind → sProp 𝕄
  | .bar => barPay c d
  | .send n => sendPay X c n
  | .recv n => recvPay X c n
  | .relS => relsPay X c d
  | .relR => relrPay X c d
  | .own => ownPay X c
  | .other => iprop(emp)

/-- Every duty has units. -/
theorem amt_pos (k : Kind) : 0 < amt k := by
  match k with
  | .bar => exact Nat.one_pos
  | .own => exact Nc_pos
  | .send _ | .recv _ | .relS | .relR | .other => exact Nh_pos

/-- The schedule: one round on every cell. -/
def sched : Rounds.Schedule (GSem nD τ sig) ℕ 𝕄 where
  duties g r := if r = 0 then dut g.1.1 (kind g.2) else ∅
  unitless _ := False
  amount g _ _ := amt (kind g.2)
  payload g _ d := pay X g.1.1 d (kind g.2)
  amount_pos g _ _ _ := amt_pos _

instance slots_storable (c : Dev nD) (d : Bool) : BI.Storable (upEmb : UEmb _ 𝕄) (slots (F := F) c d) := by
  unfold slots slot; infer_instance
instance rslots_storable (c : Dev nD) : BI.Storable (upEmb : UEmb _ 𝕄) (rslots (F := F) c) := by
  unfold rslots rslot; infer_instance
instance sendPay_storable (c : Dev nD) (n : ℕ) : BI.Storable (upEmb : UEmb _ 𝕄) (sendPay X c n) := by
  unfold sendPay; split <;> infer_instance
instance barPay_storable (c : Dev nD) (d : ℕ) : BI.Storable (upEmb : UEmb _ 𝕄) (barPay (F := F) c d) := by
  unfold barPay; split <;> infer_instance
/-- Every payload may be kept in a cell's invariant. -/
instance sched_storable (g : GSem nD τ sig) (r : ℕ) (d : ℕ) : BI.Storable (upEmb : UEmb _ 𝕄) ((sched X).payload g r d) := by
  show BI.Storable upEmb (pay X g.1.1 d (kind g.2))
  unfold pay
  split
  · infer_instance
  · infer_instance
  · unfold recvPay; infer_instance
  · unfold relsPay; infer_instance
  · unfold relrPay; infer_instance
  · unfold ownPay; infer_instance
  · infer_instance

section Cells

variable (c : Dev nD) (n : ℕ)

/-- The duties of the first round, by the cell's kind. -/
theorem duties_zero (g : GSem nD τ sig) : (sched X).duties g 0 = dut g.1.1 (kind g.2) := by
  dsimp only [sched]; exact if_pos rfl
/-- No later round has a duty. -/
theorem duties_later (g : GSem nD τ sig) : ∀ r, 1 ≤ r → (sched X).duties g r = ∅ := fun r hr => by
  dsimp only [sched]; exact if_neg (by omega)

/-- The barrier has three duties. -/
theorem duties_bar : (sched X).duties (barG c) 0 = {0, 1, 2} := by rw [duties_zero, kind_bar]; rfl
/-- A send has one duty. -/
theorem duties_send (hn : n < 52) : (sched X).duties (sndG c n) 0 = {0} := by rw [duties_zero, kind_send n hn]; rfl
/-- A landing has one duty. -/
theorem duties_recv (hn : n < 52) : (sched X).duties (rcvG c n) 0 = {0} := by rw [duties_zero, kind_recv n hn]; rfl
/-- Relays leaving have a duty for each step that the device relays. -/
theorem duties_rls : (sched X).duties (rlsG c) 0 = rel c := by rw [duties_zero, kind_relS]; rfl
/-- Relays landing have a duty for each step that the partner relays. -/
theorem duties_rlr : (sched X).duties (rlrG c) 0 = rel (mate c) := by rw [duties_zero, kind_relR]; rfl
/-- The local copy has one duty. -/
theorem duties_own : (sched X).duties (ownG c) 0 = {0} := by rw [duties_zero, kind_own]; rfl

variable (r d : ℕ)

/-- The units of a duty, by the cell's kind. -/
theorem amount_eq (g : GSem nD τ sig) : (sched X).amount g r d = amt (kind g.2) := rfl
/-- A barrier signal is one unit. -/
theorem amount_bar : (sched X).amount (barG c) r d = 1 := by rw [amount_eq, kind_bar]; rfl
/-- A send is a half chunk's units. -/
theorem amount_send (hn : n < 52) : (sched X).amount (sndG c n) r d = Nh := by rw [amount_eq, kind_send n hn]; rfl
/-- A landing is a half chunk's units. -/
theorem amount_recv (hn : n < 52) : (sched X).amount (rcvG c n) r d = Nh := by rw [amount_eq, kind_recv n hn]; rfl
/-- A relay leaving is a half chunk's units. -/
theorem amount_rls : (sched X).amount (rlsG c) r d = Nh := by rw [amount_eq, kind_relS]; rfl
/-- A relay landing is a half chunk's units. -/
theorem amount_rlr : (sched X).amount (rlrG c) r d = Nh := by rw [amount_eq, kind_relR]; rfl
/-- The local copy is a chunk's units. -/
theorem amount_own : (sched X).amount (ownG c) r d = Nc := by rw [amount_eq, kind_own]; rfl

/-- The payload of a duty, by the cell's kind. -/
theorem payload_eq (g : GSem nD τ sig) : (sched X).payload g r d = pay X g.1.1 d (kind g.2) := rfl
/-- What a barrier signal hands over. -/
theorem payload_bar : (sched X).payload (barG c) r d = barPay c d := by rw [payload_eq, kind_bar]; rfl
/-- What the end of a send hands over. -/
theorem payload_send (hn : n < 52) : (sched X).payload (sndG c n) r d = sendPay X c n := by rw [payload_eq, kind_send n hn]; rfl
/-- What a landing hands over. -/
theorem payload_recv (hn : n < 52) : (sched X).payload (rcvG c n) r d = recvPay X c n := by rw [payload_eq, kind_recv n hn]; rfl
/-- What the end of a relay's send hands over. -/
theorem payload_rls : (sched X).payload (rlsG c) r d = relsPay X c d := by rw [payload_eq, kind_relS]; rfl
/-- What a relay's landing hands over. -/
theorem payload_rlr : (sched X).payload (rlrG c) r d = relrPay X c d := by rw [payload_eq, kind_relR]; rfl
/-- What the end of the local copy hands over. -/
theorem payload_own : (sched X).payload (ownG c) r d = ownPay X c := by rw [payload_eq, kind_own]; rfl

/-- The units that a round expects. -/
theorem expect_eq (g : GSem nD τ sig) : (sched X).expect g 0 = ∑ d ∈ (sched X).duties g 0, (sched X).amount g 0 d := rfl
/-- The barrier's wait is for three units. -/
theorem expect_bar : (sched X).expect (barG c) 0 = 3 := by
  rw [expect_eq, duties_bar]; simp only [amount_bar]; exact Finset.sum_const 1
/-- The units that all of a send's cell expects. -/
theorem expect_send (hn : n < 52) : (sched X).expect (sndG c n) 0 = Nh := by
  rw [expect_eq, duties_send X c n hn, Finset.sum_singleton, amount_send X c n 0 0 hn]
/-- The units that all of a landing's cell expects. -/
theorem expect_recv (hn : n < 52) : (sched X).expect (rcvG c n) 0 = Nh := by
  rw [expect_eq, duties_recv X c n hn, Finset.sum_singleton, amount_recv X c n 0 0 hn]
/-- Ten relays leave. -/
theorem expect_rls : (sched X).expect (rlsG c) 0 = 10 * Nh := by
  rw [expect_eq, duties_rls]; simp only [amount_rls, Finset.sum_const, rel_card, smul_eq_mul]
/-- Ten relays land. -/
theorem expect_rlr : (sched X).expect (rlrG c) 0 = 10 * Nh := by
  rw [expect_eq, duties_rlr]; simp only [amount_rlr, Finset.sum_const, rel_card, smul_eq_mul]
/-- The units that the local copy's cell expects. -/
theorem expect_own : (sched X).expect (ownG c) 0 = Nc := by
  rw [expect_eq, duties_own X c, Finset.sum_singleton]; exact amount_own X c 0 0

/-- A whole round of a send's cell hands over its one payload. -/
theorem rest_send (hn : n < 52) : bigSep ((sched X).duties (sndG c n) 0 \ ∅) (fun d => (sched X).payload (sndG c n) 0 d) = sendPay X c n := by
  rw [Finset.sdiff_empty, duties_send X c n hn, bigSep_singleton, payload_send X c n 0 0 hn]
/-- A whole round of a landing's cell hands over its one payload. -/
theorem rest_recv (hn : n < 52) : bigSep ((sched X).duties (rcvG c n) 0 \ ∅) (fun d => (sched X).payload (rcvG c n) 0 d) = recvPay X c n := by
  rw [Finset.sdiff_empty, duties_recv X c n hn, bigSep_singleton, payload_recv X c n 0 0 hn]
/-- A whole round of the local copy's cell hands over its one payload. -/
theorem rest_own : bigSep ((sched X).duties (ownG c) 0 \ ∅) (fun d => (sched X).payload (ownG c) 0 d) = ownPay X c := by
  rw [Finset.sdiff_empty, duties_own X c, bigSep_singleton, payload_own X c 0 0]
/-- The whole barrier hands over the halves of both neighbours and of the partner. -/
theorem rest_bar : bigSep ((sched X).duties (barG c) 0 \ ∅) (fun d => (sched X).payload (barG c) 0 d)
    = iprop(slots c true ∗ slots c false ∗ rslots c) := by
  rw [Finset.sdiff_empty, duties_bar X c, bigSep_insert (by decide), bigSep_insert (by decide), bigSep_singleton, payload_bar, payload_bar, payload_bar]
  rfl

end Cells

/-! ## What a device owes -/

/-- The sends from number `n` on, to the neighbours' receive cells. -/
def owedS (c : Dev nD) (n : ℕ) : CellTallies nD τ sig ℕ := ∑ k ∈ Finset.Ico n 52, tallyAt (rcvG (peer c k) k) (2 + k) Nh
/-- The relays of the receives from number `n` on, to the partner's relay cell. -/
def owedR (c : Dev nD) (n : ℕ) : CellTallies nD τ sig ℕ := ∑ _k ∈ (rel c).filter (n ≤ ·), tallyAt (rlrG (mate c)) 60 Nh
/-- What is owed behind `a` sends and `b` receives. -/
def due (c : Dev nD) (a b : ℕ) : CellTallies nD τ sig ℕ := owedS c a + owedR c b
/-- What is owed at launch: the copies, and a unit to the barriers of the partner and the two neighbours. -/
def due0 (c : Dev nD) : CellTallies nD τ sig ℕ :=
  due c 0 0 + tallyAt (barG (mate c)) 1 1 + tallyAt (barG (nbr true c)) 1 1 + tallyAt (barG (nbr false c)) 1 1

/-- What is owed by sends, the next one split off. -/
theorem owedS_succ (c : Dev nD) {n : ℕ} (hn : n < 52) : owedS c n = owedS c (n + 1) + tallyAt (rcvG (peer c n) n) (2 + n) Nh := by
  unfold owedS
  have e : Finset.Ico n 52 = insert n (Finset.Ico (n + 1) 52) := by
    ext k; simp only [Finset.mem_Ico, Finset.mem_insert]; omega
  rw [e, Finset.sum_insert (by simp only [Finset.mem_Ico]; omega), add_comm]
/-- What is owed, the next send split off. -/
theorem due_send (c : Dev nD) {a : ℕ} (ha : a < 52) (b : ℕ) : due c a b = due c (a + 1) b + tallyAt (rcvG (peer c a) a) (2 + a) Nh := by
  unfold due; rw [owedS_succ c ha, add_right_comm]
/-- What is owed by relays, a relayed step split off. -/
theorem owedR_succ (c : Dev nD) {n : ℕ} (hn : n ∈ rel c) : owedR c n = owedR c (n + 1) + tallyAt (rlrG (mate c)) 60 Nh := by
  unfold owedR
  have e : (rel c).filter (n ≤ ·) = insert n ((rel c).filter (n + 1 ≤ ·)) := by
    ext k; simp only [Finset.mem_filter, Finset.mem_insert]
    constructor
    · rintro ⟨h1, h2⟩; by_cases h : k = n
      · exact .inl h
      · exact .inr ⟨h1, by omega⟩
    · rintro (rfl | ⟨h1, h2⟩)
      · exact ⟨hn, le_refl _⟩
      · exact ⟨h1, by omega⟩
  rw [e, Finset.sum_insert (by simp only [Finset.mem_filter]; rintro ⟨-, h⟩; omega), add_comm]
/-- A step that is not relayed owes nothing. -/
theorem owedR_skip (c : Dev nD) {n : ℕ} (hn : n ∉ rel c) : owedR c n = owedR c (n + 1) := by
  unfold owedR
  congr 1
  ext k; simp only [Finset.mem_filter]
  constructor
  · rintro ⟨h1, h2⟩; exact ⟨h1, by rcases Nat.lt_or_ge n k with h | h; · omega
                                   · exact absurd (by rwa [le_antisymm h h2] at h1) hn⟩
  · rintro ⟨h1, h2⟩; exact ⟨h1, by omega⟩
/-- What is owed, the next relay split off. -/
theorem due_relay (c : Dev nD) (a : ℕ) {b : ℕ} (hb : b ∈ rel c) : due c a b = due c a (b + 1) + tallyAt (rlrG (mate c)) 60 Nh := by
  unfold due; rw [owedR_succ c hb, add_assoc]
/-- What is owed does not change at a step that is not relayed. -/
theorem due_skip (c : Dev nD) (a : ℕ) {b : ℕ} (hb : b ∉ rel c) : due c a b = due c a (b + 1) := by
  unfold due; rw [owedR_skip c hb]
/-- Behind everything nothing is owed. -/
theorem due_end (c : Dev nD) : due c 52 52 = 0 := by
  unfold due owedS owedR
  rw [Finset.Ico_self, Finset.sum_empty, Finset.filter_eq_empty_iff.2 (fun {k} hk => by have := (mem_rel.1 hk).1; omega), Finset.sum_empty, add_zero]

/-- Where a sum of tallies is positive, one of them is. -/
theorem sum_pos {s : Finset ℕ} {f : ℕ → CellTallies nD τ sig ℕ} {g : GSem nD τ sig} {i : ℕ} (h : 0 < (∑ k ∈ s, f k) g i) :
    ∃ k ∈ s, 0 < f k g i := by
  classical
  induction s using Finset.induction_on with
  | empty => exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨k, hk, h'⟩ := ih h
      exact ⟨k, Finset.mem_insert_of_mem hk, h'⟩

/-- Where something is owed: at a level of a send to come, or the relay's. -/
theorem due_pos {c : Dev nD} {a b : ℕ} {g : GSem nD τ sig} {i : ℕ} (h : 0 < due c a b g i) : g.1.2 = .tc ∧ (2 + a ≤ i ∧ i < 54 ∨ i = 60) := by
  unfold due at h
  rw [Pi.add_apply, Finsupp.add_apply] at h
  rcases Nat.add_pos_iff_pos_or_pos.mp h with h | h
  · obtain ⟨k, hk, h⟩ := sum_pos h
    obtain ⟨rfl, rfl⟩ := Pipeline.tallyAt_pos h
    have := Finset.mem_Ico.1 hk
    exact ⟨rfl, .inl ⟨by omega, by omega⟩⟩
  · obtain ⟨k, hk, h⟩ := sum_pos h
    obtain ⟨rfl, rfl⟩ := Pipeline.tallyAt_pos h
    exact ⟨rfl, .inr rfl⟩

/-- A wait at a level below all that is owed. -/
theorem mayWait_due (c : Dev nD) (s : SemLoc sig) {i a b : ℕ} (hi : i < 2 + a) (hi' : i < 60) :
    (levAts (SiteBlocks.L 64) SiteBlocks.lv : sProp 𝕄) ⊢ MayWait (c : Thread nD τ) s i (due c a b) :=
  SiteBlocks.mayWait_of (by omega) c s _ fun g k hk => by
    obtain ⟨h1, h2⟩ := due_pos hk
    exact ⟨SiteBlocks.mem_L' h1 (by omega), by omega⟩

end Cert.KernelIdeal.Ring
-- ==== Proof.Fam.lean ====
/-
  The cells and tokens of the launch: the barrier cells, funded from their counters; the kernel's own cells, funded dormant; the tokens, on
  the device that pays with them.
-/
module

public import proofs.«01_k».proof.Proof.Sched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

/-- A token: its cell, its round, its duty. -/
abbrev Tok : Type := GSem nD τ sig × ℕ × ℕ

/-- The tokens that a device pays with, cell kind by cell kind. -/
def barT (c : Dev nD) : Finset Tok := {(barG (nbr false c), 0, 0), (barG (nbr true c), 0, 1), (barG (mate c), 0, 2)}
@[inherit_doc barT] def sndT (c : Dev nD) : Finset Tok := (Finset.range 52).image fun n => (sndG c n, 0, 0)
@[inherit_doc barT] def rcvT (c : Dev nD) : Finset Tok := (Finset.range 52).image fun n => (rcvG (peer c n) n, 0, 0)
@[inherit_doc barT] def rlsT (c : Dev nD) : Finset Tok := (rel c).image fun n => (rlsG c, 0, n)
@[inherit_doc barT] def rlrT (c : Dev nD) : Finset Tok := (rel c).image fun n => (rlrG (mate c), 0, n)
@[inherit_doc barT] def ownT (c : Dev nD) : Finset Tok := {(ownG c, 0, 0)}
/-- All tokens of a device. -/
def toks (c : Dev nD) : Finset Tok := barT c ∪ (sndT c ∪ (rcvT c ∪ (rlsT c ∪ (rlrT c ∪ ownT c))))

/-- The device that pays with a token. -/
def payer (x : Tok) : Dev nD :=
  match kind x.1.2 with
  | .bar => if x.2.2 = 0 then nbr true x.1.1.1 else if x.2.2 = 1 then nbr false x.1.1.1 else mate x.1.1.1
  | .recv n => nbr (!dr n) x.1.1.1
  | .relR => mate x.1.1.1
  | _ => x.1.1.1

/-- What kind of cell a token is of, as a number. -/
def tag (x : Tok) : ℕ :=
  match kind x.1.2 with
  | .bar => 0 | .send _ => 1 | .recv _ => 2 | .relS => 3 | .relR => 4 | .own => 5 | .other => 6

/-- The peer of a step is the neighbour in the step's direction. -/
theorem peer_eq (c : Dev nD) (n : ℕ) : peer c n = nbr (dr n) c := by unfold peer; rfl
/-- The peer's neighbour the other way is the sender. -/
theorem nbr_peer (c : Dev nD) (n : ℕ) : nbr (!dr n) (peer c n) = c := by rw [peer_eq, nbr_nbr]

/-- The barrier's tokens: their tag and who pays them. -/
theorem barT_facts (c : Dev nD) : ∀ x ∈ barT c, tag x = 0 ∧ payer x = c := by
  intro x hx
  unfold barT at hx
  rw [Finset.mem_insert, Finset.mem_insert, Finset.mem_singleton] at hx
  unfold tag payer
  rcases hx with rfl | rfl | rfl
  · dsimp only; rw [kind_bar]; exact ⟨rfl, nbr_nbr false c⟩
  · dsimp only; rw [kind_bar]; exact ⟨rfl, nbr_nbr true c⟩
  · dsimp only; rw [kind_bar]; exact ⟨rfl, mate_mate c⟩
/-- The tokens of sends: their tag and who pays them. -/
theorem sndT_facts (c : Dev nD) : ∀ x ∈ sndT c, tag x = 1 ∧ payer x = c := by
  intro x hx
  obtain ⟨n, hn, rfl⟩ := Finset.mem_image.1 hx
  unfold tag payer; dsimp only; rw [kind_send n (Finset.mem_range.1 hn)]; exact ⟨rfl, rfl⟩
/-- The tokens of landings: their tag and who pays them. -/
theorem rcvT_facts (c : Dev nD) : ∀ x ∈ rcvT c, tag x = 2 ∧ payer x = c := by
  intro x hx
  obtain ⟨n, hn, rfl⟩ := Finset.mem_image.1 hx
  unfold tag payer; dsimp only; rw [kind_recv n (Finset.mem_range.1 hn)]; exact ⟨rfl, nbr_peer c n⟩
/-- The tokens of relays leaving: their tag and who pays them. -/
theorem rlsT_facts (c : Dev nD) : ∀ x ∈ rlsT c, tag x = 3 ∧ payer x = c := by
  intro x hx
  obtain ⟨n, hn, rfl⟩ := Finset.mem_image.1 hx
  unfold tag payer; dsimp only; rw [kind_relS]; exact ⟨rfl, rfl⟩
/-- The tokens of relays landing: their tag and who pays them. -/
theorem rlrT_facts (c : Dev nD) : ∀ x ∈ rlrT c, tag x = 4 ∧ payer x = c := by
  intro x hx
  obtain ⟨n, hn, rfl⟩ := Finset.mem_image.1 hx
  unfold tag payer; dsimp only; rw [kind_relR]; exact ⟨rfl, mate_mate c⟩
/-- The token of the local copy: its tag and who pays it. -/
theorem ownT_facts (c : Dev nD) : ∀ x ∈ ownT c, tag x = 5 ∧ payer x = c := by
  intro x hx
  rw [Finset.mem_singleton.1 hx]
  unfold tag payer; dsimp only; rw [kind_own]; exact ⟨rfl, rfl⟩

/-- Every token is its payer's. -/
theorem toks_payer (c : Dev nD) : ∀ x ∈ toks c, payer x = c := by
  intro x hx
  unfold toks at hx
  simp only [Finset.mem_union] at hx
  rcases hx with h | h | h | h | h | h
  · exact (barT_facts c x h).2
  · exact (sndT_facts c x h).2
  · exact (rcvT_facts c x h).2
  · exact (rlsT_facts c x h).2
  · exact (rlrT_facts c x h).2
  · exact (ownT_facts c x h).2

/-- Sets of tokens of different kinds are disjoint. -/
theorem disj_tag {A B : Finset Tok} (a : ℕ) (hA : ∀ x ∈ A, tag x = a) (hB : ∀ x ∈ B, a < tag x) : Disjoint A B :=
  Finset.disjoint_left.2 fun x h h' => by have := hA x h; have := hB x h'; omega

/-- Two sets of tokens with tags above `a` have a union with tags above `a`. -/
theorem tag_union {A B : Finset Tok} {a : ℕ} (hA : ∀ x ∈ A, a < tag x) (hB : ∀ x ∈ B, a < tag x) : ∀ x ∈ A ∪ B, a < tag x :=
  fun x h => (Finset.mem_union.1 h).elim (hA x) (hB x)
/-- Tokens that all have a tag above `a`. -/
theorem tag_lt {A : Finset Tok} {b : ℕ} (hA : ∀ x ∈ A, tag x = b) {a : ℕ} (h : a < b) : ∀ x ∈ A, a < tag x :=
  fun x hx => by rw [hA x hx]; exact h

/-- A device's tokens, taken apart by what they are for. -/
theorem bigSep_toks {M : Type} [URA M] (c : Dev nD) (Φ : Tok → sProp M) :
    bigSep (toks c) Φ = iprop(bigSep (barT c) Φ ∗ bigSep (sndT c) Φ ∗ bigSep (rcvT c) Φ ∗ bigSep (rlsT c) Φ ∗ bigSep (rlrT c) Φ
      ∗ bigSep (ownT c) Φ) := by
  have h1 := fun x h => (barT_facts c x h).1
  have h2 := fun x h => (sndT_facts c x h).1
  have h3 := fun x h => (rcvT_facts c x h).1
  have h4 := fun x h => (rlsT_facts c x h).1
  have h5 := fun x h => (rlrT_facts c x h).1
  have h6 := fun x h => (ownT_facts c x h).1
  have t5 (a : ℕ) (h : a < 4) := tag_union (tag_lt h5 (a := a) (by omega)) (tag_lt h6 (by omega))
  have t4 (a : ℕ) (h : a < 3) := tag_union (tag_lt h4 (a := a) (by omega)) (t5 a (by omega))
  have t3 (a : ℕ) (h : a < 2) := tag_union (tag_lt h3 (a := a) (by omega)) (t4 a (by omega))
  have t2 (a : ℕ) (h : a < 1) := tag_union (tag_lt h2 (a := a) (by omega)) (t3 a (by omega))
  unfold toks
  rw [bigSep_union (disj_tag 0 h1 (t2 0 (by omega))), bigSep_union (disj_tag 1 h2 (t3 1 (by omega))),
    bigSep_union (disj_tag 2 h3 (t4 2 (by omega))), bigSep_union (disj_tag 3 h4 (t5 3 (by omega))),
    bigSep_union (disj_tag 4 h5 (tag_lt h6 (by omega)))]
  rfl

/-- Different sends have different cells. -/
theorem scell_inj {n k : ℕ} (hn : n < 52) (hk : k < 52) (h : scell n = scell k) : n = k := by
  have h1 := kind_send n hn
  rw [h, kind_send k hk] at h1
  exact (Kind.send.inj h1).symm
/-- Different landings have different cells. -/
theorem rcell_inj {n k : ℕ} (hn : n < 52) (hk : k < 52) (h : rcell n = rcell k) : n = k := by
  have h1 := kind_recv n hn
  rw [h, kind_recv k hk] at h1
  exact (Kind.recv.inj h1).symm
/-- Copy semaphores that are equal as semaphores are the same one. -/
theorem dma_inj {a b : DmaSem sig} (h : (SemLoc.dma a : SemLoc sig) = .dma b) : a = b := by injection h

/-- The device's tokens, spelled out. -/
theorem toks_eq (c : Dev nD) : (bigSep (toks c) (fun x => dutyTok ER x.1 x.2.1 x.2.2) : sProp 𝕄)
    = iprop((dutyTok ER (barG (nbr false c)) 0 0 ∗ dutyTok ER (barG (nbr true c)) 0 1 ∗ dutyTok ER (barG (mate c)) 0 2)
      ∗ bigSep (Finset.range 52) (fun n => dutyTok ER (sndG c n) 0 0) ∗ bigSep (Finset.range 52) (fun n => dutyTok ER (rcvG (peer c n) n) 0 0)
      ∗ bigSep (rel c) (fun n => dutyTok ER (rlsG c) 0 n) ∗ bigSep (rel c) (fun n => dutyTok ER (rlrG (mate c)) 0 n)
      ∗ dutyTok ER (ownG c) 0 0) := by
  rw [bigSep_toks]
  unfold barT sndT rcvT rlsT rlrT ownT
  rw [bigSep_image_of_injOn (s := Finset.range 52) (f := fun n => ((sndG c n, 0, 0) : Tok)) (fun n hn k hk h =>
      scell_inj (Finset.mem_range.1 hn) (Finset.mem_range.1 hk) (dma_inj (congrArg (fun x : Tok => x.1.2) h))),
    bigSep_image_of_injOn (s := Finset.range 52) (f := fun n => ((rcvG (peer c n) n, 0, 0) : Tok)) (fun n hn k hk h =>
      rcell_inj (Finset.mem_range.1 hn) (Finset.mem_range.1 hk) (dma_inj (congrArg (fun x : Tok => x.1.2) h))),
    bigSep_image_of_injOn (s := rel c) (f := fun n => ((rlsG c, 0, n) : Tok)) (fun n _ k _ h => congrArg (fun x : Tok => x.2.2) h),
    bigSep_image_of_injOn (s := rel c) (f := fun n => ((rlrG (mate c), 0, n) : Tok)) (fun n _ k _ h => congrArg (fun x : Tok => x.2.2) h),
    bigSep_singleton,
    bigSep_insert (i := ((barG (nbr false c), 0, 0) : Tok)) (by
      rw [Finset.mem_insert, Finset.mem_singleton]
      rintro (h | h)
      · exact absurd (congrArg (fun x : Tok => x.2.2) h : (_ : ℕ) = _) (by dsimp only; decide)
      · exact absurd (congrArg (fun x : Tok => x.2.2) h : (_ : ℕ) = _) (by dsimp only; decide)),
    bigSep_insert (i := ((barG (nbr true c), 0, 1) : Tok)) (by
      rw [Finset.mem_singleton]; intro h; exact absurd (congrArg (fun x : Tok => x.2.2) h : (_ : ℕ) = _) (by dsimp only; decide)),
    bigSep_singleton]
  rfl

/-! ## The family -/

/-- The kinds of the kernel's own semaphores for sends and landings. -/
theorem osem_inl_kind (b : Bool) (n : Fin 52) : kind (osem (.inl (b, n))) = if b then .recv n.val else .send n.val := by
  cases b
  · exact kind_send n.val n.isLt
  · exact kind_recv n.val n.isLt

/-- The own semaphores are listed once each. -/
theorem osem_inj : Function.Injective osem := by
  have key : ∀ a b, kind (osem a) = kind (osem b) → a = b := by
    intro a b h
    have r0 : kind (osem (.inr 0)) = .relS := kind_relS
    have r1 : kind (osem (.inr 1)) = .relR := kind_relR
    have r2 : kind (osem (.inr 2)) = .own := kind_own
    rcases a with ⟨x, n⟩ | j <;> rcases b with ⟨y, k⟩ | l
    · rw [osem_inl_kind, osem_inl_kind] at h
      cases x <;> cases y
      · rw [Fin.ext (Kind.send.inj h)]
      · cases h
      · cases h
      · rw [Fin.ext (Kind.recv.inj h)]
    · exfalso
      rw [osem_inl_kind] at h
      fin_cases l
      · rw [show kind (osem (.inr ((fun i => i) ⟨0, by decide⟩))) = .relS from r0] at h; cases x <;> cases h
      · rw [show kind (osem (.inr ((fun i => i) ⟨1, by decide⟩))) = .relR from r1] at h; cases x <;> cases h
      · rw [show kind (osem (.inr ((fun i => i) ⟨2, by decide⟩))) = .own from r2] at h; cases x <;> cases h
    · exfalso
      rw [osem_inl_kind] at h
      fin_cases j
      · rw [show kind (osem (.inr ((fun i => i) ⟨0, by decide⟩))) = .relS from r0] at h; cases y <;> cases h
      · rw [show kind (osem (.inr ((fun i => i) ⟨1, by decide⟩))) = .relR from r1] at h; cases y <;> cases h
      · rw [show kind (osem (.inr ((fun i => i) ⟨2, by decide⟩))) = .own from r2] at h; cases y <;> cases h
    · have t : ∀ i : Fin 3, kind (osem (.inr i)) = if i = 0 then .relS else if i = 1 then .relR else .own := by
        intro i
        match i with
        | 0 => exact r0
        | 1 => exact r1
        | 2 => exact r2
      rw [t, t] at h
      have := (by decide : ∀ i k : Fin 3, (if i = 0 then Kind.relS else if i = 1 then Kind.relR else Kind.own)
        = (if k = 0 then Kind.relS else if k = 1 then Kind.relR else Kind.own) → i = k) j l h
      rw [this]
  intro a b h
  exact key a b (congrArg kind h)

/-- The own semaphores as a set. -/
def dorms : Finset (SemLoc sig) := Finset.univ.map ⟨osem, osem_inj⟩
/-- Each of the kernel's own semaphores is one of the family. -/
theorem mem_dorms (k : (Bool × Fin 52) ⊕ Fin 3) : osem k ∈ dorms := Finset.mem_map.2 ⟨k, Finset.mem_univ _, rfl⟩

/-- The launch's family: one kernel launch. -/
def fam : TalkSites.Fam nD τ sig ℕ 1 where
  bar := .reg barS
  dorm _ := dorms
  toks c _ := toks c
  semKey _ := 0
  hsem j _ _ := (Subsingleton.elim _ _)
  hbar j h := by
    obtain ⟨k, -, hk⟩ := Finset.mem_map.1 h
    change osem k = .reg barS at hk
    rcases k with ⟨b, n⟩ | i
    · cases b <;> cases hk
    · match i with
      | 0 | 1 | 2 => cases hk
  tokKey x := (payer x, 0)
  htok c j x h := by rw [toks_payer c x h]; exact Prod.ext rfl (Subsingleton.elim _ _)

variable (X : Dev nD → S1024x512.Idx → Elt F .f32) (K : GSem nD τ sig → ℕ)

/-- Every cell of every device under its invariant, and the levels. -/
def ctx : sProp 𝕄 := iprop(fam.cellInvs ER (sched X) K ∗ levAts (SiteBlocks.L 64) SiteBlocks.lv)
instance ctx_persistent : BI.Persistent (ctx X K) := by unfold ctx; infer_instance

/-- The levels allow a wait below all that is owed. -/
theorem mayWait_ctx (c : Dev nD) (s : SemLoc sig) {i a b : ℕ} (hi : i < 2 + a) (hi' : i < 60) :
    ctx X K ⊢ MayWait (c : Thread nD τ) s i (due c a b) := by
  unfold ctx; iintro ⟨-, H⟩
  iapply (mayWait_due c s hi hi'); iexact H
/-- The invariant of the barrier is part of the context. -/
theorem ctx_bar (c : Dev nD) : ctx X K ⊢ cellInv ER (sched X) (K (barG c)) (barG c) := by
  unfold ctx; iintro ⟨H, -⟩; iapply (fam.cellInvs_bar ER (sched X) K c); iexact H
/-- The invariant of each of the kernel's own semaphores is part of the context. -/
theorem ctx_osem (c : Dev nD) (k : (Bool × Fin 52) ⊕ Fin 3) :
    ctx X K ⊢ cellInv ER (sched X) (K ((c : Thread nD τ), osem k)) ((c : Thread nD τ), osem k) := by
  unfold ctx; iintro ⟨H, -⟩
  iapply (fam.cellInvs_dorm ER (sched X) K c (j := 0) (mem_dorms k)); iexact H
/-- The invariant of the cell of a send is part of the context. -/
theorem ctx_snd (c : Dev nD) (n : ℕ) (hn : n < 52) : ctx X K ⊢ cellInv ER (sched X) (K (sndG c n)) (sndG c n) :=
  ctx_osem X K c (.inl (false, ⟨n, hn⟩))
/-- The invariant of the cell of a landing is part of the context. -/
theorem ctx_rcv (c : Dev nD) (n : ℕ) (hn : n < 52) : ctx X K ⊢ cellInv ER (sched X) (K (rcvG c n)) (rcvG c n) :=
  ctx_osem X K c (.inl (true, ⟨n, hn⟩))
/-- The invariant of the cell on which relays leave is part of the context. -/
theorem ctx_rls (c : Dev nD) : ctx X K ⊢ cellInv ER (sched X) (K (rlsG c)) (rlsG c) := ctx_osem X K c (.inr 0)
/-- The invariant of the cell on which relays land is part of the context. -/
theorem ctx_rlr (c : Dev nD) : ctx X K ⊢ cellInv ER (sched X) (K (rlrG c)) (rlrG c) := ctx_osem X K c (.inr 1)
/-- The invariant of the local copy's cell is part of the context. -/
theorem ctx_own (c : Dev nD) : ctx X K ⊢ cellInv ER (sched X) (K (ownG c)) (ownG c) := ctx_osem X K c (.inr 2)

end Cert.KernelIdeal.Ring
-- ==== Proof.Same.lean ====
module

public import proofs.«01_k».proof.Proof.Prog

@[expose] public section

noncomputable section

namespace Cert.KernelIdeal.Ring

open Idealize.ShloMosaic Idealize.SL.Sem Cert.KernelIdeal Cert.KernelIdeal.Facts₀ Cert.KernelIdeal.Facts

attribute [local instance] Gen.facts

variable {F : FTy → Type} [FloatOps F]

/-- The body is its head and then the restated steps: device by device the two programs are the same term. -/
theorem body_tail (o : Ops) (arg1 : Memref sig .tc .smem S32 .i32) (harg1 : arg1.IsWhole) (harg2 : o.tab.IsWhole)
    (arg3 : Memref sig .tc .smem S32 .i32) (harg3 : arg3.IsWhole) (harg4 : o.out.IsWhole) :
    ∃ R, cc0_body (F := F) o.x o.hx arg1 harg1 o.tab harg2 arg3 harg3 o.out harg4 o.sendR o.recvR o.sendL o.recvL o.relayS o.relayR o.own
        = k0_part1 (F := F) o.x o.hx arg1 harg1 o.tab harg2 arg3 harg3 o.out harg4 o.sendR o.recvR o.sendL o.recvL o.relayS o.relayR o.own >>= R
      ∧ ∀ (c : Dev nD) v2 h1 h4 h3 h10 v27, R ⟨c, v2, w (pos c), h1, w (nbr true c).val, h4, w (nbr false c).val, h3, w (mate c).val,
          w (pos (mate c)), h10, v27⟩ = tail o c := by
  apply Exists.intro
  apply And.intro
  · unfold cc0_body k0_part80
    exact LawfulMonad.bind_assoc _ _ _
  · intro c v2 h1 h4 h3 h10 v27
    obtain ⟨n, hn⟩ := c
    iterate 32
      rcases n with _ | n
      · sl_kernel_rfl
    change _ < 32 at hn
    omega

end Cert.KernelIdeal.Ring
-- ==== Proof.Body.lean ====
/-
  The body's steps against their holdings, at a symbolic device.
-/
module

public import proofs.«01_k».proof.Proof.Fam
public import proofs.«01_k».proof.Proof.Same

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

/-- No loop's variant is claimed. -/
abbrev 𝒱₀ : Variants := Variants.none

/-- A program's weakest precondition on a device's core. -/
abbrev WP {α : Type} (c : Dev nD) (p : Prog (TpuEff nD τ sig (Elt F) Λ₀ .tc) α) (Q : α → sProp 𝕄) : sProp 𝕄 :=
  wp frame (wpE defs₀ 𝒱₀ (c : Thread nD τ) none) Set.univ p Q

/-! ## Tables -/

/-- A table's contents. -/
def tabF (l : List Nat) : S32.Idx → Elt F .i32 := fun i => w (l.getD (i 0).val 0)
/-- The three tables of a device. -/
abbrev posP (c : Dev nD) : sProp 𝕄 :=
  (c : Thread nD τ).loc cc0_stg1_0 ↦[Finset.univ]{fullShare} (tabF posTab : Buf (Elt F) ((c : Thread nD τ).loc cc0_stg1_0))
@[inherit_doc posP] abbrev tabP (c : Dev nD) : sProp 𝕄 :=
  (c : Thread nD τ).loc cc0_stg2_0 ↦[Finset.univ]{fullShare} (tabF ringTab : Buf (Elt F) ((c : Thread nD τ).loc cc0_stg2_0))
@[inherit_doc posP] abbrev mateP (c : Dev nD) : sProp 𝕄 :=
  (c : Thread nD τ).loc cc0_stg3_0 ↦[Finset.univ]{fullShare} (tabF mateTab : Buf (Elt F) ((c : Thread nD τ).loc cc0_stg3_0))

/-- A word read of a buffer of 32. -/
theorem wp_word {α : Type} (c : Dev nD) (M : Memref sig .tc .smem S32 .i32) (off : Fin 1 → Nat) (h : ∀ a, off a + S1.size a ≤ S32.size a)
    (f : Buf (Elt F) (M.view.loc (c : Thread nD τ))) (x : Elt F .i32)
    (hx : (M.access (Rect.unit (s := S32) off S1.size h)).read (Elt F) f (Shape.Idx.first (numel1_S1.symm ▸ Nat.one_pos)) = x)
    (K : Elt F .i32 → Prog (TpuEff nD τ sig (Elt F) Λ₀ .tc) α) (Q : α → sProp 𝕄) :
    iprop(M.view.loc (c : Thread nD τ) ↦[Finset.univ]{fullShare} f)
      ⊢ iprop(((M.view.loc (c : Thread nD τ) ↦[Finset.univ]{fullShare} f) -∗ WP c (K x) Q)
        -∗ WP c (smemLoad M (Rect.unit (s := S32) off S1.size h) numel1_S1 rfl >>= K) Q) := by
  subst hx
  exact wp_smemLoadElt 𝒱₀ (c : Thread nD τ) none Set.univ (m := M) (r := Rect.unit (s := S32) off S1.size h)
    (hw := View.loads_smem_one rfl numel1_S1) (k := K) (Finset.subset_univ _)

/-- A look at the ring's table. -/
theorem wp_look (c : Dev nD) (p : Nat) (h : p < 32) (K : Elt F .i32 → P F) (Q : PUnit → sProp 𝕄) :
    tabP (F := F) c ⊢ iprop((tabP c -∗ WP c (K (w (ring p).val)) Q) -∗ WP c (look ops0 p h K) Q) :=
  wp_word c (Memref.whole cc0_stg2_0) ![p] (tab_inb h) (tabF ringTab) (w (ring p).val)
    (by
      show w (ringTab.getD p 0) = _
      exact congrArg w ((by decide +kernel : ∀ q : Fin 32, ringTab.getD q.val 0 = (ring q.val).val) ⟨p, h⟩)) K Q

/-! ## Names for the elements -/

/-- A share of a half of the result, written as the points-to that the half's own view asks for. -/
theorem outP_blk (c b : Dev nD) (h : Fin 2) (q : PosShare TreeShare) (f : S32768x512.Idx → Elt F .f32) :
    outP c (bset b h) q f = iprop((blk b h).view.loc (c : Thread nD τ) ↦[(blk b h).view.set]{q}
      (f : Buf (Elt F) ((blk b h).view.loc (c : Thread nD τ)))) := by
  unfold bset; rfl
/-- The same of a whole chunk of the result. -/
theorem outP_chunk (c b : Dev nD) (q : PosShare TreeShare) (f : S32768x512.Idx → Elt F .f32) :
    outP c (cset b) q f = iprop((chunk b).view.loc (c : Thread nD τ) ↦[(chunk b).view.set]{q}
      (f : Buf (Elt F) ((chunk b).view.loc (c : Thread nD τ)))) := by
  unfold cset; rfl
/-- The same of a half of the staged operand. -/
theorem stgP_xh (c : Dev nD) (h : Fin 2) (q : PosShare TreeShare) (f : S1024x512.Idx → Elt F .f32) :
    stgP c (xset h) q f = iprop((xh h).view.loc (c : Thread nD τ) ↦[(xh h).view.set]{q}
      (f : Buf (Elt F) ((xh h).view.loc (c : Thread nD τ)))) := by
  unfold xset; rfl

/-- A copy out of half of the staged operand is worth a half chunk's units. -/
theorem credit_xh (h : Fin 2) : (xh h).view.dmaCredit = Nh := by unfold Nh; rfl

variable (X : Dev nD → S1024x512.Idx → Elt F .f32) (KK : GSem nD τ sig → ℕ) (c : Dev nD)

/-- What is owed behind `a` sends and `b` receives, the waits made whatever they are. -/
def owesX (a b : ℕ) : sProp 𝕄 := iprop(∃ W, owes (c : Thread nD τ) (due c a b) W)
/-- What the send `n` needs. -/
def ToSend (n : ℕ) : sProp 𝕄 :=
  iprop(dutyTok ER (sndG c n) 0 0 ∗ dutyTok ER (rcvG (peer c n) n) 0 0 ∗ slot c n ∗ reached ER (sndG c n) 0)
/-- What the send `n` leaves. -/
def SentC (n : ℕ) : sProp 𝕄 := cred (tallyAt (sndG c n) 0 Nh)

/-- The copy of a half of the device's own chunk. -/
theorem send_own (n : ℕ) (hn : n < 4) (b : ℕ) (c' : Dev nD) (hc : c' = peer c n) (s : Memref sig .tc .vmem S512x512 .f32) (hs : s = xh (hb n))
    (t : Memref sig .tc .hbm S512x512 .f32) (ht : t = blk (dst c n) (hb n)) (x y : DmaSem sig) (hx : x = scell n) (hy : y = rcell n)
    (h1 : s.view.WordExact) (h2 : t.view.WordExact) (h3 : DmaTarget.Typed .vmem (.dma y) (.remote (Dev.tc c') t (.dma x)))
    (k : PUnit → P F) (Q : PUnit → sProp 𝕄) :
    ctx X KK ⊢ iprop((sendPay X c n ∗ ToSend c n ∗ owesX c n b) -∗ ((SentC c n ∗ owesX c (n + 1) b) -∗ WP c (k ⟨⟩) Q)
      -∗ WP c (.op (.enqueueDma s (.remote (Dev.tc c') t (.dma x)) (.dma y) h1 h2 h3) k) Q) := by
  subst hc hs ht hx hy
  unfold owesX ToSend slot SentC sendPay
  rw [if_pos hn]
  iintro #Hctx ⟨Hs, ⟨Ht1, Ht2, ⟨⟨%fd, Hd⟩, #Hr2⟩, #Hr1⟩, ⟨%W, HO⟩⟩ Hk
  ihave #HI1 := (ctx_snd X KK c n (by omega)) $$ Hctx
  ihave #HI2 := (ctx_rcv X KK (peer c n) n (by omega)) $$ Hctx
  iapply (Rounds.wp_send_pointsTo 𝒱₀ ER (sched X) (c : Thread nD τ) none (c' := (peer c n : Thread nD τ)) (src := xh (hb n))
      (dst := blk (dst c n) (hb n)) (sS := .dma (scell n)) (sem := .dma (rcell n)) (q := qX (dr n)) (fs := X c)
      (κ₁ := KK (sndG c n)) (κ₂ := KK (rcvG (peer c n) n)) (r₁ := 0) (r₂ := 0) (d₁ := 0) (d₂ := 0) (fd := fd)
      (by rw [duties_send X c n (by omega)]; exact Finset.mem_singleton_self _)
      (by rw [duties_recv X (peer c n) n (by omega)]; exact Finset.mem_singleton_self _)
      (2 + n) 0 Nh (credit_blk _ _) (amount_send X c n 0 0 (by omega)) (amount_recv X (peer c n) n 0 0 (by omega))
      (due c (n + 1) b) (due_send c (by omega) b) (W := W)
      (by rw [payload_send X c n 0 0 (by omega)]; unfold sendPay; rw [if_pos hn, stgP_xh])
      (by
        rw [payload_recv X (peer c n) n 0 0 (by omega)]; unfold recvPay
        rw [src_peer c n (by omega), outP_blk]
        refine Entails.of_eq (pointsTo_congr ?_)
        have e := dst_own c n hn
        have := land_own X (dst c n) (hb n) fd
        rw [e] at this ⊢
        unfold bset at this
        exact this)) $$ [Hs Hd HO Ht1 Ht2]
  · isplitr; · iexact HI1
    isplitr; · iexact HI2
    isplitl [Hs]; · iapply (Entails.of_eq (stgP_xh c (hb n) (qX (dr n)) (X c))) $$ Hs
    isplitl [Hd]; · iapply (Entails.of_eq (outP_blk (peer c n) (dst c n) (hb n) fullShare fd)) $$ Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The copy of a half-chunk received. -/
theorem send_on (n : ℕ) (hn : 4 ≤ n) (hn' : n < 52) (b : ℕ) (c' : Dev nD) (hc : c' = peer c n) (s t : Memref sig .tc .hbm S512x512 .f32)
    (hs : s = blk (dst c n) (hb n)) (ht : t = blk (dst c n) (hb n)) (x y : DmaSem sig) (hx : x = scell n) (hy : y = rcell n)
    (h1 : s.view.WordExact) (h2 : t.view.WordExact) (h3 : DmaTarget.Typed .hbm (.dma y) (.remote (Dev.tc c') t (.dma x)))
    (k : PUnit → P F) (Q : PUnit → sProp 𝕄) :
    ctx X KK ⊢ iprop((sendPay X c n ∗ ToSend c n ∗ owesX c n b) -∗ ((SentC c n ∗ owesX c (n + 1) b) -∗ WP c (k ⟨⟩) Q)
      -∗ WP c (.op (.enqueueDma s (.remote (Dev.tc c') t (.dma x)) (.dma y) h1 h2 h3) k) Q) := by
  subst hc hs ht hx hy
  unfold owesX ToSend slot SentC sendPay
  rw [if_neg (by omega)]
  iintro #Hctx ⟨Hs, ⟨Ht1, Ht2, ⟨⟨%fd, Hd⟩, #Hr2⟩, #Hr1⟩, ⟨%W, HO⟩⟩ Hk
  ihave #HI1 := (ctx_snd X KK c n hn') $$ Hctx
  ihave #HI2 := (ctx_rcv X KK (peer c n) n hn') $$ Hctx
  iapply (Rounds.wp_send_pointsTo 𝒱₀ ER (sched X) (c : Thread nD τ) none (c' := (peer c n : Thread nD τ)) (src := blk (dst c n) (hb n))
      (dst := blk (dst c n) (hb n)) (sS := .dma (scell n)) (sem := .dma (rcell n)) (q := qS) (fs := full X)
      (κ₁ := KK (sndG c n)) (κ₂ := KK (rcvG (peer c n) n)) (r₁ := 0) (r₂ := 0) (d₁ := 0) (d₂ := 0) (fd := fd)
      (by rw [duties_send X c n hn']; exact Finset.mem_singleton_self _)
      (by rw [duties_recv X (peer c n) n hn']; exact Finset.mem_singleton_self _)
      (2 + n) 0 Nh (credit_blk _ _) (amount_send X c n 0 0 hn') (amount_recv X (peer c n) n 0 0 hn')
      (due c (n + 1) b) (due_send c hn' b) (W := W)
      (by rw [payload_send X c n 0 0 hn']; unfold sendPay; rw [if_neg (by omega), outP_blk])
      (by
        rw [payload_recv X (peer c n) n 0 0 hn']; unfold recvPay
        rw [src_peer c n hn', outP_blk]
        refine Entails.of_eq (pointsTo_congr ?_)
        have := land_on X (dst c n) (hb n) fd
        unfold bset at this
        exact this)) $$ [Hs Hd HO Ht1 Ht2]
  · isplitr; · iexact HI1
    isplitr; · iexact HI2
    isplitl [Hs]; · iapply (Entails.of_eq (outP_blk c (dst c n) (hb n) qS (full X))) $$ Hs
    isplitl [Hd]; · iapply (Entails.of_eq (outP_blk (peer c n) (dst c n) (hb n) fullShare fd)) $$ Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- What the relay of the receive `n` needs. -/
def ToRelay (n : ℕ) : sProp 𝕄 :=
  iprop(dutyTok ER (rlsG c) 0 n ∗ dutyTok ER (rlrG (mate c)) 0 n ∗ rslot c n ∗ reached ER (rlsG c) 0)
/-- What the relay of the receive `n` needs, if there is one. -/
def RelIn (n : ℕ) : sProp 𝕄 := if rl c n = true then ToRelay c n else iprop(emp)
/-- What is left of a half-chunk received, behind its relay: units of the relay's send cell, or the share kept. -/
def RelOut (n : ℕ) : sProp 𝕄 := if rl c n = true then cred (tallyAt (rlsG c) 0 Nh) else relsPay X c n

/-- The relay's copy. -/
theorem send_relay (n : ℕ) (hn : n ∈ rel c) (a : ℕ) (c' : Dev nD) (hc : c' = mate c) (s t : Memref sig .tc .hbm S512x512 .f32)
    (hs : s = blk (src c n) (hb n)) (ht : t = blk (src c n) (hb n)) (x y : DmaSem sig) (hx : x = relS) (hy : y = relR)
    (h1 : s.view.WordExact) (h2 : t.view.WordExact) (h3 : DmaTarget.Typed .hbm (.dma y) (.remote (Dev.tc c') t (.dma x)))
    (k : PUnit → P F) (Q : PUnit → sProp 𝕄) :
    ctx X KK ⊢ iprop((relsPay X c n ∗ ToRelay c n ∗ owesX c a n) -∗ ((cred (tallyAt (rlsG c) 0 Nh) ∗ owesX c a (n + 1)) -∗ WP c (k ⟨⟩) Q)
      -∗ WP c (.op (.enqueueDma s (.remote (Dev.tc c') t (.dma x)) (.dma y) h1 h2 h3) k) Q) := by
  subst hc hs ht hx hy
  unfold owesX ToRelay rslot relsPay
  iintro #Hctx ⟨Hs, ⟨Ht1, Ht2, ⟨⟨%fd, Hd⟩, #Hr2⟩, #Hr1⟩, ⟨%W, HO⟩⟩ Hk
  ihave #HI1 := (ctx_rls X KK c) $$ Hctx
  ihave #HI2 := (ctx_rlr X KK (mate c)) $$ Hctx
  iapply (Rounds.wp_send_pointsTo 𝒱₀ ER (sched X) (c : Thread nD τ) none (c' := (mate c : Thread nD τ)) (src := blk (src c n) (hb n))
      (dst := blk (src c n) (hb n)) (sS := .dma relS) (sem := .dma relR) (q := qK) (fs := full X)
      (κ₁ := KK (rlsG c)) (κ₂ := KK (rlrG (mate c))) (r₁ := 0) (r₂ := 0) (d₁ := n) (d₂ := n) (fd := fd)
      (by rw [duties_rls]; exact hn) (by rw [duties_rlr, mate_mate]; exact hn)
      60 0 Nh (credit_blk _ _) (amount_rls X c 0 n) (amount_rlr X (mate c) 0 n)
      (due c a (n + 1)) (due_relay c a hn) (W := W)
      (by rw [payload_rls]; unfold relsPay; rw [outP_blk])
      (by
        rw [payload_rlr]; unfold relrPay
        rw [mate_mate, outP_blk]
        refine Entails.of_eq (pointsTo_congr ?_)
        have := land_on X (src c n) (hb n) fd
        unfold bset at this
        exact this)) $$ [Hs Hd HO Ht1 Ht2]
  · isplitr; · iexact HI1
    isplitr; · iexact HI2
    isplitl [Hs]; · iapply (Entails.of_eq (outP_blk c (src c n) (hb n) qK (full X))) $$ Hs
    isplitl [Hd]; · iapply (Entails.of_eq (outP_blk (mate c) (src c n) (hb n) fullShare fd)) $$ Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- What the receive `n` needs. -/
def Todo (n : ℕ) : sProp 𝕄 :=
  iprop(cred (tallyAt (rcvG c n) (2 + n) Nh) ∗ atPos ER (rcvG c n) 0 ∅ 0 ∗ RelIn c n)
/-- What the receive `n` leaves, but for the share of the half-chunk that the onward send takes. -/
def Done (n : ℕ) : sProp 𝕄 := iprop(atPos ER (rcvG c n) 1 ∅ 0 ∗ RelOut X c n)
/-- That share. -/
def OnP (n : ℕ) : sProp 𝕄 := outP c (bset (src c n) (hb n)) qS (full X)

/-- A receive's wait: the half-chunk comes. -/
theorem wait_recv (n : ℕ) (hn : n < 52) (a b : ℕ) (ha : n < a) (s t : Memref sig .tc .hbm S512x512 .f32) (ht : t.view.dmaCredit = Nh)
    (y : DmaSem sig) (hy : y = rcell n) (h1 : s.view.WordExact) (h2 : t.view.WordExact) (k : PUnit → P F) (Q : PUnit → sProp 𝕄) :
    ctx X KK ⊢ iprop((cred (tallyAt (rcvG c n) (2 + n) Nh) ∗ atPos ER (rcvG c n) 0 ∅ 0 ∗ owesX c a b)
      -∗ ((owesX c a b ∗ atPos ER (rcvG c n) 1 ∅ 0 ∗ recvPay X c n) -∗ WP c (k ⟨⟩) Q)
      -∗ WP c (.op (.waitDma2 y s t h1 h2) k) Q) := by
  subst hy
  unfold owesX
  iintro #Hctx ⟨Hc, Hat, ⟨%W, HO⟩⟩ Hk
  ihave #HI := (ctx_rcv X KK c n hn) $$ Hctx
  iapply (Rounds.wp_wait_rest_token 𝒱₀ ER (sched X) (c : Thread nD τ) none (κ := KK (rcvG c n)) (k' := Nh)
      (fun K => by rw [← ht]; exact wpE_waitDma2_eq 𝒱₀ (c : Thread nD τ) none Set.univ K) (Set.mem_univ _) (2 + n) (O := due c a b) (W := W)
      (R := 0) (m := 0) (T := ∅) ((Nat.zero_add Nh).trans (expect_recv X c n hn).symm)) $$ [Hc HO Hat]
  · isplitr; · iexact HI
    isplitl [Hc]; · iexact Hc
    isplitl [HO]; · iexact HO
    isplitr; · iapply (mayWait_ctx X KK c (.dma (rcell n)) (by omega) (by omega)); iexact Hctx
    iexact Hat
  iintro ⟨HO, Hat, -, Hpay⟩
  ihave Hp := (Entails.of_eq (rest_recv X c n hn)) $$ Hpay
  iapply Hk
  isplitl [HO]; · iexists _; iexact HO
  isplitl [Hat]; · iexact Hat
  iexact Hp

/-! ## The steps -/

/-- A look at a position whose device is known. -/
theorem wp_look' (p : Nat) (h : p < 32) (b : Dev nD) (hb : ring p = b) (K : Elt F .i32 → P F) (Q : PUnit → sProp 𝕄) :
    tabP (F := F) c ⊢ iprop((tabP c -∗ WP c (K (w b.val)) Q) -∗ WP c (look ops0 p h K) Q) := by
  subst hb; exact wp_look c p h K Q

/-- The side condition on the rows of a send holds for every chunk. -/
theorem chk2_rows (b : Dev nD) (t : Fin 26) : sendChk (half t) (w b.val) := ⟨chk_rows b t, chk_rows b t⟩
/-- The send `n` as the body lists it. -/
def sent (n : ℕ) : Sent := ⟨dr n, st n, w (dst c n).val, chk2_rows (dst c n) (st n)⟩

/-- The chunk that a device passes on in step `n`. -/
theorem dst_eq (n : ℕ) : ring (hopPos (dr n) c (hop (st n)).val) = dst c n := by unfold dst; rfl
/-- The chunk that a device receives in step `n`. -/
theorem src_eq (n : ℕ) : ring (hopPos (dr n) c ((hop (st n)).val + 1)) = src c n := by unfold src; rfl
/-- The branch that the body takes on a relay is the table `rl`. -/
theorem rl_eq (n : ℕ) : relays c (hopPos (dr n) c ((hop (st n)).val + 1)) = rl c n := by unfold rl; rfl

/-- A send of the device's own chunk. -/
theorem wp_sendOwn (n : ℕ) (hn : n < 4) (b : ℕ) (d : Bool) (t : Fin 26) (hd : d = dr n) (ht : t = st n) (K : Sent → P F)
    (Q : PUnit → sProp 𝕄) :
    ctx X KK ⊢ iprop((tabP c ∗ sendPay X c n ∗ ToSend c n ∗ owesX c n b)
      -∗ ((tabP c ∗ SentC c n ∗ owesX c (n + 1) b) -∗ WP c (K (sent c n)) Q) -∗ WP c (sendOwn ops0 c d t K) Q) := by
  subst hd ht
  unfold sendOwn
  iintro #Hctx ⟨Htab, H⟩ Hk
  iapply (wp_look' c _ _ _ (dst_eq c n) _ _) $$ Htab
  iintro Htab
  iapply (wp_assume 𝒱₀ (c : Thread nD τ) none Set.univ (chk2_rows (dst c n) (st n)))
  iapply (send_own X KK c n hn b _ (peer_eq c n).symm _ (own2_eq n) _ (rows_eq (dst c n) n _) _ _ (cell_send n (by omega))
    (cell_recv n (by omega))) $$ Hctx H
  iintro ⟨Hc, HO⟩
  iapply Hk
  isplitl [Htab]; · iexact Htab
  isplitl [Hc]; · iexact Hc
  iexact HO

/-- A send of a half-chunk received. -/
theorem wp_sendOn (n : ℕ) (hn : 4 ≤ n) (hn' : n < 52) (b : ℕ) (d : Bool) (t : Fin 26) (hd : d = dr n) (ht : t = st n) (K : Sent → P F)
    (Q : PUnit → sProp 𝕄) :
    ctx X KK ⊢ iprop((tabP c ∗ sendPay X c n ∗ ToSend c n ∗ owesX c n b)
      -∗ ((tabP c ∗ SentC c n ∗ owesX c (n + 1) b) -∗ WP c (K (sent c n)) Q) -∗ WP c (sendOn ops0 c d t K) Q) := by
  subst hd ht
  unfold sendOn
  iintro #Hctx ⟨Htab, H⟩ Hk
  iapply (wp_look' c _ _ _ (dst_eq c n) _ _) $$ Htab
  iintro Htab
  iapply (wp_assume 𝒱₀ (c : Thread nD τ) none Set.univ (chk2_rows (dst c n) (st n)))
  iapply (send_on X KK c n hn hn' b _ (peer_eq c n).symm _ _ (rows_eq (dst c n) n _) (rows_eq (dst c n) n _) _ _ (cell_send n hn')
    (cell_recv n hn')) $$ Hctx H
  iintro ⟨Hc, HO⟩
  iapply Hk
  isplitl [Htab]; · iexact Htab
  isplitl [Hc]; · iexact Hc
  iexact HO

/-- The relay of a half-chunk received, or none. -/
theorem wp_relay (n : ℕ) (hn : n < 52) (a : ℕ) (K : P F) (Q : PUnit → sProp 𝕄) :
    ctx X KK ⊢ iprop((tabP c ∗ relsPay X c n ∗ RelIn c n ∗ owesX c a n)
      -∗ ((tabP c ∗ RelOut X c n ∗ owesX c a (n + 1)) -∗ WP c K Q) -∗ WP c (relay ops0 c (dr n) (st n) K) Q) := by
  unfold relay
  by_cases hr : rl c n = true
  · rw [dif_pos ((rl_eq c n).trans hr)]
    unfold RelIn RelOut
    rw [if_pos hr, if_pos hr]
    iintro #Hctx ⟨Htab, H⟩ Hk
    iapply (wp_look' c _ _ _ (src_eq c n) _ _) $$ Htab
    iintro Htab
    iapply (wp_assume 𝒱₀ (c : Thread nD τ) none Set.univ (fun _ => chk_rows (src c n) (st n)))
    iapply (send_relay X KK c n (mem_rel.2 ⟨hn, hr⟩) a _ rfl _ _ (rows_eq (src c n) n _) (rows_eq (src c n) n _) _ _ cell_relS
      cell_relR) $$ Hctx H
    iintro ⟨Hc, HO⟩
    iapply Hk
    isplitl [Htab]; · iexact Htab
    isplitl [Hc]; · iexact Hc
    iexact HO
  · rw [dif_neg (by rw [rl_eq]; exact hr)]
    unfold RelIn RelOut owesX
    rw [if_neg hr, if_neg hr, due_skip c a (fun h => hr (mem_rel.1 h).2)]
    iintro - ⟨Htab, Hp, -, HO⟩ Hk
    iapply Hk
    isplitl [Htab]; · iexact Htab
    isplitl [Hp]; · iexact Hp
    iexact HO

/-- A receive with its relay. -/
theorem wp_recv (n : ℕ) (hn : n < 52) (a : ℕ) (ha : n < a) (d : Bool) (t : Fin 26) (hd : d = dr n) (ht : t = st n) (K : P F)
    (Q : PUnit → sProp 𝕄) :
    ctx X KK ⊢ iprop((tabP c ∗ Todo c n ∗ owesX c a n)
      -∗ ((tabP c ∗ Done X c n ∗ OnP X c n ∗ owesX c a (n + 1)) -∗ WP c K Q) -∗ WP c (recv ops0 c d t K) Q) := by
  subst hd ht
  unfold recv Todo Done OnP
  iintro #Hctx ⟨Htab, ⟨Hc, Hat, Hr⟩, HO⟩ Hk
  iapply (wp_look' c _ _ _ (src_eq c n) _ _) $$ Htab
  iintro Htab
  iapply (wp_assume 𝒱₀ (c : Thread nD τ) none Set.univ (chk_rows (src c n) (st n)))
  iapply (wait_recv X KK c n hn a n ha _ _ ((congrArg (fun m => m.view.dmaCredit) (rows_eq (src c n) n _)).trans (credit_blk _ _)) _
    (cell_recv n hn)) $$ Hctx [Hc Hat HO]
  · isplitl [Hc]; · iexact Hc
    isplitl [Hat]; · iexact Hat
    iexact HO
  iintro ⟨HO, Hat, Hp⟩
  unfold recvPay
  ihave Hp := (pointsTo_share (PosShare.mem_left_op_right fullShare)).1 $$ Hp
  icases Hp with ⟨Hp1, Hp2⟩
  iapply (wp_relay X KK c n hn a K Q) $$ Hctx [Htab Hp2 Hr HO]
  · isplitl [Htab]; · iexact Htab
    isplitl [Hp2]; · unfold relsPay; iexact Hp2
    isplitl [Hr]; · iexact Hr
    iexact HO
  iintro ⟨Htab, Ho, HO⟩
  iapply Hk
  isplitl [Htab]; · iexact Htab
  isplitl [Hat Ho]
  · isplitl [Hat]; · iexact Hat
    iexact Ho
  isplitl [Hp1]; · iexact Hp1
  iexact HO

end Cert.KernelIdeal.Ring
-- ==== Proof.Loop.lean ====
/-
  The ring's loop and the waits behind it, each by induction.
-/
module

public import proofs.«01_k».proof.Proof.Body

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)

/-- A family over a set, split at a subset, at an element. -/
theorem fam_split {M I : Type} [URA M] [DecidableEq I] {s t : Finset I} (h : t ⊆ s) (Φ : I → sProp M) :
    bigSep s Φ = iprop(bigSep t Φ ∗ bigSep (s \ t) Φ) := bigSep_sdiff_split h
@[inherit_doc fam_split] theorem fam_take {M I : Type} [URA M] [DecidableEq I] {s : Finset I} {x : I} (h : x ∈ s) (Φ : I → sProp M) :
    bigSep s Φ = iprop(Φ x ∗ bigSep (s.erase x) Φ) := bigSep_erase h

/-- The list of the first `k` sends, the last first. -/
def accs (k : ℕ) : List Sent := ((List.range k).map (sent c)).reverse
/-- The copies in flight after one step more. -/
theorem accs_succ (k : ℕ) : accs c (k + 1) = sent c k :: accs c k := by
  unfold accs
  rw [List.range_succ, List.map_append, List.reverse_append]; rfl

/-- The share taken of a half-chunk received is the onward send's source. -/
theorem onP_eq (n : ℕ) (hn : n < 48) : OnP X c n = sendPay X c (n + 4) := by
  unfold OnP sendPay
  rw [if_neg (by omega), dst_add4 c n hn, hb_add4]

/-- Even steps go to the right. -/
theorem dr_even (t : ℕ) : true = dr (2 * t) := by unfold dr; rw [Nat.mul_mod_right]; rfl
/-- Odd steps go to the left. -/
theorem dr_odd (t : ℕ) : false = dr (2 * t + 1) := by unfold dr; rw [show (2 * t + 1) % 2 = 1 by omega]; rfl
/-- The number of an even step in its own direction. -/
theorem st_even (t : ℕ) (h : t < 26) : (⟨t, h⟩ : Fin 26) = st (2 * t) := Fin.ext (by rw [st_val (by omega)]; show t = _; omega)
/-- The number of an odd step in its own direction. -/
theorem st_odd (t : ℕ) (h : t < 26) : (⟨t, h⟩ : Fin 26) = st (2 * t + 1) := Fin.ext (by rw [st_val (by omega)]; show t = _; omega)

/-- One number of the loop: a receive and the onward send of what came. -/
theorem wp_pass (n : ℕ) (hn : n < 48) (d : Bool) (t t' : Fin 26) (hd : d = dr n) (ht : t = st n) (ht' : t' = st (n + 4)) (K : Sent → P F)
    (Q : PUnit → sProp 𝕄) :
    ctx X KK ⊢ iprop((tabP c ∗ Todo c n ∗ ToSend c (n + 4) ∗ owesX c (n + 4) n)
      -∗ ((tabP c ∗ Done X c n ∗ SentC c (n + 4) ∗ owesX c (n + 4 + 1) (n + 1)) -∗ WP c (K (sent c (n + 4))) Q)
      -∗ WP c (recv ops0 c d t (sendOn ops0 c d t' K)) Q) := by
  iintro #Hctx ⟨Htab, Ht, Hs, HO⟩ Hk
  iapply (wp_recv X KK c n (by omega) (n + 4) (by omega) d t hd ht _ _) $$ Hctx [Htab Ht HO]
  · isplitl [Htab]; · iexact Htab
    isplitl [Ht]; · iexact Ht
    iexact HO
  iintro ⟨Htab, Hd, Hon, HO⟩
  iapply (wp_sendOn X KK c (n + 4) (by omega) (by omega) (n + 1) d t' (by rw [dr_add4]; exact hd) ht' _ _) $$ Hctx [Htab Hon Hs HO]
  · isplitl [Htab]; · iexact Htab
    isplitl [Hon]; · iapply (Entails.of_eq (onP_eq X c n hn)) $$ Hon
    isplitl [Hs]; · iexact Hs
    iexact HO
  iintro ⟨Htab, Hc, HO⟩
  iapply Hk
  isplitl [Htab]; · iexact Htab
  isplitl [Hd]; · iexact Hd
  isplitl [Hc]; · iexact Hc
  iexact HO

/-- The loop from step `t` on. -/
theorem wp_steps : ∀ (n t : ℕ) (h : t + n = 24) (acc : List Sent) (_ : acc = accs c (2 * t + 4)) (K : List Sent → P F) (Q : PUnit → sProp 𝕄),
    ctx X KK ⊢ iprop((tabP c ∗ bigSep (Finset.Ico (2 * t) 48) (Todo (F := F) c) ∗ bigSep (Finset.Ico (2 * t + 4) 52) (ToSend (F := F) c)
        ∗ owesX c (2 * t + 4) (2 * t))
      -∗ ((tabP c ∗ bigSep (Finset.Ico (2 * t) 48) (Done X c) ∗ bigSep (Finset.Ico (2 * t + 4) 52) (SentC (F := F) c) ∗ owesX c 52 48)
        -∗ WP c (K (accs c 52)) Q)
      -∗ WP c (steps ops0 c n t h acc K) Q)
  | 0, t, h, acc, e, K, Q => by
    obtain rfl : t = 24 := by omega
    subst e
    unfold steps
    rw [show 2 * 24 = 48 from rfl, show 48 + 4 = 52 from rfl, Finset.Ico_self, Finset.Ico_self]
    iintro - ⟨Htab, -, -, HO⟩ Hk
    iapply Hk
    isplitl [Htab]; · iexact Htab
    isplitr; · rw [bigSep_empty]; iempintro
    isplitr; · rw [bigSep_empty]; iempintro
    iexact HO
  | n + 1, t, h, acc, e, K, Q => by
    subst e
    unfold steps
    rw [bigSep_Ico_succ_bot (a := 2 * t) (by omega), bigSep_Ico_succ_bot (a := 2 * t + 1) (by omega),
      bigSep_Ico_succ_bot (a := 2 * t + 4) (by omega), bigSep_Ico_succ_bot (a := 2 * t + 4 + 1) (by omega),
      bigSep_Ico_succ_bot (a := 2 * t) (by omega), bigSep_Ico_succ_bot (a := 2 * t + 1) (by omega),
      bigSep_Ico_succ_bot (a := 2 * t + 4) (by omega), bigSep_Ico_succ_bot (a := 2 * t + 4 + 1) (by omega)]
    iintro #Hctx ⟨Htab, ⟨Ha, Hb, HT⟩, ⟨Hc, Hd, HS⟩, HO⟩ Hk
    iapply (wp_pass X KK c (2 * t) (by omega) true _ _ (dr_even t) (st_even t _)
      (st_even (t + 2) _) _ _) $$ Hctx [Htab Ha Hc HO]
    · isplitl [Htab]; · iexact Htab
      isplitl [Ha]; · iexact Ha
      isplitl [Hc]; · iexact Hc
      iexact HO
    iintro ⟨Htab, HD1, HC1, HO⟩
    iapply (wp_pass X KK c (2 * t + 1) (by omega) false _ _ (dr_odd t) (st_odd t _)
      (st_odd (t + 2) _) _ _) $$ Hctx [Htab Hb Hd HO]
    · isplitl [Htab]; · iexact Htab
      isplitl [Hb]; · iexact Hb
      isplitl [Hd]; · iexact Hd
      iexact HO
    iintro ⟨Htab, HD2, HC2, HO⟩
    iapply (wp_steps n (t + 1) _ _ (by
      exact ((accs_succ c (2 * t + 4 + 1)).trans (congrArg _ (accs_succ c (2 * t + 4)))).symm) K Q) $$ Hctx [Htab HT HS HO]
    · isplitl [Htab]; · iexact Htab
      isplitl [HT]; · iexact HT
      isplitl [HS]; · iexact HS
      iexact HO
    iintro ⟨Htab, HT, HS, HO⟩
    iapply Hk
    isplitl [Htab]; · iexact Htab
    isplitl [HD1 HD2 HT]
    · isplitl [HD1]; · iexact HD1
      isplitl [HD2]; · iexact HD2
      iexact HT
    isplitl [HC1 HC2 HS]
    · isplitl [HC1]; · iexact HC1
      isplitl [HC2]; · iexact HC2
      iexact HS
    iexact HO

/-! ## The waits -/

/-- What the wait for the send `n` needs, and what it leaves. -/
def Out (n : ℕ) : sProp 𝕄 := iprop(SentC c n ∗ atPos ER (sndG c n) 0 ∅ 0)
@[inherit_doc Out] def Back (n : ℕ) : sProp 𝕄 := iprop(atPos ER (sndG c n) 1 ∅ 0 ∗ sendPay X c n)

/-- The wait for a send: its source comes back. -/
theorem wait_send {sp sp' : Space} {s' s'' : Shape} {e e' : EltTy} (n : ℕ) (hn : n < 52) (s : Memref sig .tc sp s' e)
    (t : Memref sig .tc sp' s'' e') (ht : t.view.dmaCredit = Nh)
    (y : DmaSem sig) (hy : y = scell n) (h1 : s.view.WordExact) (h2 : t.view.WordExact) (k : PUnit → P F) (Q : PUnit → sProp 𝕄) :
    ctx X KK ⊢ iprop((Out c n ∗ owesX c 52 52) -∗ ((Back X c n ∗ owesX c 52 52) -∗ WP c (k ⟨⟩) Q)
      -∗ WP c (.op (.waitDma2 y s t h1 h2) k) Q) := by
  subst hy
  unfold owesX Out Back SentC
  iintro #Hctx ⟨⟨Hc, Hat⟩, ⟨%W, HO⟩⟩ Hk
  ihave #HI := (ctx_snd X KK c n hn) $$ Hctx
  iapply (Rounds.wp_wait_rest_token 𝒱₀ ER (sched X) (c : Thread nD τ) none (κ := KK (sndG c n)) (k' := Nh)
      (fun K => by rw [← ht]; exact wpE_waitDma2_eq 𝒱₀ (c : Thread nD τ) none Set.univ K) (Set.mem_univ _) 0 (O := due c 52 52) (W := W)
      (R := 0) (m := 0) (T := ∅) ((Nat.zero_add Nh).trans (expect_send X c n hn).symm)) $$ [Hc HO Hat]
  · isplitr; · iexact HI
    isplitl [Hc]; · iexact Hc
    isplitl [HO]; · iexact HO
    isplitr; · iapply (mayWait_ctx X KK c (.dma (scell n)) (by omega) (by omega)); iexact Hctx
    iexact Hat
  iintro ⟨HO, Hat, -, Hpay⟩
  ihave Hp := (Entails.of_eq (rest_send X c n hn)) $$ Hpay
  iapply Hk
  isplitl [Hat Hp]
  · isplitl [Hat]; · iexact Hat
    iexact Hp
  iexists _; iexact HO

/-- The waits for the sends from number `a` on. -/
theorem wp_waits : ∀ (k a : ℕ) (_ : a + k = 52) (K : P F) (Q : PUnit → sProp 𝕄),
    ctx X KK ⊢ iprop((bigSep (Finset.Ico a 52) (Out (F := F) c) ∗ owesX c 52 52)
      -∗ ((bigSep (Finset.Ico a 52) (Back X c) ∗ owesX c 52 52) -∗ WP c K Q)
      -∗ WP c (waits ops0 ((List.range' a k).map (sent c)) K) Q)
  | 0, a, h, K, Q => by
    obtain rfl : a = 52 := by omega
    rw [Finset.Ico_self, bigSep_empty, bigSep_empty]
    iintro - ⟨-, HO⟩ Hk
    iapply Hk
    isplitr; · iempintro
    iexact HO
  | k + 1, a, h, K, Q => by
    rw [bigSep_Ico_succ_bot (a := a) (by omega), bigSep_Ico_succ_bot (a := a) (by omega), List.range'_succ, List.map_cons]
    unfold waits
    split
    · iintro #Hctx ⟨⟨Ha, HS⟩, HO⟩ Hk
      iapply (wait_send X KK c a (by omega) _ _ ((congrArg (fun m => m.view.dmaCredit) (own2_eq a)).trans (credit_xh _)) _
        (cell_send a (by omega)) _ _) $$ Hctx [Ha HO]
      · isplitl [Ha]; · iexact Ha
        iexact HO
      iintro ⟨Hb, HO⟩
      iapply (wp_waits k (a + 1) (by omega) K Q) $$ Hctx [HS HO]
      · isplitl [HS]; · iexact HS
        iexact HO
      iintro ⟨HS, HO⟩
      iapply Hk
      isplitl [Hb HS]
      · isplitl [Hb]; · iexact Hb
        iexact HS
      iexact HO
    · iintro #Hctx ⟨⟨Ha, HS⟩, HO⟩ Hk
      iapply (wait_send X KK c a (by omega) _ _ ((congrArg (fun m => m.view.dmaCredit) (rows_eq (dst c a) a _)).trans (credit_blk _ _)) _
        (cell_send a (by omega)) _ _) $$ Hctx [Ha HO]
      · isplitl [Ha]; · iexact Ha
        iexact HO
      iintro ⟨Hb, HO⟩
      iapply (wp_waits k (a + 1) (by omega) K Q) $$ Hctx [HS HO]
      · isplitl [HS]; · iexact HS
        iexact HO
      iintro ⟨HS, HO⟩
      iapply Hk
      isplitl [Hb HS]
      · isplitl [Hb]; · iexact Hb
        iexact HS
      iexact HO

/-- The waits on a cell of ten duties, from the `j`-th on. -/
theorem wp_waitN (s : DmaSem sig) (ι : ℕ) (κ : ℕ) (hexp : (sched X).expect ((c : Thread nD τ), .dma s) 0 = 10 * Nh)
    (hcr : (ops0.out.slice (Rect.unit (s := S32768x512) (k0_off371 c) S512x512.size (k0_off371_inb c)) (fun _ => rfl) :
        Memref sig .tc .hbm S512x512 .f32).view.dmaCredit = Nh) (K : P F) (Q : PUnit → sProp 𝕄) :
    ∀ (n j : ℕ) (T D : Finset ℕ) (_ : j + (n + 1) = 10) (_ : D.card = n + 1) (_ : T ⊆ (sched X).duties ((c : Thread nD τ), .dma s) 0),
    cellInv ER (sched X) κ ((c : Thread nD τ), .dma s) ⊢ iprop((bigSep D (fun _ => cred (tallyAt ((c : Thread nD τ), .dma s) ι Nh)) ∗ owesX c 52 52
          ∗ atPos ER ((c : Thread nD τ), .dma s) 0 T (j * Nh) ∗ bigSep T (fun d => (sched X).payload ((c : Thread nD τ), .dma s) 0 d))
        -∗ ((owesX c 52 52 ∗ atPos ER ((c : Thread nD τ), .dma s) 1 ∅ 0
            ∗ bigSep ((sched X).duties ((c : Thread nD τ), .dma s) 0) (fun d => (sched X).payload ((c : Thread nD τ), .dma s) 0 d)) -∗ WP c K Q)
        -∗ WP c (waitN ops0 c s (n + 1) K) Q)
  | 0, j, T, D, hj, hD, hT => by
    obtain ⟨x, rfl⟩ := Finset.card_eq_one.1 hD
    unfold waitN waitN owesX
    rw [bigSep_singleton, due_end]
    iintro #HI ⟨Hc, ⟨%W, HO⟩, Hat, Hpay⟩ Hk
    iapply (Rounds.wp_wait_rest_token 𝒱₀ ER (sched X) (c : Thread nD τ) none (κ := κ) (k' := Nh)
        (fun K => by rw [← hcr]; exact wpE_waitDma2_eq 𝒱₀ (c : Thread nD τ) none Set.univ K) (Set.mem_univ _) ι (O := 0) (W := W)
        (R := 0) (m := j * Nh) (T := T) (by rw [hexp, show j = 9 by omega]; exact (Nat.succ_mul 9 Nh).symm)) $$ [Hc HO Hat]
    · isplitr; · iexact HI
      isplitl [Hc]; · iexact Hc
      isplitl [HO]; · iexact HO
      isplitr; · rw [MayWait_zero]; iempintro
      iexact Hat
    iintro ⟨HO, Hat, -, Hp⟩
    iapply Hk
    isplitl [HO]; · iexists _; iexact HO
    isplitl [Hat]; · iexact Hat
    rw [fam_split hT]
    isplitl [Hpay]; · iexact Hpay
    iexact Hp
  | n + 1, j, T, D, hj, hD, hT => by
    obtain ⟨x, hx⟩ := Finset.card_pos.1 (show 0 < D.card by omega)
    unfold waitN
    rw [fam_take hx]
    unfold owesX
    iintro #HI ⟨⟨Hc, HC⟩, ⟨%W, HO⟩, Hat, Hpay⟩ Hk
    iapply (Rounds.wp_wait 𝒱₀ ER (sched X) (c : Thread nD τ) none (κ := κ) (k' := Nh)
        (fun K => by rw [← hcr]; exact wpE_waitDma2_eq 𝒱₀ (c : Thread nD τ) none Set.univ K) (Set.mem_univ _) {((.dma s : SemLoc sig), ι)}
        (cr := Finsupp.single ι Nh) (O := due c 52 52) (W := W) (R := 0) (m := j * Nh) (T := T)
        (by rw [Util.total_single]) ((Finset.image_subset_image Finsupp.support_single_subset).trans (by rw [Finset.image_singleton]))) $$ [Hc HO Hat]
    · isplitr; · iexact HI
      isplitl [Hc]; · iexact Hc
      isplitl [HO]; · iexact HO
      isplitr
      · rw [due_end]
        iapply (Entails.of_eq (MayWait_zero (c : Thread nD τ) (.dma s) ι).symm)
        iempintro
      iexact Hat
    iintro %S ⟨%hS, HO, Hat, Hp⟩
    iapply (wp_waitN s ι κ hexp hcr K Q n (j + 1) S (D.erase x) (by omega) (by rw [Finset.card_erase_of_mem hx]; omega) hS.2.1) $$ HI
      [HC HO Hat Hpay Hp]
    · isplitl [HC]; · iexact HC
      isplitl [HO]; · unfold owesX; iexists _; iexact HO
      isplitl [Hat]; · rw [Nat.succ_mul]; iexact Hat
      rw [fam_split hS.1]
      isplitl [Hpay]; · iexact Hpay
      iexact Hp
    iintro H
    iapply Hk
    unfold owesX
    iexact H

end Cert.KernelIdeal.Ring
-- ==== Proof.Tail.lean ====
/-
  The body behind its head: the first sends, the loop, the last receives, the waits.
-/
module

public import proofs.«01_k».proof.Proof.Loop

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)

/-- The region that the final waits on relays name is worth a half chunk's units. -/
theorem slice371 : (ops0.out.slice (Rect.unit (s := S32768x512) (k0_off371 c) S512x512.size (k0_off371_inb c)) (fun _ => rfl) :
    Memref sig .tc .hbm S512x512 .f32).view.dmaCredit = Nh := by unfold Nh; rfl
/-- The region that the wait for the local copy names is worth a chunk's units. -/
theorem slice372 : (ops0.out.slice (Rect.unit (s := S32768x512) (k0_off372 c) S1024x512.size (k0_off372_inb c)) (fun _ => rfl) :
    Memref sig .tc .hbm S1024x512 .f32).view.dmaCredit = Nc := by unfold Nc; rfl

/-- The wait for the copy of the device's own chunk. -/
theorem wp_waitOwn (K : P F) (Q : PUnit → sProp 𝕄) :
    ctx X KK ⊢ iprop((cred (tallyAt (ownG c) 0 Nc) ∗ atPos ER (ownG c) 0 ∅ 0 ∗ owesX c 52 52)
      -∗ ((atPos ER (ownG c) 1 ∅ 0 ∗ ownPay X c ∗ owesX c 52 52) -∗ WP c K Q) -∗ WP c (waitOwn ops0 c K) Q) := by
  unfold waitOwn owesX
  rw [cell_own]
  iintro #Hctx ⟨Hc, Hat, ⟨%W, HO⟩⟩ Hk
  ihave #HI := (ctx_own X KK c) $$ Hctx
  iapply (Rounds.wp_wait_rest_token 𝒱₀ ER (sched X) (c : Thread nD τ) none (κ := KK (ownG c)) (k' := Nc)
      (fun K => by rw [← slice372 c]; exact wpE_waitDma2_eq 𝒱₀ (c : Thread nD τ) none Set.univ K) (Set.mem_univ _) 0 (O := due c 52 52) (W := W)
      (R := 0) (m := 0) (T := ∅) ((Nat.zero_add Nc).trans (expect_own X c).symm)) $$ [Hc HO Hat]
  · isplitr; · iexact HI
    isplitl [Hc]; · iexact Hc
    isplitl [HO]; · iexact HO
    isplitr; · iapply (mayWait_ctx X KK c (.dma ownC) (by omega) (by omega)); iexact Hctx
    iexact Hat
  iintro ⟨HO, Hat, -, Hpay⟩
  ihave Hp := (Entails.of_eq (rest_own X c)) $$ Hpay
  iapply Hk
  isplitl [Hat]; · iexact Hat
  isplitl [Hp]; · iexact Hp
  iexists _; iexact HO

/-- The waits on the relay's send cell: the shares lent to it come back. -/
theorem wp_waitS (K : P F) (Q : PUnit → sProp 𝕄) :
    ctx X KK ⊢ iprop((bigSep (rel c) (fun _ => cred (tallyAt (rlsG c) 0 Nh)) ∗ atPos ER (rlsG c) 0 ∅ 0 ∗ owesX c 52 52)
      -∗ ((atPos ER (rlsG c) 1 ∅ 0 ∗ bigSep (rel c) (relsPay X c) ∗ owesX c 52 52) -∗ WP c K Q)
      -∗ WP c (waitN ops0 c ops0.relayS.sem 10 K) Q) := by
  rw [cell_relS]
  iintro #Hctx ⟨Hc, Hat, HO⟩ Hk
  ihave #HI := (ctx_rls X KK c) $$ Hctx
  iapply (wp_waitN X c relS 0 (KK (rlsG c)) (expect_rls X c) (slice371 c) K Q 9 0 ∅ (rel c) rfl (rel_card c) (Finset.empty_subset _)) $$ HI
    [Hc Hat HO]
  · isplitl [Hc]; · iexact Hc
    isplitl [HO]; · iexact HO
    isplitl [Hat]; · rw [Nat.zero_mul]; iexact Hat
    rw [bigSep_empty]; iempintro
  iintro ⟨HO, Hat, Hp⟩
  iapply Hk
  isplitl [Hat]; · iexact Hat
  isplitl [Hp]
  · iapply (Entails.of_eq (by rw [duties_rls]; exact bigSep_congr fun d _ => payload_rls X c 0 d)) $$ Hp
  iexact HO

/-- The waits on the relay's receive cell: the half-chunks relayed to the device. -/
theorem wp_waitR (K : P F) (Q : PUnit → sProp 𝕄) :
    ctx X KK ⊢ iprop((bigSep (rel (mate c)) (fun _ => cred (tallyAt (rlrG c) 60 Nh)) ∗ atPos ER (rlrG c) 0 ∅ 0 ∗ owesX c 52 52)
      -∗ ((atPos ER (rlrG c) 1 ∅ 0 ∗ bigSep (rel (mate c)) (relrPay X c) ∗ owesX c 52 52) -∗ WP c K Q)
      -∗ WP c (waitN ops0 c ops0.relayR.sem 10 K) Q) := by
  rw [cell_relR]
  iintro #Hctx ⟨Hc, Hat, HO⟩ Hk
  ihave #HI := (ctx_rlr X KK c) $$ Hctx
  iapply (wp_waitN X c relR 60 (KK (rlrG c)) (expect_rlr X c) (slice371 c) K Q 9 0 ∅ (rel (mate c)) rfl (rel_card (mate c))
    (Finset.empty_subset _)) $$ HI [Hc Hat HO]
  · isplitl [Hc]; · iexact Hc
    isplitl [HO]; · iexact HO
    isplitl [Hat]; · rw [Nat.zero_mul]; iexact Hat
    rw [bigSep_empty]; iempintro
  iintro ⟨HO, Hat, Hp⟩
  iapply Hk
  isplitl [Hat]; · iexact Hat
  isplitl [Hp]
  · iapply (Entails.of_eq (by rw [duties_rlr]; exact bigSep_congr fun d _ => payload_rlr X c 0 d)) $$ Hp
  iexact HO

/-! ## Gathering -/

/-- A family over a run of numbers, cut in two. -/
theorem ico_cut {M : Type} [URA M] {a b d : ℕ} (h : a ≤ b) (h' : b ≤ d) (Φ : ℕ → sProp M) :
    bigSep (Finset.Ico a d) Φ = iprop(bigSep (Finset.Ico a b) Φ ∗ bigSep (Finset.Ico b d) Φ) := by
  rw [fam_split (t := Finset.Ico a b) (s := Finset.Ico a d) (fun x hx => by rw [Finset.mem_Ico] at hx ⊢; omega)]
  congr 2
  ext x; simp only [Finset.mem_sdiff, Finset.mem_Ico]; omega

/-- Four consecutive steps, split into their parts. -/
theorem four {M : Type} [URA M] (n : ℕ) (Φ : ℕ → sProp M) :
    bigSep (Finset.Ico n (n + 4)) Φ = iprop(Φ n ∗ Φ (n + 1) ∗ Φ (n + 2) ∗ Φ (n + 3)) := by
  rw [bigSep_Ico_succ_bot (by omega), bigSep_Ico_succ_bot (by omega), bigSep_Ico_succ_bot (by omega), bigSep_Ico_succ_bot (by omega),
    Finset.Ico_self, bigSep_empty]
  have e : ∀ P : sProp M, iprop(P ∗ BI.emp) = P := fun P => Entails.antisymm (sep_emp (PROP := sProp M)).1 (sep_emp (PROP := sProp M)).2
  rw [e]

/-- The first four of 52, and the rest; the last four of 52, and those before. -/
theorem head4 {M : Type} [URA M] (Φ : ℕ → sProp M) :
    bigSep (Finset.Ico 0 52) Φ = iprop((Φ 0 ∗ Φ 1 ∗ Φ 2 ∗ Φ 3) ∗ bigSep (Finset.Ico 4 52) Φ) := by
  rw [ico_cut (a := 0) (b := 4) (d := 52) (by omega) (by omega), four 0]
@[inherit_doc head4] theorem last4 {M : Type} [URA M] (Φ : ℕ → sProp M) :
    bigSep (Finset.Ico 0 52) Φ = iprop(bigSep (Finset.Ico 0 48) Φ ∗ (Φ 48 ∗ Φ 49 ∗ Φ 50 ∗ Φ 51)) := by
  rw [ico_cut (a := 0) (b := 48) (d := 52) (by omega) (by omega), four 48]

/-- The sources of the onward sends are the shares taken of the half-chunks received. -/
theorem onward_eq : bigSep (Finset.Ico 4 52) (sendPay X c) = bigSep (Finset.Ico 0 48) (OnP X c) := by
  rw [show Finset.Ico 4 52 = (Finset.Ico 0 48).map (addRightEmbedding 4) from by decide +kernel, bigSep_map]
  exact bigSep_congr fun n hn => (onP_eq X c n (Finset.mem_Ico.1 hn).2).symm

/-- What the receives leave: units of the relay's send cell, and the shares kept. -/
theorem relOut_eq : bigSep (Finset.Ico 0 52) (RelOut X c)
    = iprop(bigSep (rel c) (fun _ => cred (tallyAt (rlsG c) 0 Nh)) ∗ bigSep ((Finset.Ico 0 52).filter fun n => ¬rl c n = true) (relsPay X c)) := by
  refine (bigSep_filter_split (Finset.Ico 0 52) (fun n => rl c n = true)).trans ?_
  congr 1
  · rw [show (Finset.Ico 0 52).filter (fun n => rl c n = true) = rel c by unfold rel; rw [Finset.range_eq_Ico]]
    exact bigSep_congr fun n hn => if_pos (mem_rel.1 hn).2
  · exact bigSep_congr fun n hn => if_neg (Finset.mem_filter.1 hn).2
/-- All the shares kept. -/
theorem rels_eq : bigSep (Finset.Ico 0 52) (relsPay X c)
    = iprop(bigSep (rel c) (relsPay X c) ∗ bigSep ((Finset.Ico 0 52).filter fun n => ¬rl c n = true) (relsPay X c)) := by
  refine (bigSep_filter_split (Finset.Ico 0 52) (fun n => rl c n = true)).trans ?_
  rw [show (Finset.Ico 0 52).filter (fun n => rl c n = true) = rel c by unfold rel; rw [Finset.range_eq_Ico]]
  rfl

/-- The two shares of what was received join. -/
theorem recv_join : iprop(bigSep (Finset.Ico 0 52) (OnP X c) ∗ bigSep (Finset.Ico 0 52) (relsPay X c)) ⊢ bigSep (Finset.Ico 0 52) (recvPay X c) := by
  rw [← bigSep_sep']
  refine bigSep_mono fun n _ => ?_
  unfold OnP relsPay recvPay
  exact (pointsTo_share (PosShare.mem_left_op_right fullShare)).2

/-! ## The tail -/

/-- What the body behind its head needs. -/
def TailIn : sProp 𝕄 :=
  iprop(tabP c ∗ bigSep (Finset.Ico 0 4) (sendPay X c) ∗ bigSep (Finset.Ico 0 52) (ToSend (F := F) c) ∗ bigSep (Finset.Ico 0 52) (Todo (F := F) c)
    ∗ bigSep (Finset.Ico 0 52) (fun n => atPos ER (sndG c n) 0 ∅ 0) ∗ (atPos ER (rlsG c) 0 ∅ 0 ∗ atPos ER (rlrG c) 0 ∅ 0 ∗ atPos ER (ownG c) 0 ∅ 0)
    ∗ bigSep (rel (mate c)) (fun _ => cred (tallyAt (rlrG c) 60 Nh)) ∗ cred (tallyAt (ownG c) 0 Nc) ∗ owesX c 0 0)
/-- What it leaves. -/
def TailOut : sProp 𝕄 :=
  iprop(tabP c ∗ bigSep (Finset.Ico 0 4) (sendPay X c) ∗ bigSep (Finset.Ico 0 52) (fun n => atPos ER (rcvG c n) 1 ∅ 0)
    ∗ bigSep (Finset.Ico 0 52) (fun n => atPos ER (sndG c n) 1 ∅ 0) ∗ (atPos ER (rlsG c) 1 ∅ 0 ∗ atPos ER (rlrG c) 1 ∅ 0 ∗ atPos ER (ownG c) 1 ∅ 0)
    ∗ bigSep (Finset.Ico 0 52) (recvPay X c) ∗ bigSep (rel (mate c)) (relrPay X c) ∗ ownPay X c ∗ owesX c 52 52)

/-- The first step goes to the right. -/
theorem dr0 : true = dr 0 := rfl
/-- The second step goes to the left. -/
theorem dr1 : false = dr 1 := rfl

/-- The body behind its head. -/
theorem wp_tail (Q : PUnit → sProp 𝕄) : ctx X KK ⊢ iprop(TailIn X c -∗ (TailOut X c -∗ WP c (.ret ⟨⟩) Q) -∗ WP c (tail ops0 c) Q) := by
  unfold TailIn
  rw [four 0, head4 (ToSend (F := F) c), last4 (Todo (F := F) c)]
  unfold tail
  iintro #Hctx ⟨Htab, ⟨Hx0, Hx1, Hx2, Hx3⟩, ⟨⟨Hs0, Hs1, Hs2, Hs3⟩, Hs⟩, ⟨Ht, ⟨Ht0, Ht1, Ht2, Ht3⟩⟩, Hsa, ⟨Ha1, Ha2, Ha3⟩, Hcr, Hco, HO⟩ Hk
  iapply (wp_sendOwn X KK c 0 (by omega) 0 true 0 rfl rfl _ _) $$ Hctx [Htab Hx0 Hs0 HO]
  · isplitl [Htab]; · iexact Htab
    isplitl [Hx0]; · iexact Hx0
    isplitl [Hs0]; · iexact Hs0
    iexact HO
  iintro ⟨Htab, Hc0, HO⟩
  iapply (wp_sendOwn X KK c 1 (by omega) 0 false 0 rfl rfl _ _) $$ Hctx [Htab Hx1 Hs1 HO]
  · isplitl [Htab]; · iexact Htab
    isplitl [Hx1]; · iexact Hx1
    isplitl [Hs1]; · iexact Hs1
    iexact HO
  iintro ⟨Htab, Hc1, HO⟩
  iapply (wp_sendOwn X KK c 2 (by omega) 0 true 1 rfl rfl _ _) $$ Hctx [Htab Hx2 Hs2 HO]
  · isplitl [Htab]; · iexact Htab
    isplitl [Hx2]; · iexact Hx2
    isplitl [Hs2]; · iexact Hs2
    iexact HO
  iintro ⟨Htab, Hc2, HO⟩
  iapply (wp_sendOwn X KK c 3 (by omega) 0 false 1 rfl rfl _ _) $$ Hctx [Htab Hx3 Hs3 HO]
  · isplitl [Htab]; · iexact Htab
    isplitl [Hx3]; · iexact Hx3
    isplitl [Hs3]; · iexact Hs3
    iexact HO
  iintro ⟨Htab, Hc3, HO⟩
  iapply (wp_steps X KK c 24 0 rfl _ rfl _ _) $$ Hctx [Htab Ht Hs HO]
  · isplitl [Htab]; · iexact Htab
    isplitl [Ht]; · iexact Ht
    isplitl [Hs]; · iexact Hs
    iexact HO
  iintro ⟨Htab, HD, HS, HO⟩
  iapply (wp_recv X KK c 48 (by omega) 52 (by omega) true 24 rfl rfl _ _) $$ Hctx [Htab Ht0 HO]
  · isplitl [Htab]; · iexact Htab
    isplitl [Ht0]; · iexact Ht0
    iexact HO
  iintro ⟨Htab, Hd0, Hp0, HO⟩
  iapply (wp_recv X KK c 49 (by omega) 52 (by omega) false 24 rfl rfl _ _) $$ Hctx [Htab Ht1 HO]
  · isplitl [Htab]; · iexact Htab
    isplitl [Ht1]; · iexact Ht1
    iexact HO
  iintro ⟨Htab, Hd1, Hp1, HO⟩
  iapply (wp_recv X KK c 50 (by omega) 52 (by omega) true 25 rfl rfl _ _) $$ Hctx [Htab Ht2 HO]
  · isplitl [Htab]; · iexact Htab
    isplitl [Ht2]; · iexact Ht2
    iexact HO
  iintro ⟨Htab, Hd2, Hp2, HO⟩
  iapply (wp_recv X KK c 51 (by omega) 52 (by omega) false 25 rfl rfl _ _) $$ Hctx [Htab Ht3 HO]
  · isplitl [Htab]; · iexact Htab
    isplitl [Ht3]; · iexact Ht3
    iexact HO
  iintro ⟨Htab, Hd3, Hp3, HO⟩
  rw [show (accs c 52).reverse = (List.range' 0 52).map (sent c) by unfold accs; rw [List.reverse_reverse, List.range_eq_range']]
  iapply (wp_waits X KK c 52 0 rfl _ _) $$ Hctx [Hc0 Hc1 Hc2 Hc3 HS Hsa HO]
  · isplitr [HO]
    · unfold Out
      rw [bigSep_sep', head4 (SentC (F := F) c)]
      isplitr [Hsa]
      · isplitr [HS]
        · isplitl [Hc0]; · iexact Hc0
          isplitl [Hc1]; · iexact Hc1
          isplitl [Hc2]; · iexact Hc2
          iexact Hc3
        iexact HS
      iexact Hsa
    iexact HO
  iintro ⟨HB, HO⟩
  ihave HB := (Entails.of_eq (by unfold Back; rw [bigSep_sep', head4 (sendPay X c), onward_eq])) $$ HB
  icases HB with ⟨HBa, HB4, HB5⟩
  ihave HD := (Entails.of_eq (last4 (Done X c)).symm) $$ [HD Hd0 Hd1 Hd2 Hd3]
  · isplitl [HD]; · iexact HD
    isplitl [Hd0]; · iexact Hd0
    isplitl [Hd1]; · iexact Hd1
    isplitl [Hd2]; · iexact Hd2
    iexact Hd3
  ihave HD := (Entails.of_eq (by unfold Done; rw [bigSep_sep', relOut_eq])) $$ HD
  icases HD with ⟨HDa, HDc, HDk⟩
  iapply (wp_waitS X KK c _ _) $$ Hctx [HDc Ha1 HO]
  · isplitl [HDc]; · iexact HDc
    isplitl [Ha1]; · iexact Ha1
    iexact HO
  iintro ⟨Ha1, HDs, HO⟩
  iapply (wp_waitR X KK c _ _) $$ Hctx [Hcr Ha2 HO]
  · isplitl [Hcr]; · iexact Hcr
    isplitl [Ha2]; · iexact Ha2
    iexact HO
  iintro ⟨Ha2, HR, HO⟩
  iapply (wp_waitOwn X KK c _ _) $$ Hctx [Hco Ha3 HO]
  · isplitl [Hco]; · iexact Hco
    isplitl [Ha3]; · iexact Ha3
    iexact HO
  iintro ⟨Ha3, Hown, HO⟩
  iapply Hk
  unfold TailOut
  isplitl [Htab]; · iexact Htab
  isplitl [HB4]; · rw [four 0]; iexact HB4
  isplitl [HDa]; · iexact HDa
  isplitl [HBa]; · iexact HBa
  isplitl [Ha1 Ha2 Ha3]
  · isplitl [Ha1]; · iexact Ha1
    isplitl [Ha2]; · iexact Ha2
    iexact Ha3
  isplitl [HB5 Hp0 Hp1 Hp2 Hp3 HDs HDk]
  · iapply (recv_join X c)
    isplitr [HDs HDk]
    · rw [last4 (OnP X c)]
      isplitl [HB5]; · iexact HB5
      isplitl [Hp0]; · iexact Hp0
      isplitl [Hp1]; · iexact Hp1
      isplitl [Hp2]; · iexact Hp2
      iexact Hp3
    · rw [rels_eq]
      isplitl [HDs]; · iexact HDs
      iexact HDk
  isplitl [HR]; · iexact HR
  isplitl [Hown]; · iexact Hown
  iexact HO

end Cert.KernelIdeal.Ring
-- ==== Proof.Pieces.lean ====
/-
  The pieces of a device's result and of its stage, and to whom each is lent.
-/
module

public import proofs.«01_k».proof.Proof.Tail

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)

/-- Two assertions that entail each other are one. -/
theorem same {M : Type} [URA M] {P Q : sProp M} (h : P ⊢ Q) (h' : Q ⊢ P) : P = Q := Entails.antisymm h h'

/-- Four assertions, the first two taken together. -/
theorem regroup {M : Type} [URA M] (P Q R S : sProp M) : iprop(P ∗ Q ∗ R ∗ S) = iprop((P ∗ Q) ∗ R ∗ S) :=
  same (by
      iintro ⟨A, B, C, D⟩
      isplitl [A B]; · isplitl [A] <;> iassumption
      isplitl [C] <;> iassumption)
    (by
      iintro ⟨⟨A, B⟩, C, D⟩
      isplitl [A]; · iexact A
      isplitl [B]; · iexact B
      isplitl [C] <;> iassumption)

/-! ## The half-chunks of a device's result -/

/-- The 64 half-chunks by the way each comes to a device: its own two, the 52 received, the ten relayed. -/
theorem got_split {M : Type} [URA M] (Φ : Dev nD × Fin 2 → sProp M) : bigSep Finset.univ Φ
    = iprop((Φ (c, 0) ∗ Φ (c, 1)) ∗ bigSep (Finset.range 52) (fun n => Φ (src c n, hb n)) ∗ bigSep (rel (mate c)) (fun n => Φ (src (mate c) n, hb n))) := by
  have hn := got_nodup c
  have hu : (got c).toFinset = Finset.univ :=
    Finset.eq_univ_of_card _ (by rw [List.toFinset_card_of_nodup hn, got_length]; decide)
  unfold got at hn hu
  obtain ⟨h0, hn⟩ := List.nodup_cons.1 hn
  obtain ⟨h1, hn⟩ := List.nodup_cons.1 hn
  obtain ⟨ha, hb', hd⟩ := List.nodup_append.1 hn
  have eA : ((List.range 52).map fun n => (src c n, hb n)).toFinset = (Finset.range 52).image fun n => (src c n, hb n) := by
    ext x; simp only [List.mem_toFinset, List.mem_map, List.mem_range, Finset.mem_image, Finset.mem_range]
  have eB : (((List.range 52).filter fun n => rl (mate c) n).map fun n => (src (mate c) n, hb n)).toFinset
      = (rel (mate c)).image fun n => (src (mate c) n, hb n) := by
    ext x; simp only [List.mem_toFinset, List.mem_map, List.mem_filter, List.mem_range, Finset.mem_image, mem_rel]
  rw [← hu, List.toFinset_cons, List.toFinset_cons, List.toFinset_append,
    bigSep_insert (by rw [← List.toFinset_append, ← List.toFinset_cons, List.mem_toFinset]; exact h0),
    bigSep_insert (by rw [← List.toFinset_append, List.mem_toFinset]; exact h1),
    bigSep_union (Finset.disjoint_left.2 fun x hx hx' => hd x (List.mem_toFinset.1 hx) x (List.mem_toFinset.1 hx') rfl), eA, eB,
    bigSep_image_of_injOn (fun n hn k hk h => List.inj_on_of_nodup_map ha (List.mem_range.2 (Finset.mem_range.1 hn))
      (List.mem_range.2 (Finset.mem_range.1 hk)) h),
    bigSep_image_of_injOn (fun n hn k hk h => List.inj_on_of_nodup_map hb'
      (List.mem_filter.2 ⟨List.mem_range.2 (mem_rel.1 hn).1, (mem_rel.1 hn).2⟩)
      (List.mem_filter.2 ⟨List.mem_range.2 (mem_rel.1 hk).1, (mem_rel.1 hk).2⟩) h)]
  exact regroup _ _ _ _

/-- Two disjoint parts of the result. -/
theorem outP_union {A B : Finset S32768x512.Idx} (h : Disjoint A B) (q : PosShare TreeShare) (f : S32768x512.Idx → Elt F .f32) :
    outP c (A ∪ B) q f = iprop(outP c A q f ∗ outP c B q f) :=
  same (pointsTo_union h).1 (pointsTo_union h).2

/-- The two halves of a chunk are disjoint. -/
theorem halves_disjoint (b : Dev nD) : Disjoint (bset b 0) (bset b 1) :=
  blk_disjoint (fun h => absurd (congrArg (fun p : Dev nD × Fin 2 => p.2) h) (by dsimp only; decide))

/-- A whole buffer by disjoint parts that cover it. -/
theorem cut_all {ℓ : Loc nD τ sig} {B : Type} [Fintype B] (f : Buf (Elt F) ℓ) (I : B → Finset (Idx ℓ)) (hd : ∀ b b', b ≠ b' → Disjoint (I b) (I b'))
    (hc : ∀ i, ∃ b, i ∈ I b) : (ℓ ↦[Finset.univ]{fullShare} f : sProp 𝕄) = bigSep Finset.univ fun b => ℓ ↦[I b]{fullShare} f := by
  rw [← pointsTo_biUnion Finset.univ I (fun b _ b' _ h => hd b b' h)]
  congr 1
  exact (Finset.eq_univ_of_forall fun i => Finset.mem_biUnion.2 ((hc i).imp fun b h => ⟨Finset.mem_univ b, h⟩)).symm

/-- The result's buffer by its half-chunks: the chunk of the device, the halves received, the halves relayed. -/
theorem out_pieces (f : S32768x512.Idx → Elt F .f32) : outP c Finset.univ fullShare f
    = iprop(outP c (cset c) fullShare f ∗ bigSep (Finset.range 52) (fun n => outP c (bset (src c n) (hb n)) fullShare f)
      ∗ bigSep (rel (mate c)) (fun n => outP c (bset (src (mate c) n) (hb n)) fullShare f)) := by
  have e : outP c Finset.univ fullShare f = bigSep Finset.univ (fun p : Dev nD × Fin 2 => outP c (bset p.1 p.2) fullShare f) := by
    refine cut_all (ℓ := (c : Thread nD τ).loc main_v1) f (fun p : Dev nD × Fin 2 => bset p.1 p.2) (fun p p' h => blk_disjoint h) fun i => ?_
    have := Finset.mem_univ i
    rw [← blk_cover] at this
    obtain ⟨p, -, hp⟩ := Finset.mem_biUnion.1 this
    exact ⟨p, hp⟩
  rw [e, got_split c, chunk_set, outP_union c (halves_disjoint c)]

/-- A half-chunk to come, lent to the neighbour that sends it. -/
theorem slot_of (n : ℕ) (hn : n < 52) (d : Bool) (hd : dr n = d) (f : S32768x512.Idx → Elt F .f32) :
    iprop(outP c (bset (src c n) (hb n)) fullShare f ∗ reached ER (rcvG c n) 0) ⊢ (slot (nbr (!d) c) n : sProp 𝕄) := by
  subst hd
  have hp : peer (nbr (!dr n) c) n = c := by rw [peer_eq, nbr_nbr']
  have hs : src c n = dst (nbr (!dr n) c) n := by
    have := src_peer (nbr (!dr n) c) n hn
    rwa [hp] at this
  unfold slot
  rw [hp, ← hs]
  iintro ⟨H, R⟩
  isplitl [H]; · iexists f; iexact H
  iexact R

/-- The numbers of one direction, and of the other. -/
theorem dirs (Φ : ℕ → sProp 𝕄) : bigSep (Finset.range 52) Φ
    = iprop(bigSep ((Finset.range 52).filter fun n => dr n = true) Φ ∗ bigSep ((Finset.range 52).filter fun n => dr n = false) Φ) := by
  refine (bigSep_filter_split (Finset.range 52) (fun n => dr n = true)).trans ?_
  rw [show (Finset.range 52).filter (fun n => ¬dr n = true) = (Finset.range 52).filter (fun n => dr n = false) from
    Finset.filter_congr fun n _ => by rw [Bool.not_eq_true]]
  rfl

/-- All the half-chunks to come, lent to the two neighbours. -/
theorem give_slots (f : S32768x512.Idx → Elt F .f32) :
    iprop(bigSep (Finset.range 52) (fun n => outP c (bset (src c n) (hb n)) fullShare f) ∗ bigSep (Finset.range 52) (fun n => reached ER (rcvG c n) 0))
      ⊢ (iprop(slots (nbr false c) true ∗ slots (nbr true c) false) : sProp 𝕄) := by
  rw [← bigSep_sep', dirs]
  unfold slots
  exact BI.sep_mono (bigSep_mono fun n hn => slot_of c n (Finset.mem_range.1 (Finset.mem_filter.1 hn).1) true (Finset.mem_filter.1 hn).2 f)
    (bigSep_mono fun n hn => slot_of c n (Finset.mem_range.1 (Finset.mem_filter.1 hn).1) false (Finset.mem_filter.1 hn).2 f)

/-- The half-chunks that come by relay, lent to the partner. -/
theorem give_rslots (f : S32768x512.Idx → Elt F .f32) :
    iprop(bigSep (rel (mate c)) (fun n => outP c (bset (src (mate c) n) (hb n)) fullShare f) ∗ reached ER (rlrG c) 0)
      ⊢ (rslots (mate c) : sProp 𝕄) := by
  unfold rslots rslot
  rw [mate_mate]
  iintro ⟨H, R⟩
  iapply (bigSep_with_persistent (R := reached ER (rlrG c) 0) (fun n _ => ?_))
  rotate_left
  · isplitl [R]; · iexact R
    iexact H
  iintro ⟨R, H⟩
  isplitl [H]; · iexists f; iexact H
  iexact R

/-- The stage by what is lent: to the local copy, and to each of the four first sends. -/
theorem stage_pieces : stgP c Finset.univ fullShare (X c)
    = (iprop(stgP c Finset.univ qS (X c) ∗ bigSep (Finset.Ico 0 4) (sendPay X c)) : sProp 𝕄) := by
  have hh : ∀ q : PosShare TreeShare, stgP c Finset.univ q (X c) = (iprop(stgP c (xset 0) q (X c) ∗ stgP c (xset 1) q (X c)) : sProp 𝕄) := fun q => by
    have e : (Finset.univ : Finset S1024x512.Idx) = xset 0 ∪ xset 1 := by
      rw [← xh_cover]; ext i
      simp only [Finset.mem_biUnion, Finset.mem_univ, true_and, Finset.mem_union, Fin.exists_fin_two]
    rw [e]
    exact Entails.antisymm (pointsTo_union (xh_disjoint 0 1 (by decide))).1 (pointsTo_union (xh_disjoint 0 1 (by decide))).2
  have sh : ∀ q : PosShare TreeShare, stgP c Finset.univ q (X c) = (iprop(stgP c Finset.univ q.left (X c) ∗ stgP c Finset.univ q.right (X c)) : sProp 𝕄) :=
    fun q => Entails.antisymm (pointsTo_share (PosShare.mem_left_op_right q)).1 (pointsTo_share (PosShare.mem_left_op_right q)).2
  rw [sh fullShare, sh qK, hh qK.left, hh qK.right, four 0]
  have p : ∀ n (hn : n < 4) (h : Fin 2) (d : Bool), hb n = h → dr n = d → sendPay X c n = stgP c (xset h) (qX d) (X c) := fun n hn h d e1 e2 => by
    unfold sendPay; rw [if_pos hn, e1, e2]
  rw [p 0 (by omega) 0 true (by decide) (by decide), p (0 + 1) (by omega) 0 false (by decide) (by decide),
    p (0 + 2) (by omega) 1 true (by decide) (by decide), p (0 + 3) (by omega) 1 false (by decide) (by decide)]
  unfold qX
  rw [if_pos rfl, if_neg (by decide)]
  exact same (by
      iintro ⟨A, ⟨B, C⟩, D, E⟩
      isplitl [A]; · iexact A
      isplitl [B]; · iexact B
      isplitl [D]; · iexact D
      isplitl [C] <;> iassumption)
    (by
      iintro ⟨A, B, D, C, E⟩
      isplitl [A]; · iexact A
      isplitl [B C]; · isplitl [B] <;> iassumption
      isplitl [D] <;> iassumption)

/-- What the relays need, together. -/
theorem relIn_eq : bigSep (Finset.range 52) (RelIn (F := F) c) = bigSep (rel c) (ToRelay (F := F) c) := by
  refine (bigSep_filter_split (Finset.range 52) (fun n => rl c n = true)).trans ?_
  rw [show (Finset.range 52).filter (fun n => rl c n = true) = rel c by unfold rel; rfl,
    bigSep_congr (Ψ := ToRelay (F := F) c) (fun n hn => by unfold RelIn; exact if_pos (mem_rel.1 hn).2),
    bigSep_congr (s := (Finset.range 52).filter fun n => ¬rl c n = true) (Ψ := fun _ => (BI.emp : sProp 𝕄))
      (fun n hn => by unfold RelIn; exact if_neg (Finset.mem_filter.1 hn).2)]
  rw [bigSep_emp_const]
  exact Entails.antisymm (sep_emp (PROP := sProp 𝕄)).1 (sep_emp (PROP := sProp 𝕄)).2

end Cert.KernelIdeal.Ring
-- ==== Proof.Head.lean ====
/-
  The head of the body: the tables read, the three neighbours greeted, the barrier, the copy of the device's own chunk.
-/
module

public import proofs.«01_k».proof.Proof.Pieces

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)

/-! ## The words the head reads -/

/-- The side condition on what is computed from a device's place holds on every device. -/
theorem head_chk1 : ∀ c : Dev nD, k0_chk1 (w (pos c)) := by decide +kernel
/-- The side condition on the right neighbour's number holds for every device. -/
theorem head_chk4 : ∀ b : Dev nD, k0_chk4 (w b.val) := by decide +kernel
/-- The side condition on the left neighbour's number holds for every device. -/
theorem head_chk3 : ∀ b : Dev nD, k0_chk3 (w b.val) := by decide +kernel
/-- The side condition on the partner's number holds for every device. -/
theorem head_chk2 : ∀ b : Dev nD, k0_chk2 (w b.val) := by decide +kernel
/-- The side condition on the rest of the body holds on every device. -/
theorem head_chk10 : ∀ c : Dev nD, k0_chk10 (w (pos c)) (w (mate c).val) (w (pos (mate c))) := by decide +kernel
/-- The device of the first signal, from its number. -/
theorem head_dev1 : ∀ b : Dev nD, k0_dev1 (w b.val) = b.val := by decide +kernel
/-- The device of the second signal, from its number. -/
theorem head_dev2 : ∀ b : Dev nD, k0_dev2 (w b.val) = b.val := by decide +kernel
/-- The device of the third signal, from its number. -/
theorem head_dev3 : ∀ b : Dev nD, k0_dev3 (w b.val) = b.val := by decide +kernel
/-- Looking up a device's place. -/
theorem look_pos : ∀ c : Dev nD, posTab.getD (k0_off1 c 0) 0 = pos c := by decide +kernel
/-- Looking up the right neighbour. -/
theorem look_right : ∀ c : Dev nD, ringTab.getD (k0_off2 (w (pos c)) 0) 0 = (nbr true c).val := by decide +kernel
/-- Looking up the left neighbour. -/
theorem look_left : ∀ c : Dev nD, ringTab.getD (k0_off3 (w (pos c)) 0) 0 = (nbr false c).val := by decide +kernel
/-- Looking up the partner. -/
theorem look_mate : ∀ c : Dev nD, mateTab.getD (k0_off4 c 0) 0 = (mate c).val := by decide +kernel
/-- Looking up the partner's place. -/
theorem look_mpos : ∀ b : Dev nD, posTab.getD (k0_off5 (w b.val) 0) 0 = pos b := by decide +kernel

/-- The target of the local copy is the device's own chunk of the result. -/
theorem own_rows (h : ∀ a, (k0_off6 c) a + S1024x512.size a ≤ S32768x512.size a) :
    ((Memref.whole main_v1 : Memref sig .tc .hbm S32768x512 .f32).slice (Rect.unit (s := S32768x512) (k0_off6 c) S1024x512.size h) (fun _ => rfl)) = chunk c := by
  have e := Gen.k0_off6_eq c
  unfold chunk
  revert h
  rw [e]
  intro h; rfl

/-! ## The head's steps -/

/-- A greeting: what its barrier duty carries, handed over. -/
theorem wp_sig (c' b : Dev nD) (hb : c' = b) (d : ℕ) (hd : d ∈ ({0, 1, 2} : Finset ℕ)) (O O₀ : CellTallies nD τ sig ℕ)
    (hO : O₀ = O + tallyAt (barG b) 1 1) (K : PUnit → P F) (Q : PUnit → sProp 𝕄) :
    ctx X KK ⊢ iprop(((∃ W, owes (c : Thread nD τ) O₀ W) ∗ dutyTok ER (barG b) 0 d ∗ barPay b d ∗ reached ER (barG b) 0)
      -∗ ((∃ W, owes (c : Thread nD τ) O W) -∗ WP c (K ⟨⟩) Q) -∗ WP c (.op (.semSignal (c' : Thread nD τ) barS 1) K) Q) := by
  subst hb
  iintro #Hctx ⟨⟨%W, HO⟩, Ht, Hp, #Hr⟩ Hk
  ihave #HI := (ctx_bar X KK c') $$ Hctx
  iapply (Rounds.wp_signal 𝒱₀ ER (sched X) (c : Thread nD τ) none (dst := (c' : Thread nD τ)) (sem := barS) (r := 0) (d := d) (κ := KK (barG c'))
      (k' := 1) (by rw [duties_bar]; exact hd) (amount_bar X c' 0 d) 1 O hO (W := W)) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier: the three have handed over. -/
theorem wp_bar (K : PUnit → P F) (Q : PUnit → sProp 𝕄) :
    ctx X KK ⊢ iprop((cred (tallyAt (barG c) 1 3) ∗ atPos ER (barG c) 0 ∅ 0 ∗ owesX c 0 0)
      -∗ ((atPos ER (barG c) 1 ∅ 0 ∗ (slots c true ∗ slots c false ∗ rslots c) ∗ owesX c 0 0) -∗ WP c (K ⟨⟩) Q)
      -∗ WP c (.op (.semWait barS 3) K) Q) := by
  unfold owesX
  iintro #Hctx ⟨Hc, Hat, ⟨%W, HO⟩⟩ Hk
  ihave #HI := (ctx_bar X KK c) $$ Hctx
  iapply (Rounds.wp_wait_rest_token 𝒱₀ ER (sched X) (c : Thread nD τ) none (κ := KK (barG c)) (k' := 3)
      (wpE_semWait_eq 𝒱₀ (c : Thread nD τ) none Set.univ) (Set.mem_univ _) 1 (O := due c 0 0) (W := W)
      (R := 0) (m := 0) (T := ∅) ((Nat.zero_add 3).trans (expect_bar X c).symm)) $$ [Hc HO Hat]
  · isplitr; · iexact HI
    isplitl [Hc]; · iexact Hc
    isplitl [HO]; · iexact HO
    isplitr; · iapply (mayWait_ctx X KK c (.reg barS) (by omega) (by omega)); iexact Hctx
    iexact Hat
  iintro ⟨HO, Hat, -, Hpay⟩
  ihave Hp := (Entails.of_eq (rest_bar X c)) $$ Hpay
  iapply Hk
  isplitl [Hat]; · iexact Hat
  isplitl [Hp]; · iexact Hp
  iexists _; iexact HO

/-- The local copy of the device's own chunk. -/
theorem wp_own (t : Memref sig .tc .hbm S1024x512 .f32) (ht : t = chunk c) (y : DmaSem sig) (hy : y = ownC) (f : S32768x512.Idx → Elt F .f32)
    (h1 : (Memref.whole cc0_stg0_0 : Memref sig .tc .vmem S1024x512 .f32).view.WordExact) (h2 : t.view.WordExact)
    (h3 : DmaTarget.Typed .vmem (.dma y) (.here t : DmaTarget nD τ sig (.tc : Proc τ) .hbm S1024x512 .f32)) (K : PUnit → P F) (Q : PUnit → sProp 𝕄) :
    ctx X KK ⊢ iprop((stgP c Finset.univ qS (X c) ∗ outP c (cset c) fullShare f ∗ dutyTok ER (ownG c) 0 0 ∗ reached ER (ownG c) 0)
      -∗ (cred (tallyAt (ownG c) 0 Nc) -∗ WP c (K ⟨⟩) Q)
      -∗ WP c (.op (.enqueueDma (Memref.whole cc0_stg0_0) (.here t) (.dma y) h1 h2 h3) K) Q) := by
  subst ht hy
  have hset : (Memref.whole cc0_stg0_0 : Memref sig .tc .vmem S1024x512 .f32).view.set = Finset.univ := View.set_whole _
  iintro #Hctx ⟨Hs, Hd, Ht, #Hr⟩ Hk
  ihave #HI := (ctx_own X KK c) $$ Hctx
  iapply (Rounds.wp_copy_pointsTo 𝒱₀ ER (sched X) (c : Thread nD τ) none (src := Memref.whole cc0_stg0_0) (dst := chunk c) (sem := .dma ownC)
      (q := qS) (fs := X c) (fd := f) (r := 0) (d := 0) (κ := KK (ownG c))
      (by rw [duties_own]; exact Finset.mem_singleton_self _) 0 Nc (credit_chunk c) (amount_own X c 0 0)
      (by
        rw [payload_own]; unfold ownPay
        rw [outP_chunk, hset]
        refine BI.sep_mono (Entails.of_eq (pointsTo_congr ?_)) (Entails.refl _)
        have := land_chunk X c f
        unfold cset at this
        exact this)) $$ [Hs Hd Ht]
  · isplitr; · iexact HI
    isplitl [Hs]; · rw [hset]; iexact Hs
    isplitl [Hd]; · iapply (Entails.of_eq (outP_chunk c c fullShare f)) $$ Hd
    isplitl [Ht]; · iexact Ht
    iexact Hr
  iexact Hk

/-! ## The head -/

/-- What the head starts with. -/
def HeadIn (f : S32768x512.Idx → Elt F .f32) : sProp 𝕄 :=
  iprop((posP c ∗ tabP c ∗ mateP c) ∗ stgP c Finset.univ fullShare (X c) ∗ outP c Finset.univ fullShare f
    ∗ (bigSep (Finset.range 52) (fun n => reached ER (sndG c n) 0) ∗ bigSep (Finset.range 52) (fun n => reached ER (rcvG c n) 0)
      ∗ reached ER (rlsG c) 0 ∗ reached ER (rlrG c) 0 ∗ reached ER (ownG c) 0)
    ∗ (reached ER (barG (nbr false c)) 0 ∗ reached ER (barG (nbr true c)) 0 ∗ reached ER (barG (mate c)) 0)
    ∗ bigSep (toks c) (fun x => dutyTok ER x.1 x.2.1 x.2.2)
    ∗ (cred (tallyAt (barG c) 1 3) ∗ atPos ER (barG c) 0 ∅ 0)
    ∗ (∃ W, owes (c : Thread nD τ) (due0 c) W))
/-- What it leaves, but for the holdings it does not touch. -/
def HeadOut : sProp 𝕄 :=
  iprop((posP c ∗ tabP c ∗ mateP c) ∗ bigSep (Finset.Ico 0 4) (sendPay X c) ∗ bigSep (Finset.range 52) (ToSend (F := F) c)
    ∗ bigSep (Finset.range 52) (RelIn (F := F) c) ∗ cred (tallyAt (ownG c) 0 Nc) ∗ atPos ER (barG c) 1 ∅ 0 ∗ owesX c 0 0)

/-- The head of the body step by step, whatever follows it. -/
theorem head_eq {R} : (k0_part1 (F := F) ops0.x ops0.hx (Memref.whole cc0_stg1_0) (Memref.isWhole_whole _) ops0.tab (Memref.isWhole_whole _)
          (Memref.whole cc0_stg3_0) (Memref.isWhole_whole _) ops0.out (Memref.isWhole_whole _) ops0.sendR ops0.recvR ops0.sendL ops0.recvL
          ops0.relayS ops0.relayR ops0.own >>= R : P F)
    = (.op .deviceId fun d0 =>
      smemLoad (Memref.whole cc0_stg1_0) (Rect.unit (s := S32) (k0_off1 d0) S1.size (k0_off1_inb d0)) numel1_S1 rfl >>= fun v4 =>
      .op (.assume (k0_chk1 v4) (k0_chk1.dec v4)) fun h1 =>
      smemLoad (Memref.whole cc0_stg2_0) (Rect.unit (s := S32) (k0_off2 v4) S1.size (k0_off2_inb v4 h1.down)) numel1_S1 rfl >>= fun v8 =>
      .op (.assume (k0_chk4 v8) (k0_chk4.dec v8)) fun h4 =>
      smemLoad (Memref.whole cc0_stg2_0) (Rect.unit (s := S32) (k0_off3 v4) S1.size (k0_off3_inb v4 h1.down)) numel1_S1 rfl >>= fun v13 =>
      .op (.assume (k0_chk3 v13) (k0_chk3.dec v13)) fun h3 =>
      smemLoad (Memref.whole cc0_stg3_0) (Rect.unit (s := S32) (k0_off4 d0) S1.size (k0_off4_inb d0)) numel1_S1 rfl >>= fun v15 =>
      .op (.assume (k0_chk2 v15) (k0_chk2.dec v15)) fun h2 =>
      smemLoad (Memref.whole cc0_stg1_0) (Rect.unit (s := S32) (k0_off5 v15) S1.size (k0_off5_inb v15 h2.down)) numel1_S1 rfl >>= fun v17 =>
      .op (.assume (k0_chk10 v4 v15 v17) (k0_chk10.dec v4 v15 v17)) fun h10 =>
      .op (.semSignal ((⟨k0_dev1 v13, k0_dev1_lt v13 h3.down⟩ : Dev nD) : Thread nD τ) (sig.barrier 0 rfl) 1) fun _ =>
      .op (.semSignal ((⟨k0_dev2 v8, k0_dev2_lt v8 h4.down⟩ : Dev nD) : Thread nD τ) (sig.barrier 0 rfl) 1) fun _ =>
      .op (.semSignal ((⟨k0_dev3 v15, k0_dev3_lt v15 h2.down⟩ : Dev nD) : Thread nD τ) (sig.barrier 0 rfl) 1) fun _ =>
      .op (.semWait (sig.barrier 0 rfl) 3) fun _ =>
      .op (.enqueueDma (Memref.whole cc0_stg0_0) (.here ((Memref.whole main_v1 : Memref sig .tc .hbm S32768x512 .f32).slice
          (Rect.unit (s := S32768x512) (k0_off6 d0) S1024x512.size (k0_off6_inb d0)) (fun _ => rfl))) (.dma ops0.own.sem)
          (Memref.isWhole_whole cc0_stg0_0).wordExact (View.wordExact_bits rfl) ⟨Or.inl rfl, trivial⟩) fun _ =>
      R ⟨d0, Scalar.remsi (Scalar.divsi d0.word 1#32) 32#32, v4, h1.down, v8, h4.down, v13, h3.down, v15, v17, h10.down, Scalar.subi v4 0#32⟩) := by
  sl_kernel_rfl

set_option maxHeartbeats 2000000 in
/-- The head of the body, at a symbolic device. -/
theorem wp_head (f : S32768x512.Idx → Elt F .f32) (K : P F) (Q : PUnit → sProp 𝕄) {R}
    (hR : ∀ v2 h1 h4 h3 h10 v27, R ⟨c, v2, w (pos c), h1, w (nbr true c).val, h4, w (nbr false c).val, h3, w (mate c).val,
          w (pos (mate c)), h10, v27⟩ = K) :
    ctx X KK ⊢ iprop(HeadIn X c f -∗ (HeadOut X c -∗ WP c K Q)
      -∗ WP c (k0_part1 (F := F) ops0.x ops0.hx (Memref.whole cc0_stg1_0) (Memref.isWhole_whole _) ops0.tab (Memref.isWhole_whole _)
          (Memref.whole cc0_stg3_0) (Memref.isWhole_whole _) ops0.out (Memref.isWhole_whole _) ops0.sendR ops0.recvR ops0.sendL ops0.recvL
          ops0.relayS ops0.relayR ops0.own >>= R) Q) := by
  rw [head_eq]
  have hbar : (sig.barrier 0 rfl : Sem sig) = barS := by unfold barS; rfl
  rw [hbar]
  unfold HeadIn
  rw [toks_eq, stage_pieces, out_pieces]
  iintro #Hctx ⟨⟨Hpos, Htab, Hmate⟩, ⟨HsO, HsP⟩, ⟨HoC, HoR, HoM⟩, ⟨#Rs, #Rr, #Rls, #Rlr, #Ro⟩, ⟨#B1, #B2, #B3⟩,
    ⟨⟨T1, T2, T3⟩, Ts, Tr, Tls, Tlr, To⟩, ⟨Hcb, Hab⟩, HO⟩ Hk
  ihave Hsl := (give_slots c f) $$ [HoR]
  · isplitl [HoR]; · iexact HoR
    iexact Rr
  icases Hsl with ⟨Hs1, Hs2⟩
  ihave Hs3 := (give_rslots c f) $$ [HoM]
  · isplitl [HoM]; · iexact HoM
    iexact Rlr
  iapply (Entails.of_eq (wp_deviceId 𝒱₀ (c : Thread nD τ) none Set.univ).symm)
  iapply (wp_word c (Memref.whole cc0_stg1_0) (k0_off1 c) _ (tabF posTab) (w (pos c)) (by exact congrArg w (look_pos c)) _ _) $$ Hpos
  iintro Hpos
  iapply (wp_assume 𝒱₀ (c : Thread nD τ) none Set.univ (head_chk1 c))
  iapply (wp_word c (Memref.whole cc0_stg2_0) (k0_off2 (w (pos c))) _ (tabF ringTab) (w (nbr true c).val) (by exact congrArg w (look_right c)) _ _) $$ Htab
  iintro Htab
  iapply (wp_assume 𝒱₀ (c : Thread nD τ) none Set.univ (head_chk4 (nbr true c)))
  iapply (wp_word c (Memref.whole cc0_stg2_0) (k0_off3 (w (pos c))) _ (tabF ringTab) (w (nbr false c).val) (by exact congrArg w (look_left c)) _ _) $$ Htab
  iintro Htab
  iapply (wp_assume 𝒱₀ (c : Thread nD τ) none Set.univ (head_chk3 (nbr false c)))
  iapply (wp_word c (Memref.whole cc0_stg3_0) (k0_off4 c) _ (tabF mateTab) (w (mate c).val) (by exact congrArg w (look_mate c)) _ _) $$ Hmate
  iintro Hmate
  iapply (wp_assume 𝒱₀ (c : Thread nD τ) none Set.univ (head_chk2 (mate c)))
  iapply (wp_word c (Memref.whole cc0_stg1_0) (k0_off5 (w (mate c).val)) _ (tabF posTab) (w (pos (mate c))) (by exact congrArg w (look_mpos (mate c))) _ _) $$ Hpos
  iintro Hpos
  iapply (wp_assume 𝒱₀ (c : Thread nD τ) none Set.univ (head_chk10 c))
  iapply (wp_sig X KK c _ (nbr false c) (Fin.ext (head_dev1 (nbr false c))) 0 (by decide)
    (due c 0 0 + tallyAt (barG (mate c)) 1 1 + tallyAt (barG (nbr true c)) 1 1) (due0 c) rfl _ _) $$ Hctx [HO T1 Hs1]
  · isplitl [HO]; · iexact HO
    isplitl [T1]; · iexact T1
    isplitl [Hs1]; · unfold barPay; iexact Hs1
    iexact B1
  iintro HO
  iapply (wp_sig X KK c _ (nbr true c) (Fin.ext (head_dev2 (nbr true c))) 1 (by decide)
    (due c 0 0 + tallyAt (barG (mate c)) 1 1) _ rfl _ _) $$ Hctx [HO T2 Hs2]
  · isplitl [HO]; · iexact HO
    isplitl [T2]; · iexact T2
    isplitl [Hs2]; · unfold barPay; iexact Hs2
    iexact B2
  iintro HO
  iapply (wp_sig X KK c _ (mate c) (Fin.ext (head_dev3 (mate c))) 2 (by decide) (due c 0 0) _ rfl _ _) $$ Hctx [HO T3 Hs3]
  · isplitl [HO]; · iexact HO
    isplitl [T3]; · iexact T3
    isplitl [Hs3]; · unfold barPay; iexact Hs3
    iexact B3
  iintro HO
  iapply (wp_bar X KK c _ _) $$ Hctx [Hcb Hab HO]
  · isplitl [Hcb]; · iexact Hcb
    isplitl [Hab]; · iexact Hab
    unfold owesX; iexact HO
  iintro ⟨Hab, ⟨Ht, Hf, Hr⟩, HO⟩
  iapply (wp_own X KK c _ (own_rows c _) _ cell_own f _ _ _ _ _) $$ Hctx [HsO HoC To]
  · isplitl [HsO]; · iexact HsO
    isplitl [HoC]; · iexact HoC
    isplitl [To]; · iexact To
    iexact Ro
  iintro Hco
  rw [hR]
  iapply Hk
  unfold HeadOut
  isplitl [Hpos Htab Hmate]
  · isplitl [Hpos]; · iexact Hpos
    isplitl [Htab]; · iexact Htab
    iexact Hmate
  isplitl [HsP]; · iexact HsP
  isplitl [Ts Tr Ht Hf]
  · unfold ToSend
    rw [bigSep_sep', bigSep_sep', bigSep_sep', dirs (slot (F := F) c)]
    isplitl [Ts]; · iexact Ts
    isplitl [Tr]; · iexact Tr
    isplitl [Ht Hf]
    · unfold slots
      isplitl [Ht]; · iexact Ht
      iexact Hf
    iexact Rs
  isplitl [Tls Tlr Hr]
  · rw [relIn_eq]
    unfold ToRelay
    rw [bigSep_sep', bigSep_sep', bigSep_sep']
    isplitl [Tls]; · iexact Tls
    isplitl [Tlr]; · iexact Tlr
    isplitl [Hr]; · unfold rslots; iexact Hr
    iapply (bigSep_of_persistent (rel c) (reached ER (rlsG c) 0)); iexact Rls
  isplitl [Hco]; · iexact Hco
  isplitl [Hab]; · iexact Hab
  iexact HO

end Cert.KernelIdeal.Ring
-- ==== Proof.Core.lean ====
/-
  The body whole: from the tables, the stage and the result's buffer to the gathered result.
-/
module

public import proofs.«01_k».proof.Proof.Head

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)

/-! ## The own cells -/

/-- A family over the kernel's own semaphores, by their kinds. -/
theorem osem_fam (Φ : GSem nD τ sig → sProp 𝕄) : bigSep Finset.univ (fun k => Φ ((c : Thread nD τ), osem k))
    = iprop(bigSep (Finset.range 52) (fun n => Φ (sndG c n)) ∗ bigSep (Finset.range 52) (fun n => Φ (rcvG c n))
      ∗ (Φ (rlsG c) ∗ Φ (rlrG c) ∗ Φ (ownG c))) := by
  have hr : ∀ Ψ : ℕ → sProp 𝕄, bigSep (Finset.univ : Finset (Fin 52)) (fun n => Ψ n.val) = bigSep (Finset.range 52) Ψ := fun Ψ => by
    rw [← bigSep_image_of_injOn (s := (Finset.univ : Finset (Fin 52))) (f := Fin.val) (fun a _ b _ h => Fin.ext h) Ψ]
    congr 1
  rw [bigSep_univ_sum, bigSep_univ_prod, show (Finset.univ : Finset Bool) = {false, true} by decide, bigSep_insert (by decide), bigSep_singleton,
    show (Finset.univ : Finset (Fin 3)) = {0, 1, 2} by decide, bigSep_insert (by decide), bigSep_insert (by decide), bigSep_singleton]
  have ha : ∀ A B C : sProp 𝕄, iprop((A ∗ B) ∗ C) = iprop(A ∗ B ∗ C) := fun A B C => same (by
      iintro ⟨⟨A, B⟩, C⟩
      isplitl [A]; · iexact A
      isplitl [B]; · iexact B
      iexact C)
    (by
      iintro ⟨A, B, C⟩
      isplitr [C]
      · isplitl [A]; · iexact A
        iexact B
      iexact C)
  refine Eq.trans ?_ (ha _ _ _)
  rw [← hr (fun n => Φ (sndG c n)), ← hr (fun n => Φ (rcvG c n))]
  rfl

/-- The own cells are opened, each from its token and its counter at zero. -/
theorem opens : ctx X KK ⊢ iprop((bigSep Finset.univ (fun k => openTok ER ((c : Thread nD τ), osem k)) ∗ bigSep Finset.univ (fun k => semVal ((c : Thread nD τ), osem k) 0))
    -∗ |={Set.univ}=> (bigSep Finset.univ (fun k => atPos ER ((c : Thread nD τ), osem k) 0 ∅ 0) ∗ bigSep Finset.univ (fun k => reached ER ((c : Thread nD τ), osem k) 0))) := by
  rw [← bigSep_sep', ← bigSep_sep']
  iintro #Hctx H
  iapply (bigSep_fupd _ _)
  iapply (bigSep_with_persistent (R := ctx X KK) (fun k _ => ?_))
  rotate_left
  · isplitr; · iexact Hctx
    iexact H
  iintro ⟨#Hc, Ho, Hv⟩
  iapply (Rounds.cell_open ER (sched X) (Set.mem_univ (KK ((c : Thread nD τ), osem k))))
  isplitr; · iapply (ctx_osem X KK c k); iexact Hc
  isplitl [Ho]; · iexact Ho
  iexact Hv

/-- A cell behind its round is closed: its counter is back at zero. -/
theorem closes : ctx X KK ⊢ iprop(bigSep Finset.univ (fun k => atPos ER ((c : Thread nD τ), osem k) 1 ∅ 0)
    -∗ |={Set.univ}=> bigSep Finset.univ (fun k => semVal ((c : Thread nD τ), osem k) 0)) := by
  iintro #Hctx H
  iapply (bigSep_fupd _ _)
  iapply (bigSep_with_persistent (R := ctx X KK) (fun k _ => ?_))
  rotate_left
  · isplitr; · iexact Hctx
    iexact H
  iintro ⟨#Hc, Ha⟩
  iapply (Rounds.cell_close ER (sched X) (Set.mem_univ (KK ((c : Thread nD τ), osem k))) id (duties_later X _))
  isplitr; · iapply (ctx_osem X KK c k); iexact Hc
  iexact Ha

/-! ## The body -/

/-- What the body starts with. -/
def CoreIn (f : S32768x512.Idx → Elt F .f32) : sProp 𝕄 :=
  iprop((posP c ∗ tabP c ∗ mateP c) ∗ stgP c Finset.univ fullShare (X c) ∗ outP c Finset.univ fullShare f
    ∗ bigSep Finset.univ (fun k => atPos ER ((c : Thread nD τ), osem k) 0 ∅ 0) ∗ bigSep Finset.univ (fun k => reached ER ((c : Thread nD τ), osem k) 0)
    ∗ (reached ER (barG (nbr false c)) 0 ∗ reached ER (barG (nbr true c)) 0 ∗ reached ER (barG (mate c)) 0)
    ∗ bigSep (toks c) (fun x => dutyTok ER x.1 x.2.1 x.2.2)
    ∗ (cred (tallyAt (barG c) 1 3) ∗ atPos ER (barG c) 0 ∅ 0)
    ∗ bigSep (Finset.range 52) (fun n => cred (tallyAt (rcvG c n) (2 + n) Nh)) ∗ bigSep (rel (mate c)) (fun _ => cred (tallyAt (rlrG c) 60 Nh))
    ∗ (∃ W, owes (c : Thread nD τ) (due0 c) W))
/-- What it ends with: the result gathered, every counter at zero, nothing owed. -/
def CoreOut : sProp 𝕄 :=
  iprop((posP c ∗ tabP c ∗ mateP c) ∗ stgP c Finset.univ fullShare (X c) ∗ outP c Finset.univ fullShare (full X)
    ∗ semVal (barG c) 0 ∗ bigSep Finset.univ (fun k => semVal ((c : Thread nD τ), osem k) 0)
    ∗ (∃ W, owes (c : Thread nD τ) (0 : CellTallies nD τ sig ℕ) W))

set_option maxHeartbeats 1000000 in
/-- The kernel's body on a device. -/
theorem wp_core (f : S32768x512.Idx → Elt F .f32) (Q : PUnit → sProp 𝕄) :
    ctx X KK ⊢ iprop(CoreIn X c f -∗ (CoreOut X c -∗ Q ⟨⟩)
      -∗ WP c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole main_v1) (Memref.isWhole_whole _) cc0_scratch0 cc0_scratch1 cc0_scratch2 cc0_scratch3 cc0_scratch4 cc0_scratch5
          cc0_scratch6) Q) := by
  obtain ⟨R, hb, hR⟩ := body_tail (F := F) ops0 (Memref.whole cc0_stg1_0) (Memref.isWhole_whole _) (Memref.isWhole_whole _)
    (Memref.whole cc0_stg3_0) (Memref.isWhole_whole _) (Memref.isWhole_whole _)
  have hb' : cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole main_v1) (Memref.isWhole_whole _) cc0_scratch0 cc0_scratch1 cc0_scratch2 cc0_scratch3 cc0_scratch4 cc0_scratch5
          cc0_scratch6 = _ := hb
  rw [hb']
  unfold CoreIn
  rw [osem_fam c (fun g => atPos ER g 0 ∅ 0), osem_fam c (fun g => reached ER g 0)]
  iintro #Hctx ⟨Htabs, Hs, Ho, ⟨As, Ar, Ax⟩, ⟨Rs, Rr, Rx⟩, HB, HT, HCB, Hcr, Hcm, HO⟩ Hk
  iapply (wp_head X KK c f (tail ops0 c) Q (hR c)) $$ Hctx [Htabs Hs Ho Rs Rr Rx HB HT HCB HO]
  · unfold HeadIn
    isplitl [Htabs]; · iexact Htabs
    isplitl [Hs]; · iexact Hs
    isplitl [Ho]; · iexact Ho
    isplitl [Rs Rr Rx]
    · isplitl [Rs]; · iexact Rs
      isplitl [Rr]; · iexact Rr
      iexact Rx
    isplitl [HB]; · iexact HB
    isplitl [HT]; · iexact HT
    isplitl [HCB]; · iexact HCB
    iexact HO
  unfold HeadOut
  iintro ⟨⟨Hpos, Htab, Hmate⟩, HsP, Hsend, Hrel, Hco, Hab, HO⟩
  iapply (wp_tail X KK c Q) $$ Hctx [Htab HsP Hsend Hrel Hco As Ar Ax Hcr Hcm HO]
  · unfold TailIn Todo
    rw [← Finset.range_eq_Ico, ← Finset.range_eq_Ico, bigSep_sep', bigSep_sep']
    isplitl [Htab]; · iexact Htab
    isplitl [HsP]; · iexact HsP
    isplitl [Hsend]; · iexact Hsend
    isplitl [Hcr Ar Hrel]
    · isplitl [Hcr]; · iexact Hcr
      isplitl [Ar]; · iexact Ar
      iexact Hrel
    isplitl [As]; · iexact As
    isplitl [Ax]; · iexact Ax
    isplitl [Hcm]; · iexact Hcm
    isplitl [Hco]; · iexact Hco
    iexact HO
  unfold TailOut ownPay
  rw [← Finset.range_eq_Ico, ← Finset.range_eq_Ico]
  iintro ⟨Htab, HsP, Ar, As, Ax, Hr, Hm, ⟨Hc, HsO⟩, HO⟩
  unfold WP
  rw [wp_ret]
  imod (closes X KK c) $$ Hctx [As Ar Ax] with Hv
  · rw [osem_fam c (fun g => atPos ER g 1 ∅ 0)]
    isplitl [As]; · iexact As
    isplitl [Ar]; · iexact Ar
    iexact Ax
  imod (Rounds.cell_close ER (sched X) (Set.mem_univ (KK (barG c))) id (duties_later X _)) $$ [Hab] with Hvb
  · isplitr; · iapply (ctx_bar X KK c); iexact Hctx
    iexact Hab
  imodintro
  iapply Hk
  unfold CoreOut
  rw [stage_pieces, out_pieces]
  isplitl [Hpos Htab Hmate]
  · isplitl [Hpos]; · iexact Hpos
    isplitl [Htab]; · iexact Htab
    iexact Hmate
  isplitl [HsO HsP]
  · isplitl [HsO]; · iexact HsO
    iexact HsP
  isplitl [Hc Hr Hm]
  · isplitl [Hc]; · iexact Hc
    isplitl [Hr]; · unfold recvPay; iexact Hr
    unfold relrPay; iexact Hm
  isplitl [Hvb]; · iexact Hvb
  isplitl [Hv]; · iexact Hv
  unfold owesX
  rw [due_end]
  iexact HO

end Cert.KernelIdeal.Ring
-- ==== Proof.Site.lean ====
/-
  The region's proof data: the arrays as the region finds them, what its one point starts from and ends with, and its body.
-/
module

public import proofs.«01_k».proof.Proof.Core
public import proofs.«01_k».proof.Proof.Gen.KernelIdeal.Frame
public import Idealize.ShloMosaic.Lib.Pipeline.ValueKit
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (X : Dev nD → S1024x512.Idx → Elt F .f32) (KK : GSem nD τ sig → ℕ) (c : Dev nD)
variable (m : (ℓ : Loc nD τ sig) → Buf (Elt F) ℓ)

/-! ## The arrays the region finds -/

/-- The device's chunk, as launched. -/
def chunkOf (c : Dev nD) : S1024x512.Idx → Elt F .f32 := m ((c : Thread nD τ).loc main_arg0)

/-- The windows' block indices at the one point. -/
theorem idx_at : ∀ t : Fin cfg0.N, win0_0.index t = ![0, 0] ∧ win0_1.index t = ![0] ∧ win0_2.index t = ![0] ∧ win0_3.index t = ![0] :=
  (by decide +kernel : ∀ t : Fin grid0.N, _)

/-- The staged operand is the device's chunk. -/
theorem blk_x (c : Dev nD) : Gen.iblk m c 0 Gen.t0_0 = chunkOf m c := by
  rw [show chunkOf m c = Gen.V m c main_arg0 from (Gen.V_main_arg0 m c).symm]
  blk_ext! [Gen.iblk, idx_at Gen.t0_0]

/-- The tables, as the host writes them. -/
theorem V_pos (c : Dev nD) : (Gen.V m c main_c : S32.Idx → Elt F .i32) = tabF posTab := by
  show StableHlo.after Gen.hostOps0 (fun b => m (c, b)) (Proc.devRef .tc main_c) = _
  rw [StableHlo.after_cons, StableHlo.after_cons, StableHlo.after_cons, StableHlo.after_nil,
    StableHlo.nullary_result_ne _ _ _ _ (by decide), StableHlo.nullary_result_ne _ _ _ _ (by decide), StableHlo.nullary_result]
  funext i
  refine ((by decide +kernel : ∀ j : Fin 32, lit0 j = w (posTab.getD j.val 0)) (S32.rowMajor i)).trans ?_
  rw [show (S32.rowMajor i).val = (i 0).val from Shape.rowMajor_val_one i]; rfl
@[inherit_doc V_pos] theorem V_ring (c : Dev nD) : (Gen.V m c main_c_0 : S32.Idx → Elt F .i32) = tabF ringTab := by
  show StableHlo.after Gen.hostOps0 (fun b => m (c, b)) (Proc.devRef .tc main_c_0) = _
  rw [StableHlo.after_cons, StableHlo.after_cons, StableHlo.after_cons, StableHlo.after_nil,
    StableHlo.nullary_result_ne _ _ _ _ (by decide), StableHlo.nullary_result]
  funext i
  refine ((by decide +kernel : ∀ j : Fin 32, lit1 j = w (ringTab.getD j.val 0)) (S32.rowMajor i)).trans ?_
  rw [show (S32.rowMajor i).val = (i 0).val from Shape.rowMajor_val_one i]; rfl
@[inherit_doc V_pos] theorem V_mate (c : Dev nD) : (Gen.V m c main_c_1 : S32.Idx → Elt F .i32) = tabF mateTab := by
  show StableHlo.after Gen.hostOps0 (fun b => m (c, b)) (Proc.devRef .tc main_c_1) = _
  rw [StableHlo.after_cons, StableHlo.after_cons, StableHlo.after_cons, StableHlo.after_nil, StableHlo.nullary_result]
  funext i
  refine ((by decide +kernel : ∀ j : Fin 32, lit2 j = w (mateTab.getD j.val 0)) (S32.rowMajor i)).trans ?_
  rw [show (S32.rowMajor i).val = (i 0).val from Shape.rowMajor_val_one i]; rfl

/-- The staged table of places. -/
theorem blk_pos (c : Dev nD) : Gen.iblk m c 1 Gen.t0_0 = tabF posTab := by
  rw [← V_pos m c]; blk_ext! [Gen.iblk, idx_at Gen.t0_0]
/-- The staged table of the ring. -/
theorem blk_ring (c : Dev nD) : Gen.iblk m c 2 Gen.t0_0 = tabF ringTab := by
  rw [← V_ring m c]; blk_ext! [Gen.iblk, idx_at Gen.t0_0]
/-- The staged table of partners. -/
theorem blk_mate (c : Dev nD) : Gen.iblk m c 3 Gen.t0_0 = tabF mateTab := by
  rw [← V_mate m c]; blk_ext! [Gen.iblk, idx_at Gen.t0_0]

/-! ## The proof data -/

/-- What a device holds of the protocol at the start of the body. -/
def Held : sProp 𝕄 :=
  iprop(bigSep Finset.univ (fun k => atPos ER ((c : Thread nD τ), osem k) 0 ∅ 0) ∗ bigSep Finset.univ (fun k => reached ER ((c : Thread nD τ), osem k) 0)
    ∗ (reached ER (barG (nbr false c)) 0 ∗ reached ER (barG (nbr true c)) 0 ∗ reached ER (barG (mate c)) 0)
    ∗ bigSep (toks c) (fun x => dutyTok ER x.1 x.2.1 x.2.2)
    ∗ (cred (tallyAt (barG c) 1 3) ∗ atPos ER (barG c) 0 ∅ 0)
    ∗ bigSep (Finset.range 52) (fun n => cred (tallyAt (rcvG c n) (2 + n) Nh)) ∗ bigSep (rel (mate c)) (fun _ => cred (tallyAt (rlrG c) 60 Nh)))
/-- What enters the region: the context and the device's holdings. -/
def Start : sProp 𝕄 := iprop(∃ KK, ctx X KK ∗ Held c)

/-- Before the body. -/
def Before : sProp 𝕄 := iprop((∃ r, prngReg c r) ∗ (∃ f, outP c Finset.univ fullShare f) ∗ Start X c)
/-- After it. -/
def After : sProp 𝕄 :=
  iprop((∃ r, prngReg c r) ∗ outP c Finset.univ fullShare (full X) ∗ bigSep Finset.univ (fun k => semVal ((c : Thread nD τ), osem k) 0) ∗ semVal (barG c) 0)

/-- The region's proof data. -/
def dat (c : Dev nD) : Dat τ (Elt F) ℕ ℕ UU ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
  Φ t := if t.val = 0 then Before (chunkOf m) c else After (chunkOf m) c
  q _ := fullShare
  owed t := if t.val = 0 then due0 c else 0

/-- Before the grid step: `Before`. -/
theorem dat_Φ0 (c : Dev nD) : (dat m c).Φ Gen.t0_0.castSucc = Before (chunkOf m) c := by
  show (if (Gen.t0_0.castSucc).val = 0 then Before (chunkOf m) c else After (chunkOf m) c) = _; exact if_pos rfl
/-- After the grid step: `After`. -/
theorem dat_Φ1 (c : Dev nD) : (dat m c).Φ Gen.t0_0.succ = After (chunkOf m) c := by
  show (if (Gen.t0_0.succ).val = 0 then Before (chunkOf m) c else After (chunkOf m) c) = _; exact if_neg (by decide)
/-- Before the grid step a device owes all its landings. -/
theorem dat_owed0 (c : Dev nD) : (dat m c).owed Gen.t0_0.castSucc = due0 c := by
  show (if (Gen.t0_0.castSucc).val = 0 then due0 c else 0) = _; exact if_pos rfl
/-- After the grid step a device owes nothing. -/
theorem dat_owed1 (c : Dev nD) : (dat m c).owed Gen.t0_0.succ = 0 := by
  show (if (Gen.t0_0.succ).val = 0 then due0 c else 0) = _; exact if_neg (by decide)

/-- An input's staging buffer holds its block. -/
theorem before_0 (c : Dev nD) (t : Fin cfg0.N) (d) : (dat m c).before 0 t d = Gen.iblk m c 0 t :=
  ((dat m c).before_in_eq_fetched 0 rfl (fun _ => rfl) (fun _ _ _ => rfl) (fun _ => rfl) t d).trans rfl
@[inherit_doc before_0] theorem before_1 (c : Dev nD) (t : Fin cfg0.N) (d) : (dat m c).before 1 t d = Gen.iblk m c 1 t :=
  ((dat m c).before_in_eq_fetched 1 rfl (fun _ => rfl) (fun _ _ _ => rfl) (fun _ => rfl) t d).trans rfl
@[inherit_doc before_0] theorem before_2 (c : Dev nD) (t : Fin cfg0.N) (d) : (dat m c).before 2 t d = Gen.iblk m c 2 t :=
  ((dat m c).before_in_eq_fetched 2 rfl (fun _ => rfl) (fun _ _ _ => rfl) (fun _ => rfl) t d).trans rfl
@[inherit_doc before_0] theorem before_3 (c : Dev nD) (t : Fin cfg0.N) (d) : (dat m c).before 3 t d = Gen.iblk m c 3 t :=
  ((dat m c).before_in_eq_fetched 3 rfl (fun _ => rfl) (fun _ _ _ => rfl) (fun _ => rfl) t d).trans rfl

/-- What a device owes, in the form that the grid step has it. -/
theorem owesAt_in (c : Dev nD) (t : Fin (cfg0.N + 1)) (O : CellTallies nD τ sig ℕ) (h : (dat m c).owed t = O) :
    iprop(∃ W, owes (c : Thread nD τ) O W) ⊢ ((dat m c).owesAt 0 t : sProp 𝕄) := by
  unfold Dat.owesAt Pipeline.owesWithin Dat.bound; rw [h, show (dat m c).recorded t = Set.univ from rfl]
  iintro ⟨%W, HO⟩; iexists W; isplitr; · ipureintro; exact fun _ _ => Or.inl trivial
  iexact HO
/-- What a device owes, out of the form that the grid step has it in. -/
theorem owesAt_out (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin; rw [h]
  iintro ⟨%W, -, HO⟩; iexists W; iexact HO

/-- The four staging buffers, as the body is handed them and as it leaves them. -/
theorem stages_in (c : Dev nD) :
    (bigSep Finset.univ fun w : Fin cfg0.W => iprop(∃ d, owns (c : Thread nD τ) ((cfg0.win w).stage (cfg0.slots Gen.t0_0 w)) fullShare ((dat m c).before w Gen.t0_0 d)))
      ⊢ (iprop(stgP c Finset.univ fullShare (chunkOf m c) ∗ posP c ∗ tabP c ∗ mateP c) : sProp 𝕄) := by
  rw [Gen.bigSep_W0]
  iintro ⟨⟨%d0, H0⟩, ⟨%d1, H1⟩, ⟨%d2, H2⟩, ⟨%d3, H3⟩⟩
  rw [before_0, before_1, before_2, before_3, blk_x, blk_pos, blk_ring, blk_mate]
  isplitl [H0]; · iapply (Entails.of_eq (owns_whole c cc0_stg0_0 fullShare _)) $$ H0
  isplitl [H1]; · iapply (Entails.of_eq (owns_whole c cc0_stg1_0 fullShare _)) $$ H1
  isplitl [H2]; · iapply (Entails.of_eq (owns_whole c cc0_stg2_0 fullShare _)) $$ H2
  iapply (Entails.of_eq (owns_whole c cc0_stg3_0 fullShare _)) $$ H3
@[inherit_doc stages_in] theorem stages_out (c : Dev nD) :
    (iprop(stgP c Finset.univ fullShare (chunkOf m c) ∗ posP c ∗ tabP c ∗ mateP c) : sProp 𝕄)
      ⊢ (bigSep Finset.univ fun w : Fin cfg0.W => owns (c : Thread nD τ) ((cfg0.win w).stage (cfg0.slots Gen.t0_0 w)) fullShare ((dat m c).after w Gen.t0_0)) := by
  rw [Gen.bigSep_W0]
  iintro ⟨H0, H1, H2, H3⟩
  isplitl [H0]
  · rw [show (dat m c).after 0 Gen.t0_0 = chunkOf m c from blk_x m c]; iapply (Entails.of_eq (owns_whole c cc0_stg0_0 fullShare _).symm) $$ H0
  isplitl [H1]
  · rw [show (dat m c).after 1 Gen.t0_0 = tabF posTab from blk_pos m c]; iapply (Entails.of_eq (owns_whole c cc0_stg1_0 fullShare _).symm) $$ H1
  isplitl [H2]
  · rw [show (dat m c).after 2 Gen.t0_0 = tabF ringTab from blk_ring m c]; iapply (Entails.of_eq (owns_whole c cc0_stg2_0 fullShare _).symm) $$ H2
  rw [show (dat m c).after 3 Gen.t0_0 = tabF mateTab from blk_mate m c]; iapply (Entails.of_eq (owns_whole c cc0_stg3_0 fullShare _).symm) $$ H3

/-- The kernel's body meets the region's proof data. -/
theorem body (c : Dev nD) : BodyObligation (dat m c) defs₀ 𝒱₀ 0 Set.univ := fun t => by
  obtain rfl := Gen.fin_N0 t
  rw [dat_Φ0, dat_Φ1]
  iintro ⟨HΦ, HO, HW⟩
  ihave HW := (stages_in m c) $$ HW
  ihave HO := (owesAt_out m c _ _ (dat_owed0 m c)) $$ HO
  unfold Before Start Held
  icases HΦ with ⟨Hp, ⟨%f, Hf⟩, %KK, #Hctx, Hat, Hre, Hrs, Hto, Hb, Hc1, Hc2⟩
  icases HW with ⟨H0, H1, H2, H3⟩
  iapply (wp_core (chunkOf m) KK c f _) $$ [Hctx] [H0 H1 H2 H3 HO Hf Hat Hre Hrs Hto Hb Hc1 Hc2]
  · iexact Hctx
  · unfold CoreIn
    isplitl [H1 H2 H3]
    · isplitl [H1]; · iexact H1
      isplitl [H2]; · iexact H2
      iexact H3
    isplitl [H0]; · iexact H0
    isplitl [Hf]; · iexact Hf
    isplitl [Hat]; · iexact Hat
    isplitl [Hre]; · iexact Hre
    isplitl [Hrs]; · iexact Hrs
    isplitl [Hto]; · iexact Hto
    isplitl [Hb]; · iexact Hb
    isplitl [Hc1]; · iexact Hc1
    isplitl [Hc2]; · iexact Hc2
    iexact HO
  unfold CoreOut
  iintro ⟨⟨H1, H2, H3⟩, H0, Hf, Hb, Hs, HO⟩
  unfold After
  isplitl [Hp Hf Hs Hb]
  · isplitl [Hp]; · iexact Hp
    isplitl [Hf]; · iexact Hf
    isplitl [Hs]; · iexact Hs
    iexact Hb
  isplitl [HO]
  · iapply (owesAt_in m c _ _ (dat_owed1 m c)); iexact HO
  iapply (stages_out m c)
  isplitl [H0]; · iexact H0
  isplitl [H1]; · iexact H1
  isplitl [H2]; · iexact H2
  iexact H3

end Cert.KernelIdeal.Ring
-- ==== Proof.Region.lean ====
/-
  The region as a segment of the program.
-/
module

public import proofs.«01_k».proof.Proof.Site
public import Idealize.ShloMosaic.Lib.Pipeline.ValueKit
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (m : (ℓ : Loc nD τ sig) → Buf (Elt F) ℓ)

/-- The program's pipelines, admitted, and their proof data. -/
abbrev adm : (p : Fin 1) → ((pcfgs (F := F)) p).Adm := fun p => (cfgs p).toPCfg_adm
@[inherit_doc adm] def pdats : (p : Fin 1) → (c : Dev nD) → Dat τ (Elt F) ℕ ℕ UU ℕ (Pipeline.pin (pcfgs (F := F)) adm p) c := fun _ => dat m

/-- The buffers before and after the region. -/
abbrev W0 (c : Dev nD) : Valuation τ sig (Elt F) := StableHlo.after Gen.hostOps0 (fun b => m (c, b))
@[inherit_doc W0] abbrev W1 (c : Dev nD) : Valuation τ sig (Elt F) := Function.update (W0 m c) (Proc.devRef .tc main_v1) (full (chunkOf m))

/-- The one buffer that the kernel addresses itself. -/
abbrev outS : Finset (DevRef τ sig) := {Proc.devRef .tc main_v1}

/-- What the launch keeps for the region on a device. -/
def Tk (X : Dev nD → S1024x512.Idx → Elt F .f32) (c : Dev nD) : sProp 𝕄 :=
  iprop((∃ KK, fam.cellInvs ER (sched X) KK) ∗ bigSep Finset.univ (fun k => openTok ER ((c : Thread nD τ), osem k))
    ∗ (reached ER (barG (nbr false c)) 0 ∗ reached ER (barG (nbr true c)) 0 ∗ reached ER (barG (mate c)) 0)
    ∗ bigSep (toks c) (fun x => dutyTok ER x.1 x.2.1 x.2.2)
    ∗ (cred (tallyAt (barG c) 1 3) ∗ atPos ER (barG c) 0 ∅ 0)
    ∗ bigSep (Finset.range 52) (fun n => cred (tallyAt (rcvG c n) (2 + n) Nh)) ∗ bigSep (rel (mate c)) (fun _ => cred (tallyAt (rlrG c) 60 Nh)))
/-- What the region leaves of it. -/
def Yk (c : Dev nD) : sProp 𝕄 := semVal (barG c) 0

/-- The invariants and the levels are the context. -/
theorem ctx_intro (X : Dev nD → S1024x512.Idx → Elt F .f32) :
    iprop((∃ KK, fam.cellInvs ER (sched X) KK) ∗ levAts (SiteBlocks.L 64) SiteBlocks.lv) ⊢ (iprop(∃ KK, ctx X KK) : sProp 𝕄) := by
  unfold ctx
  iintro ⟨⟨%KK, HI⟩, HL⟩
  iexists KK
  isplitl [HI] <;> iassumption

/-- The own cells opened, whatever else is held. -/
theorem open_with (X : Dev nD → S1024x512.Idx → Elt F .f32) (c : Dev nD) (R : sProp 𝕄) :
    iprop((∃ KK, ctx X KK) ∗ bigSep Finset.univ (fun k => openTok ER ((c : Thread nD τ), osem k))
        ∗ bigSep Finset.univ (fun k => semVal ((c : Thread nD τ), osem k) 0) ∗ R)
      ⊢ (|={Set.univ}=> iprop(∃ KK, ctx X KK ∗ bigSep Finset.univ (fun k => atPos ER ((c : Thread nD τ), osem k) 0 ∅ 0)
        ∗ bigSep Finset.univ (fun k => reached ER ((c : Thread nD τ), osem k) 0) ∗ R) : sProp 𝕄) := by
  iintro ⟨⟨%KK, #Hc⟩, Ho, Hv, HR⟩
  imod (opens X KK c) $$ [Hc] [Ho Hv] with ⟨Hat, Hre⟩
  · iexact Hc
  · isplitl [Ho]; · iexact Ho
    iexact Hv
  imodintro
  iexists KK
  isplitr; · iexact Hc
  isplitl [Hat]; · iexact Hat
  isplitl [Hre]; · iexact Hre
  iexact HR

/-- The launch's pieces made into a context, the rest carried along. -/
theorem carry (I O V Lv R Cx : sProp 𝕄) (h : iprop(I ∗ Lv) ⊢ Cx) : iprop((I ∗ O ∗ R) ∗ V ∗ Lv) ⊢ iprop(Cx ∗ O ∗ V ∗ R) := by
  iintro ⟨⟨HI, HO, HR⟩, HV, HL⟩
  isplitl [HI HL]
  · iapply h; isplitl [HI] <;> iassumption
  isplitl [HO]; · iexact HO
  isplitl [HV]; · iexact HV
  iexact HR

/-- From what a device gets at the launch and its own semaphores at zero, what the body starts from. -/
theorem hopen (X : Dev nD → S1024x512.Idx → Elt F .f32) (c : Dev nD) :
    iprop(Tk X c ∗ Pipeline.ownSems0 osem c ∗ levAts (SiteBlocks.L 64) SiteBlocks.lv) ⊢ (|={Set.univ}=> Start X c : sProp 𝕄) := by
  unfold Tk Pipeline.ownSems0 Start Held
  exact (carry _ _ _ _ _ _ (ctx_intro X)).trans (open_with X c _)

/-- Before the only grid step the region holds `Before`. -/
theorem pdats_Φ0 (c : Dev nD) : (pdats m 0 c).Φ 0 = Before (chunkOf m) c := dat_Φ0 m c
/-- After the only grid step the region holds `After`. -/
theorem pdats_Φ1 (c : Dev nD) : (pdats m 0 c).Φ (Fin.last (Pipeline.pin (pcfgs (F := F)) adm 0).N) = After (chunkOf m) c := dat_Φ1 m c
/-- Before the only grid step a device owes all its landings. -/
theorem pdats_owed0 (c : Dev nD) : (pdats m 0 c).owed 0 = due0 c := dat_owed0 m c
/-- After the only grid step a device owes nothing. -/
theorem pdats_owed1 (c : Dev nD) : (pdats m 0 c).owed (Fin.last (Pipeline.pin (pcfgs (F := F)) adm 0).N) = 0 := dat_owed1 m c

/-- Holding the arrays that the region leaves alone is holding the result's buffer. -/
theorem held_out (c : Dev nD) (W : Valuation τ sig (Elt F)) :
    (StableHlo.held (c.tc : Thread nD τ) outS W : sProp 𝕄) = outP c Finset.univ fullShare (W (Proc.devRef .tc main_v1)) := by
  unfold StableHlo.held; rw [bigSep_singleton]

/-- What the region is entered with gives what the body needs. -/
theorem hin (c : Dev nD) : iprop(Pipeline.scopedRest (Pipeline.pin (pcfgs (F := F)) adm 0).spec c ∗ (∃ r, prngReg c r)
      ∗ StableHlo.held (c.tc : Thread nD τ) outS (W0 m c) ∗ Start (chunkOf m) c) ⊢ (pdats m 0 c).Φ 0 := by
  rw [pdats_Φ0, held_out]
  unfold Before
  iintro ⟨-, Hp, Hf, HS⟩
  isplitl [Hp]; · iexact Hp
  isplitl [Hf]; · iexists _; iexact Hf
  iexact HS

/-- What the body ends with gives what the region is left with. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) outS (W1 m c) ∗ Pipeline.ownSems0 osem c ∗ Yk c) := by
  rw [pdats_Φ1, held_out c (W1 m c), show (Pipeline.scopedRest (Pipeline.pin (pcfgs (F := F)) adm 0).spec c : sProp 𝕄) = BI.emp from Gen.scopedRest0_eq c,
    show W1 m c (Proc.devRef .tc main_v1) = full (chunkOf m) from Function.update_self ..]
  unfold After Pipeline.ownSems0 Yk
  iintro ⟨Hp, Hf, Hs, Hb⟩
  isplitr; · iempintro
  isplitl [Hp]; · iexact Hp
  isplitl [Hf]; · iexact Hf
  isplitl [Hs]; · iexact Hs
  iexact Hb

/-- Whatever is owed at the start sits above the staging waits. -/
theorem due0_pos {c : Dev nD} {g : GSem nD τ sig} {i : ℕ} (h : 0 < due0 c g i) : g.1.2 = .tc ∧ 0 < i ∧ i < 64 := by
  unfold due0 at h
  rw [Pi.add_apply, Finsupp.add_apply, Pi.add_apply, Finsupp.add_apply, Pi.add_apply, Finsupp.add_apply] at h
  have key {a b d e : ℕ} (h : 0 < a + b + d + e) : 0 < a ∨ 0 < b ∨ 0 < d ∨ 0 < e := by omega
  rcases key h with h | h | h | h
  · have := due_pos h; exact ⟨this.1, by omega, by omega⟩
  all_goals
    obtain ⟨rfl, rfl⟩ := Pipeline.tallyAt_pos h
    exact ⟨rfl, by decide, by decide⟩

/-- The kernel's own semaphores are scoped and different, and they are all there are. -/
theorem own_facts : Pipeline.OwnSemFacts spec0 osem where
  isScoped := by decide +kernel
  inj := osem_inj
  disj := by decide +kernel

/-- The levels of what is owed lie below the cut. -/
theorem cut : Pipeline.LevelCutOwed (pcfgs (F := F)) adm (pdats m) 0 (SiteBlocks.L 64) SiteBlocks.lv 0 (fun _ => 0) where
  hι c _ _ := SiteBlocks.mem_L c _ (by decide)
  hιb _ _ _ := le_refl _
  hD c t g i h := by
    have e : (pdats m 0 c).owed t = if t.val = 0 then due0 c else 0 := rfl
    rw [e] at h
    split at h
    · have := due0_pos h
      exact ⟨SiteBlocks.mem_L' this.1 this.2.2, this.2.1⟩
    · exact absurd h (Nat.lt_irrefl 0)

/-- The result's buffer is none of the staged arrays. -/
theorem arr_ne : ∀ w : Fin cfg0.W, (Proc.devRef .tc (Pipeline.arrRef spec0 w) : DevRef τ sig) ≠ Proc.devRef .tc main_v1 := by decide
/-- Every staged array is an operand. -/
theorem arr_in : ∀ w : Fin cfg0.W, (cfg0.win w).isOut = false := by decide

/-- The staged arrays hold before the region what they hold at its steps. -/
theorem hW (c : Dev nD) (w : Fin cfg0.W) (t : ℕ) : (dat m c).arrAt w t = W0 m c (Proc.devRef .tc (Pipeline.arrRef spec0 w)) := (dat m c).arrAt_in w (arr_in w) t
/-- The staged arrays hold after the region what they hold at its steps. -/
theorem hW' (c : Dev nD) (w : Fin cfg0.W) (t : ℕ) : (dat m c).arrAt w t = W1 m c (Proc.devRef .tc (Pipeline.arrRef spec0 w)) :=
  (hW m c w t).trans (Function.update_of_ne (arr_ne w) _ _).symm

set_option backward.isDefEq.respectTransparency.types false in
/-- The kernel's region. -/
def reg0 : Pipeline.RegionSeg (pcfgs (F := F)) adm (pdats m) 0 defs₀ 𝒱₀ (SiteBlocks.L 64) SiteBlocks.lv 0 :=
  Pipeline.RegionSeg.ofTalk (pcfgs (F := F)) adm (pdats m) 0 defs₀ 𝒱₀ (SiteBlocks.L 64) SiteBlocks.lv 0 osem own_facts
    outS outS (Finset.Subset.refl _) Gen.launch0.toP rfl (fun c => (body m c).loose)
    (fun _ => 0) due0 (fun c => (pdats_owed0 m c).trans (zero_add _).symm) (pdats_owed1 m) (fun _ => rfl) (fun _ _ => ite_self _)
    (W0 m) (W1 m) (fun _ b hb => absurd hb (by rw [Finset.sdiff_self]; exact Finset.notMem_empty b))
    (Tk (chunkOf m)) Yk (Start (chunkOf m)) Yk (hopen (chunkOf m)) (hin m) (hout m)
    (fun c => by iintro H; imodintro; iexact H)
    (fun _ => 0) (cut m) (fun _ => iprop(emp)) (fun c w => hW m c w 0) (fun c w => hW' m c w _)

end Cert.KernelIdeal.Ring
-- ==== Proof.Run.lean ====
/-
  The launch: the credits and the ghost state dealt, and the run of the program.
-/
module

public import proofs.«01_k».proof.Proof.Region
public import Idealize.ShloMosaic.Lib.Pipeline.ValueKit
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

attribute [local instance] Gen.facts
attribute [local irreducible] mate nbr

variable {F : FTy → Type} [FloatOps F]

local notation "𝕄" => MT nD τ sig ℕ (Elt F) ℕ UU ℕ

variable (m : (ℓ : Loc nD τ sig) → Buf (Elt F) ℓ) (ρ : Dev nD → PrngReg)

/-! ## The launch credit -/

/-- The launch credit of a device is that of the copies it receives and of three units at its barrier. -/
theorem creds (c : Dev nD) : (Pipeline.launchCred due0 c : sProp 𝕄) ⊢ iprop(cred (tallyAt (barG c) 1 3)
    ∗ bigSep (Finset.range 52) (fun n => cred (tallyAt (rcvG c n) (2 + n) Nh)) ∗ bigSep (rel (mate c)) (fun _ => cred (tallyAt (rlrG c) 60 Nh))) := by
  have hS : (Pipeline.launchCred (fun d => owedS d 0) c : sProp 𝕄) ⊢ bigSep (Finset.range 52) (fun n => cred (tallyAt (rcvG c n) (2 + n) Nh)) := by
    unfold owedS
    rw [← Finset.range_eq_Ico, Pipeline.launchCred_sum (Finset.range 52) (fun n d => tallyAt (rcvG (peer d n) n) (2 + n) Nh) c]
    exact bigSep_mono fun n _ => Pipeline.launchCred_tallyAt (.dma (rcell n)) (fun d => peer d n) (fun d => nbr (!dr n) d)
      (fun d => by rw [peer_eq]; exact nbr_nbr' (dr n) d) (fun d => nbr_peer d n) _ _ c
  have hR : (Pipeline.launchCred (fun d => owedR d 0) c : sProp 𝕄) ⊢ bigSep (rel (mate c)) (fun _ => cred (tallyAt (rlrG c) 60 Nh)) := by
    have e (d : Dev nD) : owedR d 0 = ∑ _k ∈ Finset.range 10, tallyAt (rlrG (mate d)) 60 Nh := by
      unfold owedR
      rw [Finset.filter_true_of_mem (fun _ _ => Nat.zero_le _), Finset.sum_const, Finset.sum_const, rel_card, Finset.card_range]
    have e' : (bigSep (rel (mate c)) (fun _ => cred (tallyAt (rlrG c) 60 Nh)) : sProp 𝕄) = bigSep (Finset.range 10) (fun _ => cred (tallyAt (rlrG c) 60 Nh)) := by
      rw [← Pipeline.cred_finsetSum, ← Pipeline.cred_finsetSum, Finset.sum_const, Finset.sum_const, rel_card, Finset.card_range]
    rw [e', show (fun d => owedR d 0) = fun d => ∑ _k ∈ Finset.range 10, tallyAt (rlrG (mate d)) 60 Nh from funext e,
      Pipeline.launchCred_sum (Finset.range 10) (fun _ d => tallyAt (rlrG (mate d)) 60 Nh) c]
    exact bigSep_mono fun n _ => Pipeline.launchCred_tallyAt (.dma relR) mate mate mate_mate mate_mate _ _ c
  have h1 : (Pipeline.launchCred (fun d => tallyAt (barG (mate d)) 1 1) c : sProp 𝕄) ⊢ cred (tallyAt (barG c) 1 1) :=
    Pipeline.launchCred_tallyAt (.reg barS) mate mate mate_mate mate_mate _ _ c
  have h2 : (Pipeline.launchCred (fun d => tallyAt (barG (nbr true d)) 1 1) c : sProp 𝕄) ⊢ cred (tallyAt (barG c) 1 1) :=
    Pipeline.launchCred_tallyAt (.reg barS) (nbr true) (nbr false) (nbr_nbr false) (nbr_nbr true) _ _ c
  have h3 : (Pipeline.launchCred (fun d => tallyAt (barG (nbr false d)) 1 1) c : sProp 𝕄) ⊢ cred (tallyAt (barG c) 1 1) :=
    Pipeline.launchCred_tallyAt (.reg barS) (nbr false) (nbr true) (nbr_nbr true) (nbr_nbr false) _ _ c
  have hb : iprop(cred (tallyAt (barG c) 1 1) ∗ cred (tallyAt (barG c) 1 1) ∗ cred (tallyAt (barG c) 1 1)) ⊢ (cred (tallyAt (barG c) 1 3) : sProp 𝕄) := by
    rw [show (tallyAt (barG c) 1 3 : CellTallies nD τ sig ℕ) = tallyAt (barG c) 1 1 + (tallyAt (barG c) 1 1 + tallyAt (barG c) 1 1) from by
      rw [tallyAt_add, tallyAt_add]]
    exact (BI.sep_mono (BI.Entails.refl _) (cred_add _ _).2).trans (cred_add _ _).2
  unfold due0 due
  rw [Pipeline.launchCred_add (fun d => owedS d 0 + owedR d 0 + tallyAt (barG (mate d)) 1 1 + tallyAt (barG (nbr true d)) 1 1) (fun d => tallyAt (barG (nbr false d)) 1 1),
    Pipeline.launchCred_add (fun d => owedS d 0 + owedR d 0 + tallyAt (barG (mate d)) 1 1) (fun d => tallyAt (barG (nbr true d)) 1 1),
    Pipeline.launchCred_add (fun d => owedS d 0 + owedR d 0) (fun d => tallyAt (barG (mate d)) 1 1),
    Pipeline.launchCred_add (fun d => owedS d 0) (fun d => owedR d 0)]
  iintro ⟨⟨⟨⟨HS, HR⟩, H1⟩, H2⟩, H3⟩
  isplitl [H1 H2 H3]
  · iapply hb
    isplitl [H1]; · iapply h1; iexact H1
    isplitl [H2]; · iapply h2; iexact H2
    iapply h3; iexact H3
  isplitl [HS]; · iapply hS; iexact HS
  iapply hR; iexact HR

/-! ## The launch -/

variable (X : Dev nD → S1024x512.Idx → Elt F .f32)

/-- What the family's funding and the launch credit make on a device is what the launch keeps for the region. -/
theorem deal (c : Dev nD) : iprop(fam.launched ER (sched X) (fun _ => Finset.univ) c ∗ Pipeline.launchCred due0 c) ⊢ (Tk X c : sProp 𝕄) := by
  have hr (d : Dev nD) : (bigSep Finset.univ fun n : Dev nD => reached ER ((n.tc : Thread nD τ), fam.bar) 0 : sProp 𝕄) ⊢ reached ER (barG d) 0 :=
    bigSep_elim (Finset.mem_univ d)
  have hd : (bigSep (fam.dorm 0) fun sm => openTok ER ((c.tc : Thread nD τ), sm) : sProp 𝕄) ⊢ bigSep Finset.univ (fun k => openTok ER ((c : Thread nD τ), osem k)) :=
    Entails.of_eq (bigSep_map (s := Finset.univ) ⟨osem, osem_inj⟩ (Φ := fun sm => (openTok ER ((c.tc : Thread nD τ), sm) : sProp 𝕄)))
  unfold TalkSites.Fam.launched TalkSites.Fam.barPos TalkSites.Fam.rides Tk
  rw [show (Finset.univ : Finset (Fin 1)) = {0} from rfl, bigSep_singleton]
  iintro ⟨⟨⟨HI, Hat, #Hr⟩, -, Ho, Ht⟩, Hc⟩
  ihave Hc := (creds c) $$ Hc
  icases Hc with ⟨Hb, Hc1, Hc2⟩
  isplitl [HI]; · iexact HI
  isplitl [Ho]; · iapply hd; iexact Ho
  isplitr
  · isplitr; · iapply (hr (nbr false c)); iexact Hr
    isplitr; · iapply (hr (nbr true c)); iexact Hr
    iapply (hr (mate c)); iexact Hr
  isplitl [Ht]; · iexact Ht
  isplitl [Hb Hat]
  · isplitl [Hb]; · iexact Hb
    iexact Hat
  isplitl [Hc1]; · iexact Hc1
  iexact Hc2

/-- The launch element, and a resource kept whole on device 0 until the global step. -/
def u₀ : UU :=
  (initOf (Pipeline.cells (Pipeline.pin (pcfgs (F := F)) adm) Gen.cellOf_inj) (Pipeline.launchToks (Pipeline.pin (pcfgs (F := F)) adm) Gen.cellOf_inj),
    launchOf fam.S fam.Sd fam.T)
@[inherit_doc u₀] def onZero (P : sProp 𝕄) (c : Dev nD) : sProp 𝕄 := if c = 0 then P else iprop(emp)
/-- Something given only to the first index is that thing. -/
theorem bigSep_onZero (P : sProp 𝕄) : bigSep Finset.univ (onZero P) = P := by
  rw [bigSep_univ_at _ 0, bigSep_congr (s := Finset.univ.erase 0) (Ψ := fun _ => (BI.emp : sProp 𝕄))
    fun c hc => by unfold onZero; rw [if_neg (Finset.ne_of_mem_erase hc)]; rfl, BI.bigSep_emp_const]
  unfold onZero; rw [if_pos rfl]
  exact BI.equiv_iff.mp sep_emp
@[inherit_doc u₀] def G : Dev nD → sProp 𝕄 := onZero (BI.own (ER (launchOf fam.S fam.Sd fam.T)))

/-- The only semaphore that is not scoped is the barrier's. -/
theorem unscopedSems_eq (c : Dev nD) : (unscopedSems0 c : sProp 𝕄) = semVal (barG c) 0 := by
  unfold unscopedSems0
  rw [show (Finset.univ.filter fun sm : SemLoc sig => ¬ sm.isScoped .tc) = {SemLoc.reg barS} from by decide +kernel, bigSep_singleton]

/-- What rides beside the buffers up to the region. -/
def Rd (c : Dev nD) : sProp 𝕄 := iprop((∃ r, prngReg c r) ∗ Tk X c ∗ ∃ W, owes (c : Thread nD τ) (due0 c) W)
/-- The buffers at launch. -/
abbrev V0 (c : Dev nD) : Valuation τ sig (Elt F) := fun b => m (c, b)
/-- What a device starts from. -/
abbrev T₀ (c : Dev nD) : sProp 𝕄 := iprop(StableHlo.held (c : Thread nD τ) (Pipeline.ucRefs τ sig) (V0 m c) ∗ Rd (chunkOf m) c)
/-- What of a device's launch holdings is not the protocol's. -/
def bundle (c : Dev nD) : sProp 𝕄 :=
  iprop(StableHlo.held (c : Thread nD τ) (Pipeline.ucRefs τ sig) (V0 m c) ∗ (∃ r, prngReg c r) ∗ Pipeline.launchCred due0 c ∗ ∃ W, owes (c : Thread nD τ) (due0 c) W)

/-- What one device has at the start, put in order. -/
theorem init_core (c : Dev nD) :
    iprop(unscopedBufs c (fun b => m ((c : Thread nD τ).loc b)) ∗ unscopedSems0 c ∗ owes (c : Thread nD τ) (due0 c) ∅ ∗ Pipeline.launchCred due0 c ∗ prngReg c (ρ c) ∗ G c)
      ⊢ (iprop(bundle m c ∗ (semVal (barG c) 0 ∗ Pipeline.launchCred (fun _ => 0) c) ∗ G c) : sProp 𝕄) := by
  rw [show unscopedBufs c (fun b => m ((c : Thread nD τ).loc b)) = StableHlo.held (c : Thread nD τ) (Pipeline.ucRefs τ sig) (V0 m c) from Pipeline.unscopedBufs_held c (V0 m c),
    unscopedSems_eq, Pipeline.launchCred_zero]
  unfold bundle
  iintro ⟨Hh, Hs, HO, Hc, Hp, HG⟩
  isplitl [Hh HO Hc Hp]
  · isplitl [Hh]; · iexact Hh
    isplitl [Hp]; · iexists _; iexact Hp
    isplitl [Hc]; · iexact Hc
    iexists _; iexact HO
  isplitl [Hs]
  · isplitl [Hs]; · iexact Hs
    iempintro
  iexact HG
/-- The family's share and the bundle of a device are what the run starts from. -/
theorem init_fin (c : Dev nD) : iprop(fam.launched ER (sched (chunkOf m)) (fun _ => Finset.univ) c ∗ bundle m c) ⊢ (T₀ m c : sProp 𝕄) := by
  unfold bundle T₀ Rd
  iintro ⟨Hl, Hh, Hp, Hc, HO⟩
  isplitl [Hh]; · iexact Hh
  isplitl [Hp]; · iexact Hp
  isplitl [Hl Hc]
  · iapply (deal (chunkOf m) c)
    isplitl [Hl] <;> iassumption
  iexact HO

/-- Every duty of the schedule has units. -/
theorem not_unitless : ∀ g ∈ fam.Sd, ¬(sched X : Schedule (GSem nD τ sig) ℕ 𝕄).unitless g := fun _ _ h => h

/-- The launch step. -/
theorem init :
    iprop((bigSep Finset.univ fun c : Dev nD => iprop(unscopedBufs c (fun b => m ((c : Thread nD τ).loc b)) ∗ unscopedSems0 c
          ∗ owes (c : Thread nD τ) (due0 c) ∅ ∗ Pipeline.launchCred due0 c ∗ prngReg c (ρ c) ∗ G c)) ∗ levAts (SiteBlocks.L 64) SiteBlocks.lv)
      ⊢ (|={Set.univ}=> bigSep Finset.univ (T₀ m) : sProp 𝕄) := by
  have hF := fam.funds ER (sched (chunkOf m)) (not_unitless (chunkOf m)) (fun _ => Finset.univ) (Es := Set.univ)
  unfold SiteBlocks.Funds at hF
  iintro ⟨H, -⟩
  ihave H := (show (bigSep Finset.univ fun c : Dev nD => iprop(unscopedBufs c (fun b => m ((c : Thread nD τ).loc b)) ∗ unscopedSems0 c
          ∗ owes (c : Thread nD τ) (due0 c) ∅ ∗ Pipeline.launchCred due0 c ∗ prngReg c (ρ c) ∗ G c))
      ⊢ (bigSep Finset.univ fun c : Dev nD => iprop(bundle m c ∗ (semVal (barG c) 0 ∗ Pipeline.launchCred (fun _ => 0) c) ∗ G c) : sProp 𝕄)
    from bigSep_mono fun c _ => init_core m ρ c) $$ H
  ihave H := (Entails.of_eq (bigSep_sep' _ _ _)) $$ H; icases H with ⟨HB, H⟩
  ihave H := (Entails.of_eq (bigSep_sep' _ _ _)) $$ H; icases H with ⟨Hv, HG⟩
  ihave HG := (show bigSep Finset.univ (G (F := F)) ⊢ BI.own (ER (launchOf fam.S fam.Sd fam.T)) from Entails.of_eq (bigSep_onZero _)) $$ HG
  imod hF $$ [Hv HG] with Hl
  · isplitl [Hv]; · iexact Hv
    iexact HG
  imodintro
  iapply (show iprop(bigSep Finset.univ (fam.launched ER (sched (chunkOf m)) (fun _ => Finset.univ)) ∗ bigSep Finset.univ (bundle m)) ⊢ bigSep Finset.univ (T₀ m) from by
    rw [← bigSep_sep']; exact bigSep_mono fun c _ => init_fin m c)
  isplitl [Hl]; · iexact Hl
  iexact HB

/-! ## The segments -/

/-- The host's part: the three tables. -/
def seg0 : Pipeline.HostSeg (Name := ℕ) (U := UU) (pcfgs (F := F)) defs₀ 𝒱₀ (SiteBlocks.L 64) SiteBlocks.lv :=
  Pipeline.HostSeg.ofOps _ _ _ _ _ (Pipeline.ucRefs τ sig) Gen.hostOps0
    (fun op h => Pipeline.sub_ucRefs op (List.forall_iff_forall_mem.1 Gen.hostOps0_sub op h)) (fun op h => List.forall_iff_forall_mem.1 Gen.hostOps0_fresh op h) (V0 m) (Rd (chunkOf m))

/-- The unscoped buffers that are not staged. -/
theorem rest_eq : Pipeline.ucRefs τ sig \ Pipeline.arrRefs (τ := τ) spec0 = outS := by decide +kernel
/-- Holding the unscoped buffers is holding the staged ones and the rest. -/
theorem held_eq (c : Dev nD) (W : Valuation τ sig (Elt F)) :
    (StableHlo.held (c : Thread nD τ) (Pipeline.ucRefs τ sig) W : sProp 𝕄)
      = iprop(StableHlo.held (c.tc : Thread nD τ) (Pipeline.arrRefs (τ := τ) spec0) W ∗ StableHlo.held (c.tc : Thread nD τ) outS W) := by
  rw [StableHlo.held_sub_split (c : Thread nD τ) (Pipeline.arrRefs_sub_ucRefs (τ := τ) spec0 (by decide)) W, rest_eq]

/-- What the host's part ends with is what the region starts from. -/
theorem reg0_pre (c : Dev nD) : (seg0 m).post c ⊢ (reg0 m).pre c := by
  show iprop(StableHlo.held (c : Thread nD τ) (Pipeline.ucRefs τ sig) (W0 m c) ∗ Rd (chunkOf m) c)
    ⊢ iprop(StableHlo.held (c.tc : Thread nD τ) (Pipeline.arrRefs (τ := τ) spec0) (W0 m c) ∗ (∃ r, prngReg c r)
      ∗ (StableHlo.held (c.tc : Thread nD τ) outS (W0 m c) ∗ emp) ∗ Tk (chunkOf m) c ∗ ∃ Wd, owes (c : Thread nD τ) (0 + due0 c) Wd)
  rw [held_eq, zero_add]
  unfold Rd
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

/-- What a device ends with. -/
abbrev Tₙ (c : Dev nD) : sProp 𝕄 :=
  iprop((((c : Thread nD τ).loc main_arg0) ↦{fullShare} m ((c : Thread nD τ).loc main_arg0)) ∗ outP c Finset.univ fullShare (full (chunkOf m)) ∗ semVal (barG c) 0)

/-- The argument is one of the staged arrays. -/
theorem arg_mem : (Proc.devRef .tc main_arg0 : DevRef τ sig) ∈ Pipeline.arrRefs (τ := τ) spec0 := by decide
/-- From the staged arrays, the argument's buffer, unchanged. -/
theorem held_arg (c : Dev nD) : (StableHlo.held (c.tc : Thread nD τ) (Pipeline.arrRefs (τ := τ) spec0) (W1 m c) : sProp 𝕄)
    ⊢ (((c : Thread nD τ).loc main_arg0) ↦{fullShare} m ((c : Thread nD τ).loc main_arg0)) := by
  unfold StableHlo.held
  refine (bigSep_elim (arg_mem)).trans ?_
  rw [show W1 m c (Proc.devRef .tc main_arg0) = m ((c : Thread nD τ).loc main_arg0) from
    (Function.update_of_ne (by decide) _ _).trans (Gen.V_main_arg0 m c)]
  exact BI.Entails.refl _

/-- What the region ends with is what the run ends with. -/
theorem reg0_post (c : Dev nD) : (reg0 m).post c ⊢ iprop(Tₙ m c ∗ ∃ W, owes (c : Thread nD τ) (0 : CellTallies nD τ sig ℕ) W) := by
  show iprop(StableHlo.held (c.tc : Thread nD τ) (Pipeline.arrRefs (τ := τ) spec0) (W1 m c) ∗ (∃ r, prngReg c r)
    ∗ (StableHlo.held (c.tc : Thread nD τ) outS (W1 m c) ∗ emp) ∗ Yk c ∗ ∃ Wd, owes (c : Thread nD τ) (0 : CellTallies nD τ sig ℕ) Wd) ⊢ _
  rw [held_out c (W1 m c), show W1 m c (Proc.devRef .tc main_v1) = full (chunkOf m) from Function.update_self ..]
  unfold Yk
  iintro ⟨Ha, -, ⟨Ho, -⟩, Hb, HO⟩
  isplitr [HO]
  · isplitl [Ha]; · iapply (held_arg m c); iexact Ha
    isplitl [Ho]; · iexact Ho
    iexact Hb
  iexact HO

/-- A semaphore that is not scoped is the barrier's. -/
theorem unscoped_eq : ∀ sm : SemLoc sig, sm.isScoped .tc = false → sm = .reg barS := by decide +kernel

set_option backward.isDefEq.respectTransparency.types false in
/-- The run: from any memory with zero counters every execution ends, with the operand unchanged, the result the chunks of all
    devices in order, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = full (chunkOf m)) ∧ r.2.sem = fun _ => 0) :=
  Pipeline.θ_run_regions_kit_sems (pcfgs (F := F)) adm (pdats m) 0 Gen.cellOf_inj EP defs₀ 𝒱₀ (SiteBlocks.L 64) SiteBlocks.lv m ρ main
    [.host (seg0 m), .region (reg0 m)]
    (fun c Q => by rw [Gen.main_segs adm (pdats m) 0 𝒱₀ (SiteBlocks.L 64) SiteBlocks.lv (seg0 m) (reg0 m) rfl c])
    (by simp only [Pipeline.Seg.pipes_host, Pipeline.Seg.pipes_region, Pipeline.Seg.pipes_nil]; decide)
    (O₀ := due0) (hL := SiteBlocks.hL 64) (G := G) (u₀ := u₀)
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = m ((c : Thread nD τ).loc main_arg0) ∧ s.mem ((c : Thread nD τ).loc main_v1) = full (chunkOf m))
      ∧ s.sem (barG c) = 0)
    (hfin := fun c s' => by
      dsimp only [Tₙ]
      iintro ⟨⟨Hx, Hy, Hb0⟩, HSI⟩
      icombine HSI Hx gives %hx
      icombine HSI Hy gives %hy
      icombine HSI Hb0 gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1,
      sem_eq_zero hs fun c sm hsm => by
        obtain rfl := unscoped_eq sm hsm
        exact (h c).2⟩)

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import Idealize.ShloMosaic.Lib.Layout
public import Idealize.ShloMosaic.Lib.StableHlo.RunHlo
public import Idealize.ShloMosaic.Adequacy
public import Idealize.ShloMosaic.Init

@[expose] public section

noncomputable section

namespace Cert.Proof

open Idealize.ShloMosaic Idealize.ShloMosaic.TcCoe Idealize.SL.Sem

/-- The frame of the program over any floats. -/
def Frame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- The frame of the program holds over any floats. -/
theorem frame (F : FTy → Type) [FloatOps F] : Frame F := fun m ρ _ =>
  (θ_run Cert.KernelIdeal.defs _ _).mono (fun _ h => ⟨fun c => (h.1 c).1, h.2⟩) (Cert.KernelIdeal.Ring.run_main (F := F) m ρ)

/-- The two printed programs are one text. -/
theorem same_kernel : Frame Bits = Cert.quiescent_Kernel := by sl_kernel_rfl

/-- The kernel at the machine's floats: the argument is unchanged and every counter ends at zero. -/
theorem frame_kernel : Cert.quiescent_Kernel := same_kernel.mp (frame Bits)

/-- The same of the kernel at exact floats. -/
theorem frame_ideal : Cert.quiescent_KernelIdeal := frame Ideal

/-- The reference has no operation: it ends with its argument as it was. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  θ_run_mono (StableHlo.run_hlo Cert.ReferenceIdeal.defs Cert.ReferenceIdeal.main (fun _ => StableHlo.IsSeq.nil) (by decide) (by decide) trivial (fun _ h => nomatch h) m ρ)
    fun _ h c => h c Cert.ReferenceIdeal.main_arg0

/-- The reference's frame: it has no counter at all. -/
theorem frame_reference : Cert.quiescent_ReferenceIdeal := fun m ρ _ =>
  (θ_run Cert.ReferenceIdeal.defs _ _).mono (fun r h => ⟨h, sem_eq_zero_of_no_sems (by decide) r.2⟩) (run_reference m ρ)

/-- The chunks of all devices in order are the whole array, when every chunk is the device's block of it. -/
theorem full_blocks (X : Dev Cert.KernelIdeal.nD → Cert.KernelIdeal.S1024x512.Idx → Elt Ideal .f32) (Y : Cert.KernelIdeal.S32768x512.Idx → Elt Ideal .f32)
    (h : ∀ c : Dev Cert.KernelIdeal.nD, X c = Layout.block ⟨2, ![1024, 512]⟩ ⟨2, ![32768, 512]⟩ 0 32 c Y) : Cert.KernelIdeal.Ring.full X = Y := by
  funext i
  have hi : (i 0).val < 32768 := (i 0).isLt
  unfold Cert.KernelIdeal.Ring.full
  rw [h, Layout.block_apply]
  refine congrArg Y (funext fun d => Fin.ext ?_)
  have e := Layout.idx_rows_val (dS := ![1024, 512]) (dT := ![32768, 512]) (k := 32) (by decide) ⟨(i 0).val / 1024, by omega⟩
    (Shape.pair ⟨(i 0).val % 1024, Nat.mod_lt _ (by decide)⟩ ⟨(i 1).val, (i 1).isLt⟩)
  match d with
  | ⟨0, _⟩ => exact e.1.trans (Nat.div_add_mod' (i 0).val 1024)
  | ⟨1, _⟩ => exact e.2

/-- Every device's result is the reference's whole result. -/
theorem algebraic : Cert.algebraic_KernelIdeal_ReferenceIdeal := fun m g m' g' _ hagree =>
  ⟨_, (θ_run Cert.KernelIdeal.defs _ _).mono
      (fun _ h c => ⟨(h.1 c).2.trans (full_blocks (Cert.KernelIdeal.Ring.chunkOf m) _ hagree), (h.1 c).1⟩) (Cert.KernelIdeal.Ring.run_main (F := Ideal) m g),
    (θ_run Cert.ReferenceIdeal.defs _ _).mono (fun _ h => ⟨h 0, h 0⟩) (run_reference m' g')⟩

/-- Everything that the certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
